-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v249) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal (hKernelIdeal := hKernelIdeal) (hReferenceIdeal := hReferenceIdeal)
    ∧ preserves_Mix_MixIdeal
    ∧ algebraic_MixIdeal_MixReferenceIdeal (hMixIdeal := hMixIdeal) (hMixReferenceIdeal := hMixReferenceIdeal)
-- ==== Kernel.lean ====
abbrev S4x1024x4096 : Shape := ⟨3, ![4, 1024, 4096]⟩
abbrev S4x4096x1024 : Shape := ⟨3, ![4, 4096, 1024]⟩
abbrev S4x512x4096 : Shape := ⟨3, ![4, 512, 4096]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x4096 : Shape := ⟨3, ![1, 512, 4096]⟩
abbrev S1x4096x512 : Shape := ⟨3, ![1, 4096, 512]⟩
abbrev S1x256x4096 : Shape := ⟨3, ![1, 256, 4096]⟩
abbrev S1x64x1024 : Shape := ⟨3, ![1, 64, 1024]⟩
abbrev S1x128x1024 : Shape := ⟨3, ![1, 128, 1024]⟩
abbrev S1x128x4096 : Shape := ⟨3, ![1, 128, 4096]⟩
abbrev S2x4x512x512 : Shape := ⟨4, ![2, 4, 512, 512]⟩
abbrev S8x4x80x512 : Shape := ⟨4, ![8, 4, 80, 512]⟩
abbrev S8x4x1x512 : Shape := ⟨4, ![8, 4, 1, 512]⟩
abbrev S16x512 : Shape := ⟨2, ![16, 512]⟩
abbrev S256x256 : Shape := ⟨2, ![256, 256]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x1x80x512 : Shape := ⟨4, ![1, 1, 80, 512]⟩
abbrev S80x512 : Shape := ⟨2, ![80, 512]⟩
abbrev S1x64x512 : Shape := ⟨3, ![1, 64, 512]⟩
abbrev S64x512 : Shape := ⟨2, ![64, 512]⟩
abbrev S1x256x128 : Shape := ⟨3, ![1, 256, 128]⟩
abbrev S256x128 : Shape := ⟨2, ![256, 128]⟩
abbrev S256x512 : Shape := ⟨2, ![256, 512]⟩
abbrev S1x1x256x512 : Shape := ⟨4, ![1, 1, 256, 512]⟩
abbrev S1x128x256 : Shape := ⟨3, ![1, 128, 256]⟩
abbrev S128x256 : Shape := ⟨2, ![128, 256]⟩
abbrev S1x1x256x256 : Shape := ⟨4, ![1, 1, 256, 256]⟩
abbrev S1x256 : Shape := ⟨2, ![1, 256]⟩
abbrev S256 : Shape := ⟨1, ![256]⟩
abbrev S512x256 : Shape := ⟨2, ![512, 256]⟩
abbrev S80x256 : Shape := ⟨2, ![80, 256]⟩
abbrev S1x64x256 : Shape := ⟨3, ![1, 64, 256]⟩
abbrev S64x256 : Shape := ⟨2, ![64, 256]⟩
abbrev S16x256 : Shape := ⟨2, ![16, 256]⟩

abbrev nBuf : Space → Nat
  | .hbm => 14
  | .vmem => 31
  | .smem => 0
  | _ => 0

abbrev bufTy : (tb : Table) → Fin (tcTables nBuf tb) → BufTy
  | .hbm, ⟨0, _⟩ => ⟨S4x1024x4096, .bf16⟩
  | .hbm, ⟨1, _⟩ => ⟨S4x4096x1024, .bf16⟩
  | .hbm, ⟨2, _⟩ => ⟨S4x512x4096, .bf16⟩
  | .hbm, ⟨3, _⟩ => ⟨S2x512x1024, .f32⟩
  | .hbm, ⟨4, _⟩ => ⟨S2x512x1024, .f32⟩
  | .hbm, ⟨5, _⟩ => ⟨S2x1024x1024, .f32⟩
  | .hbm, ⟨6, _⟩ => ⟨S2x1024x4096, .f32⟩
  | .hbm, ⟨7, _⟩ => ⟨S2x4096x1024, .f32⟩
  | .hbm, ⟨8, _⟩ => ⟨S4x512x4096, .bf16⟩
  | .hbm, ⟨9, _⟩ => ⟨S1x512x1024, .bf16⟩
  | .hbm, ⟨10, _⟩ => ⟨S1x512x1024, .bf16⟩
  | .hbm, ⟨11, _⟩ => ⟨S1x1024x1024, .bf16⟩
  | .hbm, ⟨12, _⟩ => ⟨S1x1024x4096, .bf16⟩
  | .hbm, ⟨13, _⟩ => ⟨S1x4096x1024, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x4096, .f32⟩
  | .local _ .vmem, ⟨13, _⟩ => ⟨S1x128x4096, .f32⟩
  | .local _ .vmem, ⟨14, _⟩ => ⟨S1x512x1024, .f32⟩
  | .local _ .vmem, ⟨15, _⟩ => ⟨S1x512x1024, .f32⟩
  | .local _ .vmem, ⟨16, _⟩ => ⟨S1x256x4096, .bf16⟩
  | .local _ .vmem, ⟨17, _⟩ => ⟨S1x256x4096, .bf16⟩
  | .local _ .vmem, ⟨18, _⟩ => ⟨S1x64x1024, .bf16⟩
  | .local _ .vmem, ⟨19, _⟩ => ⟨S1x64x1024, .bf16⟩
  | .local _ .vmem, ⟨20, _⟩ => ⟨S1x64x1024, .bf16⟩
  | .local _ .vmem, ⟨21, _⟩ => ⟨S1x64x1024, .bf16⟩
  | .local _ .vmem, ⟨22, _⟩ => ⟨S1x128x1024, .bf16⟩
  | .local _ .vmem, ⟨23, _⟩ => ⟨S1x128x1024, .bf16⟩
  | .local _ .vmem, ⟨24, _⟩ => ⟨S1x128x4096, .bf16⟩
  | .local _ .vmem, ⟨25, _⟩ => ⟨S1x128x4096, .bf16⟩
  | .local _ .vmem, ⟨26, _⟩ => ⟨S1x512x1024, .bf16⟩
  | .local _ .vmem, ⟨27, _⟩ => ⟨S1x512x1024, .bf16⟩
  | .local _ .vmem, ⟨28, _⟩ => ⟨S2x4x512x512, .f32⟩
  | .local _ .vmem, ⟨29, _⟩ => ⟨S8x4x80x512, .f32⟩
  | .local _ .vmem, ⟨30, _⟩ => ⟨S8x4x1x512, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  let c512_i32 : BitVec 32 := 512#32
  let v4 : BitVec 32 := Scalar.muli c0_i32 c512_i32
  v4
def k0_off1 : Fin 3 → Nat :=
  let c0 : Index := 0#32
  let c0_i32 : BitVec 32 := 0#32
  let c512_i32 : BitVec 32 := 512#32
  let v4 : BitVec 32 := Scalar.muli c0_i32 c512_i32
  let v5 : BitVec 32 := v4
  let v6 : Index := Scalar.indexCast v5
  let c0_0 : Index := 0#32
  ![0, v6.toNat, 0]
def k0_mult2 : BitVec 32 :=
  let c1_i32 : BitVec 32 := 1#32
  let c512_i32_1 : BitVec 32 := 512#32
  let v9 : BitVec 32 := Scalar.muli c1_i32 c512_i32_1
  v9
def k0_off2 : Fin 3 → Nat :=
  let c0_2 : Index := 0#32
  let c0_3 : Index := 0#32
  let c1_i32 : BitVec 32 := 1#32
  let c512_i32_1 : BitVec 32 := 512#32
  let v9 : BitVec 32 := Scalar.muli c1_i32 c512_i32_1
  let v10 : BitVec 32 := v9
  let v11 : Index := Scalar.indexCast v10
  ![0, 0, v11.toNat]
def k0_mult3 : BitVec 32 :=
  let c0_i32_10 : BitVec 32 := 0#32
  let c512_i32_11 : BitVec 32 := 512#32
  let v20 : BitVec 32 := Scalar.muli c0_i32_10 c512_i32_11
  v20
def k0_off3 : Fin 3 → Nat :=
  let c0_12 : Index := 0#32
  let c0_i32_10 : BitVec 32 := 0#32
  let c512_i32_11 : BitVec 32 := 512#32
  let v20 : BitVec 32 := Scalar.muli c0_i32_10 c512_i32_11
  let v21 : BitVec 32 := v20
  let v22 : Index := Scalar.indexCast v21
  let c128 : Index := 128#32
  ![0, v22.toNat, 128]
def k0_mult4 : BitVec 32 :=
  let c1_i32_13 : BitVec 32 := 1#32
  let c512_i32_14 : BitVec 32 := 512#32
  let v25 : BitVec 32 := Scalar.muli c1_i32_13 c512_i32_14
  v25
def k0_off4 : Fin 3 → Nat :=
  let c0_15 : Index := 0#32
  let c128_16 : Index := 128#32
  let c1_i32_13 : BitVec 32 := 1#32
  let c512_i32_14 : BitVec 32 := 512#32
  let v25 : BitVec 32 := Scalar.muli c1_i32_13 c512_i32_14
  let v26 : BitVec 32 := v25
  let v27 : Index := Scalar.indexCast v26
  ![0, 128, v27.toNat]
def k0_mult5 : BitVec 32 :=
  let c0_i32_22 : BitVec 32 := 0#32
  let c512_i32_23 : BitVec 32 := 512#32
  let v36 : BitVec 32 := Scalar.muli c0_i32_22 c512_i32_23
  v36
def k0_off5 : Fin 3 → Nat :=
  let c0_24 : Index := 0#32
  let c0_i32_22 : BitVec 32 := 0#32
  let c512_i32_23 : BitVec 32 := 512#32
  let v36 : BitVec 32 := Scalar.muli c0_i32_22 c512_i32_23
  let v37 : BitVec 32 := v36
  let v38 : Index := Scalar.indexCast v37
  let c256 : Index := 256#32
  ![0, v38.toNat, 256]
def k0_mult6 : BitVec 32 :=
  let c1_i32_25 : BitVec 32 := 1#32
  let c512_i32_26 : BitVec 32 := 512#32
  let v41 : BitVec 32 := Scalar.muli c1_i32_25 c512_i32_26
  v41
def k0_off6 : Fin 3 → Nat :=
  let c0_27 : Index := 0#32
  let c256_28 : Index := 256#32
  let c1_i32_25 : BitVec 32 := 1#32
  let c512_i32_26 : BitVec 32 := 512#32
  let v41 : BitVec 32 := Scalar.muli c1_i32_25 c512_i32_26
  let v42 : BitVec 32 := v41
  let v43 : Index := Scalar.indexCast v42
  ![0, 256, v43.toNat]
def k0_mult7 : BitVec 32 :=
  let c0_i32_34 : BitVec 32 := 0#32
  let c512_i32_35 : BitVec 32 := 512#32
  let v52 : BitVec 32 := Scalar.muli c0_i32_34 c512_i32_35
  v52
def k0_off7 : Fin 3 → Nat :=
  let c0_36 : Index := 0#32
  let c0_i32_34 : BitVec 32 := 0#32
  let c512_i32_35 : BitVec 32 := 512#32
  let v52 : BitVec 32 := Scalar.muli c0_i32_34 c512_i32_35
  let v53 : BitVec 32 := v52
  let v54 : Index := Scalar.indexCast v53
  let c384 : Index := 384#32
  ![0, v54.toNat, 384]
def k0_mult8 : BitVec 32 :=
  let c1_i32_37 : BitVec 32 := 1#32
  let c512_i32_38 : BitVec 32 := 512#32
  let v57 : BitVec 32 := Scalar.muli c1_i32_37 c512_i32_38
  v57
def k0_off8 : Fin 3 → Nat :=
  let c0_39 : Index := 0#32
  let c384_40 : Index := 384#32
  let c1_i32_37 : BitVec 32 := 1#32
  let c512_i32_38 : BitVec 32 := 512#32
  let v57 : BitVec 32 := Scalar.muli c1_i32_37 c512_i32_38
  let v58 : BitVec 32 := v57
  let v59 : Index := Scalar.indexCast v58
  ![0, 384, v59.toNat]
@[reducible] def k0_t1_loop : Scf.Loop 32 :=
  let c0_i32_88 : BitVec 32 := 0#32
  let c3_i32 : BitVec 32 := 3#32
  let v91 : BitVec 32 := Scalar.addi c0_i32_88 c3_i32
  let c1_i32_89 : BitVec 32 := 1#32
  ⟨c0_i32_88, v91, c1_i32_89⟩
def k0_mult9 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2566 : BitVec 32 := 512#32
  let v3909 : BitVec 32 := Scalar.muli v3908 c512_i32_2566
  v3909

def k0_off9 (arg20 : BitVec 32) (arg21 : BitVec 32) : Fin 3 → Nat :=
  let c0_2567 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2566 : BitVec 32 := 512#32
  let v3909 : BitVec 32 := Scalar.muli v3908 c512_i32_2566
  let v3910 : BitVec 32 := v3909
  let v3911 : Index := Scalar.indexCast v3910
  let c0_2568 : Index := 0#32
  ![0, v3911.toNat, 0]
def k0_mult10 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2569 : BitVec 32 := 512#32
  let v3914 : BitVec 32 := Scalar.muli v3906 c512_i32_2569
  v3914
def k0_off10 (arg20 : BitVec 32) (arg21 : BitVec 32) : Fin 3 → Nat :=
  let c0_2570 : Index := 0#32
  let c0_2571 : Index := 0#32
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2569 : BitVec 32 := 512#32
  let v3914 : BitVec 32 := Scalar.muli v3906 c512_i32_2569
  let v3915 : BitVec 32 := v3914
  let v3916 : Index := Scalar.indexCast v3915
  ![0, 0, v3916.toNat]
def k0_off11 (arg20 : BitVec 32) : Fin 4 → Nat :=
  let v3925 : Index := Scalar.indexCast arg20
  let c0_2578 : Index := 0#32
  let c0_2579 : Index := 0#32
  let c0_2580 : Index := 0#32
  ![v3925.toNat, 0, 0, 0]

def k0_off12 (arg20 : BitVec 32) : Fin 4 → Nat :=
  let v3937 : Index := Scalar.indexCast arg20
  let c0_2585 : Index := 0#32
  let c0_2586 : Index := 0#32
  let c0_2587 : Index := 0#32
  ![v3937.toNat, 0, 0, 0]
def k0_mult11 (arg21 : BitVec 32) : BitVec 32 :=
  let c512_i32_2588 : BitVec 32 := 512#32
  let v3942 : BitVec 32 := Scalar.muli arg21 c512_i32_2588
  v3942
def k0_off13 (arg21 : BitVec 32) : Fin 3 → Nat :=
  let c0_2589 : Index := 0#32
  let c0_2590 : Index := 0#32
  let c512_i32_2588 : BitVec 32 := 512#32
  let v3942 : BitVec 32 := Scalar.muli arg21 c512_i32_2588
  let v3943 : BitVec 32 := v3942
  let v3944 : Index := Scalar.indexCast v3943
  ![0, 0, v3944.toNat]
def k0_mult12 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2598 : BitVec 32 := 512#32
  let v3958 : BitVec 32 := Scalar.muli v3908 c512_i32_2598
  v3958
def k0_off14 (arg20 : BitVec 32) (arg21 : BitVec 32) : Fin 3 → Nat :=
  let c0_2599 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2598 : BitVec 32 := 512#32
  let v3958 : BitVec 32 := Scalar.muli v3908 c512_i32_2598
  let v3959 : BitVec 32 := v3958
  let v3960 : Index := Scalar.indexCast v3959
  let c128_2600 : Index := 128#32
  ![0, v3960.toNat, 128]
def k0_mult13 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2601 : BitVec 32 := 512#32
  let v3963 : BitVec 32 := Scalar.muli v3906 c512_i32_2601
  v3963
def k0_off15 (arg20 : BitVec 32) (arg21 : BitVec 32) : Fin 3 → Nat :=
  let c0_2602 : Index := 0#32
  let c128_2603 : Index := 128#32
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2601 : BitVec 32 := 512#32
  let v3963 : BitVec 32 := Scalar.muli v3906 c512_i32_2601
  let v3964 : BitVec 32 := v3963
  let v3965 : Index := Scalar.indexCast v3964
  ![0, 128, v3965.toNat]
def k0_off16 (arg20 : BitVec 32) : Fin 4 → Nat :=
  let v3974 : Index := Scalar.indexCast arg20
  let c1_2610 : Index := 1#32
  let c0_2611 : Index := 0#32
  let c0_2612 : Index := 0#32
  ![v3974.toNat, 1, 0, 0]
def k0_off17 (arg20 : BitVec 32) : Fin 4 → Nat :=
  let v3986 : Index := Scalar.indexCast arg20
  let c1_2617 : Index := 1#32
  let c0_2618 : Index := 0#32
  let c0_2619 : Index := 0#32
  ![v3986.toNat, 1, 0, 0]
def k0_mult14 (arg21 : BitVec 32) : BitVec 32 :=
  let c512_i32_2620 : BitVec 32 := 512#32
  let v3991 : BitVec 32 := Scalar.muli arg21 c512_i32_2620
  v3991
def k0_off18 (arg21 : BitVec 32) : Fin 3 → Nat :=
  let c0_2621 : Index := 0#32
  let c64_2622 : Index := 64#32
  let c512_i32_2620 : BitVec 32 := 512#32
  let v3991 : BitVec 32 := Scalar.muli arg21 c512_i32_2620
  let v3992 : BitVec 32 := v3991
  let v3993 : Index := Scalar.indexCast v3992
  ![0, 64, v3993.toNat]
def k0_mult15 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2630 : BitVec 32 := 512#32
  let v4007 : BitVec 32 := Scalar.muli v3908 c512_i32_2630
  v4007
def k0_off19 (arg20 : BitVec 32) (arg21 : BitVec 32) : Fin 3 → Nat :=
  let c0_2631 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2630 : BitVec 32 := 512#32
  let v4007 : BitVec 32 := Scalar.muli v3908 c512_i32_2630
  let v4008 : BitVec 32 := v4007
  let v4009 : Index := Scalar.indexCast v4008
  let c256_2632 : Index := 256#32
  ![0, v4009.toNat, 256]
def k0_mult16 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2633 : BitVec 32 := 512#32
  let v4012 : BitVec 32 := Scalar.muli v3906 c512_i32_2633
  v4012
def k0_off20 (arg20 : BitVec 32) (arg21 : BitVec 32) : Fin 3 → Nat :=
  let c0_2634 : Index := 0#32
  let c256_2635 : Index := 256#32
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2633 : BitVec 32 := 512#32
  let v4012 : BitVec 32 := Scalar.muli v3906 c512_i32_2633
  let v4013 : BitVec 32 := v4012
  let v4014 : Index := Scalar.indexCast v4013
  ![0, 256, v4014.toNat]
def k0_off21 (arg20 : BitVec 32) : Fin 4 → Nat :=
  let v4023 : Index := Scalar.indexCast arg20
  let c2_2642 : Index := 2#32
  let c0_2643 : Index := 0#32
  let c0_2644 : Index := 0#32
  ![v4023.toNat, 2, 0, 0]
def k0_off22 (arg20 : BitVec 32) : Fin 4 → Nat :=
  let v4035 : Index := Scalar.indexCast arg20
  let c2_2649 : Index := 2#32
  let c0_2650 : Index := 0#32
  let c0_2651 : Index := 0#32
  ![v4035.toNat, 2, 0, 0]
def k0_mult17 (arg21 : BitVec 32) : BitVec 32 :=
  let c512_i32_2652 : BitVec 32 := 512#32
  let v4040 : BitVec 32 := Scalar.muli arg21 c512_i32_2652
  v4040
def k0_off23 (arg21 : BitVec 32) : Fin 3 → Nat :=
  let c0_2653 : Index := 0#32
  let c128_2654 : Index := 128#32
  let c512_i32_2652 : BitVec 32 := 512#32
  let v4040 : BitVec 32 := Scalar.muli arg21 c512_i32_2652
  let v4041 : BitVec 32 := v4040
  let v4042 : Index := Scalar.indexCast v4041
  ![0, 128, v4042.toNat]
def k0_mult18 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2662 : BitVec 32 := 512#32
  let v4056 : BitVec 32 := Scalar.muli v3908 c512_i32_2662
  v4056
def k0_off24 (arg20 : BitVec 32) (arg21 : BitVec 32) : Fin 3 → Nat :=
  let c0_2663 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2662 : BitVec 32 := 512#32
  let v4056 : BitVec 32 := Scalar.muli v3908 c512_i32_2662
  let v4057 : BitVec 32 := v4056
  let v4058 : Index := Scalar.indexCast v4057
  let c384_2664 : Index := 384#32
  ![0, v4058.toNat, 384]
def k0_mult19 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2665 : BitVec 32 := 512#32
  let v4061 : BitVec 32 := Scalar.muli v3906 c512_i32_2665
  v4061
def k0_off25 (arg20 : BitVec 32) (arg21 : BitVec 32) : Fin 3 → Nat :=
  let c0_2666 : Index := 0#32
  let c384_2667 : Index := 384#32
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let c512_i32_2665 : BitVec 32 := 512#32
  let v4061 : BitVec 32 := Scalar.muli v3906 c512_i32_2665
  let v4062 : BitVec 32 := v4061
  let v4063 : Index := Scalar.indexCast v4062
  ![0, 384, v4063.toNat]
def k0_off26 (arg20 : BitVec 32) : Fin 4 → Nat :=
  let v4072 : Index := Scalar.indexCast arg20
  let c3_2674 : Index := 3#32
  let c0_2675 : Index := 0#32
  let c0_2676 : Index := 0#32
  ![v4072.toNat, 3, 0, 0]
def k0_off27 (arg20 : BitVec 32) : Fin 4 → Nat :=
  let v4084 : Index := Scalar.indexCast arg20
  let c3_2681 : Index := 3#32
  let c0_2682 : Index := 0#32
  let c0_2683 : Index := 0#32
  ![v4084.toNat, 3, 0, 0]

def k0_chk2 (arg20 : BitVec 32) : Prop :=
  (∀ a, (k0_off11 arg20) a + S1x1x1x512.size a ≤ S8x4x1x512.size a) ∧
  (∀ a, (k0_off12 arg20) a + S1x1x80x512.size a ≤ S8x4x80x512.size a) ∧
  (∀ a, (k0_off16 arg20) a + S1x1x1x512.size a ≤ S8x4x1x512.size a) ∧
  (∀ a, (k0_off17 arg20) a + S1x1x80x512.size a ≤ S8x4x80x512.size a) ∧
  (∀ a, (k0_off21 arg20) a + S1x1x1x512.size a ≤ S8x4x1x512.size a) ∧
  (∀ a, (k0_off22 arg20) a + S1x1x80x512.size a ≤ S8x4x80x512.size a) ∧
  (∀ a, (k0_off26 arg20) a + S1x1x1x512.size a ≤ S8x4x1x512.size a) ∧
  (∀ a, (k0_off27 arg20) a + S1x1x80x512.size a ≤ S8x4x80x512.size a)
theorem k0_off11_inb : ∀ (arg20 : BitVec 32) (k0_hw2 : k0_chk2 arg20), ∀ a, (k0_off11 arg20) a + S1x1x1x512.size a ≤ S8x4x1x512.size a := fun arg20 k0_hw2 => k0_hw2.1
theorem k0_off12_inb : ∀ (arg20 : BitVec 32) (k0_hw2 : k0_chk2 arg20), ∀ a, (k0_off12 arg20) a + S1x1x80x512.size a ≤ S8x4x80x512.size a := fun arg20 k0_hw2 => k0_hw2.2.1
theorem k0_off16_inb : ∀ (arg20 : BitVec 32) (k0_hw2 : k0_chk2 arg20), ∀ a, (k0_off16 arg20) a + S1x1x1x512.size a ≤ S8x4x1x512.size a := fun arg20 k0_hw2 => k0_hw2.2.2.1
theorem k0_off17_inb : ∀ (arg20 : BitVec 32) (k0_hw2 : k0_chk2 arg20), ∀ a, (k0_off17 arg20) a + S1x1x80x512.size a ≤ S8x4x80x512.size a := fun arg20 k0_hw2 => k0_hw2.2.2.2.1
theorem k0_off21_inb : ∀ (arg20 : BitVec 32) (k0_hw2 : k0_chk2 arg20), ∀ a, (k0_off21 arg20) a + S1x1x1x512.size a ≤ S8x4x1x512.size a := fun arg20 k0_hw2 => k0_hw2.2.2.2.2.1
theorem k0_off22_inb : ∀ (arg20 : BitVec 32) (k0_hw2 : k0_chk2 arg20), ∀ a, (k0_off22 arg20) a + S1x1x80x512.size a ≤ S8x4x80x512.size a := fun arg20 k0_hw2 => k0_hw2.2.2.2.2.2.1
theorem k0_off26_inb : ∀ (arg20 : BitVec 32) (k0_hw2 : k0_chk2 arg20), ∀ a, (k0_off26 arg20) a + S1x1x1x512.size a ≤ S8x4x1x512.size a := fun arg20 k0_hw2 => k0_hw2.2.2.2.2.2.2.1
theorem k0_off27_inb : ∀ (arg20 : BitVec 32) (k0_hw2 : k0_chk2 arg20), ∀ a, (k0_off27 arg20) a + S1x1x80x512.size a ≤ S8x4x80x512.size a := fun arg20 k0_hw2 => k0_hw2.2.2.2.2.2.2.2

def k0_mult20 (arg21 : BitVec 32) : BitVec 32 :=
  let c512_i32_2684 : BitVec 32 := 512#32
  let v4089 : BitVec 32 := Scalar.muli arg21 c512_i32_2684
  v4089
def k0_off28 (arg21 : BitVec 32) : Fin 3 → Nat :=
  let c0_2685 : Index := 0#32
  let c192_2686 : Index := 192#32
  let c512_i32_2684 : BitVec 32 := 512#32
  let v4089 : BitVec 32 := Scalar.muli arg21 c512_i32_2684
  let v4090 : BitVec 32 := v4089
  let v4091 : Index := Scalar.indexCast v4090
  ![0, 192, v4091.toNat]
def k0_mult21 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2698 : BitVec 32 := 512#32
  let v4111 : BitVec 32 := Scalar.muli v4110 c512_i32_2698
  v4111
def k0_off29 (arg20 : BitVec 32) (arg21 : BitVec 32) : Fin 3 → Nat :=
  let c0_2699 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2698 : BitVec 32 := 512#32
  let v4111 : BitVec 32 := Scalar.muli v4110 c512_i32_2698
  let v4112 : BitVec 32 := v4111
  let v4113 : Index := Scalar.indexCast v4112
  let c0_2700 : Index := 0#32
  ![0, v4113.toNat, 0]
def k0_mult22 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2701 : BitVec 32 := 512#32
  let v4116 : BitVec 32 := Scalar.muli v4108 c512_i32_2701
  v4116
def k0_off30 (arg20 : BitVec 32) (arg21 : BitVec 32) : Fin 3 → Nat :=
  let c0_2702 : Index := 0#32
  let c0_2703 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2701 : BitVec 32 := 512#32
  let v4116 : BitVec 32 := Scalar.muli v4108 c512_i32_2701
  let v4117 : BitVec 32 := v4116
  let v4118 : Index := Scalar.indexCast v4117
  ![0, 0, v4118.toNat]
def k0_off31 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4127 : Index := Scalar.indexCast v3906
  let c0_2710 : Index := 0#32
  let c0_2711 : Index := 0#32
  let c0_2712 : Index := 0#32
  ![v4127.toNat, 0, 0, 0]
def k0_off32 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4139 : Index := Scalar.indexCast v3906
  let c0_2717 : Index := 0#32
  let c0_2718 : Index := 0#32
  let c0_2719 : Index := 0#32
  ![v4139.toNat, 0, 0, 0]
def k0_mult23 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2720 : BitVec 32 := 512#32
  let v4144 : BitVec 32 := Scalar.muli v3908 c512_i32_2720
  v4144
def k0_off33 (arg20 : BitVec 32) (arg21 : BitVec 32) : Fin 3 → Nat :=
  let c0_2721 : Index := 0#32
  let c0_2722 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2720 : BitVec 32 := 512#32
  let v4144 : BitVec 32 := Scalar.muli v3908 c512_i32_2720
  let v4145 : BitVec 32 := v4144
  let v4146 : Index := Scalar.indexCast v4145
  ![0, 0, v4146.toNat]
def k0_mult24 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2730 : BitVec 32 := 512#32
  let v4160 : BitVec 32 := Scalar.muli v4110 c512_i32_2730
  v4160
def k0_off34 (arg20 : BitVec 32) (arg21 : BitVec 32) : Fin 3 → Nat :=
  let c0_2731 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2730 : BitVec 32 := 512#32
  let v4160 : BitVec 32 := Scalar.muli v4110 c512_i32_2730
  let v4161 : BitVec 32 := v4160
  let v4162 : Index := Scalar.indexCast v4161
  let c128_2732 : Index := 128#32
  ![0, v4162.toNat, 128]
def k0_mult25 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2733 : BitVec 32 := 512#32
  let v4165 : BitVec 32 := Scalar.muli v4108 c512_i32_2733
  v4165
def k0_off35 (arg20 : BitVec 32) (arg21 : BitVec 32) : Fin 3 → Nat :=
  let c0_2734 : Index := 0#32
  let c128_2735 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2733 : BitVec 32 := 512#32
  let v4165 : BitVec 32 := Scalar.muli v4108 c512_i32_2733
  let v4166 : BitVec 32 := v4165
  let v4167 : Index := Scalar.indexCast v4166
  ![0, 128, v4167.toNat]
def k0_off36 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4176 : Index := Scalar.indexCast v3906
  let c1_2742 : Index := 1#32
  let c0_2743 : Index := 0#32
  let c0_2744 : Index := 0#32
  ![v4176.toNat, 1, 0, 0]
def k0_off37 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4188 : Index := Scalar.indexCast v3906
  let c1_2749 : Index := 1#32
  let c0_2750 : Index := 0#32
  let c0_2751 : Index := 0#32
  ![v4188.toNat, 1, 0, 0]
def k0_mult26 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2752 : BitVec 32 := 512#32
  let v4193 : BitVec 32 := Scalar.muli v3908 c512_i32_2752
  v4193
def k0_off38 (arg20 : BitVec 32) (arg21 : BitVec 32) : Fin 3 → Nat :=
  let c0_2753 : Index := 0#32
  let c64_2754 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2752 : BitVec 32 := 512#32
  let v4193 : BitVec 32 := Scalar.muli v3908 c512_i32_2752
  let v4194 : BitVec 32 := v4193
  let v4195 : Index := Scalar.indexCast v4194
  ![0, 64, v4195.toNat]
def k0_mult27 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2762 : BitVec 32 := 512#32
  let v4209 : BitVec 32 := Scalar.muli v4110 c512_i32_2762
  v4209
def k0_off39 (arg20 : BitVec 32) (arg21 : BitVec 32) : Fin 3 → Nat :=
  let c0_2763 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2762 : BitVec 32 := 512#32
  let v4209 : BitVec 32 := Scalar.muli v4110 c512_i32_2762
  let v4210 : BitVec 32 := v4209
  let v4211 : Index := Scalar.indexCast v4210
  let c256_2764 : Index := 256#32
  ![0, v4211.toNat, 256]
def k0_mult28 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2765 : BitVec 32 := 512#32
  let v4214 : BitVec 32 := Scalar.muli v4108 c512_i32_2765
  v4214
def k0_off40 (arg20 : BitVec 32) (arg21 : BitVec 32) : Fin 3 → Nat :=
  let c0_2766 : Index := 0#32
  let c256_2767 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2765 : BitVec 32 := 512#32
  let v4214 : BitVec 32 := Scalar.muli v4108 c512_i32_2765
  let v4215 : BitVec 32 := v4214
  let v4216 : Index := Scalar.indexCast v4215
  ![0, 256, v4216.toNat]
def k0_off41 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4225 : Index := Scalar.indexCast v3906
  let c2_2774 : Index := 2#32
  let c0_2775 : Index := 0#32
  let c0_2776 : Index := 0#32
  ![v4225.toNat, 2, 0, 0]
def k0_off42 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4237 : Index := Scalar.indexCast v3906
  let c2_2781 : Index := 2#32
  let c0_2782 : Index := 0#32
  let c0_2783 : Index := 0#32
  ![v4237.toNat, 2, 0, 0]
def k0_mult29 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2784 : BitVec 32 := 512#32
  let v4242 : BitVec 32 := Scalar.muli v3908 c512_i32_2784
  v4242
def k0_off43 (arg20 : BitVec 32) (arg21 : BitVec 32) : Fin 3 → Nat :=
  let c0_2785 : Index := 0#32
  let c128_2786 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2784 : BitVec 32 := 512#32
  let v4242 : BitVec 32 := Scalar.muli v3908 c512_i32_2784
  let v4243 : BitVec 32 := v4242
  let v4244 : Index := Scalar.indexCast v4243
  ![0, 128, v4244.toNat]
def k0_mult30 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2794 : BitVec 32 := 512#32
  let v4258 : BitVec 32 := Scalar.muli v4110 c512_i32_2794
  v4258
def k0_off44 (arg20 : BitVec 32) (arg21 : BitVec 32) : Fin 3 → Nat :=
  let c0_2795 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2794 : BitVec 32 := 512#32
  let v4258 : BitVec 32 := Scalar.muli v4110 c512_i32_2794
  let v4259 : BitVec 32 := v4258
  let v4260 : Index := Scalar.indexCast v4259
  let c384_2796 : Index := 384#32
  ![0, v4260.toNat, 384]
def k0_mult31 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2797 : BitVec 32 := 512#32
  let v4263 : BitVec 32 := Scalar.muli v4108 c512_i32_2797
  v4263
def k0_off45 (arg20 : BitVec 32) (arg21 : BitVec 32) : Fin 3 → Nat :=
  let c0_2798 : Index := 0#32
  let c384_2799 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let c512_i32_2797 : BitVec 32 := 512#32
  let v4263 : BitVec 32 := Scalar.muli v4108 c512_i32_2797
  let v4264 : BitVec 32 := v4263
  let v4265 : Index := Scalar.indexCast v4264
  ![0, 384, v4265.toNat]
def k0_off46 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4274 : Index := Scalar.indexCast v3906
  let c3_2806 : Index := 3#32
  let c0_2807 : Index := 0#32
  let c0_2808 : Index := 0#32
  ![v4274.toNat, 3, 0, 0]
def k0_off47 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c1_i32_2563 : BitVec 32 := 1#32
  let v3905 : BitVec 32 := Scalar.addi arg20 c1_i32_2563
  let v3906 : BitVec 32 := Scalar.select v3904 v3905 arg20
  let v4286 : Index := Scalar.indexCast v3906
  let c3_2813 : Index := 3#32
  let c0_2814 : Index := 0#32
  let c0_2815 : Index := 0#32
  ![v4286.toNat, 3, 0, 0]
def k0_mult32 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2816 : BitVec 32 := 512#32
  let v4291 : BitVec 32 := Scalar.muli v3908 c512_i32_2816
  v4291
def k0_off48 (arg20 : BitVec 32) (arg21 : BitVec 32) : Fin 3 → Nat :=
  let c0_2817 : Index := 0#32
  let c192_2818 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c512_i32_2816 : BitVec 32 := 512#32
  let v4291 : BitVec 32 := Scalar.muli v3908 c512_i32_2816
  let v4292 : BitVec 32 := v4291
  let v4293 : Index := Scalar.indexCast v4292
  ![0, 192, v4293.toNat]
def k0_mult33 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2830 : BitVec 32 := 512#32
  let v4313 : BitVec 32 := Scalar.muli v4312 c512_i32_2830
  v4313
def k0_off49 (arg20 : BitVec 32) (arg21 : BitVec 32) : Fin 3 → Nat :=
  let c0_2831 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2830 : BitVec 32 := 512#32
  let v4313 : BitVec 32 := Scalar.muli v4312 c512_i32_2830
  let v4314 : BitVec 32 := v4313
  let v4315 : Index := Scalar.indexCast v4314
  let c0_2832 : Index := 0#32
  ![0, v4315.toNat, 0]
def k0_mult34 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2833 : BitVec 32 := 512#32
  let v4318 : BitVec 32 := Scalar.muli v4310 c512_i32_2833
  v4318
def k0_off50 (arg20 : BitVec 32) (arg21 : BitVec 32) : Fin 3 → Nat :=
  let c0_2834 : Index := 0#32
  let c0_2835 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2833 : BitVec 32 := 512#32
  let v4318 : BitVec 32 := Scalar.muli v4310 c512_i32_2833
  let v4319 : BitVec 32 := v4318
  let v4320 : Index := Scalar.indexCast v4319
  ![0, 0, v4320.toNat]
def k0_off51 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4329 : Index := Scalar.indexCast v4108
  let c0_2842 : Index := 0#32
  let c0_2843 : Index := 0#32
  let c0_2844 : Index := 0#32
  ![v4329.toNat, 0, 0, 0]
def k0_off52 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4341 : Index := Scalar.indexCast v4108
  let c0_2849 : Index := 0#32
  let c0_2850 : Index := 0#32
  let c0_2851 : Index := 0#32
  ![v4341.toNat, 0, 0, 0]
def k0_mult35 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2852 : BitVec 32 := 512#32
  let v4346 : BitVec 32 := Scalar.muli v4110 c512_i32_2852
  v4346
def k0_off53 (arg20 : BitVec 32) (arg21 : BitVec 32) : Fin 3 → Nat :=
  let c0_2853 : Index := 0#32
  let c0_2854 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2852 : BitVec 32 := 512#32
  let v4346 : BitVec 32 := Scalar.muli v4110 c512_i32_2852
  let v4347 : BitVec 32 := v4346
  let v4348 : Index := Scalar.indexCast v4347
  ![0, 0, v4348.toNat]
def k0_mult36 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2862 : BitVec 32 := 512#32
  let v4362 : BitVec 32 := Scalar.muli v4312 c512_i32_2862
  v4362
def k0_off54 (arg20 : BitVec 32) (arg21 : BitVec 32) : Fin 3 → Nat :=
  let c0_2863 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2862 : BitVec 32 := 512#32
  let v4362 : BitVec 32 := Scalar.muli v4312 c512_i32_2862
  let v4363 : BitVec 32 := v4362
  let v4364 : Index := Scalar.indexCast v4363
  let c128_2864 : Index := 128#32
  ![0, v4364.toNat, 128]
def k0_mult37 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2865 : BitVec 32 := 512#32
  let v4367 : BitVec 32 := Scalar.muli v4310 c512_i32_2865
  v4367
def k0_off55 (arg20 : BitVec 32) (arg21 : BitVec 32) : Fin 3 → Nat :=
  let c0_2866 : Index := 0#32
  let c128_2867 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2865 : BitVec 32 := 512#32
  let v4367 : BitVec 32 := Scalar.muli v4310 c512_i32_2865
  let v4368 : BitVec 32 := v4367
  let v4369 : Index := Scalar.indexCast v4368
  ![0, 128, v4369.toNat]
def k0_off56 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4378 : Index := Scalar.indexCast v4108
  let c1_2874 : Index := 1#32
  let c0_2875 : Index := 0#32
  let c0_2876 : Index := 0#32
  ![v4378.toNat, 1, 0, 0]
def k0_off57 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4390 : Index := Scalar.indexCast v4108
  let c1_2881 : Index := 1#32
  let c0_2882 : Index := 0#32
  let c0_2883 : Index := 0#32
  ![v4390.toNat, 1, 0, 0]
def k0_mult38 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2884 : BitVec 32 := 512#32
  let v4395 : BitVec 32 := Scalar.muli v4110 c512_i32_2884
  v4395
def k0_off58 (arg20 : BitVec 32) (arg21 : BitVec 32) : Fin 3 → Nat :=
  let c0_2885 : Index := 0#32
  let c64_2886 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2884 : BitVec 32 := 512#32
  let v4395 : BitVec 32 := Scalar.muli v4110 c512_i32_2884
  let v4396 : BitVec 32 := v4395
  let v4397 : Index := Scalar.indexCast v4396
  ![0, 64, v4397.toNat]
def k0_mult39 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2894 : BitVec 32 := 512#32
  let v4411 : BitVec 32 := Scalar.muli v4312 c512_i32_2894
  v4411
def k0_off59 (arg20 : BitVec 32) (arg21 : BitVec 32) : Fin 3 → Nat :=
  let c0_2895 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2894 : BitVec 32 := 512#32
  let v4411 : BitVec 32 := Scalar.muli v4312 c512_i32_2894
  let v4412 : BitVec 32 := v4411
  let v4413 : Index := Scalar.indexCast v4412
  let c256_2896 : Index := 256#32
  ![0, v4413.toNat, 256]
def k0_mult40 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2897 : BitVec 32 := 512#32
  let v4416 : BitVec 32 := Scalar.muli v4310 c512_i32_2897
  v4416
def k0_off60 (arg20 : BitVec 32) (arg21 : BitVec 32) : Fin 3 → Nat :=
  let c0_2898 : Index := 0#32
  let c256_2899 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2897 : BitVec 32 := 512#32
  let v4416 : BitVec 32 := Scalar.muli v4310 c512_i32_2897
  let v4417 : BitVec 32 := v4416
  let v4418 : Index := Scalar.indexCast v4417
  ![0, 256, v4418.toNat]
def k0_off61 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4427 : Index := Scalar.indexCast v4108
  let c2_2906 : Index := 2#32
  let c0_2907 : Index := 0#32
  let c0_2908 : Index := 0#32
  ![v4427.toNat, 2, 0, 0]
def k0_off62 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4439 : Index := Scalar.indexCast v4108
  let c2_2913 : Index := 2#32
  let c0_2914 : Index := 0#32
  let c0_2915 : Index := 0#32
  ![v4439.toNat, 2, 0, 0]
def k0_mult41 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2916 : BitVec 32 := 512#32
  let v4444 : BitVec 32 := Scalar.muli v4110 c512_i32_2916
  v4444
def k0_off63 (arg20 : BitVec 32) (arg21 : BitVec 32) : Fin 3 → Nat :=
  let c0_2917 : Index := 0#32
  let c128_2918 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2916 : BitVec 32 := 512#32
  let v4444 : BitVec 32 := Scalar.muli v4110 c512_i32_2916
  let v4445 : BitVec 32 := v4444
  let v4446 : Index := Scalar.indexCast v4445
  ![0, 128, v4446.toNat]
def k0_mult42 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2926 : BitVec 32 := 512#32
  let v4460 : BitVec 32 := Scalar.muli v4312 c512_i32_2926
  v4460
def k0_off64 (arg20 : BitVec 32) (arg21 : BitVec 32) : Fin 3 → Nat :=
  let c0_2927 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2926 : BitVec 32 := 512#32
  let v4460 : BitVec 32 := Scalar.muli v4312 c512_i32_2926
  let v4461 : BitVec 32 := v4460
  let v4462 : Index := Scalar.indexCast v4461
  let c384_2928 : Index := 384#32
  ![0, v4462.toNat, 384]
def k0_mult43 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2929 : BitVec 32 := 512#32
  let v4465 : BitVec 32 := Scalar.muli v4310 c512_i32_2929
  v4465
def k0_off65 (arg20 : BitVec 32) (arg21 : BitVec 32) : Fin 3 → Nat :=
  let c0_2930 : Index := 0#32
  let c384_2931 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let c512_i32_2929 : BitVec 32 := 512#32
  let v4465 : BitVec 32 := Scalar.muli v4310 c512_i32_2929
  let v4466 : BitVec 32 := v4465
  let v4467 : Index := Scalar.indexCast v4466
  ![0, 384, v4467.toNat]
def k0_off66 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4476 : Index := Scalar.indexCast v4108
  let c3_2938 : Index := 3#32
  let c0_2939 : Index := 0#32
  let c0_2940 : Index := 0#32
  ![v4476.toNat, 3, 0, 0]
def k0_off67 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c1_i32_2695 : BitVec 32 := 1#32
  let v4107 : BitVec 32 := Scalar.addi v3906 c1_i32_2695
  let v4108 : BitVec 32 := Scalar.select v4106 v4107 v3906
  let v4488 : Index := Scalar.indexCast v4108
  let c3_2945 : Index := 3#32
  let c0_2946 : Index := 0#32
  let c0_2947 : Index := 0#32
  ![v4488.toNat, 3, 0, 0]
def k0_mult44 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2948 : BitVec 32 := 512#32
  let v4493 : BitVec 32 := Scalar.muli v4110 c512_i32_2948
  v4493
def k0_off68 (arg20 : BitVec 32) (arg21 : BitVec 32) : Fin 3 → Nat :=
  let c0_2949 : Index := 0#32
  let c192_2950 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c512_i32_2948 : BitVec 32 := 512#32
  let v4493 : BitVec 32 := Scalar.muli v4110 c512_i32_2948
  let v4494 : BitVec 32 := v4493
  let v4495 : Index := Scalar.indexCast v4494
  ![0, 192, v4495.toNat]
def k0_mult45 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_2962 : BitVec 32 := 512#32
  let v4515 : BitVec 32 := Scalar.muli v4514 c512_i32_2962
  v4515
def k0_off69 (arg20 : BitVec 32) (arg21 : BitVec 32) : Fin 3 → Nat :=
  let c0_2963 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_2962 : BitVec 32 := 512#32
  let v4515 : BitVec 32 := Scalar.muli v4514 c512_i32_2962
  let v4516 : BitVec 32 := v4515
  let v4517 : Index := Scalar.indexCast v4516
  let c0_2964 : Index := 0#32
  ![0, v4517.toNat, 0]
def k0_mult46 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_2965 : BitVec 32 := 512#32
  let v4520 : BitVec 32 := Scalar.muli v4512 c512_i32_2965
  v4520
def k0_off70 (arg20 : BitVec 32) (arg21 : BitVec 32) : Fin 3 → Nat :=
  let c0_2966 : Index := 0#32
  let c0_2967 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_2965 : BitVec 32 := 512#32
  let v4520 : BitVec 32 := Scalar.muli v4512 c512_i32_2965
  let v4521 : BitVec 32 := v4520
  let v4522 : Index := Scalar.indexCast v4521
  ![0, 0, v4522.toNat]
def k0_off71 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4531 : Index := Scalar.indexCast v4310
  let c0_2974 : Index := 0#32
  let c0_2975 : Index := 0#32
  let c0_2976 : Index := 0#32
  ![v4531.toNat, 0, 0, 0]
def k0_off72 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4543 : Index := Scalar.indexCast v4310
  let c0_2981 : Index := 0#32
  let c0_2982 : Index := 0#32
  let c0_2983 : Index := 0#32
  ![v4543.toNat, 0, 0, 0]
def k0_mult47 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2984 : BitVec 32 := 512#32
  let v4548 : BitVec 32 := Scalar.muli v4312 c512_i32_2984
  v4548
def k0_off73 (arg20 : BitVec 32) (arg21 : BitVec 32) : Fin 3 → Nat :=
  let c0_2985 : Index := 0#32
  let c0_2986 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_2984 : BitVec 32 := 512#32
  let v4548 : BitVec 32 := Scalar.muli v4312 c512_i32_2984
  let v4549 : BitVec 32 := v4548
  let v4550 : Index := Scalar.indexCast v4549
  ![0, 0, v4550.toNat]
def k0_mult48 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_2994 : BitVec 32 := 512#32
  let v4564 : BitVec 32 := Scalar.muli v4514 c512_i32_2994
  v4564
def k0_off74 (arg20 : BitVec 32) (arg21 : BitVec 32) : Fin 3 → Nat :=
  let c0_2995 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_2994 : BitVec 32 := 512#32
  let v4564 : BitVec 32 := Scalar.muli v4514 c512_i32_2994
  let v4565 : BitVec 32 := v4564
  let v4566 : Index := Scalar.indexCast v4565
  let c128_2996 : Index := 128#32
  ![0, v4566.toNat, 128]
def k0_mult49 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_2997 : BitVec 32 := 512#32
  let v4569 : BitVec 32 := Scalar.muli v4512 c512_i32_2997
  v4569
def k0_off75 (arg20 : BitVec 32) (arg21 : BitVec 32) : Fin 3 → Nat :=
  let c0_2998 : Index := 0#32
  let c128_2999 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_2997 : BitVec 32 := 512#32
  let v4569 : BitVec 32 := Scalar.muli v4512 c512_i32_2997
  let v4570 : BitVec 32 := v4569
  let v4571 : Index := Scalar.indexCast v4570
  ![0, 128, v4571.toNat]
def k0_off76 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4580 : Index := Scalar.indexCast v4310
  let c1_3006 : Index := 1#32
  let c0_3007 : Index := 0#32
  let c0_3008 : Index := 0#32
  ![v4580.toNat, 1, 0, 0]
def k0_off77 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4592 : Index := Scalar.indexCast v4310
  let c1_3013 : Index := 1#32
  let c0_3014 : Index := 0#32
  let c0_3015 : Index := 0#32
  ![v4592.toNat, 1, 0, 0]
def k0_mult50 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_3016 : BitVec 32 := 512#32
  let v4597 : BitVec 32 := Scalar.muli v4312 c512_i32_3016
  v4597
def k0_off78 (arg20 : BitVec 32) (arg21 : BitVec 32) : Fin 3 → Nat :=
  let c0_3017 : Index := 0#32
  let c64_3018 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_3016 : BitVec 32 := 512#32
  let v4597 : BitVec 32 := Scalar.muli v4312 c512_i32_3016
  let v4598 : BitVec 32 := v4597
  let v4599 : Index := Scalar.indexCast v4598
  ![0, 64, v4599.toNat]
def k0_mult51 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3026 : BitVec 32 := 512#32
  let v4613 : BitVec 32 := Scalar.muli v4514 c512_i32_3026
  v4613
def k0_off79 (arg20 : BitVec 32) (arg21 : BitVec 32) : Fin 3 → Nat :=
  let c0_3027 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3026 : BitVec 32 := 512#32
  let v4613 : BitVec 32 := Scalar.muli v4514 c512_i32_3026
  let v4614 : BitVec 32 := v4613
  let v4615 : Index := Scalar.indexCast v4614
  let c256_3028 : Index := 256#32
  ![0, v4615.toNat, 256]
def k0_mult52 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_3029 : BitVec 32 := 512#32
  let v4618 : BitVec 32 := Scalar.muli v4512 c512_i32_3029
  v4618
def k0_off80 (arg20 : BitVec 32) (arg21 : BitVec 32) : Fin 3 → Nat :=
  let c0_3030 : Index := 0#32
  let c256_3031 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_3029 : BitVec 32 := 512#32
  let v4618 : BitVec 32 := Scalar.muli v4512 c512_i32_3029
  let v4619 : BitVec 32 := v4618
  let v4620 : Index := Scalar.indexCast v4619
  ![0, 256, v4620.toNat]
def k0_off81 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4629 : Index := Scalar.indexCast v4310
  let c2_3038 : Index := 2#32
  let c0_3039 : Index := 0#32
  let c0_3040 : Index := 0#32
  ![v4629.toNat, 2, 0, 0]
def k0_off82 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4641 : Index := Scalar.indexCast v4310
  let c2_3045 : Index := 2#32
  let c0_3046 : Index := 0#32
  let c0_3047 : Index := 0#32
  ![v4641.toNat, 2, 0, 0]
def k0_mult53 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_3048 : BitVec 32 := 512#32
  let v4646 : BitVec 32 := Scalar.muli v4312 c512_i32_3048
  v4646
def k0_off83 (arg20 : BitVec 32) (arg21 : BitVec 32) : Fin 3 → Nat :=
  let c0_3049 : Index := 0#32
  let c128_3050 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_3048 : BitVec 32 := 512#32
  let v4646 : BitVec 32 := Scalar.muli v4312 c512_i32_3048
  let v4647 : BitVec 32 := v4646
  let v4648 : Index := Scalar.indexCast v4647
  ![0, 128, v4648.toNat]
def k0_mult54 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3058 : BitVec 32 := 512#32
  let v4662 : BitVec 32 := Scalar.muli v4514 c512_i32_3058
  v4662
def k0_off84 (arg20 : BitVec 32) (arg21 : BitVec 32) : Fin 3 → Nat :=
  let c0_3059 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3058 : BitVec 32 := 512#32
  let v4662 : BitVec 32 := Scalar.muli v4514 c512_i32_3058
  let v4663 : BitVec 32 := v4662
  let v4664 : Index := Scalar.indexCast v4663
  let c384_3060 : Index := 384#32
  ![0, v4664.toNat, 384]
def k0_mult55 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_3061 : BitVec 32 := 512#32
  let v4667 : BitVec 32 := Scalar.muli v4512 c512_i32_3061
  v4667
def k0_off85 (arg20 : BitVec 32) (arg21 : BitVec 32) : Fin 3 → Nat :=
  let c0_3062 : Index := 0#32
  let c384_3063 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let c512_i32_3061 : BitVec 32 := 512#32
  let v4667 : BitVec 32 := Scalar.muli v4512 c512_i32_3061
  let v4668 : BitVec 32 := v4667
  let v4669 : Index := Scalar.indexCast v4668
  ![0, 384, v4669.toNat]
def k0_off86 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4678 : Index := Scalar.indexCast v4310
  let c3_3070 : Index := 3#32
  let c0_3071 : Index := 0#32
  let c0_3072 : Index := 0#32
  ![v4678.toNat, 3, 0, 0]
def k0_off87 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c1_i32_2827 : BitVec 32 := 1#32
  let v4309 : BitVec 32 := Scalar.addi v4108 c1_i32_2827
  let v4310 : BitVec 32 := Scalar.select v4308 v4309 v4108
  let v4690 : Index := Scalar.indexCast v4310
  let c3_3077 : Index := 3#32
  let c0_3078 : Index := 0#32
  let c0_3079 : Index := 0#32
  ![v4690.toNat, 3, 0, 0]
def k0_mult56 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_3080 : BitVec 32 := 512#32
  let v4695 : BitVec 32 := Scalar.muli v4312 c512_i32_3080
  v4695
def k0_off88 (arg20 : BitVec 32) (arg21 : BitVec 32) : Fin 3 → Nat :=
  let c0_3081 : Index := 0#32
  let c192_3082 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c512_i32_3080 : BitVec 32 := 512#32
  let v4695 : BitVec 32 := Scalar.muli v4312 c512_i32_3080
  let v4696 : BitVec 32 := v4695
  let v4697 : Index := Scalar.indexCast v4696
  ![0, 192, v4697.toNat]
def k0_mult57 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3094 : BitVec 32 := 512#32
  let v4717 : BitVec 32 := Scalar.muli v4716 c512_i32_3094
  v4717
def k0_off89 (arg20 : BitVec 32) (arg21 : BitVec 32) : Fin 3 → Nat :=
  let c0_3095 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3094 : BitVec 32 := 512#32
  let v4717 : BitVec 32 := Scalar.muli v4716 c512_i32_3094
  let v4718 : BitVec 32 := v4717
  let v4719 : Index := Scalar.indexCast v4718
  let c0_3096 : Index := 0#32
  ![0, v4719.toNat, 0]
def k0_mult58 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3097 : BitVec 32 := 512#32
  let v4722 : BitVec 32 := Scalar.muli v4714 c512_i32_3097
  v4722
def k0_off90 (arg20 : BitVec 32) (arg21 : BitVec 32) : Fin 3 → Nat :=
  let c0_3098 : Index := 0#32
  let c0_3099 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3097 : BitVec 32 := 512#32
  let v4722 : BitVec 32 := Scalar.muli v4714 c512_i32_3097
  let v4723 : BitVec 32 := v4722
  let v4724 : Index := Scalar.indexCast v4723
  ![0, 0, v4724.toNat]
def k0_off91 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4733 : Index := Scalar.indexCast v4512
  let c0_3106 : Index := 0#32
  let c0_3107 : Index := 0#32
  let c0_3108 : Index := 0#32
  ![v4733.toNat, 0, 0, 0]
def k0_off92 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4745 : Index := Scalar.indexCast v4512
  let c0_3113 : Index := 0#32
  let c0_3114 : Index := 0#32
  let c0_3115 : Index := 0#32
  ![v4745.toNat, 0, 0, 0]
def k0_mult59 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3116 : BitVec 32 := 512#32
  let v4750 : BitVec 32 := Scalar.muli v4514 c512_i32_3116
  v4750
def k0_off93 (arg20 : BitVec 32) (arg21 : BitVec 32) : Fin 3 → Nat :=
  let c0_3117 : Index := 0#32
  let c0_3118 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3116 : BitVec 32 := 512#32
  let v4750 : BitVec 32 := Scalar.muli v4514 c512_i32_3116
  let v4751 : BitVec 32 := v4750
  let v4752 : Index := Scalar.indexCast v4751
  ![0, 0, v4752.toNat]
def k0_mult60 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3126 : BitVec 32 := 512#32
  let v4766 : BitVec 32 := Scalar.muli v4716 c512_i32_3126
  v4766
def k0_off94 (arg20 : BitVec 32) (arg21 : BitVec 32) : Fin 3 → Nat :=
  let c0_3127 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3126 : BitVec 32 := 512#32
  let v4766 : BitVec 32 := Scalar.muli v4716 c512_i32_3126
  let v4767 : BitVec 32 := v4766
  let v4768 : Index := Scalar.indexCast v4767
  let c128_3128 : Index := 128#32
  ![0, v4768.toNat, 128]
def k0_mult61 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3129 : BitVec 32 := 512#32
  let v4771 : BitVec 32 := Scalar.muli v4714 c512_i32_3129
  v4771
def k0_off95 (arg20 : BitVec 32) (arg21 : BitVec 32) : Fin 3 → Nat :=
  let c0_3130 : Index := 0#32
  let c128_3131 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3129 : BitVec 32 := 512#32
  let v4771 : BitVec 32 := Scalar.muli v4714 c512_i32_3129
  let v4772 : BitVec 32 := v4771
  let v4773 : Index := Scalar.indexCast v4772
  ![0, 128, v4773.toNat]
def k0_off96 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4782 : Index := Scalar.indexCast v4512
  let c1_3138 : Index := 1#32
  let c0_3139 : Index := 0#32
  let c0_3140 : Index := 0#32
  ![v4782.toNat, 1, 0, 0]
def k0_off97 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4794 : Index := Scalar.indexCast v4512
  let c1_3145 : Index := 1#32
  let c0_3146 : Index := 0#32
  let c0_3147 : Index := 0#32
  ![v4794.toNat, 1, 0, 0]
def k0_mult62 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3148 : BitVec 32 := 512#32
  let v4799 : BitVec 32 := Scalar.muli v4514 c512_i32_3148
  v4799
def k0_off98 (arg20 : BitVec 32) (arg21 : BitVec 32) : Fin 3 → Nat :=
  let c0_3149 : Index := 0#32
  let c64_3150 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3148 : BitVec 32 := 512#32
  let v4799 : BitVec 32 := Scalar.muli v4514 c512_i32_3148
  let v4800 : BitVec 32 := v4799
  let v4801 : Index := Scalar.indexCast v4800
  ![0, 64, v4801.toNat]
def k0_mult63 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3158 : BitVec 32 := 512#32
  let v4815 : BitVec 32 := Scalar.muli v4716 c512_i32_3158
  v4815
def k0_off99 (arg20 : BitVec 32) (arg21 : BitVec 32) : Fin 3 → Nat :=
  let c0_3159 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3158 : BitVec 32 := 512#32
  let v4815 : BitVec 32 := Scalar.muli v4716 c512_i32_3158
  let v4816 : BitVec 32 := v4815
  let v4817 : Index := Scalar.indexCast v4816
  let c256_3160 : Index := 256#32
  ![0, v4817.toNat, 256]
def k0_mult64 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3161 : BitVec 32 := 512#32
  let v4820 : BitVec 32 := Scalar.muli v4714 c512_i32_3161
  v4820
def k0_off100 (arg20 : BitVec 32) (arg21 : BitVec 32) : Fin 3 → Nat :=
  let c0_3162 : Index := 0#32
  let c256_3163 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3161 : BitVec 32 := 512#32
  let v4820 : BitVec 32 := Scalar.muli v4714 c512_i32_3161
  let v4821 : BitVec 32 := v4820
  let v4822 : Index := Scalar.indexCast v4821
  ![0, 256, v4822.toNat]
def k0_off101 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4831 : Index := Scalar.indexCast v4512
  let c2_3170 : Index := 2#32
  let c0_3171 : Index := 0#32
  let c0_3172 : Index := 0#32
  ![v4831.toNat, 2, 0, 0]
def k0_off102 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4843 : Index := Scalar.indexCast v4512
  let c2_3177 : Index := 2#32
  let c0_3178 : Index := 0#32
  let c0_3179 : Index := 0#32
  ![v4843.toNat, 2, 0, 0]
def k0_mult65 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3180 : BitVec 32 := 512#32
  let v4848 : BitVec 32 := Scalar.muli v4514 c512_i32_3180
  v4848
def k0_off103 (arg20 : BitVec 32) (arg21 : BitVec 32) : Fin 3 → Nat :=
  let c0_3181 : Index := 0#32
  let c128_3182 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3180 : BitVec 32 := 512#32
  let v4848 : BitVec 32 := Scalar.muli v4514 c512_i32_3180
  let v4849 : BitVec 32 := v4848
  let v4850 : Index := Scalar.indexCast v4849
  ![0, 128, v4850.toNat]
def k0_mult66 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3190 : BitVec 32 := 512#32
  let v4864 : BitVec 32 := Scalar.muli v4716 c512_i32_3190
  v4864
def k0_off104 (arg20 : BitVec 32) (arg21 : BitVec 32) : Fin 3 → Nat :=
  let c0_3191 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3190 : BitVec 32 := 512#32
  let v4864 : BitVec 32 := Scalar.muli v4716 c512_i32_3190
  let v4865 : BitVec 32 := v4864
  let v4866 : Index := Scalar.indexCast v4865
  let c384_3192 : Index := 384#32
  ![0, v4866.toNat, 384]
def k0_mult67 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3193 : BitVec 32 := 512#32
  let v4869 : BitVec 32 := Scalar.muli v4714 c512_i32_3193
  v4869
def k0_off105 (arg20 : BitVec 32) (arg21 : BitVec 32) : Fin 3 → Nat :=
  let c0_3194 : Index := 0#32
  let c384_3195 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let c512_i32_3193 : BitVec 32 := 512#32
  let v4869 : BitVec 32 := Scalar.muli v4714 c512_i32_3193
  let v4870 : BitVec 32 := v4869
  let v4871 : Index := Scalar.indexCast v4870
  ![0, 384, v4871.toNat]
def k0_off106 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4880 : Index := Scalar.indexCast v4512
  let c3_3202 : Index := 3#32
  let c0_3203 : Index := 0#32
  let c0_3204 : Index := 0#32
  ![v4880.toNat, 3, 0, 0]
def k0_off107 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c1_i32_2959 : BitVec 32 := 1#32
  let v4511 : BitVec 32 := Scalar.addi v4310 c1_i32_2959
  let v4512 : BitVec 32 := Scalar.select v4510 v4511 v4310
  let v4892 : Index := Scalar.indexCast v4512
  let c3_3209 : Index := 3#32
  let c0_3210 : Index := 0#32
  let c0_3211 : Index := 0#32
  ![v4892.toNat, 3, 0, 0]
def k0_mult68 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3212 : BitVec 32 := 512#32
  let v4897 : BitVec 32 := Scalar.muli v4514 c512_i32_3212
  v4897
def k0_off108 (arg20 : BitVec 32) (arg21 : BitVec 32) : Fin 3 → Nat :=
  let c0_3213 : Index := 0#32
  let c192_3214 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c512_i32_3212 : BitVec 32 := 512#32
  let v4897 : BitVec 32 := Scalar.muli v4514 c512_i32_3212
  let v4898 : BitVec 32 := v4897
  let v4899 : Index := Scalar.indexCast v4898
  ![0, 192, v4899.toNat]
def k0_mult69 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3226 : BitVec 32 := 512#32
  let v4919 : BitVec 32 := Scalar.muli v4918 c512_i32_3226
  v4919
def k0_off109 (arg20 : BitVec 32) (arg21 : BitVec 32) : Fin 3 → Nat :=
  let c0_3227 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3226 : BitVec 32 := 512#32
  let v4919 : BitVec 32 := Scalar.muli v4918 c512_i32_3226
  let v4920 : BitVec 32 := v4919
  let v4921 : Index := Scalar.indexCast v4920
  let c0_3228 : Index := 0#32
  ![0, v4921.toNat, 0]
def k0_mult70 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3229 : BitVec 32 := 512#32
  let v4924 : BitVec 32 := Scalar.muli v4916 c512_i32_3229
  v4924
def k0_off110 (arg20 : BitVec 32) (arg21 : BitVec 32) : Fin 3 → Nat :=
  let c0_3230 : Index := 0#32
  let c0_3231 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3229 : BitVec 32 := 512#32
  let v4924 : BitVec 32 := Scalar.muli v4916 c512_i32_3229
  let v4925 : BitVec 32 := v4924
  let v4926 : Index := Scalar.indexCast v4925
  ![0, 0, v4926.toNat]
def k0_off111 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v4935 : Index := Scalar.indexCast v4714
  let c0_3238 : Index := 0#32
  let c0_3239 : Index := 0#32
  let c0_3240 : Index := 0#32
  ![v4935.toNat, 0, 0, 0]
def k0_off112 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v4947 : Index := Scalar.indexCast v4714
  let c0_3245 : Index := 0#32
  let c0_3246 : Index := 0#32
  let c0_3247 : Index := 0#32
  ![v4947.toNat, 0, 0, 0]
def k0_mult71 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3248 : BitVec 32 := 512#32
  let v4952 : BitVec 32 := Scalar.muli v4716 c512_i32_3248
  v4952
def k0_off113 (arg20 : BitVec 32) (arg21 : BitVec 32) : Fin 3 → Nat :=
  let c0_3249 : Index := 0#32
  let c0_3250 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3248 : BitVec 32 := 512#32
  let v4952 : BitVec 32 := Scalar.muli v4716 c512_i32_3248
  let v4953 : BitVec 32 := v4952
  let v4954 : Index := Scalar.indexCast v4953
  ![0, 0, v4954.toNat]
def k0_mult72 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3258 : BitVec 32 := 512#32
  let v4968 : BitVec 32 := Scalar.muli v4918 c512_i32_3258
  v4968
def k0_off114 (arg20 : BitVec 32) (arg21 : BitVec 32) : Fin 3 → Nat :=
  let c0_3259 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3258 : BitVec 32 := 512#32
  let v4968 : BitVec 32 := Scalar.muli v4918 c512_i32_3258
  let v4969 : BitVec 32 := v4968
  let v4970 : Index := Scalar.indexCast v4969
  let c128_3260 : Index := 128#32
  ![0, v4970.toNat, 128]
def k0_mult73 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3261 : BitVec 32 := 512#32
  let v4973 : BitVec 32 := Scalar.muli v4916 c512_i32_3261
  v4973
def k0_off115 (arg20 : BitVec 32) (arg21 : BitVec 32) : Fin 3 → Nat :=
  let c0_3262 : Index := 0#32
  let c128_3263 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3261 : BitVec 32 := 512#32
  let v4973 : BitVec 32 := Scalar.muli v4916 c512_i32_3261
  let v4974 : BitVec 32 := v4973
  let v4975 : Index := Scalar.indexCast v4974
  ![0, 128, v4975.toNat]
def k0_off116 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v4984 : Index := Scalar.indexCast v4714
  let c1_3270 : Index := 1#32
  let c0_3271 : Index := 0#32
  let c0_3272 : Index := 0#32
  ![v4984.toNat, 1, 0, 0]
def k0_off117 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v4996 : Index := Scalar.indexCast v4714
  let c1_3277 : Index := 1#32
  let c0_3278 : Index := 0#32
  let c0_3279 : Index := 0#32
  ![v4996.toNat, 1, 0, 0]
def k0_mult74 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3280 : BitVec 32 := 512#32
  let v5001 : BitVec 32 := Scalar.muli v4716 c512_i32_3280
  v5001
def k0_off118 (arg20 : BitVec 32) (arg21 : BitVec 32) : Fin 3 → Nat :=
  let c0_3281 : Index := 0#32
  let c64_3282 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3280 : BitVec 32 := 512#32
  let v5001 : BitVec 32 := Scalar.muli v4716 c512_i32_3280
  let v5002 : BitVec 32 := v5001
  let v5003 : Index := Scalar.indexCast v5002
  ![0, 64, v5003.toNat]
def k0_mult75 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3290 : BitVec 32 := 512#32
  let v5017 : BitVec 32 := Scalar.muli v4918 c512_i32_3290
  v5017
def k0_off119 (arg20 : BitVec 32) (arg21 : BitVec 32) : Fin 3 → Nat :=
  let c0_3291 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3290 : BitVec 32 := 512#32
  let v5017 : BitVec 32 := Scalar.muli v4918 c512_i32_3290
  let v5018 : BitVec 32 := v5017
  let v5019 : Index := Scalar.indexCast v5018
  let c256_3292 : Index := 256#32
  ![0, v5019.toNat, 256]
def k0_mult76 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3293 : BitVec 32 := 512#32
  let v5022 : BitVec 32 := Scalar.muli v4916 c512_i32_3293
  v5022
def k0_off120 (arg20 : BitVec 32) (arg21 : BitVec 32) : Fin 3 → Nat :=
  let c0_3294 : Index := 0#32
  let c256_3295 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3293 : BitVec 32 := 512#32
  let v5022 : BitVec 32 := Scalar.muli v4916 c512_i32_3293
  let v5023 : BitVec 32 := v5022
  let v5024 : Index := Scalar.indexCast v5023
  ![0, 256, v5024.toNat]
def k0_off121 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v5033 : Index := Scalar.indexCast v4714
  let c2_3302 : Index := 2#32
  let c0_3303 : Index := 0#32
  let c0_3304 : Index := 0#32
  ![v5033.toNat, 2, 0, 0]
def k0_off122 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v5045 : Index := Scalar.indexCast v4714
  let c2_3309 : Index := 2#32
  let c0_3310 : Index := 0#32
  let c0_3311 : Index := 0#32
  ![v5045.toNat, 2, 0, 0]
def k0_mult77 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3312 : BitVec 32 := 512#32
  let v5050 : BitVec 32 := Scalar.muli v4716 c512_i32_3312
  v5050
def k0_off123 (arg20 : BitVec 32) (arg21 : BitVec 32) : Fin 3 → Nat :=
  let c0_3313 : Index := 0#32
  let c128_3314 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3312 : BitVec 32 := 512#32
  let v5050 : BitVec 32 := Scalar.muli v4716 c512_i32_3312
  let v5051 : BitVec 32 := v5050
  let v5052 : Index := Scalar.indexCast v5051
  ![0, 128, v5052.toNat]
def k0_mult78 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3322 : BitVec 32 := 512#32
  let v5066 : BitVec 32 := Scalar.muli v4918 c512_i32_3322
  v5066
def k0_off124 (arg20 : BitVec 32) (arg21 : BitVec 32) : Fin 3 → Nat :=
  let c0_3323 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3322 : BitVec 32 := 512#32
  let v5066 : BitVec 32 := Scalar.muli v4918 c512_i32_3322
  let v5067 : BitVec 32 := v5066
  let v5068 : Index := Scalar.indexCast v5067
  let c384_3324 : Index := 384#32
  ![0, v5068.toNat, 384]
def k0_mult79 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3325 : BitVec 32 := 512#32
  let v5071 : BitVec 32 := Scalar.muli v4916 c512_i32_3325
  v5071
def k0_off125 (arg20 : BitVec 32) (arg21 : BitVec 32) : Fin 3 → Nat :=
  let c0_3326 : Index := 0#32
  let c384_3327 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let c512_i32_3325 : BitVec 32 := 512#32
  let v5071 : BitVec 32 := Scalar.muli v4916 c512_i32_3325
  let v5072 : BitVec 32 := v5071
  let v5073 : Index := Scalar.indexCast v5072
  ![0, 384, v5073.toNat]
def k0_off126 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v5082 : Index := Scalar.indexCast v4714
  let c3_3334 : Index := 3#32
  let c0_3335 : Index := 0#32
  let c0_3336 : Index := 0#32
  ![v5082.toNat, 3, 0, 0]
def k0_off127 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c1_i32_3091 : BitVec 32 := 1#32
  let v4713 : BitVec 32 := Scalar.addi v4512 c1_i32_3091
  let v4714 : BitVec 32 := Scalar.select v4712 v4713 v4512
  let v5094 : Index := Scalar.indexCast v4714
  let c3_3341 : Index := 3#32
  let c0_3342 : Index := 0#32
  let c0_3343 : Index := 0#32
  ![v5094.toNat, 3, 0, 0]
def k0_mult80 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3344 : BitVec 32 := 512#32
  let v5099 : BitVec 32 := Scalar.muli v4716 c512_i32_3344
  v5099
def k0_off128 (arg20 : BitVec 32) (arg21 : BitVec 32) : Fin 3 → Nat :=
  let c0_3345 : Index := 0#32
  let c192_3346 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c512_i32_3344 : BitVec 32 := 512#32
  let v5099 : BitVec 32 := Scalar.muli v4716 c512_i32_3344
  let v5100 : BitVec 32 := v5099
  let v5101 : Index := Scalar.indexCast v5100
  ![0, 192, v5101.toNat]
def k0_mult81 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3358 : BitVec 32 := 512#32
  let v5121 : BitVec 32 := Scalar.muli v5120 c512_i32_3358
  v5121
def k0_off129 (arg20 : BitVec 32) (arg21 : BitVec 32) : Fin 3 → Nat :=
  let c0_3359 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3358 : BitVec 32 := 512#32
  let v5121 : BitVec 32 := Scalar.muli v5120 c512_i32_3358
  let v5122 : BitVec 32 := v5121
  let v5123 : Index := Scalar.indexCast v5122
  let c0_3360 : Index := 0#32
  ![0, v5123.toNat, 0]
def k0_mult82 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3361 : BitVec 32 := 512#32
  let v5126 : BitVec 32 := Scalar.muli v5118 c512_i32_3361
  v5126
def k0_off130 (arg20 : BitVec 32) (arg21 : BitVec 32) : Fin 3 → Nat :=
  let c0_3362 : Index := 0#32
  let c0_3363 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3361 : BitVec 32 := 512#32
  let v5126 : BitVec 32 := Scalar.muli v5118 c512_i32_3361
  let v5127 : BitVec 32 := v5126
  let v5128 : Index := Scalar.indexCast v5127
  ![0, 0, v5128.toNat]
def k0_off131 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5137 : Index := Scalar.indexCast v4916
  let c0_3370 : Index := 0#32
  let c0_3371 : Index := 0#32
  let c0_3372 : Index := 0#32
  ![v5137.toNat, 0, 0, 0]
def k0_off132 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5149 : Index := Scalar.indexCast v4916
  let c0_3377 : Index := 0#32
  let c0_3378 : Index := 0#32
  let c0_3379 : Index := 0#32
  ![v5149.toNat, 0, 0, 0]
def k0_mult83 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3380 : BitVec 32 := 512#32
  let v5154 : BitVec 32 := Scalar.muli v4918 c512_i32_3380
  v5154
def k0_off133 (arg20 : BitVec 32) (arg21 : BitVec 32) : Fin 3 → Nat :=
  let c0_3381 : Index := 0#32
  let c0_3382 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3380 : BitVec 32 := 512#32
  let v5154 : BitVec 32 := Scalar.muli v4918 c512_i32_3380
  let v5155 : BitVec 32 := v5154
  let v5156 : Index := Scalar.indexCast v5155
  ![0, 0, v5156.toNat]
def k0_mult84 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3390 : BitVec 32 := 512#32
  let v5170 : BitVec 32 := Scalar.muli v5120 c512_i32_3390
  v5170
def k0_off134 (arg20 : BitVec 32) (arg21 : BitVec 32) : Fin 3 → Nat :=
  let c0_3391 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3390 : BitVec 32 := 512#32
  let v5170 : BitVec 32 := Scalar.muli v5120 c512_i32_3390
  let v5171 : BitVec 32 := v5170
  let v5172 : Index := Scalar.indexCast v5171
  let c128_3392 : Index := 128#32
  ![0, v5172.toNat, 128]
def k0_mult85 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3393 : BitVec 32 := 512#32
  let v5175 : BitVec 32 := Scalar.muli v5118 c512_i32_3393
  v5175
def k0_off135 (arg20 : BitVec 32) (arg21 : BitVec 32) : Fin 3 → Nat :=
  let c0_3394 : Index := 0#32
  let c128_3395 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3393 : BitVec 32 := 512#32
  let v5175 : BitVec 32 := Scalar.muli v5118 c512_i32_3393
  let v5176 : BitVec 32 := v5175
  let v5177 : Index := Scalar.indexCast v5176
  ![0, 128, v5177.toNat]
def k0_off136 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5186 : Index := Scalar.indexCast v4916
  let c1_3402 : Index := 1#32
  let c0_3403 : Index := 0#32
  let c0_3404 : Index := 0#32
  ![v5186.toNat, 1, 0, 0]
def k0_off137 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5198 : Index := Scalar.indexCast v4916
  let c1_3409 : Index := 1#32
  let c0_3410 : Index := 0#32
  let c0_3411 : Index := 0#32
  ![v5198.toNat, 1, 0, 0]
def k0_mult86 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3412 : BitVec 32 := 512#32
  let v5203 : BitVec 32 := Scalar.muli v4918 c512_i32_3412
  v5203
def k0_off138 (arg20 : BitVec 32) (arg21 : BitVec 32) : Fin 3 → Nat :=
  let c0_3413 : Index := 0#32
  let c64_3414 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3412 : BitVec 32 := 512#32
  let v5203 : BitVec 32 := Scalar.muli v4918 c512_i32_3412
  let v5204 : BitVec 32 := v5203
  let v5205 : Index := Scalar.indexCast v5204
  ![0, 64, v5205.toNat]
def k0_mult87 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3422 : BitVec 32 := 512#32
  let v5219 : BitVec 32 := Scalar.muli v5120 c512_i32_3422
  v5219
def k0_off139 (arg20 : BitVec 32) (arg21 : BitVec 32) : Fin 3 → Nat :=
  let c0_3423 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3422 : BitVec 32 := 512#32
  let v5219 : BitVec 32 := Scalar.muli v5120 c512_i32_3422
  let v5220 : BitVec 32 := v5219
  let v5221 : Index := Scalar.indexCast v5220
  let c256_3424 : Index := 256#32
  ![0, v5221.toNat, 256]
def k0_mult88 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3425 : BitVec 32 := 512#32
  let v5224 : BitVec 32 := Scalar.muli v5118 c512_i32_3425
  v5224
def k0_off140 (arg20 : BitVec 32) (arg21 : BitVec 32) : Fin 3 → Nat :=
  let c0_3426 : Index := 0#32
  let c256_3427 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3425 : BitVec 32 := 512#32
  let v5224 : BitVec 32 := Scalar.muli v5118 c512_i32_3425
  let v5225 : BitVec 32 := v5224
  let v5226 : Index := Scalar.indexCast v5225
  ![0, 256, v5226.toNat]
def k0_off141 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5235 : Index := Scalar.indexCast v4916
  let c2_3434 : Index := 2#32
  let c0_3435 : Index := 0#32
  let c0_3436 : Index := 0#32
  ![v5235.toNat, 2, 0, 0]
def k0_off142 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5247 : Index := Scalar.indexCast v4916
  let c2_3441 : Index := 2#32
  let c0_3442 : Index := 0#32
  let c0_3443 : Index := 0#32
  ![v5247.toNat, 2, 0, 0]
def k0_mult89 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3444 : BitVec 32 := 512#32
  let v5252 : BitVec 32 := Scalar.muli v4918 c512_i32_3444
  v5252
def k0_off143 (arg20 : BitVec 32) (arg21 : BitVec 32) : Fin 3 → Nat :=
  let c0_3445 : Index := 0#32
  let c128_3446 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3444 : BitVec 32 := 512#32
  let v5252 : BitVec 32 := Scalar.muli v4918 c512_i32_3444
  let v5253 : BitVec 32 := v5252
  let v5254 : Index := Scalar.indexCast v5253
  ![0, 128, v5254.toNat]
def k0_mult90 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3454 : BitVec 32 := 512#32
  let v5268 : BitVec 32 := Scalar.muli v5120 c512_i32_3454
  v5268
def k0_off144 (arg20 : BitVec 32) (arg21 : BitVec 32) : Fin 3 → Nat :=
  let c0_3455 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3454 : BitVec 32 := 512#32
  let v5268 : BitVec 32 := Scalar.muli v5120 c512_i32_3454
  let v5269 : BitVec 32 := v5268
  let v5270 : Index := Scalar.indexCast v5269
  let c384_3456 : Index := 384#32
  ![0, v5270.toNat, 384]
def k0_mult91 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3457 : BitVec 32 := 512#32
  let v5273 : BitVec 32 := Scalar.muli v5118 c512_i32_3457
  v5273
def k0_off145 (arg20 : BitVec 32) (arg21 : BitVec 32) : Fin 3 → Nat :=
  let c0_3458 : Index := 0#32
  let c384_3459 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let c512_i32_3457 : BitVec 32 := 512#32
  let v5273 : BitVec 32 := Scalar.muli v5118 c512_i32_3457
  let v5274 : BitVec 32 := v5273
  let v5275 : Index := Scalar.indexCast v5274
  ![0, 384, v5275.toNat]
def k0_off146 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5284 : Index := Scalar.indexCast v4916
  let c3_3466 : Index := 3#32
  let c0_3467 : Index := 0#32
  let c0_3468 : Index := 0#32
  ![v5284.toNat, 3, 0, 0]
def k0_off147 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c1_i32_3223 : BitVec 32 := 1#32
  let v4915 : BitVec 32 := Scalar.addi v4714 c1_i32_3223
  let v4916 : BitVec 32 := Scalar.select v4914 v4915 v4714
  let v5296 : Index := Scalar.indexCast v4916
  let c3_3473 : Index := 3#32
  let c0_3474 : Index := 0#32
  let c0_3475 : Index := 0#32
  ![v5296.toNat, 3, 0, 0]
def k0_mult92 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3476 : BitVec 32 := 512#32
  let v5301 : BitVec 32 := Scalar.muli v4918 c512_i32_3476
  v5301
def k0_off148 (arg20 : BitVec 32) (arg21 : BitVec 32) : Fin 3 → Nat :=
  let c0_3477 : Index := 0#32
  let c192_3478 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c512_i32_3476 : BitVec 32 := 512#32
  let v5301 : BitVec 32 := Scalar.muli v4918 c512_i32_3476
  let v5302 : BitVec 32 := v5301
  let v5303 : Index := Scalar.indexCast v5302
  ![0, 192, v5303.toNat]
def k0_mult93 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3490 : BitVec 32 := 512#32
  let v5323 : BitVec 32 := Scalar.muli v5322 c512_i32_3490
  v5323
def k0_off149 (arg20 : BitVec 32) (arg21 : BitVec 32) : Fin 3 → Nat :=
  let c0_3491 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3490 : BitVec 32 := 512#32
  let v5323 : BitVec 32 := Scalar.muli v5322 c512_i32_3490
  let v5324 : BitVec 32 := v5323
  let v5325 : Index := Scalar.indexCast v5324
  let c0_3492 : Index := 0#32
  ![0, v5325.toNat, 0]
def k0_mult94 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3493 : BitVec 32 := 512#32
  let v5328 : BitVec 32 := Scalar.muli v5320 c512_i32_3493
  v5328
def k0_off150 (arg20 : BitVec 32) (arg21 : BitVec 32) : Fin 3 → Nat :=
  let c0_3494 : Index := 0#32
  let c0_3495 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3493 : BitVec 32 := 512#32
  let v5328 : BitVec 32 := Scalar.muli v5320 c512_i32_3493
  let v5329 : BitVec 32 := v5328
  let v5330 : Index := Scalar.indexCast v5329
  ![0, 0, v5330.toNat]
def k0_off151 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5339 : Index := Scalar.indexCast v5118
  let c0_3502 : Index := 0#32
  let c0_3503 : Index := 0#32
  let c0_3504 : Index := 0#32
  ![v5339.toNat, 0, 0, 0]
def k0_off152 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5351 : Index := Scalar.indexCast v5118
  let c0_3509 : Index := 0#32
  let c0_3510 : Index := 0#32
  let c0_3511 : Index := 0#32
  ![v5351.toNat, 0, 0, 0]
def k0_mult95 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3512 : BitVec 32 := 512#32
  let v5356 : BitVec 32 := Scalar.muli v5120 c512_i32_3512
  v5356
def k0_off153 (arg20 : BitVec 32) (arg21 : BitVec 32) : Fin 3 → Nat :=
  let c0_3513 : Index := 0#32
  let c0_3514 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3512 : BitVec 32 := 512#32
  let v5356 : BitVec 32 := Scalar.muli v5120 c512_i32_3512
  let v5357 : BitVec 32 := v5356
  let v5358 : Index := Scalar.indexCast v5357
  ![0, 0, v5358.toNat]
def k0_mult96 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3522 : BitVec 32 := 512#32
  let v5372 : BitVec 32 := Scalar.muli v5322 c512_i32_3522
  v5372
def k0_off154 (arg20 : BitVec 32) (arg21 : BitVec 32) : Fin 3 → Nat :=
  let c0_3523 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3522 : BitVec 32 := 512#32
  let v5372 : BitVec 32 := Scalar.muli v5322 c512_i32_3522
  let v5373 : BitVec 32 := v5372
  let v5374 : Index := Scalar.indexCast v5373
  let c128_3524 : Index := 128#32
  ![0, v5374.toNat, 128]
def k0_mult97 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3525 : BitVec 32 := 512#32
  let v5377 : BitVec 32 := Scalar.muli v5320 c512_i32_3525
  v5377
def k0_off155 (arg20 : BitVec 32) (arg21 : BitVec 32) : Fin 3 → Nat :=
  let c0_3526 : Index := 0#32
  let c128_3527 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3525 : BitVec 32 := 512#32
  let v5377 : BitVec 32 := Scalar.muli v5320 c512_i32_3525
  let v5378 : BitVec 32 := v5377
  let v5379 : Index := Scalar.indexCast v5378
  ![0, 128, v5379.toNat]
def k0_off156 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5388 : Index := Scalar.indexCast v5118
  let c1_3534 : Index := 1#32
  let c0_3535 : Index := 0#32
  let c0_3536 : Index := 0#32
  ![v5388.toNat, 1, 0, 0]
def k0_off157 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5400 : Index := Scalar.indexCast v5118
  let c1_3541 : Index := 1#32
  let c0_3542 : Index := 0#32
  let c0_3543 : Index := 0#32
  ![v5400.toNat, 1, 0, 0]
def k0_mult98 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3544 : BitVec 32 := 512#32
  let v5405 : BitVec 32 := Scalar.muli v5120 c512_i32_3544
  v5405
def k0_off158 (arg20 : BitVec 32) (arg21 : BitVec 32) : Fin 3 → Nat :=
  let c0_3545 : Index := 0#32
  let c64_3546 : Index := 64#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3544 : BitVec 32 := 512#32
  let v5405 : BitVec 32 := Scalar.muli v5120 c512_i32_3544
  let v5406 : BitVec 32 := v5405
  let v5407 : Index := Scalar.indexCast v5406
  ![0, 64, v5407.toNat]
def k0_mult99 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3554 : BitVec 32 := 512#32
  let v5421 : BitVec 32 := Scalar.muli v5322 c512_i32_3554
  v5421
def k0_off159 (arg20 : BitVec 32) (arg21 : BitVec 32) : Fin 3 → Nat :=
  let c0_3555 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3554 : BitVec 32 := 512#32
  let v5421 : BitVec 32 := Scalar.muli v5322 c512_i32_3554
  let v5422 : BitVec 32 := v5421
  let v5423 : Index := Scalar.indexCast v5422
  let c256_3556 : Index := 256#32
  ![0, v5423.toNat, 256]
def k0_mult100 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3557 : BitVec 32 := 512#32
  let v5426 : BitVec 32 := Scalar.muli v5320 c512_i32_3557
  v5426
def k0_off160 (arg20 : BitVec 32) (arg21 : BitVec 32) : Fin 3 → Nat :=
  let c0_3558 : Index := 0#32
  let c256_3559 : Index := 256#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3557 : BitVec 32 := 512#32
  let v5426 : BitVec 32 := Scalar.muli v5320 c512_i32_3557
  let v5427 : BitVec 32 := v5426
  let v5428 : Index := Scalar.indexCast v5427
  ![0, 256, v5428.toNat]
def k0_off161 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5437 : Index := Scalar.indexCast v5118
  let c2_3566 : Index := 2#32
  let c0_3567 : Index := 0#32
  let c0_3568 : Index := 0#32
  ![v5437.toNat, 2, 0, 0]
def k0_off162 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5449 : Index := Scalar.indexCast v5118
  let c2_3573 : Index := 2#32
  let c0_3574 : Index := 0#32
  let c0_3575 : Index := 0#32
  ![v5449.toNat, 2, 0, 0]
def k0_mult101 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3576 : BitVec 32 := 512#32
  let v5454 : BitVec 32 := Scalar.muli v5120 c512_i32_3576
  v5454
def k0_off163 (arg20 : BitVec 32) (arg21 : BitVec 32) : Fin 3 → Nat :=
  let c0_3577 : Index := 0#32
  let c128_3578 : Index := 128#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3576 : BitVec 32 := 512#32
  let v5454 : BitVec 32 := Scalar.muli v5120 c512_i32_3576
  let v5455 : BitVec 32 := v5454
  let v5456 : Index := Scalar.indexCast v5455
  ![0, 128, v5456.toNat]
def k0_mult102 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3586 : BitVec 32 := 512#32
  let v5470 : BitVec 32 := Scalar.muli v5322 c512_i32_3586
  v5470
def k0_off164 (arg20 : BitVec 32) (arg21 : BitVec 32) : Fin 3 → Nat :=
  let c0_3587 : Index := 0#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c0_i32_3489 : BitVec 32 := 0#32
  let c1_i32_3488 : BitVec 32 := 1#32
  let v5321 : BitVec 32 := Scalar.addi v5120 c1_i32_3488
  let v5322 : BitVec 32 := Scalar.select v5318 c0_i32_3489 v5321
  let c512_i32_3586 : BitVec 32 := 512#32
  let v5470 : BitVec 32 := Scalar.muli v5322 c512_i32_3586
  let v5471 : BitVec 32 := v5470
  let v5472 : Index := Scalar.indexCast v5471
  let c384_3588 : Index := 384#32
  ![0, v5472.toNat, 384]
def k0_mult103 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3589 : BitVec 32 := 512#32
  let v5475 : BitVec 32 := Scalar.muli v5320 c512_i32_3589
  v5475
def k0_off165 (arg20 : BitVec 32) (arg21 : BitVec 32) : Fin 3 → Nat :=
  let c0_3590 : Index := 0#32
  let c384_3591 : Index := 384#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c1_i32_3486 : BitVec 32 := 1#32
  let v5317 : BitVec 32 := Scalar.addi v5120 c1_i32_3486
  let c1_i32_3355 : BitVec 32 := 1#32
  let v5117 : BitVec 32 := Scalar.addi v4916 c1_i32_3355
  let v5118 : BitVec 32 := Scalar.select v5116 v5117 v4916
  let v5318 : BitVec 1 := Scalar.cmpi .eq v5317 v5118
  let c1_i32_3487 : BitVec 32 := 1#32
  let v5319 : BitVec 32 := Scalar.addi v5118 c1_i32_3487
  let v5320 : BitVec 32 := Scalar.select v5318 v5319 v5118
  let c512_i32_3589 : BitVec 32 := 512#32
  let v5475 : BitVec 32 := Scalar.muli v5320 c512_i32_3589
  let v5476 : BitVec 32 := v5475
  let v5477 : Index := Scalar.indexCast v5476
  ![0, 384, v5477.toNat]
def k0_off166 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5486 : Index := Scalar.indexCast v5118
  let c3_3598 : Index := 3#32
  let c0_3599 : Index := 0#32
  let c0_3600 : Index := 0#32
  ![v5486.toNat, 3, 0, 0]
def k0_off167 (arg20 : BitVec 32) (arg21 : BitVec 32) : Fin 4 → Nat :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c1_i32_3355 : BitVec 32 := 1#32
  let v5117 : BitVec 32 := Scalar.addi v4916 c1_i32_3355
  let v5118 : BitVec 32 := Scalar.select v5116 v5117 v4916
  let v5498 : Index := Scalar.indexCast v5118
  let c3_3605 : Index := 3#32
  let c0_3606 : Index := 0#32
  let c0_3607 : Index := 0#32
  ![v5498.toNat, 3, 0, 0]
def k0_mult104 (arg20 : BitVec 32) (arg21 : BitVec 32) : BitVec 32 :=
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3608 : BitVec 32 := 512#32
  let v5503 : BitVec 32 := Scalar.muli v5120 c512_i32_3608
  v5503
def k0_off168 (arg20 : BitVec 32) (arg21 : BitVec 32) : Fin 3 → Nat :=
  let c0_3609 : Index := 0#32
  let c192_3610 : Index := 192#32
  let c1_i32_2562 : BitVec 32 := 1#32
  let v3903 : BitVec 32 := Scalar.addi arg21 c1_i32_2562
  let v3904 : BitVec 1 := Scalar.cmpi .eq v3903 arg20
  let c0_i32_2565 : BitVec 32 := 0#32
  let c1_i32_2564 : BitVec 32 := 1#32
  let v3907 : BitVec 32 := Scalar.addi arg21 c1_i32_2564
  let v3908 : BitVec 32 := Scalar.select v3904 c0_i32_2565 v3907
  let c1_i32_2694 : BitVec 32 := 1#32
  let v4105 : BitVec 32 := Scalar.addi v3908 c1_i32_2694
  let c1_i32_2563 : BitVec 32 := 1#32
  let v3905 : BitVec 32 := Scalar.addi arg20 c1_i32_2563
  let v3906 : BitVec 32 := Scalar.select v3904 v3905 arg20
  let v4106 : BitVec 1 := Scalar.cmpi .eq v4105 v3906
  let c0_i32_2697 : BitVec 32 := 0#32
  let c1_i32_2696 : BitVec 32 := 1#32
  let v4109 : BitVec 32 := Scalar.addi v3908 c1_i32_2696
  let v4110 : BitVec 32 := Scalar.select v4106 c0_i32_2697 v4109
  let c1_i32_2826 : BitVec 32 := 1#32
  let v4307 : BitVec 32 := Scalar.addi v4110 c1_i32_2826
  let c1_i32_2695 : BitVec 32 := 1#32
  let v4107 : BitVec 32 := Scalar.addi v3906 c1_i32_2695
  let v4108 : BitVec 32 := Scalar.select v4106 v4107 v3906
  let v4308 : BitVec 1 := Scalar.cmpi .eq v4307 v4108
  let c0_i32_2829 : BitVec 32 := 0#32
  let c1_i32_2828 : BitVec 32 := 1#32
  let v4311 : BitVec 32 := Scalar.addi v4110 c1_i32_2828
  let v4312 : BitVec 32 := Scalar.select v4308 c0_i32_2829 v4311
  let c1_i32_2958 : BitVec 32 := 1#32
  let v4509 : BitVec 32 := Scalar.addi v4312 c1_i32_2958
  let c1_i32_2827 : BitVec 32 := 1#32
  let v4309 : BitVec 32 := Scalar.addi v4108 c1_i32_2827
  let v4310 : BitVec 32 := Scalar.select v4308 v4309 v4108
  let v4510 : BitVec 1 := Scalar.cmpi .eq v4509 v4310
  let c0_i32_2961 : BitVec 32 := 0#32
  let c1_i32_2960 : BitVec 32 := 1#32
  let v4513 : BitVec 32 := Scalar.addi v4312 c1_i32_2960
  let v4514 : BitVec 32 := Scalar.select v4510 c0_i32_2961 v4513
  let c1_i32_3090 : BitVec 32 := 1#32
  let v4711 : BitVec 32 := Scalar.addi v4514 c1_i32_3090
  let c1_i32_2959 : BitVec 32 := 1#32
  let v4511 : BitVec 32 := Scalar.addi v4310 c1_i32_2959
  let v4512 : BitVec 32 := Scalar.select v4510 v4511 v4310
  let v4712 : BitVec 1 := Scalar.cmpi .eq v4711 v4512
  let c0_i32_3093 : BitVec 32 := 0#32
  let c1_i32_3092 : BitVec 32 := 1#32
  let v4715 : BitVec 32 := Scalar.addi v4514 c1_i32_3092
  let v4716 : BitVec 32 := Scalar.select v4712 c0_i32_3093 v4715
  let c1_i32_3222 : BitVec 32 := 1#32
  let v4913 : BitVec 32 := Scalar.addi v4716 c1_i32_3222
  let c1_i32_3091 : BitVec 32 := 1#32
  let v4713 : BitVec 32 := Scalar.addi v4512 c1_i32_3091
  let v4714 : BitVec 32 := Scalar.select v4712 v4713 v4512
  let v4914 : BitVec 1 := Scalar.cmpi .eq v4913 v4714
  let c0_i32_3225 : BitVec 32 := 0#32
  let c1_i32_3224 : BitVec 32 := 1#32
  let v4917 : BitVec 32 := Scalar.addi v4716 c1_i32_3224
  let v4918 : BitVec 32 := Scalar.select v4914 c0_i32_3225 v4917
  let c1_i32_3354 : BitVec 32 := 1#32
  let v5115 : BitVec 32 := Scalar.addi v4918 c1_i32_3354
  let c1_i32_3223 : BitVec 32 := 1#32
  let v4915 : BitVec 32 := Scalar.addi v4714 c1_i32_3223
  let v4916 : BitVec 32 := Scalar.select v4914 v4915 v4714
  let v5116 : BitVec 1 := Scalar.cmpi .eq v5115 v4916
  let c0_i32_3357 : BitVec 32 := 0#32
  let c1_i32_3356 : BitVec 32 := 1#32
  let v5119 : BitVec 32 := Scalar.addi v4918 c1_i32_3356
  let v5120 : BitVec 32 := Scalar.select v5116 c0_i32_3357 v5119
  let c512_i32_3608 : BitVec 32 := 512#32
  let v5503 : BitVec 32 := Scalar.muli v5120 c512_i32_3608
  let v5504 : BitVec 32 := v5503
  let v5505 : Index := Scalar.indexCast v5504
  ![0, 192, v5505.toNat]

def k0_chk1_0 (arg20 : BitVec 32) (arg21 : BitVec 32) : Prop :=
  (512 ∣ (k0_mult9 arg20 arg21).toNat) ∧
  (∀ a, (k0_off9 arg20 arg21) a + S1x512x128.size a ≤ S1x4096x512.size a) ∧
  (512 ∣ (k0_mult10 arg20 arg21).toNat) ∧
  (∀ a, (k0_off10 arg20 arg21) a + S1x128x512.size a ≤ S1x512x4096.size a) ∧
  (512 ∣ (k0_mult11 arg21).toNat) ∧
  (∀ a, (k0_off13 arg21) a + S1x64x512.size a ≤ S1x256x4096.size a) ∧
  (512 ∣ (k0_mult12 arg20 arg21).toNat) ∧
  (∀ a, (k0_off14 arg20 arg21) a + S1x512x128.size a ≤ S1x4096x512.size a) ∧
  (512 ∣ (k0_mult13 arg20 arg21).toNat) ∧
  (∀ a, (k0_off15 arg20 arg21) a + S1x128x512.size a ≤ S1x512x4096.size a) ∧
  (512 ∣ (k0_mult14 arg21).toNat) ∧
  (∀ a, (k0_off18 arg21) a + S1x64x512.size a ≤ S1x256x4096.size a) ∧
  (512 ∣ (k0_mult15 arg20 arg21).toNat) ∧
  (∀ a, (k0_off19 arg20 arg21) a + S1x512x128.size a ≤ S1x4096x512.size a) ∧
  (512 ∣ (k0_mult16 arg20 arg21).toNat) ∧
  (∀ a, (k0_off20 arg20 arg21) a + S1x128x512.size a ≤ S1x512x4096.size a) ∧
  (512 ∣ (k0_mult17 arg21).toNat) ∧
  (∀ a, (k0_off23 arg21) a + S1x64x512.size a ≤ S1x256x4096.size a) ∧
  (512 ∣ (k0_mult18 arg20 arg21).toNat) ∧
  (∀ a, (k0_off24 arg20 arg21) a + S1x512x128.size a ≤ S1x4096x512.size a) ∧
  (512 ∣ (k0_mult19 arg20 arg21).toNat) ∧
  (∀ a, (k0_off25 arg20 arg21) a + S1x128x512.size a ≤ S1x512x4096.size a) ∧
  (512 ∣ (k0_mult20 arg21).toNat) ∧
  (∀ a, (k0_off28 arg21) a + S1x64x512.size a ≤ S1x256x4096.size a) ∧
  (512 ∣ (k0_mult21 arg20 arg21).toNat) ∧
  (∀ a, (k0_off29 arg20 arg21) a + S1x512x128.size a ≤ S1x4096x512.size a) ∧
  (512 ∣ (k0_mult22 arg20 arg21).toNat) ∧
  (∀ a, (k0_off30 arg20 arg21) a + S1x128x512.size a ≤ S1x512x4096.size a) ∧
  (∀ a, (k0_off31 arg20 arg21) a + S1x1x1x512.size a ≤ S8x4x1x512.size a) ∧
  (∀ a, (k0_off32 arg20 arg21) a + S1x1x80x512.size a ≤ S8x4x80x512.size a) ∧
  (512 ∣ (k0_mult23 arg20 arg21).toNat) ∧
  (∀ a, (k0_off33 arg20 arg21) a + S1x64x512.size a ≤ S1x256x4096.size a)
def k0_chk1_1 (arg20 : BitVec 32) (arg21 : BitVec 32) : Prop :=
  (512 ∣ (k0_mult24 arg20 arg21).toNat) ∧
  (∀ a, (k0_off34 arg20 arg21) a + S1x512x128.size a ≤ S1x4096x512.size a) ∧
  (512 ∣ (k0_mult25 arg20 arg21).toNat) ∧
  (∀ a, (k0_off35 arg20 arg21) a + S1x128x512.size a ≤ S1x512x4096.size a) ∧
  (∀ a, (k0_off36 arg20 arg21) a + S1x1x1x512.size a ≤ S8x4x1x512.size a) ∧
  (∀ a, (k0_off37 arg20 arg21) a + S1x1x80x512.size a ≤ S8x4x80x512.size a) ∧
  (512 ∣ (k0_mult26 arg20 arg21).toNat) ∧
  (∀ a, (k0_off38 arg20 arg21) a + S1x64x512.size a ≤ S1x256x4096.size a) ∧
  (512 ∣ (k0_mult27 arg20 arg21).toNat) ∧
  (∀ a, (k0_off39 arg20 arg21) a + S1x512x128.size a ≤ S1x4096x512.size a) ∧
  (512 ∣ (k0_mult28 arg20 arg21).toNat) ∧
  (∀ a, (k0_off40 arg20 arg21) a + S1x128x512.size a ≤ S1x512x4096.size a) ∧
  (∀ a, (k0_off41 arg20 arg21) a + S1x1x1x512.size a ≤ S8x4x1x512.size a) ∧
  (∀ a, (k0_off42 arg20 arg21) a + S1x1x80x512.size a ≤ S8x4x80x512.size a) ∧
  (512 ∣ (k0_mult29 arg20 arg21).toNat) ∧
  (∀ a, (k0_off43 arg20 arg21) a + S1x64x512.size a ≤ S1x256x4096.size a) ∧
  (512 ∣ (k0_mult30 arg20 arg21).toNat) ∧
  (∀ a, (k0_off44 arg20 arg21) a + S1x512x128.size a ≤ S1x4096x512.size a) ∧
  (512 ∣ (k0_mult31 arg20 arg21).toNat) ∧
  (∀ a, (k0_off45 arg20 arg21) a + S1x128x512.size a ≤ S1x512x4096.size a) ∧
  (∀ a, (k0_off46 arg20 arg21) a + S1x1x1x512.size a ≤ S8x4x1x512.size a) ∧
  (∀ a, (k0_off47 arg20 arg21) a + S1x1x80x512.size a ≤ S8x4x80x512.size a) ∧
  (512 ∣ (k0_mult32 arg20 arg21).toNat) ∧
  (∀ a, (k0_off48 arg20 arg21) a + S1x64x512.size a ≤ S1x256x4096.size a) ∧
  (512 ∣ (k0_mult33 arg20 arg21).toNat) ∧
  (∀ a, (k0_off49 arg20 arg21) a + S1x512x128.size a ≤ S1x4096x512.size a) ∧
  (512 ∣ (k0_mult34 arg20 arg21).toNat) ∧
  (∀ a, (k0_off50 arg20 arg21) a + S1x128x512.size a ≤ S1x512x4096.size a) ∧
  (∀ a, (k0_off51 arg20 arg21) a + S1x1x1x512.size a ≤ S8x4x1x512.size a) ∧
  (∀ a, (k0_off52 arg20 arg21) a + S1x1x80x512.size a ≤ S8x4x80x512.size a) ∧
  (512 ∣ (k0_mult35 arg20 arg21).toNat) ∧
  (∀ a, (k0_off53 arg20 arg21) a + S1x64x512.size a ≤ S1x256x4096.size a)
def k0_chk1_2 (arg20 : BitVec 32) (arg21 : BitVec 32) : Prop :=
  (512 ∣ (k0_mult36 arg20 arg21).toNat) ∧
  (∀ a, (k0_off54 arg20 arg21) a + S1x512x128.size a ≤ S1x4096x512.size a) ∧
  (512 ∣ (k0_mult37 arg20 arg21).toNat) ∧
  (∀ a, (k0_off55 arg20 arg21) a + S1x128x512.size a ≤ S1x512x4096.size a) ∧
  (∀ a, (k0_off56 arg20 arg21) a + S1x1x1x512.size a ≤ S8x4x1x512.size a) ∧
  (∀ a, (k0_off57 arg20 arg21) a + S1x1x80x512.size a ≤ S8x4x80x512.size a) ∧
  (512 ∣ (k0_mult38 arg20 arg21).toNat) ∧
  (∀ a, (k0_off58 arg20 arg21) a + S1x64x512.size a ≤ S1x256x4096.size a) ∧
  (512 ∣ (k0_mult39 arg20 arg21).toNat) ∧
  (∀ a, (k0_off59 arg20 arg21) a + S1x512x128.size a ≤ S1x4096x512.size a) ∧
  (512 ∣ (k0_mult40 arg20 arg21).toNat) ∧
  (∀ a, (k0_off60 arg20 arg21) a + S1x128x512.size a ≤ S1x512x4096.size a) ∧
  (∀ a, (k0_off61 arg20 arg21) a + S1x1x1x512.size a ≤ S8x4x1x512.size a) ∧
  (∀ a, (k0_off62 arg20 arg21) a + S1x1x80x512.size a ≤ S8x4x80x512.size a) ∧
  (512 ∣ (k0_mult41 arg20 arg21).toNat) ∧
  (∀ a, (k0_off63 arg20 arg21) a + S1x64x512.size a ≤ S1x256x4096.size a) ∧
  (512 ∣ (k0_mult42 arg20 arg21).toNat) ∧
  (∀ a, (k0_off64 arg20 arg21) a + S1x512x128.size a ≤ S1x4096x512.size a) ∧
  (512 ∣ (k0_mult43 arg20 arg21).toNat) ∧
  (∀ a, (k0_off65 arg20 arg21) a + S1x128x512.size a ≤ S1x512x4096.size a) ∧
  (∀ a, (k0_off66 arg20 arg21) a + S1x1x1x512.size a ≤ S8x4x1x512.size a) ∧
  (∀ a, (k0_off67 arg20 arg21) a + S1x1x80x512.size a ≤ S8x4x80x512.size a) ∧
  (512 ∣ (k0_mult44 arg20 arg21).toNat) ∧
  (∀ a, (k0_off68 arg20 arg21) a + S1x64x512.size a ≤ S1x256x4096.size a) ∧
  (512 ∣ (k0_mult45 arg20 arg21).toNat) ∧
  (∀ a, (k0_off69 arg20 arg21) a + S1x512x128.size a ≤ S1x4096x512.size a) ∧
  (512 ∣ (k0_mult46 arg20 arg21).toNat) ∧
  (∀ a, (k0_off70 arg20 arg21) a + S1x128x512.size a ≤ S1x512x4096.size a) ∧
  (∀ a, (k0_off71 arg20 arg21) a + S1x1x1x512.size a ≤ S8x4x1x512.size a) ∧
  (∀ a, (k0_off72 arg20 arg21) a + S1x1x80x512.size a ≤ S8x4x80x512.size a) ∧
  (512 ∣ (k0_mult47 arg20 arg21).toNat) ∧
  (∀ a, (k0_off73 arg20 arg21) a + S1x64x512.size a ≤ S1x256x4096.size a)
def k0_chk1_3 (arg20 : BitVec 32) (arg21 : BitVec 32) : Prop :=
  (512 ∣ (k0_mult48 arg20 arg21).toNat) ∧
  (∀ a, (k0_off74 arg20 arg21) a + S1x512x128.size a ≤ S1x4096x512.size a) ∧
  (512 ∣ (k0_mult49 arg20 arg21).toNat) ∧
  (∀ a, (k0_off75 arg20 arg21) a + S1x128x512.size a ≤ S1x512x4096.size a) ∧
  (∀ a, (k0_off76 arg20 arg21) a + S1x1x1x512.size a ≤ S8x4x1x512.size a) ∧
  (∀ a, (k0_off77 arg20 arg21) a + S1x1x80x512.size a ≤ S8x4x80x512.size a) ∧
  (512 ∣ (k0_mult50 arg20 arg21).toNat) ∧
  (∀ a, (k0_off78 arg20 arg21) a + S1x64x512.size a ≤ S1x256x4096.size a) ∧
  (512 ∣ (k0_mult51 arg20 arg21).toNat) ∧
  (∀ a, (k0_off79 arg20 arg21) a + S1x512x128.size a ≤ S1x4096x512.size a) ∧
  (512 ∣ (k0_mult52 arg20 arg21).toNat) ∧
  (∀ a, (k0_off80 arg20 arg21) a + S1x128x512.size a ≤ S1x512x4096.size a) ∧
  (∀ a, (k0_off81 arg20 arg21) a + S1x1x1x512.size a ≤ S8x4x1x512.size a) ∧
  (∀ a, (k0_off82 arg20 arg21) a + S1x1x80x512.size a ≤ S8x4x80x512.size a) ∧
  (512 ∣ (k0_mult53 arg20 arg21).toNat) ∧
  (∀ a, (k0_off83 arg20 arg21) a + S1x64x512.size a ≤ S1x256x4096.size a) ∧
  (512 ∣ (k0_mult54 arg20 arg21).toNat) ∧
  (∀ a, (k0_off84 arg20 arg21) a + S1x512x128.size a ≤ S1x4096x512.size a) ∧
  (512 ∣ (k0_mult55 arg20 arg21).toNat) ∧
  (∀ a, (k0_off85 arg20 arg21) a + S1x128x512.size a ≤ S1x512x4096.size a) ∧
  (∀ a, (k0_off86 arg20 arg21) a + S1x1x1x512.size a ≤ S8x4x1x512.size a) ∧
  (∀ a, (k0_off87 arg20 arg21) a + S1x1x80x512.size a ≤ S8x4x80x512.size a) ∧
  (512 ∣ (k0_mult56 arg20 arg21).toNat) ∧
  (∀ a, (k0_off88 arg20 arg21) a + S1x64x512.size a ≤ S1x256x4096.size a) ∧
  (512 ∣ (k0_mult57 arg20 arg21).toNat) ∧
  (∀ a, (k0_off89 arg20 arg21) a + S1x512x128.size a ≤ S1x4096x512.size a) ∧
  (512 ∣ (k0_mult58 arg20 arg21).toNat) ∧
  (∀ a, (k0_off90 arg20 arg21) a + S1x128x512.size a ≤ S1x512x4096.size a) ∧
  (∀ a, (k0_off91 arg20 arg21) a + S1x1x1x512.size a ≤ S8x4x1x512.size a) ∧
  (∀ a, (k0_off92 arg20 arg21) a + S1x1x80x512.size a ≤ S8x4x80x512.size a) ∧
  (512 ∣ (k0_mult59 arg20 arg21).toNat) ∧
  (∀ a, (k0_off93 arg20 arg21) a + S1x64x512.size a ≤ S1x256x4096.size a)
def k0_chk1_4 (arg20 : BitVec 32) (arg21 : BitVec 32) : Prop :=
  (512 ∣ (k0_mult60 arg20 arg21).toNat) ∧
  (∀ a, (k0_off94 arg20 arg21) a + S1x512x128.size a ≤ S1x4096x512.size a) ∧
  (512 ∣ (k0_mult61 arg20 arg21).toNat) ∧
  (∀ a, (k0_off95 arg20 arg21) a + S1x128x512.size a ≤ S1x512x4096.size a) ∧
  (∀ a, (k0_off96 arg20 arg21) a + S1x1x1x512.size a ≤ S8x4x1x512.size a) ∧
  (∀ a, (k0_off97 arg20 arg21) a + S1x1x80x512.size a ≤ S8x4x80x512.size a) ∧
  (512 ∣ (k0_mult62 arg20 arg21).toNat) ∧
  (∀ a, (k0_off98 arg20 arg21) a + S1x64x512.size a ≤ S1x256x4096.size a) ∧
  (512 ∣ (k0_mult63 arg20 arg21).toNat) ∧
  (∀ a, (k0_off99 arg20 arg21) a + S1x512x128.size a ≤ S1x4096x512.size a) ∧
  (512 ∣ (k0_mult64 arg20 arg21).toNat) ∧
  (∀ a, (k0_off100 arg20 arg21) a + S1x128x512.size a ≤ S1x512x4096.size a) ∧
  (∀ a, (k0_off101 arg20 arg21) a + S1x1x1x512.size a ≤ S8x4x1x512.size a) ∧
  (∀ a, (k0_off102 arg20 arg21) a + S1x1x80x512.size a ≤ S8x4x80x512.size a) ∧
  (512 ∣ (k0_mult65 arg20 arg21).toNat) ∧
  (∀ a, (k0_off103 arg20 arg21) a + S1x64x512.size a ≤ S1x256x4096.size a) ∧
  (512 ∣ (k0_mult66 arg20 arg21).toNat) ∧
  (∀ a, (k0_off104 arg20 arg21) a + S1x512x128.size a ≤ S1x4096x512.size a) ∧
  (512 ∣ (k0_mult67 arg20 arg21).toNat) ∧
  (∀ a, (k0_off105 arg20 arg21) a + S1x128x512.size a ≤ S1x512x4096.size a) ∧
  (∀ a, (k0_off106 arg20 arg21) a + S1x1x1x512.size a ≤ S8x4x1x512.size a) ∧
  (∀ a, (k0_off107 arg20 arg21) a + S1x1x80x512.size a ≤ S8x4x80x512.size a) ∧
  (512 ∣ (k0_mult68 arg20 arg21).toNat) ∧
  (∀ a, (k0_off108 arg20 arg21) a + S1x64x512.size a ≤ S1x256x4096.size a) ∧
  (512 ∣ (k0_mult69 arg20 arg21).toNat) ∧
  (∀ a, (k0_off109 arg20 arg21) a + S1x512x128.size a ≤ S1x4096x512.size a) ∧
  (512 ∣ (k0_mult70 arg20 arg21).toNat) ∧
  (∀ a, (k0_off110 arg20 arg21) a + S1x128x512.size a ≤ S1x512x4096.size a) ∧
  (∀ a, (k0_off111 arg20 arg21) a + S1x1x1x512.size a ≤ S8x4x1x512.size a) ∧
  (∀ a, (k0_off112 arg20 arg21) a + S1x1x80x512.size a ≤ S8x4x80x512.size a) ∧
  (512 ∣ (k0_mult71 arg20 arg21).toNat) ∧
  (∀ a, (k0_off113 arg20 arg21) a + S1x64x512.size a ≤ S1x256x4096.size a)
def k0_chk1_5 (arg20 : BitVec 32) (arg21 : BitVec 32) : Prop :=
  (512 ∣ (k0_mult72 arg20 arg21).toNat) ∧
  (∀ a, (k0_off114 arg20 arg21) a + S1x512x128.size a ≤ S1x4096x512.size a) ∧
  (512 ∣ (k0_mult73 arg20 arg21).toNat) ∧
  (∀ a, (k0_off115 arg20 arg21) a + S1x128x512.size a ≤ S1x512x4096.size a) ∧
  (∀ a, (k0_off116 arg20 arg21) a + S1x1x1x512.size a ≤ S8x4x1x512.size a) ∧
  (∀ a, (k0_off117 arg20 arg21) a + S1x1x80x512.size a ≤ S8x4x80x512.size a) ∧
  (512 ∣ (k0_mult74 arg20 arg21).toNat) ∧
  (∀ a, (k0_off118 arg20 arg21) a + S1x64x512.size a ≤ S1x256x4096.size a) ∧
  (512 ∣ (k0_mult75 arg20 arg21).toNat) ∧
  (∀ a, (k0_off119 arg20 arg21) a + S1x512x128.size a ≤ S1x4096x512.size a) ∧
  (512 ∣ (k0_mult76 arg20 arg21).toNat) ∧
  (∀ a, (k0_off120 arg20 arg21) a + S1x128x512.size a ≤ S1x512x4096.size a) ∧
  (∀ a, (k0_off121 arg20 arg21) a + S1x1x1x512.size a ≤ S8x4x1x512.size a) ∧
  (∀ a, (k0_off122 arg20 arg21) a + S1x1x80x512.size a ≤ S8x4x80x512.size a) ∧
  (512 ∣ (k0_mult77 arg20 arg21).toNat) ∧
  (∀ a, (k0_off123 arg20 arg21) a + S1x64x512.size a ≤ S1x256x4096.size a) ∧
  (512 ∣ (k0_mult78 arg20 arg21).toNat) ∧
  (∀ a, (k0_off124 arg20 arg21) a + S1x512x128.size a ≤ S1x4096x512.size a) ∧
  (512 ∣ (k0_mult79 arg20 arg21).toNat) ∧
  (∀ a, (k0_off125 arg20 arg21) a + S1x128x512.size a ≤ S1x512x4096.size a) ∧
  (∀ a, (k0_off126 arg20 arg21) a + S1x1x1x512.size a ≤ S8x4x1x512.size a) ∧
  (∀ a, (k0_off127 arg20 arg21) a + S1x1x80x512.size a ≤ S8x4x80x512.size a) ∧
  (512 ∣ (k0_mult80 arg20 arg21).toNat) ∧
  (∀ a, (k0_off128 arg20 arg21) a + S1x64x512.size a ≤ S1x256x4096.size a) ∧
  (512 ∣ (k0_mult81 arg20 arg21).toNat) ∧
  (∀ a, (k0_off129 arg20 arg21) a + S1x512x128.size a ≤ S1x4096x512.size a) ∧
  (512 ∣ (k0_mult82 arg20 arg21).toNat) ∧
  (∀ a, (k0_off130 arg20 arg21) a + S1x128x512.size a ≤ S1x512x4096.size a) ∧
  (∀ a, (k0_off131 arg20 arg21) a + S1x1x1x512.size a ≤ S8x4x1x512.size a) ∧
  (∀ a, (k0_off132 arg20 arg21) a + S1x1x80x512.size a ≤ S8x4x80x512.size a) ∧
  (512 ∣ (k0_mult83 arg20 arg21).toNat) ∧
  (∀ a, (k0_off133 arg20 arg21) a + S1x64x512.size a ≤ S1x256x4096.size a)
def k0_chk1_6 (arg20 : BitVec 32) (arg21 : BitVec 32) : Prop :=
  (512 ∣ (k0_mult84 arg20 arg21).toNat) ∧
  (∀ a, (k0_off134 arg20 arg21) a + S1x512x128.size a ≤ S1x4096x512.size a) ∧
  (512 ∣ (k0_mult85 arg20 arg21).toNat) ∧
  (∀ a, (k0_off135 arg20 arg21) a + S1x128x512.size a ≤ S1x512x4096.size a) ∧
  (∀ a, (k0_off136 arg20 arg21) a + S1x1x1x512.size a ≤ S8x4x1x512.size a) ∧
  (∀ a, (k0_off137 arg20 arg21) a + S1x1x80x512.size a ≤ S8x4x80x512.size a) ∧
  (512 ∣ (k0_mult86 arg20 arg21).toNat) ∧
  (∀ a, (k0_off138 arg20 arg21) a + S1x64x512.size a ≤ S1x256x4096.size a) ∧
  (512 ∣ (k0_mult87 arg20 arg21).toNat) ∧
  (∀ a, (k0_off139 arg20 arg21) a + S1x512x128.size a ≤ S1x4096x512.size a) ∧
  (512 ∣ (k0_mult88 arg20 arg21).toNat) ∧
  (∀ a, (k0_off140 arg20 arg21) a + S1x128x512.size a ≤ S1x512x4096.size a) ∧
  (∀ a, (k0_off141 arg20 arg21) a + S1x1x1x512.size a ≤ S8x4x1x512.size a) ∧
  (∀ a, (k0_off142 arg20 arg21) a + S1x1x80x512.size a ≤ S8x4x80x512.size a) ∧
  (512 ∣ (k0_mult89 arg20 arg21).toNat) ∧
  (∀ a, (k0_off143 arg20 arg21) a + S1x64x512.size a ≤ S1x256x4096.size a) ∧
  (512 ∣ (k0_mult90 arg20 arg21).toNat) ∧
  (∀ a, (k0_off144 arg20 arg21) a + S1x512x128.size a ≤ S1x4096x512.size a) ∧
  (512 ∣ (k0_mult91 arg20 arg21).toNat) ∧
  (∀ a, (k0_off145 arg20 arg21) a + S1x128x512.size a ≤ S1x512x4096.size a) ∧
  (∀ a, (k0_off146 arg20 arg21) a + S1x1x1x512.size a ≤ S8x4x1x512.size a) ∧
  (∀ a, (k0_off147 arg20 arg21) a + S1x1x80x512.size a ≤ S8x4x80x512.size a) ∧
  (512 ∣ (k0_mult92 arg20 arg21).toNat) ∧
  (∀ a, (k0_off148 arg20 arg21) a + S1x64x512.size a ≤ S1x256x4096.size a) ∧
  (512 ∣ (k0_mult93 arg20 arg21).toNat) ∧
  (∀ a, (k0_off149 arg20 arg21) a + S1x512x128.size a ≤ S1x4096x512.size a) ∧
  (512 ∣ (k0_mult94 arg20 arg21).toNat) ∧
  (∀ a, (k0_off150 arg20 arg21) a + S1x128x512.size a ≤ S1x512x4096.size a) ∧
  (∀ a, (k0_off151 arg20 arg21) a + S1x1x1x512.size a ≤ S8x4x1x512.size a) ∧
  (∀ a, (k0_off152 arg20 arg21) a + S1x1x80x512.size a ≤ S8x4x80x512.size a) ∧
  (512 ∣ (k0_mult95 arg20 arg21).toNat) ∧
  (∀ a, (k0_off153 arg20 arg21) a + S1x64x512.size a ≤ S1x256x4096.size a)
def k0_chk1_7 (arg20 : BitVec 32) (arg21 : BitVec 32) : Prop :=
  (512 ∣ (k0_mult96 arg20 arg21).toNat) ∧
  (∀ a, (k0_off154 arg20 arg21) a + S1x512x128.size a ≤ S1x4096x512.size a) ∧
  (512 ∣ (k0_mult97 arg20 arg21).toNat) ∧
  (∀ a, (k0_off155 arg20 arg21) a + S1x128x512.size a ≤ S1x512x4096.size a) ∧
  (∀ a, (k0_off156 arg20 arg21) a + S1x1x1x512.size a ≤ S8x4x1x512.size a) ∧
  (∀ a, (k0_off157 arg20 arg21) a + S1x1x80x512.size a ≤ S8x4x80x512.size a) ∧
  (512 ∣ (k0_mult98 arg20 arg21).toNat) ∧
  (∀ a, (k0_off158 arg20 arg21) a + S1x64x512.size a ≤ S1x256x4096.size a) ∧
  (512 ∣ (k0_mult99 arg20 arg21).toNat) ∧
  (∀ a, (k0_off159 arg20 arg21) a + S1x512x128.size a ≤ S1x4096x512.size a) ∧
  (512 ∣ (k0_mult100 arg20 arg21).toNat) ∧
  (∀ a, (k0_off160 arg20 arg21) a + S1x128x512.size a ≤ S1x512x4096.size a) ∧
  (∀ a, (k0_off161 arg20 arg21) a + S1x1x1x512.size a ≤ S8x4x1x512.size a) ∧
  (∀ a, (k0_off162 arg20 arg21) a + S1x1x80x512.size a ≤ S8x4x80x512.size a) ∧
  (512 ∣ (k0_mult101 arg20 arg21).toNat) ∧
  (∀ a, (k0_off163 arg20 arg21) a + S1x64x512.size a ≤ S1x256x4096.size a) ∧
  (512 ∣ (k0_mult102 arg20 arg21).toNat) ∧
  (∀ a, (k0_off164 arg20 arg21) a + S1x512x128.size a ≤ S1x4096x512.size a) ∧
  (512 ∣ (k0_mult103 arg20 arg21).toNat) ∧
  (∀ a, (k0_off165 arg20 arg21) a + S1x128x512.size a ≤ S1x512x4096.size a) ∧
  (∀ a, (k0_off166 arg20 arg21) a + S1x1x1x512.size a ≤ S8x4x1x512.size a) ∧
  (∀ a, (k0_off167 arg20 arg21) a + S1x1x80x512.size a ≤ S8x4x80x512.size a) ∧
  (512 ∣ (k0_mult104 arg20 arg21).toNat) ∧
  (∀ a, (k0_off168 arg20 arg21) a + S1x64x512.size a ≤ S1x256x4096.size a)
def k0_chk1 (arg20 : BitVec 32) (arg21 : BitVec 32) : Prop :=
  k0_chk1_0 arg20 arg21 ∧
  k0_chk1_1 arg20 arg21 ∧
  k0_chk1_2 arg20 arg21 ∧
  k0_chk1_3 arg20 arg21 ∧
  k0_chk1_4 arg20 arg21 ∧
  k0_chk1_5 arg20 arg21 ∧
  k0_chk1_6 arg20 arg21 ∧
  k0_chk1_7 arg20 arg21
theorem k0_mult9_dvd : ∀ (arg20 : BitVec 32) (arg21 : BitVec 32) (k0_hw1 : k0_chk1 arg20 arg21), 512 ∣ (k0_mult9 arg20 arg21).toNat := fun arg20 arg21 k0_hw1 => k0_hw1.1.1
theorem k0_off9_inb : ∀ (arg20 : BitVec 32) (arg21 : BitVec 32) (k0_hw1 : k0_chk1 arg20 arg21), ∀ a, (k0_off9 arg20 arg21) a + S1x512x128.size a ≤ S1x4096x512.size a := fun arg20 arg21 k0_hw1 => k0_hw1.1.2.1
theorem k0_mult10_dvd : ∀ (arg20 : BitVec 32) (arg21 : BitVec 32) (k0_hw1 : k0_chk1 arg20 arg21), 512 ∣ (k0_mult10 arg20 arg21).toNat := fun arg20 arg21 k0_hw1 => k0_hw1.1.2.2.1
theorem k0_off10_inb : ∀ (arg20 : BitVec 32) (arg21 : BitVec 32) (k0_hw1 : k0_chk1 arg20 arg21), ∀ a, (k0_off10 arg20 arg21) a + S1x128x512.size a ≤ S1x512x4096.size a := fun arg20 arg21 k0_hw1 => k0_hw1.1.2.2.2.1
theorem k0_mult11_dvd : ∀ (arg20 : BitVec 32) (arg21 : BitVec 32) (k0_hw1 : k0_chk1 arg20 arg21), 512 ∣ (k0_mult11 arg21).toNat := fun arg20 arg21 k0_hw1 => k0_hw1.1.2.2.2.2.1
theorem k0_off13_inb : ∀ (arg20 : BitVec 32) (arg21 : BitVec 32) (k0_hw1 : k0_chk1 arg20 arg21), ∀ a, (k0_off13 arg21) a + S1x64x512.size a ≤ S1x256x4096.size a := fun arg20 arg21 k0_hw1 => k0_hw1.1.2.2.2.2.2.1
theorem k0_mult12_dvd : ∀ (arg20 : BitVec 32) (arg21 : BitVec 32) (k0_hw1 : k0_chk1 arg20 arg21), 512 ∣ (k0_mult12 arg20 arg21).toNat := fun arg20 arg21 k0_hw1 => k0_hw1.1.2.2.2.2.2.2.1
theorem k0_off14_inb : ∀ (arg20 : BitVec 32) (arg21 : BitVec 32) (k0_hw1 : k0_chk1 arg20 arg21), ∀ a, (k0_off14 arg20 arg21) a + S1x512x128.size a ≤ S1x4096x512.size a := fun arg20 arg21 k0_hw1 => k0_hw1.1.2.2.2.2.2.2.2.1
theorem k0_mult13_dvd : ∀ (arg20 : BitVec 32) (arg21 : BitVec 32) (k0_hw1 : k0_chk1 arg20 arg21), 512 ∣ (k0_mult13 arg20 arg21).toNat := fun arg20 arg21 k0_hw1 => k0_hw1.1.2.2.2.2.2.2.2.2.1
theorem k0_off15_inb : ∀ (arg20 : BitVec 32) (arg21 : BitVec 32) (k0_hw1 : k0_chk1 arg20 arg21), ∀ a, (k0_off15 arg20 arg21) a + S1x128x512.size a ≤ S1x512x4096.size a := fun arg20 arg21 k0_hw1 => k0_hw1.1.2.2.2.2.2.2.2.2.2.1
theorem k0_mult14_dvd : ∀ (arg20 : BitVec 32) (arg21 : BitVec 32) (k0_hw1 : k0_chk1 arg20 arg21), 512 ∣ (k0_mult14 arg21).toNat := fun arg20 arg21 k0_hw1 => k0_hw1.1.2.2.2.2.2.2.2.2.2.2.1
theorem k0_off18_inb : ∀ (arg20 : BitVec 32) (arg21 : BitVec 32) (k0_hw1 : k0_chk1 arg20 arg21), ∀ a, (k0_off18 arg21) a + S1x64x512.size a ≤ S1x256x4096.size a := fun arg20 arg21 k0_hw1 => k0_hw1.1.2.2.2.2.2.2.2.2.2.2.2.1
theorem k0_mult15_dvd : ∀ (arg20 : BitVec 32) (arg21 : BitVec 32) (k0_hw1 : k0_chk1 arg20 arg21), 512 ∣ (k0_mult15 arg20 arg21).toNat := fun arg20 arg21 k0_hw1 => k0_hw1.1.2.2.2.2.2.2.2.2.2.2.2.2.1
theorem k0_off19_inb : ∀ (arg20 : BitVec 32) (arg21 : BitVec 32) (k0_hw1 : k0_chk1 arg20 arg21), ∀ a, (k0_off19 arg20 arg21) a + S1x512x128.size a ≤ S1x4096x512.size a := fun arg20 arg21 k0_hw1 => k0_hw1.1.2.2.2.2.2.2.2.2.2.2.2.2.2.1
theorem k0_mult16_dvd : ∀ (arg20 : BitVec 32) (arg21 : BitVec 32) (k0_hw1 : k0_chk1 arg20 arg21), 512 ∣ (k0_mult16 arg20 arg21).toNat := fun arg20 arg21 k0_hw1 => k0_hw1.1.2.2.2.2.2.2.2.2.2.2.2.2.2.2.1
theorem k0_off20_inb : ∀ (arg20 : BitVec 32) (arg21 : BitVec 32) (k0_hw1 : k0_chk1 arg20 arg21), ∀ a, (k0_off20 arg20 arg21) a + S1x128x512.size a ≤ S1x512x4096.size a := fun arg20 arg21 k0_hw1 => k0_hw1.1.2.2.2.2.2.2.2.2.2.2.2.2.2.2.2.1
theorem k0_mult17_dvd : ∀ (arg20 : BitVec 32) (arg21 : BitVec 32) (k0_hw1 : k0_chk1 arg20 arg21), 512 ∣ (k0_mult17 arg21).toNat := fun arg20 arg21 k0_hw1 => k0_hw1.1.2.2.2.2.2.2.2.2.2.2.2.2.2.2.2.2.1
theorem k0_off23_inb : ∀ (arg20 : BitVec 32) (arg21 : BitVec 32) (k0_hw1 : k0_chk1 arg20 arg21), ∀ a, (k0_off23 arg21) a + S1x64x512.size a ≤ S1x256x4096.size a := fun arg20 arg21 k0_hw1 => k0_hw1.1.2.2.2.2.2.2.2.2.2.2.2.2.2.2.2.2.2.1
theorem k0_mult18_dvd : ∀ (arg20 : BitVec 32) (arg21 : BitVec 32) (k0_hw1 : k0_chk1 arg20 arg21), 512 ∣ (k0_mult18 arg20 arg21).toNat := fun arg20 arg21 k0_hw1 => k0_hw1.1.2.2.2.2.2.2.2.2.2.2.2.2.2.2.2.2.2.2.1
theorem k0_off24_inb : ∀ (arg20 : BitVec 32) (arg21 : BitVec 32) (k0_hw1 : k0_chk1 arg20 arg21), ∀ a, (k0_off24 arg20 arg21) a + S1x512x128.size a ≤ S1x4096x512.size a := fun arg20 arg21 k0_hw1 => k0_hw1.1.2.2.2.2.2.2.2.2.2.2.2.2.2.2.2.2.2.2.2.1
theorem k0_mult19_dvd : ∀ (arg20 : BitVec 32) (arg21 : BitVec 32) (k0_hw1 : k0_chk1 arg20 arg21), 512 ∣ (k0_mult19 arg20 arg21).toNat := fun arg20 arg21 k0_hw1 => k0_hw1.1.2.2.2.2.2.2.2.2.2.2.2.2.2.2.2.2.2.2.2.2.1
theorem k0_off25_inb : ∀ (arg20 : BitVec 32) (arg21 : BitVec 32) (k0_hw1 : k0_chk1 arg20 arg21), ∀ a, (k0_off25 arg20 arg21) a + S1x128x512.size a ≤ S1x512x4096.size a := fun arg20 arg21 k0_hw1 => k0_hw1.1.2.2.2.2.2.2.2.2.2.2.2.2.2.2.2.2.2.2.2.2.2.1
theorem k0_mult20_dvd : ∀ (arg20 : BitVec 32) (arg21 : BitVec 32) (k0_hw1 : k0_chk1 arg20 arg21), 512 ∣ (k0_mult20 arg21).toNat := fun arg20 arg21 k0_hw1 => k0_hw1.1.2.2.2.2.2.2.2.2.2.2.2.2.2.2.2.2.2.2.2.2.2.2.1
theorem k0_off28_inb : ∀ (arg20 : BitVec 32) (arg21 : BitVec 32) (k0_hw1 : k0_chk1 arg20 arg21), ∀ a, (k0_off28 arg21) a + S1x64x512.size a ≤ S1x256x4096.size a := fun arg20 arg21 k0_hw1 => k0_hw1.1.2.2.2.2.2.2.2.2.2.2.2.2.2.2.2.2.2.2.2.2.2.2.2.1
theorem k0_mult21_dvd : ∀ (arg20 : BitVec 32) (arg21 : BitVec 32) (k0_hw1 : k0_chk1 arg20 arg21), 512 ∣ (k0_mult21 arg20 arg21).toNat := fun arg20 arg21 k0_hw1 => k0_hw1.1.2.2.2.2.2.2.2.2.2.2.2.2.2.2.2.2.2.2.2.2.2.2.2.2.1
theorem k0_off29_inb : ∀ (arg20 : BitVec 32) (arg21 : BitVec 32) (k0_hw1 : k0_chk1 arg20 arg21), ∀ a, (k0_off29 arg20 arg21) a + S1x512x128.size a ≤ S1x4096x512.size a := fun arg20 arg21 k0_hw1 => k0_hw1.1.2.2.2.2.2.2.2.2.2.2.2.2.2.2.2.2.2.2.2.2.2.2.2.2.2.1
theorem k0_mult22_dvd : ∀ (arg20 : BitVec 32) (arg21 : BitVec 32) (k0_hw1 : k0_chk1 arg20 arg21), 512 ∣ (k0_mult22 arg20 arg21).toNat := fun arg20 arg21 k0_hw1 => k0_hw1.1.2.2.2.2.2.2.2.2.2.2.2.2.2.2.2.2.2.2.2.2.2.2.2.2.2.2.1
theorem k0_off30_inb : ∀ (arg20 : BitVec 32) (arg21 : BitVec 32) (k0_hw1 : k0_chk1 arg20 arg21), ∀ a, (k0_off30 arg20 arg21) a + S1x128x512.size a ≤ S1x512x4096.size a := fun arg20 arg21 k0_hw1 => k0_hw1.1.2.2.2.2.2.2.2.2.2.2.2.2.2.2.2.2.2.2.2.2.2.2.2.2.2.2.2.1
theorem k0_off31_inb : ∀ (arg20 : BitVec 32) (arg21 : BitVec 32) (k0_hw1 : k0_chk1 arg20 arg21), ∀ a, (k0_off31 arg20 arg21) a + S1x1x1x512.size a ≤ S8x4x1x512.size a := fun arg20 arg21 k0_hw1 => k0_hw1.1.2.2.2.2.2.2.2.2.2.2.2.2.2.2.2.2.2.2.2.2.2.2.2.2.2.2.2.2.1
theorem k0_off32_inb : ∀ (arg20 : BitVec 32) (arg21 : BitVec 32) (k0_hw1 : k0_chk1 arg20 arg21), ∀ a, (k0_off32 arg20 arg21) a + S1x1x80x512.size a ≤ S8x4x80x512.size a := fun arg20 arg21 k0_hw1 => k0_hw1.1.2.2.2.2.2.2.2.2.2.2.2.2.2.2.2.2.2.2.2.2.2.2.2.2.2.2.2.2.2.1
theorem k0_mult23_dvd : ∀ (arg20 : BitVec 32) (arg21 : BitVec 32) (k0_hw1 : k0_chk1 arg20 arg21), 512 ∣ (k0_mult23 arg20 arg21).toNat := fun arg20 arg21 k0_hw1 => k0_hw1.1.2.2.2.2.2.2.2.2.2.2.2.2.2.2.2.2.2.2.2.2.2.2.2.2.2.2.2.2.2.2.1
theorem k0_off33_inb : ∀ (arg20 : BitVec 32) (arg21 : BitVec 32) (k0_hw1 : k0_chk1 arg20 arg21), ∀ a, (k0_off33 arg20 arg21) a + S1x64x512.size a ≤ S1x256x4096.size a := fun arg20 arg21 k0_hw1 => k0_hw1.1.2.2.2.2.2.2.2.2.2.2.2.2.2.2.2.2.2.2.2.2.2.2.2.2.2.2.2.2.2.2.2
theorem k0_mult24_dvd : ∀ (arg20 : BitVec 32) (arg21 : BitVec 32) (k0_hw1 : k0_chk1 arg20 arg21), 512 ∣ (k0_mult24 arg20 arg21).toNat := fun arg20 arg21 k0_hw1 => k0_hw1.2.1.1
theorem k0_off34_inb : ∀ (arg20 : BitVec 32) (arg21 : BitVec 32) (k0_hw1 : k0_chk1 arg20 arg21), ∀ a, (k0_off34 arg20 arg21) a + S1x512x128.size a ≤ S1x4096x512.size a := fun arg20 arg21 k0_hw1 => k0_hw1.2.1.2.1
theorem k0_mult25_dvd : ∀ (arg20 : BitVec 32) (arg21 : BitVec 32) (k0_hw1 : k0_chk1 arg20 arg21), 512 ∣ (k0_mult25 arg20 arg21).toNat := fun arg20 arg21 k0_hw1 => k0_hw1.2.1.2.2.1
theorem k0_off35_inb : ∀ (arg20 : BitVec 32) (arg21 : BitVec 32) (k0_hw1 : k0_chk1 arg20 arg21), ∀ a, (k0_off35 arg20 arg21) a + S1x128x512.size a ≤ S1x512x4096.size a := fun arg20 arg21 k0_hw1 => k0_hw1.2.1.2.2.2.1
theorem k0_off36_inb : ∀ (arg20 : BitVec 32) (arg21 : BitVec 32) (k0_hw1 : k0_chk1 arg20 arg21), ∀ a, (k0_off36 arg20 arg21) a + S1x1x1x512.size a ≤ S8x4x1x512.size a := fun arg20 arg21 k0_hw1 => k0_hw1.2.1.2.2.2.2.1
theorem k0_off37_inb : ∀ (arg20 : BitVec 32) (arg21 : BitVec 32) (k0_hw1 : k0_chk1 arg20 arg21), ∀ a, (k0_off37 arg20 arg21) a + S1x1x80x512.size a ≤ S8x4x80x512.size a := fun arg20 arg21 k0_hw1 => k0_hw1.2.1.2.2.2.2.2.1
theorem k0_mult26_dvd : ∀ (arg20 : BitVec 32) (arg21 : BitVec 32) (k0_hw1 : k0_chk1 arg20 arg21), 512 ∣ (k0_mult26 arg20 arg21).toNat := fun arg20 arg21 k0_hw1 => k0_hw1.2.1.2.2.2.2.2.2.1
theorem k0_off38_inb : ∀ (arg20 : BitVec 32) (arg21 : BitVec 32) (k0_hw1 : k0_chk1 arg20 arg21), ∀ a, (k0_off38 arg20 arg21) a + S1x64x512.size a ≤ S1x256x4096.size a := fun arg20 arg21 k0_hw1 => k0_hw1.2.1.2.2.2.2.2.2.2.1
theorem k0_mult27_dvd : ∀ (arg20 : BitVec 32) (arg21 : BitVec 32) (k0_hw1 : k0_chk1 arg20 arg21), 512 ∣ (k0_mult27 arg20 arg21).toNat := fun arg20 arg21 k0_hw1 => k0_hw1.2.1.2.2.2.2.2.2.2.2.1
theorem k0_off39_inb : ∀ (arg20 : BitVec 32) (arg21 : BitVec 32) (k0_hw1 : k0_chk1 arg20 arg21), ∀ a, (k0_off39 arg20 arg21) a + S1x512x128.size a ≤ S1x4096x512.size a := fun arg20 arg21 k0_hw1 => k0_hw1.2.1.2.2.2.2.2.2.2.2.2.1
theorem k0_mult28_dvd : ∀ (arg20 : BitVec 32) (arg21 : BitVec 32) (k0_hw1 : k0_chk1 arg20 arg21), 512 ∣ (k0_mult28 arg20 arg21).toNat := fun arg20 arg21 k0_hw1 => k0_hw1.2.1.2.2.2.2.2.2.2.2.2.2.1
theorem k0_off40_inb : ∀ (arg20 : BitVec 32) (arg21 : BitVec 32) (k0_hw1 : k0_chk1 arg20 arg21), ∀ a, (k0_off40 arg20 arg21) a + S1x128x512.size a ≤ S1x512x4096.size a := fun arg20 arg21 k0_hw1 => k0_hw1.2.1.2.2.2.2.2.2.2.2.2.2.2.1
theorem k0_off41_inb : ∀ (arg20 : BitVec 32) (arg21 : BitVec 32) (k0_hw1 : k0_chk1 arg20 arg21), ∀ a, (k0_off41 arg20 arg21) a + S1x1x1x512.size a ≤ S8x4x1x512.size a := fun arg20 arg21 k0_hw1 => k0_hw1.2.1.2.2.2.2.2.2.2.2.2.2.2.2.1
theorem k0_off42_inb : ∀ (arg20 : BitVec 32) (arg21 : BitVec 32) (k0_hw1 : k0_chk1 arg20 arg21), ∀ a, (k0_off42 arg20 arg21) a + S1x1x80x512.size a ≤ S8x4x80x512.size a := fun arg20 arg21 k0_hw1 => k0_hw1.2.1.2.2.2.2.2.2.2.2.2.2.2.2.2.1
theorem k0_mult29_dvd : ∀ (arg20 : BitVec 32) (arg21 : BitVec 32) (k0_hw1 : k0_chk1 arg20 arg21), 512 ∣ (k0_mult29 arg20 arg21).toNat := fun arg20 arg21 k0_hw1 => k0_hw1.2.1.2.2.2.2.2.2.2.2.2.2.2.2.2.2.1
theorem k0_off43_inb : ∀ (arg20 : BitVec 32) (arg21 : BitVec 32) (k0_hw1 : k0_chk1 arg20 arg21), ∀ a, (k0_off43 arg20 arg21) a + S1x64x512.size a ≤ S1x256x4096.size a := fun arg20 arg21 k0_hw1 => k0_hw1.2.1.2.2.2.2.2.2.2.2.2.2.2.2.2.2.2.1
theorem k0_mult30_dvd : ∀ (arg20 : BitVec 32) (arg21 : BitVec 32) (k0_hw1 : k0_chk1 arg20 arg21), 512 ∣ (k0_mult30 arg20 arg21).toNat := fun arg20 arg21 k0_hw1 => k0_hw1.2.1.2.2.2.2.2.2.2.2.2.2.2.2.2.2.2.2.1
theorem k0_off44_inb : ∀ (arg20 : BitVec 32) (arg21 : BitVec 32) (k0_hw1 : k0_chk1 arg20 arg21), ∀ a, (k0_off44 arg20 arg21) a + S1x512x128.size a ≤ S1x4096x512.size a := fun arg20 arg21 k0_hw1 => k0_hw1.2.1.2.2.2.2.2.2.2.2.2.2.2.2.2.2.2.2.2.1
theorem k0_mult31_dvd : ∀ (arg20 : BitVec 32) (arg21 : BitVec 32) (k0_hw1 : k0_chk1 arg20 arg21), 512 ∣ (k0_mult31 arg20 arg21).toNat := fun arg20 arg21 k0_hw1 => k0_hw1.2.1.2.2.2.2.2.2.2.2.2.2.2.2.2.2.2.2.2.2.1
theorem k0_off45_inb : ∀ (arg20 : BitVec 32) (arg21 : BitVec 32) (k0_hw1 : k0_chk1 arg20 arg21), ∀ a, (k0_off45 arg20 arg21) a + S1x128x512.size a ≤ S1x512x4096.size a := fun arg20 arg21 k0_hw1 => k0_hw1.2.1.2.2.2.2.2.2.2.2.2.2.2.2.2.2.2.2.2.2.2.1
theorem k0_off46_inb : ∀ (arg20 : BitVec 32) (arg21 : BitVec 32) (k0_hw1 : k0_chk1 arg20 arg21), ∀ a, (k0_off46 arg20 arg21) a + S1x1x1x512.size a ≤ S8x4x1x512.size a := fun arg20 arg21 k0_hw1 => k0_hw1.2.1.2.2.2.2.2.2.2.2.2.2.2.2.2.2.2.2.2.2.2.2.1
theorem k0_off47_inb : ∀ (arg20 : BitVec 32) (arg21 : BitVec 32) (k0_hw1 : k0_chk1 arg20 arg21), ∀ a, (k0_off47 arg20 arg21) a + S1x1x80x512.size a ≤ S8x4x80x512.size a := fun arg20 arg21 k0_hw1 => k0_hw1.2.1.2.2.2.2.2.2.2.2.2.2.2.2.2.2.2.2.2.2.2.2.2.1
theorem k0_mult32_dvd : ∀ (arg20 : BitVec 32) (arg21 : BitVec 32) (k0_hw1 : k0_chk1 arg20 arg21), 512 ∣ (k0_mult32 arg20 arg21).toNat := fun arg20 arg21 k0_hw1 => k0_hw1.2.1.2.2.2.2.2.2.2.2.2.2.2.2.2.2.2.2.2.2.2.2.2.2.1
theorem k0_off48_inb : ∀ (arg20 : BitVec 32) (arg21 : BitVec 32) (k0_hw1 : k0_chk1 arg20 arg21), ∀ a, (k0_off48 arg20 arg21) a + S1x64x512.size a ≤ S1x256x4096.size a := fun arg20 arg21 k0_hw1 => k0_hw1.2.1.2.2.2.2.2.2.2.2.2.2.2.2.2.2.2.2.2.2.2.2.2.2.2.1
theorem k0_mult33_dvd : ∀ (arg20 : BitVec 32) (arg21 : BitVec 32) (k0_hw1 : k0_chk1 arg20 arg21), 512 ∣ (k0_mult33 arg20 arg21).toNat := fun arg20 arg21 k0_hw1 => k0_hw1.2.1.2.2.2.2.2.2.2.2.2.2.2.2.2.2.2.2.2.2.2.2.2.2.2.2.1
theorem k0_off49_inb : ∀ (arg20 : BitVec 32) (arg21 : BitVec 32) (k0_hw1 : k0_chk1 arg20 arg21), ∀ a, (k0_off49 arg20 arg21) a + S1x512x128.size a ≤ S1x4096x512.size a := fun arg20 arg21 k0_hw1 => k0_hw1.2.1.2.2.2.2.2.2.2.2.2.2.2.2.2.2.2.2.2.2.2.2.2.2.2.2.2.1
theorem k0_mult34_dvd : ∀ (arg20 : BitVec 32) (arg21 : BitVec 32) (k0_hw1 : k0_chk1 arg20 arg21), 512 ∣ (k0_mult34 arg20 arg21).toNat := fun arg20 arg21 k0_hw1 => k0_hw1.2.1.2.2.2.2.2.2.2.2.2.2.2.2.2.2.2.2.2.2.2.2.2.2.2.2.2.2.1
theorem k0_off50_inb : ∀ (arg20 : BitVec 32) (arg21 : BitVec 32) (k0_hw1 : k0_chk1 arg20 arg21), ∀ a, (k0_off50 arg20 arg21) a + S1x128x512.size a ≤ S1x512x4096.size a := fun arg20 arg21 k0_hw1 => k0_hw1.2.1.2.2.2.2.2.2.2.2.2.2.2.2.2.2.2.2.2.2.2.2.2.2.2.2.2.2.2.1
theorem k0_off51_inb : ∀ (arg20 : BitVec 32) (arg21 : BitVec 32) (k0_hw1 : k0_chk1 arg20 arg21), ∀ a, (k0_off51 arg20 arg21) a + S1x1x1x512.size a ≤ S8x4x1x512.size a := fun arg20 arg21 k0_hw1 => k0_hw1.2.1.2.2.2.2.2.2.2.2.2.2.2.2.2.2.2.2.2.2.2.2.2.2.2.2.2.2.2.2.1
theorem k0_off52_inb : ∀ (arg20 : BitVec 32) (arg21 : BitVec 32) (k0_hw1 : k0_chk1 arg20 arg21), ∀ a, (k0_off52 arg20 arg21) a + S1x1x80x512.size a ≤ S8x4x80x512.size a := fun arg20 arg21 k0_hw1 => k0_hw1.2.1.2.2.2.2.2.2.2.2.2.2.2.2.2.2.2.2.2.2.2.2.2.2.2.2.2.2.2.2.2.1
theorem k0_mult35_dvd : ∀ (arg20 : BitVec 32) (arg21 : BitVec 32) (k0_hw1 : k0_chk1 arg20 arg21), 512 ∣ (k0_mult35 arg20 arg21).toNat := fun arg20 arg21 k0_hw1 => k0_hw1.2.1.2.2.2.2.2.2.2.2.2.2.2.2.2.2.2.2.2.2.2.2.2.2.2.2.2.2.2.2.2.2.1
theorem k0_off53_inb : ∀ (arg20 : BitVec 32) (arg21 : BitVec 32) (k0_hw1 : k0_chk1 arg20 arg21), ∀ a, (k0_off53 arg20 arg21) a + S1x64x512.size a ≤ S1x256x4096.size a := fun arg20 arg21 k0_hw1 => k0_hw1.2.1.2.2.2.2.2.2.2.2.2.2.2.2.2.2.2.2.2.2.2.2.2.2.2.2.2.2.2.2.2.2.2
theorem k0_mult36_dvd : ∀ (arg20 : BitVec 32) (arg21 : BitVec 32) (k0_hw1 : k0_chk1 arg20 arg21), 512 ∣ (k0_mult36 arg20 arg21).toNat := fun arg20 arg21 k0_hw1 => k0_hw1.2.2.1.1
theorem k0_off54_inb : ∀ (arg20 : BitVec 32) (arg21 : BitVec 32) (k0_hw1 : k0_chk1 arg20 arg21), ∀ a, (k0_off54 arg20 arg21) a + S1x512x128.size a ≤ S1x4096x512.size a := fun arg20 arg21 k0_hw1 => k0_hw1.2.2.1.2.1
theorem k0_mult37_dvd : ∀ (arg20 : BitVec 32) (arg21 : BitVec 32) (k0_hw1 : k0_chk1 arg20 arg21), 512 ∣ (k0_mult37 arg20 arg21).toNat := fun arg20 arg21 k0_hw1 => k0_hw1.2.2.1.2.2.1
theorem k0_off55_inb : ∀ (arg20 : BitVec 32) (arg21 : BitVec 32) (k0_hw1 : k0_chk1 arg20 arg21), ∀ a, (k0_off55 arg20 arg21) a + S1x128x512.size a ≤ S1x512x4096.size a := fun arg20 arg21 k0_hw1 => k0_hw1.2.2.1.2.2.2.1
theorem k0_off56_inb : ∀ (arg20 : BitVec 32) (arg21 : BitVec 32) (k0_hw1 : k0_chk1 arg20 arg21), ∀ a, (k0_off56 arg20 arg21) a + S1x1x1x512.size a ≤ S8x4x1x512.size a := fun arg20 arg21 k0_hw1 => k0_hw1.2.2.1.2.2.2.2.1
theorem k0_off57_inb : ∀ (arg20 : BitVec 32) (arg21 : BitVec 32) (k0_hw1 : k0_chk1 arg20 arg21), ∀ a, (k0_off57 arg20 arg21) a + S1x1x80x512.size a ≤ S8x4x80x512.size a := fun arg20 arg21 k0_hw1 => k0_hw1.2.2.1.2.2.2.2.2.1
theorem k0_mult38_dvd : ∀ (arg20 : BitVec 32) (arg21 : BitVec 32) (k0_hw1 : k0_chk1 arg20 arg21), 512 ∣ (k0_mult38 arg20 arg21).toNat := fun arg20 arg21 k0_hw1 => k0_hw1.2.2.1.2.2.2.2.2.2.1
theorem k0_off58_inb : ∀ (arg20 : BitVec 32) (arg21 : BitVec 32) (k0_hw1 : k0_chk1 arg20 arg21), ∀ a, (k0_off58 arg20 arg21) a + S1x64x512.size a ≤ S1x256x4096.size a := fun arg20 arg21 k0_hw1 => k0_hw1.2.2.1.2.2.2.2.2.2.2.1
theorem k0_mult39_dvd : ∀ (arg20 : BitVec 32) (arg21 : BitVec 32) (k0_hw1 : k0_chk1 arg20 arg21), 512 ∣ (k0_mult39 arg20 arg21).toNat := fun arg20 arg21 k0_hw1 => k0_hw1.2.2.1.2.2.2.2.2.2.2.2.1
theorem k0_off59_inb : ∀ (arg20 : BitVec 32) (arg21 : BitVec 32) (k0_hw1 : k0_chk1 arg20 arg21), ∀ a, (k0_off59 arg20 arg21) a + S1x512x128.size a ≤ S1x4096x512.size a := fun arg20 arg21 k0_hw1 => k0_hw1.2.2.1.2.2.2.2.2.2.2.2.2.1
theorem k0_mult40_dvd : ∀ (arg20 : BitVec 32) (arg21 : BitVec 32) (k0_hw1 : k0_chk1 arg20 arg21), 512 ∣ (k0_mult40 arg20 arg21).toNat := fun arg20 arg21 k0_hw1 => k0_hw1.2.2.1.2.2.2.2.2.2.2.2.2.2.1
theorem k0_off60_inb : ∀ (arg20 : BitVec 32) (arg21 : BitVec 32) (k0_hw1 : k0_chk1 arg20 arg21), ∀ a, (k0_off60 arg20 arg21) a + S1x128x512.size a ≤ S1x512x4096.size a := fun arg20 arg21 k0_hw1 => k0_hw1.2.2.1.2.2.2.2.2.2.2.2.2.2.2.1
theorem k0_off61_inb : ∀ (arg20 : BitVec 32) (arg21 : BitVec 32) (k0_hw1 : k0_chk1 arg20 arg21), ∀ a, (k0_off61 arg20 arg21) a + S1x1x1x512.size a ≤ S8x4x1x512.size a := fun arg20 arg21 k0_hw1 => k0_hw1.2.2.1.2.2.2.2.2.2.2.2.2.2.2.2.1
theorem k0_off62_inb : ∀ (arg20 : BitVec 32) (arg21 : BitVec 32) (k0_hw1 : k0_chk1 arg20 arg21), ∀ a, (k0_off62 arg20 arg21) a + S1x1x80x512.size a ≤ S8x4x80x512.size a := fun arg20 arg21 k0_hw1 => k0_hw1.2.2.1.2.2.2.2.2.2.2.2.2.2.2.2.2.1
theorem k0_mult41_dvd : ∀ (arg20 : BitVec 32) (arg21 : BitVec 32) (k0_hw1 : k0_chk1 arg20 arg21), 512 ∣ (k0_mult41 arg20 arg21).toNat := fun arg20 arg21 k0_hw1 => k0_hw1.2.2.1.2.2.2.2.2.2.2.2.2.2.2.2.2.2.1
theorem k0_off63_inb : ∀ (arg20 : BitVec 32) (arg21 : BitVec 32) (k0_hw1 : k0_chk1 arg20 arg21), ∀ a, (k0_off63 arg20 arg21) a + S1x64x512.size a ≤ S1x256x4096.size a := fun arg20 arg21 k0_hw1 => k0_hw1.2.2.1.2.2.2.2.2.2.2.2.2.2.2.2.2.2.2.1
theorem k0_mult42_dvd : ∀ (arg20 : BitVec 32) (arg21 : BitVec 32) (k0_hw1 : k0_chk1 arg20 arg21), 512 ∣ (k0_mult42 arg20 arg21).toNat := fun arg20 arg21 k0_hw1 => k0_hw1.2.2.1.2.2.2.2.2.2.2.2.2.2.2.2.2.2.2.2.1
theorem k0_off64_inb : ∀ (arg20 : BitVec 32) (arg21 : BitVec 32) (k0_hw1 : k0_chk1 arg20 arg21), ∀ a, (k0_off64 arg20 arg21) a + S1x512x128.size a ≤ S1x4096x512.size a := fun arg20 arg21 k0_hw1 => k0_hw1.2.2.1.2.2.2.2.2.2.2.2.2.2.2.2.2.2.2.2.2.1
theorem k0_mult43_dvd : ∀ (arg20 : BitVec 32) (arg21 : BitVec 32) (k0_hw1 : k0_chk1 arg20 arg21), 512 ∣ (k0_mult43 arg20 arg21).toNat := fun arg20 arg21 k0_hw1 => k0_hw1.2.2.1.2.2.2.2.2.2.2.2.2.2.2.2.2.2.2.2.2.2.1
theorem k0_off65_inb : ∀ (arg20 : BitVec 32) (arg21 : BitVec 32) (k0_hw1 : k0_chk1 arg20 arg21), ∀ a, (k0_off65 arg20 arg21) a + S1x128x512.size a ≤ S1x512x4096.size a := fun arg20 arg21 k0_hw1 => k0_hw1.2.2.1.2.2.2.2.2.2.2.2.2.2.2.2.2.2.2.2.2.2.2.1
theorem k0_off66_inb : ∀ (arg20 : BitVec 32) (arg21 : BitVec 32) (k0_hw1 : k0_chk1 arg20 arg21), ∀ a, (k0_off66 arg20 arg21) a + S1x1x1x512.size a ≤ S8x4x1x512.size a := fun arg20 arg21 k0_hw1 => k0_hw1.2.2.1.2.2.2.2.2.2.2.2.2.2.2.2.2.2.2.2.2.2.2.2.1
theorem k0_off67_inb : ∀ (arg20 : BitVec 32) (arg21 : BitVec 32) (k0_hw1 : k0_chk1 arg20 arg21), ∀ a, (k0_off67 arg20 arg21) a + S1x1x80x512.size a ≤ S8x4x80x512.size a := fun arg20 arg21 k0_hw1 => k0_hw1.2.2.1.2.2.2.2.2.2.2.2.2.2.2.2.2.2.2.2.2.2.2.2.2.1
theorem k0_mult44_dvd : ∀ (arg20 : BitVec 32) (arg21 : BitVec 32) (k0_hw1 : k0_chk1 arg20 arg21), 512 ∣ (k0_mult44 arg20 arg21).toNat := fun arg20 arg21 k0_hw1 => k0_hw1.2.2.1.2.2.2.2.2.2.2.2.2.2.2.2.2.2.2.2.2.2.2.2.2.2.1
theorem k0_off68_inb : ∀ (arg20 : BitVec 32) (arg21 : BitVec 32) (k0_hw1 : k0_chk1 arg20 arg21), ∀ a, (k0_off68 arg20 arg21) a + S1x64x512.size a ≤ S1x256x4096.size a := fun arg20 arg21 k0_hw1 => k0_hw1.2.2.1.2.2.2.2.2.2.2.2.2.2.2.2.2.2.2.2.2.2.2.2.2.2.2.1
theorem k0_mult45_dvd : ∀ (arg20 : BitVec 32) (arg21 : BitVec 32) (k0_hw1 : k0_chk1 arg20 arg21), 512 ∣ (k0_mult45 arg20 arg21).toNat := fun arg20 arg21 k0_hw1 => k0_hw1.2.2.1.2.2.2.2.2.2.2.2.2.2.2.2.2.2.2.2.2.2.2.2.2.2.2.2.1
theorem k0_off69_inb : ∀ (arg20 : BitVec 32) (arg21 : BitVec 32) (k0_hw1 : k0_chk1 arg20 arg21), ∀ a, (k0_off69 arg20 arg21) a + S1x512x128.size a ≤ S1x4096x512.size a := fun arg20 arg21 k0_hw1 => k0_hw1.2.2.1.2.2.2.2.2.2.2.2.2.2.2.2.2.2.2.2.2.2.2.2.2.2.2.2.2.1
theorem k0_mult46_dvd : ∀ (arg20 : BitVec 32) (arg21 : BitVec 32) (k0_hw1 : k0_chk1 arg20 arg21), 512 ∣ (k0_mult46 arg20 arg21).toNat := fun arg20 arg21 k0_hw1 => k0_hw1.2.2.1.2.2.2.2.2.2.2.2.2.2.2.2.2.2.2.2.2.2.2.2.2.2.2.2.2.2.1
theorem k0_off70_inb : ∀ (arg20 : BitVec 32) (arg21 : BitVec 32) (k0_hw1 : k0_chk1 arg20 arg21), ∀ a, (k0_off70 arg20 arg21) a + S1x128x512.size a ≤ S1x512x4096.size a := fun arg20 arg21 k0_hw1 => k0_hw1.2.2.1.2.2.2.2.2.2.2.2.2.2.2.2.2.2.2.2.2.2.2.2.2.2.2.2.2.2.2.1
theorem k0_off71_inb : ∀ (arg20 : BitVec 32) (arg21 : BitVec 32) (k0_hw1 : k0_chk1 arg20 arg21), ∀ a, (k0_off71 arg20 arg21) a + S1x1x1x512.size a ≤ S8x4x1x512.size a := fun arg20 arg21 k0_hw1 => k0_hw1.2.2.1.2.2.2.2.2.2.2.2.2.2.2.2.2.2.2.2.2.2.2.2.2.2.2.2.2.2.2.2.1
theorem k0_off72_inb : ∀ (arg20 : BitVec 32) (arg21 : BitVec 32) (k0_hw1 : k0_chk1 arg20 arg21), ∀ a, (k0_off72 arg20 arg21) a + S1x1x80x512.size a ≤ S8x4x80x512.size a := fun arg20 arg21 k0_hw1 => k0_hw1.2.2.1.2.2.2.2.2.2.2.2.2.2.2.2.2.2.2.2.2.2.2.2.2.2.2.2.2.2.2.2.2.1
theorem k0_mult47_dvd : ∀ (arg20 : BitVec 32) (arg21 : BitVec 32) (k0_hw1 : k0_chk1 arg20 arg21), 512 ∣ (k0_mult47 arg20 arg21).toNat := fun arg20 arg21 k0_hw1 => k0_hw1.2.2.1.2.2.2.2.2.2.2.2.2.2.2.2.2.2.2.2.2.2.2.2.2.2.2.2.2.2.2.2.2.2.1
theorem k0_off73_inb : ∀ (arg20 : BitVec 32) (arg21 : BitVec 32) (k0_hw1 : k0_chk1 arg20 arg21), ∀ a, (k0_off73 arg20 arg21) a + S1x64x512.size a ≤ S1x256x4096.size a := fun arg20 arg21 k0_hw1 => k0_hw1.2.2.1.2.2.2.2.2.2.2.2.2.2.2.2.2.2.2.2.2.2.2.2.2.2.2.2.2.2.2.2.2.2.2
theorem k0_mult48_dvd : ∀ (arg20 : BitVec 32) (arg21 : BitVec 32) (k0_hw1 : k0_chk1 arg20 arg21), 512 ∣ (k0_mult48 arg20 arg21).toNat := fun arg20 arg21 k0_hw1 => k0_hw1.2.2.2.1.1
theorem k0_off74_inb : ∀ (arg20 : BitVec 32) (arg21 : BitVec 32) (k0_hw1 : k0_chk1 arg20 arg21), ∀ a, (k0_off74 arg20 arg21) a + S1x512x128.size a ≤ S1x4096x512.size a := fun arg20 arg21 k0_hw1 => k0_hw1.2.2.2.1.2.1
theorem k0_mult49_dvd : ∀ (arg20 : BitVec 32) (arg21 : BitVec 32) (k0_hw1 : k0_chk1 arg20 arg21), 512 ∣ (k0_mult49 arg20 arg21).toNat := fun arg20 arg21 k0_hw1 => k0_hw1.2.2.2.1.2.2.1
theorem k0_off75_inb : ∀ (arg20 : BitVec 32) (arg21 : BitVec 32) (k0_hw1 : k0_chk1 arg20 arg21), ∀ a, (k0_off75 arg20 arg21) a + S1x128x512.size a ≤ S1x512x4096.size a := fun arg20 arg21 k0_hw1 => k0_hw1.2.2.2.1.2.2.2.1
theorem k0_off76_inb : ∀ (arg20 : BitVec 32) (arg21 : BitVec 32) (k0_hw1 : k0_chk1 arg20 arg21), ∀ a, (k0_off76 arg20 arg21) a + S1x1x1x512.size a ≤ S8x4x1x512.size a := fun arg20 arg21 k0_hw1 => k0_hw1.2.2.2.1.2.2.2.2.1
theorem k0_off77_inb : ∀ (arg20 : BitVec 32) (arg21 : BitVec 32) (k0_hw1 : k0_chk1 arg20 arg21), ∀ a, (k0_off77 arg20 arg21) a + S1x1x80x512.size a ≤ S8x4x80x512.size a := fun arg20 arg21 k0_hw1 => k0_hw1.2.2.2.1.2.2.2.2.2.1
theorem k0_mult50_dvd : ∀ (arg20 : BitVec 32) (arg21 : BitVec 32) (k0_hw1 : k0_chk1 arg20 arg21), 512 ∣ (k0_mult50 arg20 arg21).toNat := fun arg20 arg21 k0_hw1 => k0_hw1.2.2.2.1.2.2.2.2.2.2.1
theorem k0_off78_inb : ∀ (arg20 : BitVec 32) (arg21 : BitVec 32) (k0_hw1 : k0_chk1 arg20 arg21), ∀ a, (k0_off78 arg20 arg21) a + S1x64x512.size a ≤ S1x256x4096.size a := fun arg20 arg21 k0_hw1 => k0_hw1.2.2.2.1.2.2.2.2.2.2.2.1
theorem k0_mult51_dvd : ∀ (arg20 : BitVec 32) (arg21 : BitVec 32) (k0_hw1 : k0_chk1 arg20 arg21), 512 ∣ (k0_mult51 arg20 arg21).toNat := fun arg20 arg21 k0_hw1 => k0_hw1.2.2.2.1.2.2.2.2.2.2.2.2.1
theorem k0_off79_inb : ∀ (arg20 : BitVec 32) (arg21 : BitVec 32) (k0_hw1 : k0_chk1 arg20 arg21), ∀ a, (k0_off79 arg20 arg21) a + S1x512x128.size a ≤ S1x4096x512.size a := fun arg20 arg21 k0_hw1 => k0_hw1.2.2.2.1.2.2.2.2.2.2.2.2.2.1
theorem k0_mult52_dvd : ∀ (arg20 : BitVec 32) (arg21 : BitVec 32) (k0_hw1 : k0_chk1 arg20 arg21), 512 ∣ (k0_mult52 arg20 arg21).toNat := fun arg20 arg21 k0_hw1 => k0_hw1.2.2.2.1.2.2.2.2.2.2.2.2.2.2.1
theorem k0_off80_inb : ∀ (arg20 : BitVec 32) (arg21 : BitVec 32) (k0_hw1 : k0_chk1 arg20 arg21), ∀ a, (k0_off80 arg20 arg21) a + S1x128x512.size a ≤ S1x512x4096.size a := fun arg20 arg21 k0_hw1 => k0_hw1.2.2.2.1.2.2.2.2.2.2.2.2.2.2.2.1
theorem k0_off81_inb : ∀ (arg20 : BitVec 32) (arg21 : BitVec 32) (k0_hw1 : k0_chk1 arg20 arg21), ∀ a, (k0_off81 arg20 arg21) a + S1x1x1x512.size a ≤ S8x4x1x512.size a := fun arg20 arg21 k0_hw1 => k0_hw1.2.2.2.1.2.2.2.2.2.2.2.2.2.2.2.2.1
theorem k0_off82_inb : ∀ (arg20 : BitVec 32) (arg21 : BitVec 32) (k0_hw1 : k0_chk1 arg20 arg21), ∀ a, (k0_off82 arg20 arg21) a + S1x1x80x512.size a ≤ S8x4x80x512.size a := fun arg20 arg21 k0_hw1 => k0_hw1.2.2.2.1.2.2.2.2.2.2.2.2.2.2.2.2.2.1
theorem k0_mult53_dvd : ∀ (arg20 : BitVec 32) (arg21 : BitVec 32) (k0_hw1 : k0_chk1 arg20 arg21), 512 ∣ (k0_mult53 arg20 arg21).toNat := fun arg20 arg21 k0_hw1 => k0_hw1.2.2.2.1.2.2.2.2.2.2.2.2.2.2.2.2.2.2.1
theorem k0_off83_inb : ∀ (arg20 : BitVec 32) (arg21 : BitVec 32) (k0_hw1 : k0_chk1 arg20 arg21), ∀ a, (k0_off83 arg20 arg21) a + S1x64x512.size a ≤ S1x256x4096.size a := fun arg20 arg21 k0_hw1 => k0_hw1.2.2.2.1.2.2.2.2.2.2.2.2.2.2.2.2.2.2.2.1
theorem k0_mult54_dvd : ∀ (arg20 : BitVec 32) (arg21 : BitVec 32) (k0_hw1 : k0_chk1 arg20 arg21), 512 ∣ (k0_mult54 arg20 arg21).toNat := fun arg20 arg21 k0_hw1 => k0_hw1.2.2.2.1.2.2.2.2.2.2.2.2.2.2.2.2.2.2.2.2.1
theorem k0_off84_inb : ∀ (arg20 : BitVec 32) (arg21 : BitVec 32) (k0_hw1 : k0_chk1 arg20 arg21), ∀ a, (k0_off84 arg20 arg21) a + S1x512x128.size a ≤ S1x4096x512.size a := fun arg20 arg21 k0_hw1 => k0_hw1.2.2.2.1.2.2.2.2.2.2.2.2.2.2.2.2.2.2.2.2.2.1
theorem k0_mult55_dvd : ∀ (arg20 : BitVec 32) (arg21 : BitVec 32) (k0_hw1 : k0_chk1 arg20 arg21), 512 ∣ (k0_mult55 arg20 arg21).toNat := fun arg20 arg21 k0_hw1 => k0_hw1.2.2.2.1.2.2.2.2.2.2.2.2.2.2.2.2.2.2.2.2.2.2.1
theorem k0_off85_inb : ∀ (arg20 : BitVec 32) (arg21 : BitVec 32) (k0_hw1 : k0_chk1 arg20 arg21), ∀ a, (k0_off85 arg20 arg21) a + S1x128x512.size a ≤ S1x512x4096.size a := fun arg20 arg21 k0_hw1 => k0_hw1.2.2.2.1.2.2.2.2.2.2.2.2.2.2.2.2.2.2.2.2.2.2.2.1
theorem k0_off86_inb : ∀ (arg20 : BitVec 32) (arg21 : BitVec 32) (k0_hw1 : k0_chk1 arg20 arg21), ∀ a, (k0_off86 arg20 arg21) a + S1x1x1x512.size a ≤ S8x4x1x512.size a := fun arg20 arg21 k0_hw1 => k0_hw1.2.2.2.1.2.2.2.2.2.2.2.2.2.2.2.2.2.2.2.2.2.2.2.2.1
theorem k0_off87_inb : ∀ (arg20 : BitVec 32) (arg21 : BitVec 32) (k0_hw1 : k0_chk1 arg20 arg21), ∀ a, (k0_off87 arg20 arg21) a + S1x1x80x512.size a ≤ S8x4x80x512.size a := fun arg20 arg21 k0_hw1 => k0_hw1.2.2.2.1.2.2.2.2.2.2.2.2.2.2.2.2.2.2.2.2.2.2.2.2.2.1
theorem k0_mult56_dvd : ∀ (arg20 : BitVec 32) (arg21 : BitVec 32) (k0_hw1 : k0_chk1 arg20 arg21), 512 ∣ (k0_mult56 arg20 arg21).toNat := fun arg20 arg21 k0_hw1 => k0_hw1.2.2.2.1.2.2.2.2.2.2.2.2.2.2.2.2.2.2.2.2.2.2.2.2.2.2.1
theorem k0_off88_inb : ∀ (arg20 : BitVec 32) (arg21 : BitVec 32) (k0_hw1 : k0_chk1 arg20 arg21), ∀ a, (k0_off88 arg20 arg21) a + S1x64x512.size a ≤ S1x256x4096.size a := fun arg20 arg21 k0_hw1 => k0_hw1.2.2.2.1.2.2.2.2.2.2.2.2.2.2.2.2.2.2.2.2.2.2.2.2.2.2.2.1
theorem k0_mult57_dvd : ∀ (arg20 : BitVec 32) (arg21 : BitVec 32) (k0_hw1 : k0_chk1 arg20 arg21), 512 ∣ (k0_mult57 arg20 arg21).toNat := fun arg20 arg21 k0_hw1 => k0_hw1.2.2.2.1.2.2.2.2.2.2.2.2.2.2.2.2.2.2.2.2.2.2.2.2.2.2.2.2.1
theorem k0_off89_inb : ∀ (arg20 : BitVec 32) (arg21 : BitVec 32) (k0_hw1 : k0_chk1 arg20 arg21), ∀ a, (k0_off89 arg20 arg21) a + S1x512x128.size a ≤ S1x4096x512.size a := fun arg20 arg21 k0_hw1 => k0_hw1.2.2.2.1.2.2.2.2.2.2.2.2.2.2.2.2.2.2.2.2.2.2.2.2.2.2.2.2.2.1
theorem k0_mult58_dvd : ∀ (arg20 : BitVec 32) (arg21 : BitVec 32) (k0_hw1 : k0_chk1 arg20 arg21), 512 ∣ (k0_mult58 arg20 arg21).toNat := fun arg20 arg21 k0_hw1 => k0_hw1.2.2.2.1.2.2.2.2.2.2.2.2.2.2.2.2.2.2.2.2.2.2.2.2.2.2.2.2.2.2.1
theorem k0_off90_inb : ∀ (arg20 : BitVec 32) (arg21 : BitVec 32) (k0_hw1 : k0_chk1 arg20 arg21), ∀ a, (k0_off90 arg20 arg21) a + S1x128x512.size a ≤ S1x512x4096.size a := fun arg20 arg21 k0_hw1 => k0_hw1.2.2.2.1.2.2.2.2.2.2.2.2.2.2.2.2.2.2.2.2.2.2.2.2.2.2.2.2.2.2.2.1
theorem k0_off91_inb : ∀ (arg20 : BitVec 32) (arg21 : BitVec 32) (k0_hw1 : k0_chk1 arg20 arg21), ∀ a, (k0_off91 arg20 arg21) a + S1x1x1x512.size a ≤ S8x4x1x512.size a := fun arg20 arg21 k0_hw1 => k0_hw1.2.2.2.1.2.2.2.2.2.2.2.2.2.2.2.2.2.2.2.2.2.2.2.2.2.2.2.2.2.2.2.2.1
theorem k0_off92_inb : ∀ (arg20 : BitVec 32) (arg21 : BitVec 32) (k0_hw1 : k0_chk1 arg20 arg21), ∀ a, (k0_off92 arg20 arg21) a + S1x1x80x512.size a ≤ S8x4x80x512.size a := fun arg20 arg21 k0_hw1 => k0_hw1.2.2.2.1.2.2.2.2.2.2.2.2.2.2.2.2.2.2.2.2.2.2.2.2.2.2.2.2.2.2.2.2.2.1
theorem k0_mult59_dvd : ∀ (arg20 : BitVec 32) (arg21 : BitVec 32) (k0_hw1 : k0_chk1 arg20 arg21), 512 ∣ (k0_mult59 arg20 arg21).toNat := fun arg20 arg21 k0_hw1 => k0_hw1.2.2.2.1.2.2.2.2.2.2.2.2.2.2.2.2.2.2.2.2.2.2.2.2.2.2.2.2.2.2.2.2.2.2.1
theorem k0_off93_inb : ∀ (arg20 : BitVec 32) (arg21 : BitVec 32) (k0_hw1 : k0_chk1 arg20 arg21), ∀ a, (k0_off93 arg20 arg21) a + S1x64x512.size a ≤ S1x256x4096.size a := fun arg20 arg21 k0_hw1 => k0_hw1.2.2.2.1.2.2.2.2.2.2.2.2.2.2.2.2.2.2.2.2.2.2.2.2.2.2.2.2.2.2.2.2.2.2.2
theorem k0_mult60_dvd : ∀ (arg20 : BitVec 32) (arg21 : BitVec 32) (k0_hw1 : k0_chk1 arg20 arg21), 512 ∣ (k0_mult60 arg20 arg21).toNat := fun arg20 arg21 k0_hw1 => k0_hw1.2.2.2.2.1.1
theorem k0_off94_inb : ∀ (arg20 : BitVec 32) (arg21 : BitVec 32) (k0_hw1 : k0_chk1 arg20 arg21), ∀ a, (k0_off94 arg20 arg21) a + S1x512x128.size a ≤ S1x4096x512.size a := fun arg20 arg21 k0_hw1 => k0_hw1.2.2.2.2.1.2.1
theorem k0_mult61_dvd : ∀ (arg20 : BitVec 32) (arg21 : BitVec 32) (k0_hw1 : k0_chk1 arg20 arg21), 512 ∣ (k0_mult61 arg20 arg21).toNat := fun arg20 arg21 k0_hw1 => k0_hw1.2.2.2.2.1.2.2.1
theorem k0_off95_inb : ∀ (arg20 : BitVec 32) (arg21 : BitVec 32) (k0_hw1 : k0_chk1 arg20 arg21), ∀ a, (k0_off95 arg20 arg21) a + S1x128x512.size a ≤ S1x512x4096.size a := fun arg20 arg21 k0_hw1 => k0_hw1.2.2.2.2.1.2.2.2.1
theorem k0_off96_inb : ∀ (arg20 : BitVec 32) (arg21 : BitVec 32) (k0_hw1 : k0_chk1 arg20 arg21), ∀ a, (k0_off96 arg20 arg21) a + S1x1x1x512.size a ≤ S8x4x1x512.size a := fun arg20 arg21 k0_hw1 => k0_hw1.2.2.2.2.1.2.2.2.2.1
theorem k0_off97_inb : ∀ (arg20 : BitVec 32) (arg21 : BitVec 32) (k0_hw1 : k0_chk1 arg20 arg21), ∀ a, (k0_off97 arg20 arg21) a + S1x1x80x512.size a ≤ S8x4x80x512.size a := fun arg20 arg21 k0_hw1 => k0_hw1.2.2.2.2.1.2.2.2.2.2.1
theorem k0_mult62_dvd : ∀ (arg20 : BitVec 32) (arg21 : BitVec 32) (k0_hw1 : k0_chk1 arg20 arg21), 512 ∣ (k0_mult62 arg20 arg21).toNat := fun arg20 arg21 k0_hw1 => k0_hw1.2.2.2.2.1.2.2.2.2.2.2.1
theorem k0_off98_inb : ∀ (arg20 : BitVec 32) (arg21 : BitVec 32) (k0_hw1 : k0_chk1 arg20 arg21), ∀ a, (k0_off98 arg20 arg21) a + S1x64x512.size a ≤ S1x256x4096.size a := fun arg20 arg21 k0_hw1 => k0_hw1.2.2.2.2.1.2.2.2.2.2.2.2.1
theorem k0_mult63_dvd : ∀ (arg20 : BitVec 32) (arg21 : BitVec 32) (k0_hw1 : k0_chk1 arg20 arg21), 512 ∣ (k0_mult63 arg20 arg21).toNat := fun arg20 arg21 k0_hw1 => k0_hw1.2.2.2.2.1.2.2.2.2.2.2.2.2.1
theorem k0_off99_inb : ∀ (arg20 : BitVec 32) (arg21 : BitVec 32) (k0_hw1 : k0_chk1 arg20 arg21), ∀ a, (k0_off99 arg20 arg21) a + S1x512x128.size a ≤ S1x4096x512.size a := fun arg20 arg21 k0_hw1 => k0_hw1.2.2.2.2.1.2.2.2.2.2.2.2.2.2.1
theorem k0_mult64_dvd : ∀ (arg20 : BitVec 32) (arg21 : BitVec 32) (k0_hw1 : k0_chk1 arg20 arg21), 512 ∣ (k0_mult64 arg20 arg21).toNat := fun arg20 arg21 k0_hw1 => k0_hw1.2.2.2.2.1.2.2.2.2.2.2.2.2.2.2.1
theorem k0_off100_inb : ∀ (arg20 : BitVec 32) (arg21 : BitVec 32) (k0_hw1 : k0_chk1 arg20 arg21), ∀ a, (k0_off100 arg20 arg21) a + S1x128x512.size a ≤ S1x512x4096.size a := fun arg20 arg21 k0_hw1 => k0_hw1.2.2.2.2.1.2.2.2.2.2.2.2.2.2.2.2.1
theorem k0_off101_inb : ∀ (arg20 : BitVec 32) (arg21 : BitVec 32) (k0_hw1 : k0_chk1 arg20 arg21), ∀ a, (k0_off101 arg20 arg21) a + S1x1x1x512.size a ≤ S8x4x1x512.size a := fun arg20 arg21 k0_hw1 => k0_hw1.2.2.2.2.1.2.2.2.2.2.2.2.2.2.2.2.2.1
theorem k0_off102_inb : ∀ (arg20 : BitVec 32) (arg21 : BitVec 32) (k0_hw1 : k0_chk1 arg20 arg21), ∀ a, (k0_off102 arg20 arg21) a + S1x1x80x512.size a ≤ S8x4x80x512.size a := fun arg20 arg21 k0_hw1 => k0_hw1.2.2.2.2.1.2.2.2.2.2.2.2.2.2.2.2.2.2.1
theorem k0_mult65_dvd : ∀ (arg20 : BitVec 32) (arg21 : BitVec 32) (k0_hw1 : k0_chk1 arg20 arg21), 512 ∣ (k0_mult65 arg20 arg21).toNat := fun arg20 arg21 k0_hw1 => k0_hw1.2.2.2.2.1.2.2.2.2.2.2.2.2.2.2.2.2.2.2.1
theorem k0_off103_inb : ∀ (arg20 : BitVec 32) (arg21 : BitVec 32) (k0_hw1 : k0_chk1 arg20 arg21), ∀ a, (k0_off103 arg20 arg21) a + S1x64x512.size a ≤ S1x256x4096.size a := fun arg20 arg21 k0_hw1 => k0_hw1.2.2.2.2.1.2.2.2.2.2.2.2.2.2.2.2.2.2.2.2.1
theorem k0_mult66_dvd : ∀ (arg20 : BitVec 32) (arg21 : BitVec 32) (k0_hw1 : k0_chk1 arg20 arg21), 512 ∣ (k0_mult66 arg20 arg21).toNat := fun arg20 arg21 k0_hw1 => k0_hw1.2.2.2.2.1.2.2.2.2.2.2.2.2.2.2.2.2.2.2.2.2.1
theorem k0_off104_inb : ∀ (arg20 : BitVec 32) (arg21 : BitVec 32) (k0_hw1 : k0_chk1 arg20 arg21), ∀ a, (k0_off104 arg20 arg21) a + S1x512x128.size a ≤ S1x4096x512.size a := fun arg20 arg21 k0_hw1 => k0_hw1.2.2.2.2.1.2.2.2.2.2.2.2.2.2.2.2.2.2.2.2.2.2.1
theorem k0_mult67_dvd : ∀ (arg20 : BitVec 32) (arg21 : BitVec 32) (k0_hw1 : k0_chk1 arg20 arg21), 512 ∣ (k0_mult67 arg20 arg21).toNat := fun arg20 arg21 k0_hw1 => k0_hw1.2.2.2.2.1.2.2.2.2.2.2.2.2.2.2.2.2.2.2.2.2.2.2.1
theorem k0_off105_inb : ∀ (arg20 : BitVec 32) (arg21 : BitVec 32) (k0_hw1 : k0_chk1 arg20 arg21), ∀ a, (k0_off105 arg20 arg21) a + S1x128x512.size a ≤ S1x512x4096.size a := fun arg20 arg21 k0_hw1 => k0_hw1.2.2.2.2.1.2.2.2.2.2.2.2.2.2.2.2.2.2.2.2.2.2.2.2.1
theorem k0_off106_inb : ∀ (arg20 : BitVec 32) (arg21 : BitVec 32) (k0_hw1 : k0_chk1 arg20 arg21), ∀ a, (k0_off106 arg20 arg21) a + S1x1x1x512.size a ≤ S8x4x1x512.size a := fun arg20 arg21 k0_hw1 => k0_hw1.2.2.2.2.1.2.2.2.2.2.2.2.2.2.2.2.2.2.2.2.2.2.2.2.2.1
theorem k0_off107_inb : ∀ (arg20 : BitVec 32) (arg21 : BitVec 32) (k0_hw1 : k0_chk1 arg20 arg21), ∀ a, (k0_off107 arg20 arg21) a + S1x1x80x512.size a ≤ S8x4x80x512.size a := fun arg20 arg21 k0_hw1 => k0_hw1.2.2.2.2.1.2.2.2.2.2.2.2.2.2.2.2.2.2.2.2.2.2.2.2.2.2.1
theorem k0_mult68_dvd : ∀ (arg20 : BitVec 32) (arg21 : BitVec 32) (k0_hw1 : k0_chk1 arg20 arg21), 512 ∣ (k0_mult68 arg20 arg21).toNat := fun arg20 arg21 k0_hw1 => k0_hw1.2.2.2.2.1.2.2.2.2.2.2.2.2.2.2.2.2.2.2.2.2.2.2.2.2.2.2.1
theorem k0_off108_inb : ∀ (arg20 : BitVec 32) (arg21 : BitVec 32) (k0_hw1 : k0_chk1 arg20 arg21), ∀ a, (k0_off108 arg20 arg21) a + S1x64x512.size a ≤ S1x256x4096.size a := fun arg20 arg21 k0_hw1 => k0_hw1.2.2.2.2.1.2.2.2.2.2.2.2.2.2.2.2.2.2.2.2.2.2.2.2.2.2.2.2.1
theorem k0_mult69_dvd : ∀ (arg20 : BitVec 32) (arg21 : BitVec 32) (k0_hw1 : k0_chk1 arg20 arg21), 512 ∣ (k0_mult69 arg20 arg21).toNat := fun arg20 arg21 k0_hw1 => k0_hw1.2.2.2.2.1.2.2.2.2.2.2.2.2.2.2.2.2.2.2.2.2.2.2.2.2.2.2.2.2.1
theorem k0_off109_inb : ∀ (arg20 : BitVec 32) (arg21 : BitVec 32) (k0_hw1 : k0_chk1 arg20 arg21), ∀ a, (k0_off109 arg20 arg21) a + S1x512x128.size a ≤ S1x4096x512.size a := fun arg20 arg21 k0_hw1 => k0_hw1.2.2.2.2.1.2.2.2.2.2.2.2.2.2.2.2.2.2.2.2.2.2.2.2.2.2.2.2.2.2.1
theorem k0_mult70_dvd : ∀ (arg20 : BitVec 32) (arg21 : BitVec 32) (k0_hw1 : k0_chk1 arg20 arg21), 512 ∣ (k0_mult70 arg20 arg21).toNat := fun arg20 arg21 k0_hw1 => k0_hw1.2.2.2.2.1.2.2.2.2.2.2.2.2.2.2.2.2.2.2.2.2.2.2.2.2.2.2.2.2.2.2.1
theorem k0_off110_inb : ∀ (arg20 : BitVec 32) (arg21 : BitVec 32) (k0_hw1 : k0_chk1 arg20 arg21), ∀ a, (k0_off110 arg20 arg21) a + S1x128x512.size a ≤ S1x512x4096.size a := fun arg20 arg21 k0_hw1 => k0_hw1.2.2.2.2.1.2.2.2.2.2.2.2.2.2.2.2.2.2.2.2.2.2.2.2.2.2.2.2.2.2.2.2.1
theorem k0_off111_inb : ∀ (arg20 : BitVec 32) (arg21 : BitVec 32) (k0_hw1 : k0_chk1 arg20 arg21), ∀ a, (k0_off111 arg20 arg21) a + S1x1x1x512.size a ≤ S8x4x1x512.size a := fun arg20 arg21 k0_hw1 => k0_hw1.2.2.2.2.1.2.2.2.2.2.2.2.2.2.2.2.2.2.2.2.2.2.2.2.2.2.2.2.2.2.2.2.2.1
theorem k0_off112_inb : ∀ (arg20 : BitVec 32) (arg21 : BitVec 32) (k0_hw1 : k0_chk1 arg20 arg21), ∀ a, (k0_off112 arg20 arg21) a + S1x1x80x512.size a ≤ S8x4x80x512.size a := fun arg20 arg21 k0_hw1 => k0_hw1.2.2.2.2.1.2.2.2.2.2.2.2.2.2.2.2.2.2.2.2.2.2.2.2.2.2.2.2.2.2.2.2.2.2.1
theorem k0_mult71_dvd : ∀ (arg20 : BitVec 32) (arg21 : BitVec 32) (k0_hw1 : k0_chk1 arg20 arg21), 512 ∣ (k0_mult71 arg20 arg21).toNat := fun arg20 arg21 k0_hw1 => k0_hw1.2.2.2.2.1.2.2.2.2.2.2.2.2.2.2.2.2.2.2.2.2.2.2.2.2.2.2.2.2.2.2.2.2.2.2.1
theorem k0_off113_inb : ∀ (arg20 : BitVec 32) (arg21 : BitVec 32) (k0_hw1 : k0_chk1 arg20 arg21), ∀ a, (k0_off113 arg20 arg21) a + S1x64x512.size a ≤ S1x256x4096.size a := fun arg20 arg21 k0_hw1 => k0_hw1.2.2.2.2.1.2.2.2.2.2.2.2.2.2.2.2.2.2.2.2.2.2.2.2.2.2.2.2.2.2.2.2.2.2.2.2
theorem k0_mult72_dvd : ∀ (arg20 : BitVec 32) (arg21 : BitVec 32) (k0_hw1 : k0_chk1 arg20 arg21), 512 ∣ (k0_mult72 arg20 arg21).toNat := fun arg20 arg21 k0_hw1 => k0_hw1.2.2.2.2.2.1.1
theorem k0_off114_inb : ∀ (arg20 : BitVec 32) (arg21 : BitVec 32) (k0_hw1 : k0_chk1 arg20 arg21), ∀ a, (k0_off114 arg20 arg21) a + S1x512x128.size a ≤ S1x4096x512.size a := fun arg20 arg21 k0_hw1 => k0_hw1.2.2.2.2.2.1.2.1
theorem k0_mult73_dvd : ∀ (arg20 : BitVec 32) (arg21 : BitVec 32) (k0_hw1 : k0_chk1 arg20 arg21), 512 ∣ (k0_mult73 arg20 arg21).toNat := fun arg20 arg21 k0_hw1 => k0_hw1.2.2.2.2.2.1.2.2.1
theorem k0_off115_inb : ∀ (arg20 : BitVec 32) (arg21 : BitVec 32) (k0_hw1 : k0_chk1 arg20 arg21), ∀ a, (k0_off115 arg20 arg21) a + S1x128x512.size a ≤ S1x512x4096.size a := fun arg20 arg21 k0_hw1 => k0_hw1.2.2.2.2.2.1.2.2.2.1
theorem k0_off116_inb : ∀ (arg20 : BitVec 32) (arg21 : BitVec 32) (k0_hw1 : k0_chk1 arg20 arg21), ∀ a, (k0_off116 arg20 arg21) a + S1x1x1x512.size a ≤ S8x4x1x512.size a := fun arg20 arg21 k0_hw1 => k0_hw1.2.2.2.2.2.1.2.2.2.2.1
theorem k0_off117_inb : ∀ (arg20 : BitVec 32) (arg21 : BitVec 32) (k0_hw1 : k0_chk1 arg20 arg21), ∀ a, (k0_off117 arg20 arg21) a + S1x1x80x512.size a ≤ S8x4x80x512.size a := fun arg20 arg21 k0_hw1 => k0_hw1.2.2.2.2.2.1.2.2.2.2.2.1
theorem k0_mult74_dvd : ∀ (arg20 : BitVec 32) (arg21 : BitVec 32) (k0_hw1 : k0_chk1 arg20 arg21), 512 ∣ (k0_mult74 arg20 arg21).toNat := fun arg20 arg21 k0_hw1 => k0_hw1.2.2.2.2.2.1.2.2.2.2.2.2.1
theorem k0_off118_inb : ∀ (arg20 : BitVec 32) (arg21 : BitVec 32) (k0_hw1 : k0_chk1 arg20 arg21), ∀ a, (k0_off118 arg20 arg21) a + S1x64x512.size a ≤ S1x256x4096.size a := fun arg20 arg21 k0_hw1 => k0_hw1.2.2.2.2.2.1.2.2.2.2.2.2.2.1
theorem k0_mult75_dvd : ∀ (arg20 : BitVec 32) (arg21 : BitVec 32) (k0_hw1 : k0_chk1 arg20 arg21), 512 ∣ (k0_mult75 arg20 arg21).toNat := fun arg20 arg21 k0_hw1 => k0_hw1.2.2.2.2.2.1.2.2.2.2.2.2.2.2.1
theorem k0_off119_inb : ∀ (arg20 : BitVec 32) (arg21 : BitVec 32) (k0_hw1 : k0_chk1 arg20 arg21), ∀ a, (k0_off119 arg20 arg21) a + S1x512x128.size a ≤ S1x4096x512.size a := fun arg20 arg21 k0_hw1 => k0_hw1.2.2.2.2.2.1.2.2.2.2.2.2.2.2.2.1
theorem k0_mult76_dvd : ∀ (arg20 : BitVec 32) (arg21 : BitVec 32) (k0_hw1 : k0_chk1 arg20 arg21), 512 ∣ (k0_mult76 arg20 arg21).toNat := fun arg20 arg21 k0_hw1 => k0_hw1.2.2.2.2.2.1.2.2.2.2.2.2.2.2.2.2.1
theorem k0_off120_inb : ∀ (arg20 : BitVec 32) (arg21 : BitVec 32) (k0_hw1 : k0_chk1 arg20 arg21), ∀ a, (k0_off120 arg20 arg21) a + S1x128x512.size a ≤ S1x512x4096.size a := fun arg20 arg21 k0_hw1 => k0_hw1.2.2.2.2.2.1.2.2.2.2.2.2.2.2.2.2.2.1
theorem k0_off121_inb : ∀ (arg20 : BitVec 32) (arg21 : BitVec 32) (k0_hw1 : k0_chk1 arg20 arg21), ∀ a, (k0_off121 arg20 arg21) a + S1x1x1x512.size a ≤ S8x4x1x512.size a := fun arg20 arg21 k0_hw1 => k0_hw1.2.2.2.2.2.1.2.2.2.2.2.2.2.2.2.2.2.2.1
theorem k0_off122_inb : ∀ (arg20 : BitVec 32) (arg21 : BitVec 32) (k0_hw1 : k0_chk1 arg20 arg21), ∀ a, (k0_off122 arg20 arg21) a + S1x1x80x512.size a ≤ S8x4x80x512.size a := fun arg20 arg21 k0_hw1 => k0_hw1.2.2.2.2.2.1.2.2.2.2.2.2.2.2.2.2.2.2.2.1
theorem k0_mult77_dvd : ∀ (arg20 : BitVec 32) (arg21 : BitVec 32) (k0_hw1 : k0_chk1 arg20 arg21), 512 ∣ (k0_mult77 arg20 arg21).toNat := fun arg20 arg21 k0_hw1 => k0_hw1.2.2.2.2.2.1.2.2.2.2.2.2.2.2.2.2.2.2.2.2.1
theorem k0_off123_inb : ∀ (arg20 : BitVec 32) (arg21 : BitVec 32) (k0_hw1 : k0_chk1 arg20 arg21), ∀ a, (k0_off123 arg20 arg21) a + S1x64x512.size a ≤ S1x256x4096.size a := fun arg20 arg21 k0_hw1 => k0_hw1.2.2.2.2.2.1.2.2.2.2.2.2.2.2.2.2.2.2.2.2.2.1
theorem k0_mult78_dvd : ∀ (arg20 : BitVec 32) (arg21 : BitVec 32) (k0_hw1 : k0_chk1 arg20 arg21), 512 ∣ (k0_mult78 arg20 arg21).toNat := fun arg20 arg21 k0_hw1 => k0_hw1.2.2.2.2.2.1.2.2.2.2.2.2.2.2.2.2.2.2.2.2.2.2.1
theorem k0_off124_inb : ∀ (arg20 : BitVec 32) (arg21 : BitVec 32) (k0_hw1 : k0_chk1 arg20 arg21), ∀ a, (k0_off124 arg20 arg21) a + S1x512x128.size a ≤ S1x4096x512.size a := fun arg20 arg21 k0_hw1 => k0_hw1.2.2.2.2.2.1.2.2.2.2.2.2.2.2.2.2.2.2.2.2.2.2.2.1
theorem k0_mult79_dvd : ∀ (arg20 : BitVec 32) (arg21 : BitVec 32) (k0_hw1 : k0_chk1 arg20 arg21), 512 ∣ (k0_mult79 arg20 arg21).toNat := fun arg20 arg21 k0_hw1 => k0_hw1.2.2.2.2.2.1.2.2.2.2.2.2.2.2.2.2.2.2.2.2.2.2.2.2.1
theorem k0_off125_inb : ∀ (arg20 : BitVec 32) (arg21 : BitVec 32) (k0_hw1 : k0_chk1 arg20 arg21), ∀ a, (k0_off125 arg20 arg21) a + S1x128x512.size a ≤ S1x512x4096.size a := fun arg20 arg21 k0_hw1 => k0_hw1.2.2.2.2.2.1.2.2.2.2.2.2.2.2.2.2.2.2.2.2.2.2.2.2.2.1
theorem k0_off126_inb : ∀ (arg20 : BitVec 32) (arg21 : BitVec 32) (k0_hw1 : k0_chk1 arg20 arg21), ∀ a, (k0_off126 arg20 arg21) a + S1x1x1x512.size a ≤ S8x4x1x512.size a := fun arg20 arg21 k0_hw1 => k0_hw1.2.2.2.2.2.1.2.2.2.2.2.2.2.2.2.2.2.2.2.2.2.2.2.2.2.2.1
theorem k0_off127_inb : ∀ (arg20 : BitVec 32) (arg21 : BitVec 32) (k0_hw1 : k0_chk1 arg20 arg21), ∀ a, (k0_off127 arg20 arg21) a + S1x1x80x512.size a ≤ S8x4x80x512.size a := fun arg20 arg21 k0_hw1 => k0_hw1.2.2.2.2.2.1.2.2.2.2.2.2.2.2.2.2.2.2.2.2.2.2.2.2.2.2.2.1
theorem k0_mult80_dvd : ∀ (arg20 : BitVec 32) (arg21 : BitVec 32) (k0_hw1 : k0_chk1 arg20 arg21), 512 ∣ (k0_mult80 arg20 arg21).toNat := fun arg20 arg21 k0_hw1 => k0_hw1.2.2.2.2.2.1.2.2.2.2.2.2.2.2.2.2.2.2.2.2.2.2.2.2.2.2.2.2.1
theorem k0_off128_inb : ∀ (arg20 : BitVec 32) (arg21 : BitVec 32) (k0_hw1 : k0_chk1 arg20 arg21), ∀ a, (k0_off128 arg20 arg21) a + S1x64x512.size a ≤ S1x256x4096.size a := fun arg20 arg21 k0_hw1 => k0_hw1.2.2.2.2.2.1.2.2.2.2.2.2.2.2.2.2.2.2.2.2.2.2.2.2.2.2.2.2.2.1
theorem k0_mult81_dvd : ∀ (arg20 : BitVec 32) (arg21 : BitVec 32) (k0_hw1 : k0_chk1 arg20 arg21), 512 ∣ (k0_mult81 arg20 arg21).toNat := fun arg20 arg21 k0_hw1 => k0_hw1.2.2.2.2.2.1.2.2.2.2.2.2.2.2.2.2.2.2.2.2.2.2.2.2.2.2.2.2.2.2.1
theorem k0_off129_inb : ∀ (arg20 : BitVec 32) (arg21 : BitVec 32) (k0_hw1 : k0_chk1 arg20 arg21), ∀ a, (k0_off129 arg20 arg21) a + S1x512x128.size a ≤ S1x4096x512.size a := fun arg20 arg21 k0_hw1 => k0_hw1.2.2.2.2.2.1.2.2.2.2.2.2.2.2.2.2.2.2.2.2.2.2.2.2.2.2.2.2.2.2.2.1
theorem k0_mult82_dvd : ∀ (arg20 : BitVec 32) (arg21 : BitVec 32) (k0_hw1 : k0_chk1 arg20 arg21), 512 ∣ (k0_mult82 arg20 arg21).toNat := fun arg20 arg21 k0_hw1 => k0_hw1.2.2.2.2.2.1.2.2.2.2.2.2.2.2.2.2.2.2.2.2.2.2.2.2.2.2.2.2.2.2.2.2.1
theorem k0_off130_inb : ∀ (arg20 : BitVec 32) (arg21 : BitVec 32) (k0_hw1 : k0_chk1 arg20 arg21), ∀ a, (k0_off130 arg20 arg21) a + S1x128x512.size a ≤ S1x512x4096.size a := fun arg20 arg21 k0_hw1 => k0_hw1.2.2.2.2.2.1.2.2.2.2.2.2.2.2.2.2.2.2.2.2.2.2.2.2.2.2.2.2.2.2.2.2.2.1
theorem k0_off131_inb : ∀ (arg20 : BitVec 32) (arg21 : BitVec 32) (k0_hw1 : k0_chk1 arg20 arg21), ∀ a, (k0_off131 arg20 arg21) a + S1x1x1x512.size a ≤ S8x4x1x512.size a := fun arg20 arg21 k0_hw1 => k0_hw1.2.2.2.2.2.1.2.2.2.2.2.2.2.2.2.2.2.2.2.2.2.2.2.2.2.2.2.2.2.2.2.2.2.2.1
theorem k0_off132_inb : ∀ (arg20 : BitVec 32) (arg21 : BitVec 32) (k0_hw1 : k0_chk1 arg20 arg21), ∀ a, (k0_off132 arg20 arg21) a + S1x1x80x512.size a ≤ S8x4x80x512.size a := fun arg20 arg21 k0_hw1 => k0_hw1.2.2.2.2.2.1.2.2.2.2.2.2.2.2.2.2.2.2.2.2.2.2.2.2.2.2.2.2.2.2.2.2.2.2.2.1
theorem k0_mult83_dvd : ∀ (arg20 : BitVec 32) (arg21 : BitVec 32) (k0_hw1 : k0_chk1 arg20 arg21), 512 ∣ (k0_mult83 arg20 arg21).toNat := fun arg20 arg21 k0_hw1 => k0_hw1.2.2.2.2.2.1.2.2.2.2.2.2.2.2.2.2.2.2.2.2.2.2.2.2.2.2.2.2.2.2.2.2.2.2.2.2.1
theorem k0_off133_inb : ∀ (arg20 : BitVec 32) (arg21 : BitVec 32) (k0_hw1 : k0_chk1 arg20 arg21), ∀ a, (k0_off133 arg20 arg21) a + S1x64x512.size a ≤ S1x256x4096.size a := fun arg20 arg21 k0_hw1 => k0_hw1.2.2.2.2.2.1.2.2.2.2.2.2.2.2.2.2.2.2.2.2.2.2.2.2.2.2.2.2.2.2.2.2.2.2.2.2.2
theorem k0_mult84_dvd : ∀ (arg20 : BitVec 32) (arg21 : BitVec 32) (k0_hw1 : k0_chk1 arg20 arg21), 512 ∣ (k0_mult84 arg20 arg21).toNat := fun arg20 arg21 k0_hw1 => k0_hw1.2.2.2.2.2.2.1.1
theorem k0_off134_inb : ∀ (arg20 : BitVec 32) (arg21 : BitVec 32) (k0_hw1 : k0_chk1 arg20 arg21), ∀ a, (k0_off134 arg20 arg21) a + S1x512x128.size a ≤ S1x4096x512.size a := fun arg20 arg21 k0_hw1 => k0_hw1.2.2.2.2.2.2.1.2.1
theorem k0_mult85_dvd : ∀ (arg20 : BitVec 32) (arg21 : BitVec 32) (k0_hw1 : k0_chk1 arg20 arg21), 512 ∣ (k0_mult85 arg20 arg21).toNat := fun arg20 arg21 k0_hw1 => k0_hw1.2.2.2.2.2.2.1.2.2.1
theorem k0_off135_inb : ∀ (arg20 : BitVec 32) (arg21 : BitVec 32) (k0_hw1 : k0_chk1 arg20 arg21), ∀ a, (k0_off135 arg20 arg21) a + S1x128x512.size a ≤ S1x512x4096.size a := fun arg20 arg21 k0_hw1 => k0_hw1.2.2.2.2.2.2.1.2.2.2.1
theorem k0_off136_inb : ∀ (arg20 : BitVec 32) (arg21 : BitVec 32) (k0_hw1 : k0_chk1 arg20 arg21), ∀ a, (k0_off136 arg20 arg21) a + S1x1x1x512.size a ≤ S8x4x1x512.size a := fun arg20 arg21 k0_hw1 => k0_hw1.2.2.2.2.2.2.1.2.2.2.2.1
theorem k0_off137_inb : ∀ (arg20 : BitVec 32) (arg21 : BitVec 32) (k0_hw1 : k0_chk1 arg20 arg21), ∀ a, (k0_off137 arg20 arg21) a + S1x1x80x512.size a ≤ S8x4x80x512.size a := fun arg20 arg21 k0_hw1 => k0_hw1.2.2.2.2.2.2.1.2.2.2.2.2.1
theorem k0_mult86_dvd : ∀ (arg20 : BitVec 32) (arg21 : BitVec 32) (k0_hw1 : k0_chk1 arg20 arg21), 512 ∣ (k0_mult86 arg20 arg21).toNat := fun arg20 arg21 k0_hw1 => k0_hw1.2.2.2.2.2.2.1.2.2.2.2.2.2.1
theorem k0_off138_inb : ∀ (arg20 : BitVec 32) (arg21 : BitVec 32) (k0_hw1 : k0_chk1 arg20 arg21), ∀ a, (k0_off138 arg20 arg21) a + S1x64x512.size a ≤ S1x256x4096.size a := fun arg20 arg21 k0_hw1 => k0_hw1.2.2.2.2.2.2.1.2.2.2.2.2.2.2.1
theorem k0_mult87_dvd : ∀ (arg20 : BitVec 32) (arg21 : BitVec 32) (k0_hw1 : k0_chk1 arg20 arg21), 512 ∣ (k0_mult87 arg20 arg21).toNat := fun arg20 arg21 k0_hw1 => k0_hw1.2.2.2.2.2.2.1.2.2.2.2.2.2.2.2.1
theorem k0_off139_inb : ∀ (arg20 : BitVec 32) (arg21 : BitVec 32) (k0_hw1 : k0_chk1 arg20 arg21), ∀ a, (k0_off139 arg20 arg21) a + S1x512x128.size a ≤ S1x4096x512.size a := fun arg20 arg21 k0_hw1 => k0_hw1.2.2.2.2.2.2.1.2.2.2.2.2.2.2.2.2.1
theorem k0_mult88_dvd : ∀ (arg20 : BitVec 32) (arg21 : BitVec 32) (k0_hw1 : k0_chk1 arg20 arg21), 512 ∣ (k0_mult88 arg20 arg21).toNat := fun arg20 arg21 k0_hw1 => k0_hw1.2.2.2.2.2.2.1.2.2.2.2.2.2.2.2.2.2.1
theorem k0_off140_inb : ∀ (arg20 : BitVec 32) (arg21 : BitVec 32) (k0_hw1 : k0_chk1 arg20 arg21), ∀ a, (k0_off140 arg20 arg21) a + S1x128x512.size a ≤ S1x512x4096.size a := fun arg20 arg21 k0_hw1 => k0_hw1.2.2.2.2.2.2.1.2.2.2.2.2.2.2.2.2.2.2.1
theorem k0_off141_inb : ∀ (arg20 : BitVec 32) (arg21 : BitVec 32) (k0_hw1 : k0_chk1 arg20 arg21), ∀ a, (k0_off141 arg20 arg21) a + S1x1x1x512.size a ≤ S8x4x1x512.size a := fun arg20 arg21 k0_hw1 => k0_hw1.2.2.2.2.2.2.1.2.2.2.2.2.2.2.2.2.2.2.2.1
theorem k0_off142_inb : ∀ (arg20 : BitVec 32) (arg21 : BitVec 32) (k0_hw1 : k0_chk1 arg20 arg21), ∀ a, (k0_off142 arg20 arg21) a + S1x1x80x512.size a ≤ S8x4x80x512.size a := fun arg20 arg21 k0_hw1 => k0_hw1.2.2.2.2.2.2.1.2.2.2.2.2.2.2.2.2.2.2.2.2.1
theorem k0_mult89_dvd : ∀ (arg20 : BitVec 32) (arg21 : BitVec 32) (k0_hw1 : k0_chk1 arg20 arg21), 512 ∣ (k0_mult89 arg20 arg21).toNat := fun arg20 arg21 k0_hw1 => k0_hw1.2.2.2.2.2.2.1.2.2.2.2.2.2.2.2.2.2.2.2.2.2.1
theorem k0_off143_inb : ∀ (arg20 : BitVec 32) (arg21 : BitVec 32) (k0_hw1 : k0_chk1 arg20 arg21), ∀ a, (k0_off143 arg20 arg21) a + S1x64x512.size a ≤ S1x256x4096.size a := fun arg20 arg21 k0_hw1 => k0_hw1.2.2.2.2.2.2.1.2.2.2.2.2.2.2.2.2.2.2.2.2.2.2.1
theorem k0_mult90_dvd : ∀ (arg20 : BitVec 32) (arg21 : BitVec 32) (k0_hw1 : k0_chk1 arg20 arg21), 512 ∣ (k0_mult90 arg20 arg21).toNat := fun arg20 arg21 k0_hw1 => k0_hw1.2.2.2.2.2.2.1.2.2.2.2.2.2.2.2.2.2.2.2.2.2.2.2.1
theorem k0_off144_inb : ∀ (arg20 : BitVec 32) (arg21 : BitVec 32) (k0_hw1 : k0_chk1 arg20 arg21), ∀ a, (k0_off144 arg20 arg21) a + S1x512x128.size a ≤ S1x4096x512.size a := fun arg20 arg21 k0_hw1 => k0_hw1.2.2.2.2.2.2.1.2.2.2.2.2.2.2.2.2.2.2.2.2.2.2.2.2.1
theorem k0_mult91_dvd : ∀ (arg20 : BitVec 32) (arg21 : BitVec 32) (k0_hw1 : k0_chk1 arg20 arg21), 512 ∣ (k0_mult91 arg20 arg21).toNat := fun arg20 arg21 k0_hw1 => k0_hw1.2.2.2.2.2.2.1.2.2.2.2.2.2.2.2.2.2.2.2.2.2.2.2.2.2.1
theorem k0_off145_inb : ∀ (arg20 : BitVec 32) (arg21 : BitVec 32) (k0_hw1 : k0_chk1 arg20 arg21), ∀ a, (k0_off145 arg20 arg21) a + S1x128x512.size a ≤ S1x512x4096.size a := fun arg20 arg21 k0_hw1 => k0_hw1.2.2.2.2.2.2.1.2.2.2.2.2.2.2.2.2.2.2.2.2.2.2.2.2.2.2.1
theorem k0_off146_inb : ∀ (arg20 : BitVec 32) (arg21 : BitVec 32) (k0_hw1 : k0_chk1 arg20 arg21), ∀ a, (k0_off146 arg20 arg21) a + S1x1x1x512.size a ≤ S8x4x1x512.size a := fun arg20 arg21 k0_hw1 => k0_hw1.2.2.2.2.2.2.1.2.2.2.2.2.2.2.2.2.2.2.2.2.2.2.2.2.2.2.2.1
theorem k0_off147_inb : ∀ (arg20 : BitVec 32) (arg21 : BitVec 32) (k0_hw1 : k0_chk1 arg20 arg21), ∀ a, (k0_off147 arg20 arg21) a + S1x1x80x512.size a ≤ S8x4x80x512.size a := fun arg20 arg21 k0_hw1 => k0_hw1.2.2.2.2.2.2.1.2.2.2.2.2.2.2.2.2.2.2.2.2.2.2.2.2.2.2.2.2.1
theorem k0_mult92_dvd : ∀ (arg20 : BitVec 32) (arg21 : BitVec 32) (k0_hw1 : k0_chk1 arg20 arg21), 512 ∣ (k0_mult92 arg20 arg21).toNat := fun arg20 arg21 k0_hw1 => k0_hw1.2.2.2.2.2.2.1.2.2.2.2.2.2.2.2.2.2.2.2.2.2.2.2.2.2.2.2.2.2.1
theorem k0_off148_inb : ∀ (arg20 : BitVec 32) (arg21 : BitVec 32) (k0_hw1 : k0_chk1 arg20 arg21), ∀ a, (k0_off148 arg20 arg21) a + S1x64x512.size a ≤ S1x256x4096.size a := fun arg20 arg21 k0_hw1 => k0_hw1.2.2.2.2.2.2.1.2.2.2.2.2.2.2.2.2.2.2.2.2.2.2.2.2.2.2.2.2.2.2.1
theorem k0_mult93_dvd : ∀ (arg20 : BitVec 32) (arg21 : BitVec 32) (k0_hw1 : k0_chk1 arg20 arg21), 512 ∣ (k0_mult93 arg20 arg21).toNat := fun arg20 arg21 k0_hw1 => k0_hw1.2.2.2.2.2.2.1.2.2.2.2.2.2.2.2.2.2.2.2.2.2.2.2.2.2.2.2.2.2.2.2.1
theorem k0_off149_inb : ∀ (arg20 : BitVec 32) (arg21 : BitVec 32) (k0_hw1 : k0_chk1 arg20 arg21), ∀ a, (k0_off149 arg20 arg21) a + S1x512x128.size a ≤ S1x4096x512.size a := fun arg20 arg21 k0_hw1 => k0_hw1.2.2.2.2.2.2.1.2.2.2.2.2.2.2.2.2.2.2.2.2.2.2.2.2.2.2.2.2.2.2.2.2.1
theorem k0_mult94_dvd : ∀ (arg20 : BitVec 32) (arg21 : BitVec 32) (k0_hw1 : k0_chk1 arg20 arg21), 512 ∣ (k0_mult94 arg20 arg21).toNat := fun arg20 arg21 k0_hw1 => k0_hw1.2.2.2.2.2.2.1.2.2.2.2.2.2.2.2.2.2.2.2.2.2.2.2.2.2.2.2.2.2.2.2.2.2.1
theorem k0_off150_inb : ∀ (arg20 : BitVec 32) (arg21 : BitVec 32) (k0_hw1 : k0_chk1 arg20 arg21), ∀ a, (k0_off150 arg20 arg21) a + S1x128x512.size a ≤ S1x512x4096.size a := fun arg20 arg21 k0_hw1 => k0_hw1.2.2.2.2.2.2.1.2.2.2.2.2.2.2.2.2.2.2.2.2.2.2.2.2.2.2.2.2.2.2.2.2.2.2.1
theorem k0_off151_inb : ∀ (arg20 : BitVec 32) (arg21 : BitVec 32) (k0_hw1 : k0_chk1 arg20 arg21), ∀ a, (k0_off151 arg20 arg21) a + S1x1x1x512.size a ≤ S8x4x1x512.size a := fun arg20 arg21 k0_hw1 => k0_hw1.2.2.2.2.2.2.1.2.2.2.2.2.2.2.2.2.2.2.2.2.2.2.2.2.2.2.2.2.2.2.2.2.2.2.2.1
theorem k0_off152_inb : ∀ (arg20 : BitVec 32) (arg21 : BitVec 32) (k0_hw1 : k0_chk1 arg20 arg21), ∀ a, (k0_off152 arg20 arg21) a + S1x1x80x512.size a ≤ S8x4x80x512.size a := fun arg20 arg21 k0_hw1 => k0_hw1.2.2.2.2.2.2.1.2.2.2.2.2.2.2.2.2.2.2.2.2.2.2.2.2.2.2.2.2.2.2.2.2.2.2.2.2.1
theorem k0_mult95_dvd : ∀ (arg20 : BitVec 32) (arg21 : BitVec 32) (k0_hw1 : k0_chk1 arg20 arg21), 512 ∣ (k0_mult95 arg20 arg21).toNat := fun arg20 arg21 k0_hw1 => k0_hw1.2.2.2.2.2.2.1.2.2.2.2.2.2.2.2.2.2.2.2.2.2.2.2.2.2.2.2.2.2.2.2.2.2.2.2.2.2.1
theorem k0_off153_inb : ∀ (arg20 : BitVec 32) (arg21 : BitVec 32) (k0_hw1 : k0_chk1 arg20 arg21), ∀ a, (k0_off153 arg20 arg21) a + S1x64x512.size a ≤ S1x256x4096.size a := fun arg20 arg21 k0_hw1 => k0_hw1.2.2.2.2.2.2.1.2.2.2.2.2.2.2.2.2.2.2.2.2.2.2.2.2.2.2.2.2.2.2.2.2.2.2.2.2.2.2
theorem k0_mult96_dvd : ∀ (arg20 : BitVec 32) (arg21 : BitVec 32) (k0_hw1 : k0_chk1 arg20 arg21), 512 ∣ (k0_mult96 arg20 arg21).toNat := fun arg20 arg21 k0_hw1 => k0_hw1.2.2.2.2.2.2.2.1
theorem k0_off154_inb : ∀ (arg20 : BitVec 32) (arg21 : BitVec 32) (k0_hw1 : k0_chk1 arg20 arg21), ∀ a, (k0_off154 arg20 arg21) a + S1x512x128.size a ≤ S1x4096x512.size a := fun arg20 arg21 k0_hw1 => k0_hw1.2.2.2.2.2.2.2.2.1
theorem k0_mult97_dvd : ∀ (arg20 : BitVec 32) (arg21 : BitVec 32) (k0_hw1 : k0_chk1 arg20 arg21), 512 ∣ (k0_mult97 arg20 arg21).toNat := fun arg20 arg21 k0_hw1 => k0_hw1.2.2.2.2.2.2.2.2.2.1
theorem k0_off155_inb : ∀ (arg20 : BitVec 32) (arg21 : BitVec 32) (k0_hw1 : k0_chk1 arg20 arg21), ∀ a, (k0_off155 arg20 arg21) a + S1x128x512.size a ≤ S1x512x4096.size a := fun arg20 arg21 k0_hw1 => k0_hw1.2.2.2.2.2.2.2.2.2.2.1
theorem k0_off156_inb : ∀ (arg20 : BitVec 32) (arg21 : BitVec 32) (k0_hw1 : k0_chk1 arg20 arg21), ∀ a, (k0_off156 arg20 arg21) a + S1x1x1x512.size a ≤ S8x4x1x512.size a := fun arg20 arg21 k0_hw1 => k0_hw1.2.2.2.2.2.2.2.2.2.2.2.1
theorem k0_off157_inb : ∀ (arg20 : BitVec 32) (arg21 : BitVec 32) (k0_hw1 : k0_chk1 arg20 arg21), ∀ a, (k0_off157 arg20 arg21) a + S1x1x80x512.size a ≤ S8x4x80x512.size a := fun arg20 arg21 k0_hw1 => k0_hw1.2.2.2.2.2.2.2.2.2.2.2.2.1
theorem k0_mult98_dvd : ∀ (arg20 : BitVec 32) (arg21 : BitVec 32) (k0_hw1 : k0_chk1 arg20 arg21), 512 ∣ (k0_mult98 arg20 arg21).toNat := fun arg20 arg21 k0_hw1 => k0_hw1.2.2.2.2.2.2.2.2.2.2.2.2.2.1
theorem k0_off158_inb : ∀ (arg20 : BitVec 32) (arg21 : BitVec 32) (k0_hw1 : k0_chk1 arg20 arg21), ∀ a, (k0_off158 arg20 arg21) a + S1x64x512.size a ≤ S1x256x4096.size a := fun arg20 arg21 k0_hw1 => k0_hw1.2.2.2.2.2.2.2.2.2.2.2.2.2.2.1
theorem k0_mult99_dvd : ∀ (arg20 : BitVec 32) (arg21 : BitVec 32) (k0_hw1 : k0_chk1 arg20 arg21), 512 ∣ (k0_mult99 arg20 arg21).toNat := fun arg20 arg21 k0_hw1 => k0_hw1.2.2.2.2.2.2.2.2.2.2.2.2.2.2.2.1
theorem k0_off159_inb : ∀ (arg20 : BitVec 32) (arg21 : BitVec 32) (k0_hw1 : k0_chk1 arg20 arg21), ∀ a, (k0_off159 arg20 arg21) a + S1x512x128.size a ≤ S1x4096x512.size a := fun arg20 arg21 k0_hw1 => k0_hw1.2.2.2.2.2.2.2.2.2.2.2.2.2.2.2.2.1
theorem k0_mult100_dvd : ∀ (arg20 : BitVec 32) (arg21 : BitVec 32) (k0_hw1 : k0_chk1 arg20 arg21), 512 ∣ (k0_mult100 arg20 arg21).toNat := fun arg20 arg21 k0_hw1 => k0_hw1.2.2.2.2.2.2.2.2.2.2.2.2.2.2.2.2.2.1
theorem k0_off160_inb : ∀ (arg20 : BitVec 32) (arg21 : BitVec 32) (k0_hw1 : k0_chk1 arg20 arg21), ∀ a, (k0_off160 arg20 arg21) a + S1x128x512.size a ≤ S1x512x4096.size a := fun arg20 arg21 k0_hw1 => k0_hw1.2.2.2.2.2.2.2.2.2.2.2.2.2.2.2.2.2.2.1
theorem k0_off161_inb : ∀ (arg20 : BitVec 32) (arg21 : BitVec 32) (k0_hw1 : k0_chk1 arg20 arg21), ∀ a, (k0_off161 arg20 arg21) a + S1x1x1x512.size a ≤ S8x4x1x512.size a := fun arg20 arg21 k0_hw1 => k0_hw1.2.2.2.2.2.2.2.2.2.2.2.2.2.2.2.2.2.2.2.1
theorem k0_off162_inb : ∀ (arg20 : BitVec 32) (arg21 : BitVec 32) (k0_hw1 : k0_chk1 arg20 arg21), ∀ a, (k0_off162 arg20 arg21) a + S1x1x80x512.size a ≤ S8x4x80x512.size a := fun arg20 arg21 k0_hw1 => k0_hw1.2.2.2.2.2.2.2.2.2.2.2.2.2.2.2.2.2.2.2.2.1
theorem k0_mult101_dvd : ∀ (arg20 : BitVec 32) (arg21 : BitVec 32) (k0_hw1 : k0_chk1 arg20 arg21), 512 ∣ (k0_mult101 arg20 arg21).toNat := fun arg20 arg21 k0_hw1 => k0_hw1.2.2.2.2.2.2.2.2.2.2.2.2.2.2.2.2.2.2.2.2.2.1
theorem k0_off163_inb : ∀ (arg20 : BitVec 32) (arg21 : BitVec 32) (k0_hw1 : k0_chk1 arg20 arg21), ∀ a, (k0_off163 arg20 arg21) a + S1x64x512.size a ≤ S1x256x4096.size a := fun arg20 arg21 k0_hw1 => k0_hw1.2.2.2.2.2.2.2.2.2.2.2.2.2.2.2.2.2.2.2.2.2.2.1
theorem k0_mult102_dvd : ∀ (arg20 : BitVec 32) (arg21 : BitVec 32) (k0_hw1 : k0_chk1 arg20 arg21), 512 ∣ (k0_mult102 arg20 arg21).toNat := fun arg20 arg21 k0_hw1 => k0_hw1.2.2.2.2.2.2.2.2.2.2.2.2.2.2.2.2.2.2.2.2.2.2.2.1
theorem k0_off164_inb : ∀ (arg20 : BitVec 32) (arg21 : BitVec 32) (k0_hw1 : k0_chk1 arg20 arg21), ∀ a, (k0_off164 arg20 arg21) a + S1x512x128.size a ≤ S1x4096x512.size a := fun arg20 arg21 k0_hw1 => k0_hw1.2.2.2.2.2.2.2.2.2.2.2.2.2.2.2.2.2.2.2.2.2.2.2.2.1
theorem k0_mult103_dvd : ∀ (arg20 : BitVec 32) (arg21 : BitVec 32) (k0_hw1 : k0_chk1 arg20 arg21), 512 ∣ (k0_mult103 arg20 arg21).toNat := fun arg20 arg21 k0_hw1 => k0_hw1.2.2.2.2.2.2.2.2.2.2.2.2.2.2.2.2.2.2.2.2.2.2.2.2.2.1
theorem k0_off165_inb : ∀ (arg20 : BitVec 32) (arg21 : BitVec 32) (k0_hw1 : k0_chk1 arg20 arg21), ∀ a, (k0_off165 arg20 arg21) a + S1x128x512.size a ≤ S1x512x4096.size a := fun arg20 arg21 k0_hw1 => k0_hw1.2.2.2.2.2.2.2.2.2.2.2.2.2.2.2.2.2.2.2.2.2.2.2.2.2.2.1
theorem k0_off166_inb : ∀ (arg20 : BitVec 32) (arg21 : BitVec 32) (k0_hw1 : k0_chk1 arg20 arg21), ∀ a, (k0_off166 arg20 arg21) a + S1x1x1x512.size a ≤ S8x4x1x512.size a := fun arg20 arg21 k0_hw1 => k0_hw1.2.2.2.2.2.2.2.2.2.2.2.2.2.2.2.2.2.2.2.2.2.2.2.2.2.2.2.1
theorem k0_off167_inb : ∀ (arg20 : BitVec 32) (arg21 : BitVec 32) (k0_hw1 : k0_chk1 arg20 arg21), ∀ a, (k0_off167 arg20 arg21) a + S1x1x80x512.size a ≤ S8x4x80x512.size a := fun arg20 arg21 k0_hw1 => k0_hw1.2.2.2.2.2.2.2.2.2.2.2.2.2.2.2.2.2.2.2.2.2.2.2.2.2.2.2.2.1
theorem k0_mult104_dvd : ∀ (arg20 : BitVec 32) (arg21 : BitVec 32) (k0_hw1 : k0_chk1 arg20 arg21), 512 ∣ (k0_mult104 arg20 arg21).toNat := fun arg20 arg21 k0_hw1 => k0_hw1.2.2.2.2.2.2.2.2.2.2.2.2.2.2.2.2.2.2.2.2.2.2.2.2.2.2.2.2.2.1
theorem k0_off168_inb : ∀ (arg20 : BitVec 32) (arg21 : BitVec 32) (k0_hw1 : k0_chk1 arg20 arg21), ∀ a, (k0_off168 arg20 arg21) a + S1x64x512.size a ≤ S1x256x4096.size a := fun arg20 arg21 k0_hw1 => k0_hw1.2.2.2.2.2.2.2.2.2.2.2.2.2.2.2.2.2.2.2.2.2.2.2.2.2.2.2.2.2.2

def k0_mult105 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_94 : BitVec 32 := 512#32
  let v99 : BitVec 32 := Scalar.muli v98 c512_i32_94
  v99

def k0_off169 (v92_1 : BitVec 32) (v92_0 : BitVec 32) : Fin 3 → Nat :=
  let c0_95 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_94 : BitVec 32 := 512#32
  let v99 : BitVec 32 := Scalar.muli v98 c512_i32_94
  let v100 : BitVec 32 := v99
  let v101 : Index := Scalar.indexCast v100
  let c0_96 : Index := 0#32
  ![0, v101.toNat, 0]
def k0_mult106 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_97 : BitVec 32 := 512#32
  let v104 : BitVec 32 := Scalar.muli v96 c512_i32_97
  v104
def k0_off170 (v92_1 : BitVec 32) (v92_0 : BitVec 32) : Fin 3 → Nat :=
  let c0_98 : Index := 0#32
  let c0_99 : Index := 0#32
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_97 : BitVec 32 := 512#32
  let v104 : BitVec 32 := Scalar.muli v96 c512_i32_97
  let v105 : BitVec 32 := v104
  let v106 : Index := Scalar.indexCast v105
  ![0, 0, v106.toNat]
def k0_off171 (v92_0 : BitVec 32) : Fin 4 → Nat :=
  let v115 : Index := Scalar.indexCast v92_0
  let c0_106 : Index := 0#32
  let c0_107 : Index := 0#32
  let c0_108 : Index := 0#32
  ![v115.toNat, 0, 0, 0]
def k0_off172 (v92_0 : BitVec 32) : Fin 4 → Nat :=
  let v127 : Index := Scalar.indexCast v92_0
  let c0_113 : Index := 0#32
  let c0_114 : Index := 0#32
  let c0_115 : Index := 0#32
  ![v127.toNat, 0, 0, 0]
def k0_mult107 (v92_1 : BitVec 32) : BitVec 32 :=
  let c512_i32_116 : BitVec 32 := 512#32
  let v132 : BitVec 32 := Scalar.muli v92_1 c512_i32_116
  v132

def k0_off173 (v92_1 : BitVec 32) : Fin 3 → Nat :=
  let c0_117 : Index := 0#32
  let c0_118 : Index := 0#32
  let c512_i32_116 : BitVec 32 := 512#32
  let v132 : BitVec 32 := Scalar.muli v92_1 c512_i32_116
  let v133 : BitVec 32 := v132
  let v134 : Index := Scalar.indexCast v133
  ![0, 0, v134.toNat]
def k0_mult108 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_126 : BitVec 32 := 512#32
  let v148 : BitVec 32 := Scalar.muli v98 c512_i32_126
  v148
def k0_off174 (v92_1 : BitVec 32) (v92_0 : BitVec 32) : Fin 3 → Nat :=
  let c0_127 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_126 : BitVec 32 := 512#32
  let v148 : BitVec 32 := Scalar.muli v98 c512_i32_126
  let v149 : BitVec 32 := v148
  let v150 : Index := Scalar.indexCast v149
  let c128_128 : Index := 128#32
  ![0, v150.toNat, 128]
def k0_mult109 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_129 : BitVec 32 := 512#32
  let v153 : BitVec 32 := Scalar.muli v96 c512_i32_129
  v153
def k0_off175 (v92_1 : BitVec 32) (v92_0 : BitVec 32) : Fin 3 → Nat :=
  let c0_130 : Index := 0#32
  let c128_131 : Index := 128#32
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_129 : BitVec 32 := 512#32
  let v153 : BitVec 32 := Scalar.muli v96 c512_i32_129
  let v154 : BitVec 32 := v153
  let v155 : Index := Scalar.indexCast v154
  ![0, 128, v155.toNat]
def k0_off176 (v92_0 : BitVec 32) : Fin 4 → Nat :=
  let v164 : Index := Scalar.indexCast v92_0
  let c1_138 : Index := 1#32
  let c0_139 : Index := 0#32
  let c0_140 : Index := 0#32
  ![v164.toNat, 1, 0, 0]
def k0_off177 (v92_0 : BitVec 32) : Fin 4 → Nat :=
  let v176 : Index := Scalar.indexCast v92_0
  let c1_145 : Index := 1#32
  let c0_146 : Index := 0#32
  let c0_147 : Index := 0#32
  ![v176.toNat, 1, 0, 0]
def k0_mult110 (v92_1 : BitVec 32) : BitVec 32 :=
  let c512_i32_148 : BitVec 32 := 512#32
  let v181 : BitVec 32 := Scalar.muli v92_1 c512_i32_148
  v181
def k0_off178 (v92_1 : BitVec 32) : Fin 3 → Nat :=
  let c0_149 : Index := 0#32
  let c64 : Index := 64#32
  let c512_i32_148 : BitVec 32 := 512#32
  let v181 : BitVec 32 := Scalar.muli v92_1 c512_i32_148
  let v182 : BitVec 32 := v181
  let v183 : Index := Scalar.indexCast v182
  ![0, 64, v183.toNat]
def k0_mult111 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_157 : BitVec 32 := 512#32
  let v197 : BitVec 32 := Scalar.muli v98 c512_i32_157
  v197
def k0_off179 (v92_1 : BitVec 32) (v92_0 : BitVec 32) : Fin 3 → Nat :=
  let c0_158 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_157 : BitVec 32 := 512#32
  let v197 : BitVec 32 := Scalar.muli v98 c512_i32_157
  let v198 : BitVec 32 := v197
  let v199 : Index := Scalar.indexCast v198
  let c256_159 : Index := 256#32
  ![0, v199.toNat, 256]
def k0_mult112 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_160 : BitVec 32 := 512#32
  let v202 : BitVec 32 := Scalar.muli v96 c512_i32_160
  v202
def k0_off180 (v92_1 : BitVec 32) (v92_0 : BitVec 32) : Fin 3 → Nat :=
  let c0_161 : Index := 0#32
  let c256_162 : Index := 256#32
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_160 : BitVec 32 := 512#32
  let v202 : BitVec 32 := Scalar.muli v96 c512_i32_160
  let v203 : BitVec 32 := v202
  let v204 : Index := Scalar.indexCast v203
  ![0, 256, v204.toNat]
def k0_off181 (v92_0 : BitVec 32) : Fin 4 → Nat :=
  let v213 : Index := Scalar.indexCast v92_0
  let c2_169 : Index := 2#32
  let c0_170 : Index := 0#32
  let c0_171 : Index := 0#32
  ![v213.toNat, 2, 0, 0]
def k0_off182 (v92_0 : BitVec 32) : Fin 4 → Nat :=
  let v225 : Index := Scalar.indexCast v92_0
  let c2_176 : Index := 2#32
  let c0_177 : Index := 0#32
  let c0_178 : Index := 0#32
  ![v225.toNat, 2, 0, 0]
def k0_mult113 (v92_1 : BitVec 32) : BitVec 32 :=
  let c512_i32_179 : BitVec 32 := 512#32
  let v230 : BitVec 32 := Scalar.muli v92_1 c512_i32_179
  v230
def k0_off183 (v92_1 : BitVec 32) : Fin 3 → Nat :=
  let c0_180 : Index := 0#32
  let c128_181 : Index := 128#32
  let c512_i32_179 : BitVec 32 := 512#32
  let v230 : BitVec 32 := Scalar.muli v92_1 c512_i32_179
  let v231 : BitVec 32 := v230
  let v232 : Index := Scalar.indexCast v231
  ![0, 128, v232.toNat]
def k0_mult114 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_189 : BitVec 32 := 512#32
  let v246 : BitVec 32 := Scalar.muli v98 c512_i32_189
  v246
def k0_off184 (v92_1 : BitVec 32) (v92_0 : BitVec 32) : Fin 3 → Nat :=
  let c0_190 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_189 : BitVec 32 := 512#32
  let v246 : BitVec 32 := Scalar.muli v98 c512_i32_189
  let v247 : BitVec 32 := v246
  let v248 : Index := Scalar.indexCast v247
  let c384_191 : Index := 384#32
  ![0, v248.toNat, 384]
def k0_mult115 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_192 : BitVec 32 := 512#32
  let v251 : BitVec 32 := Scalar.muli v96 c512_i32_192
  v251
def k0_off185 (v92_1 : BitVec 32) (v92_0 : BitVec 32) : Fin 3 → Nat :=
  let c0_193 : Index := 0#32
  let c384_194 : Index := 384#32
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let c512_i32_192 : BitVec 32 := 512#32
  let v251 : BitVec 32 := Scalar.muli v96 c512_i32_192
  let v252 : BitVec 32 := v251
  let v253 : Index := Scalar.indexCast v252
  ![0, 384, v253.toNat]
def k0_off186 (v92_0 : BitVec 32) : Fin 4 → Nat :=
  let v262 : Index := Scalar.indexCast v92_0
  let c3_201 : Index := 3#32
  let c0_202 : Index := 0#32
  let c0_203 : Index := 0#32
  ![v262.toNat, 3, 0, 0]
def k0_off187 (v92_0 : BitVec 32) : Fin 4 → Nat :=
  let v274 : Index := Scalar.indexCast v92_0
  let c3_208 : Index := 3#32
  let c0_209 : Index := 0#32
  let c0_210 : Index := 0#32
  ![v274.toNat, 3, 0, 0]
def k0_mult116 (v92_1 : BitVec 32) : BitVec 32 :=
  let c512_i32_211 : BitVec 32 := 512#32
  let v279 : BitVec 32 := Scalar.muli v92_1 c512_i32_211
  v279
def k0_off188 (v92_1 : BitVec 32) : Fin 3 → Nat :=
  let c0_212 : Index := 0#32
  let c192 : Index := 192#32
  let c512_i32_211 : BitVec 32 := 512#32
  let v279 : BitVec 32 := Scalar.muli v92_1 c512_i32_211
  let v280 : BitVec 32 := v279
  let v281 : Index := Scalar.indexCast v280
  ![0, 192, v281.toNat]

def k0_chk4 (v92_1 : BitVec 32) : Prop :=
  (512 ∣ (k0_mult107 v92_1).toNat) ∧
  (∀ a, (k0_off173 v92_1) a + S1x64x512.size a ≤ S1x256x4096.size a) ∧
  (512 ∣ (k0_mult110 v92_1).toNat) ∧
  (∀ a, (k0_off178 v92_1) a + S1x64x512.size a ≤ S1x256x4096.size a) ∧
  (512 ∣ (k0_mult113 v92_1).toNat) ∧
  (∀ a, (k0_off183 v92_1) a + S1x64x512.size a ≤ S1x256x4096.size a) ∧
  (512 ∣ (k0_mult116 v92_1).toNat) ∧
  (∀ a, (k0_off188 v92_1) a + S1x64x512.size a ≤ S1x256x4096.size a)
theorem k0_mult107_dvd : ∀ (v92_1 : BitVec 32) (k0_hw4 : k0_chk4 v92_1), 512 ∣ (k0_mult107 v92_1).toNat := fun v92_1 k0_hw4 => k0_hw4.1
theorem k0_off173_inb : ∀ (v92_1 : BitVec 32) (k0_hw4 : k0_chk4 v92_1), ∀ a, (k0_off173 v92_1) a + S1x64x512.size a ≤ S1x256x4096.size a := fun v92_1 k0_hw4 => k0_hw4.2.1
theorem k0_mult110_dvd : ∀ (v92_1 : BitVec 32) (k0_hw4 : k0_chk4 v92_1), 512 ∣ (k0_mult110 v92_1).toNat := fun v92_1 k0_hw4 => k0_hw4.2.2.1
theorem k0_off178_inb : ∀ (v92_1 : BitVec 32) (k0_hw4 : k0_chk4 v92_1), ∀ a, (k0_off178 v92_1) a + S1x64x512.size a ≤ S1x256x4096.size a := fun v92_1 k0_hw4 => k0_hw4.2.2.2.1
theorem k0_mult113_dvd : ∀ (v92_1 : BitVec 32) (k0_hw4 : k0_chk4 v92_1), 512 ∣ (k0_mult113 v92_1).toNat := fun v92_1 k0_hw4 => k0_hw4.2.2.2.2.1
theorem k0_off183_inb : ∀ (v92_1 : BitVec 32) (k0_hw4 : k0_chk4 v92_1), ∀ a, (k0_off183 v92_1) a + S1x64x512.size a ≤ S1x256x4096.size a := fun v92_1 k0_hw4 => k0_hw4.2.2.2.2.2.1
theorem k0_mult116_dvd : ∀ (v92_1 : BitVec 32) (k0_hw4 : k0_chk4 v92_1), 512 ∣ (k0_mult116 v92_1).toNat := fun v92_1 k0_hw4 => k0_hw4.2.2.2.2.2.2.1
theorem k0_off188_inb : ∀ (v92_1 : BitVec 32) (k0_hw4 : k0_chk4 v92_1), ∀ a, (k0_off188 v92_1) a + S1x64x512.size a ≤ S1x256x4096.size a := fun v92_1 k0_hw4 => k0_hw4.2.2.2.2.2.2.2

def k0_mult117 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_224 : BitVec 32 := 512#32
  let v301 : BitVec 32 := Scalar.muli v300 c512_i32_224
  v301
def k0_off189 (v92_1 : BitVec 32) (v92_0 : BitVec 32) : Fin 3 → Nat :=
  let c0_225 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_224 : BitVec 32 := 512#32
  let v301 : BitVec 32 := Scalar.muli v300 c512_i32_224
  let v302 : BitVec 32 := v301
  let v303 : Index := Scalar.indexCast v302
  let c0_226 : Index := 0#32
  ![0, v303.toNat, 0]
def k0_mult118 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_227 : BitVec 32 := 512#32
  let v306 : BitVec 32 := Scalar.muli v298 c512_i32_227
  v306
def k0_off190 (v92_1 : BitVec 32) (v92_0 : BitVec 32) : Fin 3 → Nat :=
  let c0_228 : Index := 0#32
  let c0_229 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_227 : BitVec 32 := 512#32
  let v306 : BitVec 32 := Scalar.muli v298 c512_i32_227
  let v307 : BitVec 32 := v306
  let v308 : Index := Scalar.indexCast v307
  ![0, 0, v308.toNat]
def k0_off191 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v317 : Index := Scalar.indexCast v96
  let c0_236 : Index := 0#32
  let c0_237 : Index := 0#32
  let c0_238 : Index := 0#32
  ![v317.toNat, 0, 0, 0]
def k0_off192 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v329 : Index := Scalar.indexCast v96
  let c0_243 : Index := 0#32
  let c0_244 : Index := 0#32
  let c0_245 : Index := 0#32
  ![v329.toNat, 0, 0, 0]
def k0_mult119 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_246 : BitVec 32 := 512#32
  let v334 : BitVec 32 := Scalar.muli v98 c512_i32_246
  v334
def k0_off193 (v92_1 : BitVec 32) (v92_0 : BitVec 32) : Fin 3 → Nat :=
  let c0_247 : Index := 0#32
  let c0_248 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_246 : BitVec 32 := 512#32
  let v334 : BitVec 32 := Scalar.muli v98 c512_i32_246
  let v335 : BitVec 32 := v334
  let v336 : Index := Scalar.indexCast v335
  ![0, 0, v336.toNat]
def k0_mult120 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_256 : BitVec 32 := 512#32
  let v350 : BitVec 32 := Scalar.muli v300 c512_i32_256
  v350
def k0_off194 (v92_1 : BitVec 32) (v92_0 : BitVec 32) : Fin 3 → Nat :=
  let c0_257 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_256 : BitVec 32 := 512#32
  let v350 : BitVec 32 := Scalar.muli v300 c512_i32_256
  let v351 : BitVec 32 := v350
  let v352 : Index := Scalar.indexCast v351
  let c128_258 : Index := 128#32
  ![0, v352.toNat, 128]
def k0_mult121 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_259 : BitVec 32 := 512#32
  let v355 : BitVec 32 := Scalar.muli v298 c512_i32_259
  v355
def k0_off195 (v92_1 : BitVec 32) (v92_0 : BitVec 32) : Fin 3 → Nat :=
  let c0_260 : Index := 0#32
  let c128_261 : Index := 128#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_259 : BitVec 32 := 512#32
  let v355 : BitVec 32 := Scalar.muli v298 c512_i32_259
  let v356 : BitVec 32 := v355
  let v357 : Index := Scalar.indexCast v356
  ![0, 128, v357.toNat]
def k0_off196 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v366 : Index := Scalar.indexCast v96
  let c1_268 : Index := 1#32
  let c0_269 : Index := 0#32
  let c0_270 : Index := 0#32
  ![v366.toNat, 1, 0, 0]
def k0_off197 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v378 : Index := Scalar.indexCast v96
  let c1_275 : Index := 1#32
  let c0_276 : Index := 0#32
  let c0_277 : Index := 0#32
  ![v378.toNat, 1, 0, 0]
def k0_mult122 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_278 : BitVec 32 := 512#32
  let v383 : BitVec 32 := Scalar.muli v98 c512_i32_278
  v383
def k0_off198 (v92_1 : BitVec 32) (v92_0 : BitVec 32) : Fin 3 → Nat :=
  let c0_279 : Index := 0#32
  let c64_280 : Index := 64#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_278 : BitVec 32 := 512#32
  let v383 : BitVec 32 := Scalar.muli v98 c512_i32_278
  let v384 : BitVec 32 := v383
  let v385 : Index := Scalar.indexCast v384
  ![0, 64, v385.toNat]
def k0_mult123 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_288 : BitVec 32 := 512#32
  let v399 : BitVec 32 := Scalar.muli v300 c512_i32_288
  v399
def k0_off199 (v92_1 : BitVec 32) (v92_0 : BitVec 32) : Fin 3 → Nat :=
  let c0_289 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_288 : BitVec 32 := 512#32
  let v399 : BitVec 32 := Scalar.muli v300 c512_i32_288
  let v400 : BitVec 32 := v399
  let v401 : Index := Scalar.indexCast v400
  let c256_290 : Index := 256#32
  ![0, v401.toNat, 256]
def k0_mult124 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_291 : BitVec 32 := 512#32
  let v404 : BitVec 32 := Scalar.muli v298 c512_i32_291
  v404
def k0_off200 (v92_1 : BitVec 32) (v92_0 : BitVec 32) : Fin 3 → Nat :=
  let c0_292 : Index := 0#32
  let c256_293 : Index := 256#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_291 : BitVec 32 := 512#32
  let v404 : BitVec 32 := Scalar.muli v298 c512_i32_291
  let v405 : BitVec 32 := v404
  let v406 : Index := Scalar.indexCast v405
  ![0, 256, v406.toNat]
def k0_off201 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v415 : Index := Scalar.indexCast v96
  let c2_300 : Index := 2#32
  let c0_301 : Index := 0#32
  let c0_302 : Index := 0#32
  ![v415.toNat, 2, 0, 0]
def k0_off202 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v427 : Index := Scalar.indexCast v96
  let c2_307 : Index := 2#32
  let c0_308 : Index := 0#32
  let c0_309 : Index := 0#32
  ![v427.toNat, 2, 0, 0]
def k0_mult125 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_310 : BitVec 32 := 512#32
  let v432 : BitVec 32 := Scalar.muli v98 c512_i32_310
  v432
def k0_off203 (v92_1 : BitVec 32) (v92_0 : BitVec 32) : Fin 3 → Nat :=
  let c0_311 : Index := 0#32
  let c128_312 : Index := 128#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_310 : BitVec 32 := 512#32
  let v432 : BitVec 32 := Scalar.muli v98 c512_i32_310
  let v433 : BitVec 32 := v432
  let v434 : Index := Scalar.indexCast v433
  ![0, 128, v434.toNat]
def k0_mult126 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_320 : BitVec 32 := 512#32
  let v448 : BitVec 32 := Scalar.muli v300 c512_i32_320
  v448
def k0_off204 (v92_1 : BitVec 32) (v92_0 : BitVec 32) : Fin 3 → Nat :=
  let c0_321 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_320 : BitVec 32 := 512#32
  let v448 : BitVec 32 := Scalar.muli v300 c512_i32_320
  let v449 : BitVec 32 := v448
  let v450 : Index := Scalar.indexCast v449
  let c384_322 : Index := 384#32
  ![0, v450.toNat, 384]
def k0_mult127 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_323 : BitVec 32 := 512#32
  let v453 : BitVec 32 := Scalar.muli v298 c512_i32_323
  v453
def k0_off205 (v92_1 : BitVec 32) (v92_0 : BitVec 32) : Fin 3 → Nat :=
  let c0_324 : Index := 0#32
  let c384_325 : Index := 384#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let c512_i32_323 : BitVec 32 := 512#32
  let v453 : BitVec 32 := Scalar.muli v298 c512_i32_323
  let v454 : BitVec 32 := v453
  let v455 : Index := Scalar.indexCast v454
  ![0, 384, v455.toNat]
def k0_off206 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v464 : Index := Scalar.indexCast v96
  let c3_332 : Index := 3#32
  let c0_333 : Index := 0#32
  let c0_334 : Index := 0#32
  ![v464.toNat, 3, 0, 0]
def k0_off207 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c1_i32_91 : BitVec 32 := 1#32
  let v95 : BitVec 32 := Scalar.addi v92_0 c1_i32_91
  let v96 : BitVec 32 := Scalar.select v94 v95 v92_0
  let v476 : Index := Scalar.indexCast v96
  let c3_339 : Index := 3#32
  let c0_340 : Index := 0#32
  let c0_341 : Index := 0#32
  ![v476.toNat, 3, 0, 0]
def k0_mult128 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_342 : BitVec 32 := 512#32
  let v481 : BitVec 32 := Scalar.muli v98 c512_i32_342
  v481
def k0_off208 (v92_1 : BitVec 32) (v92_0 : BitVec 32) : Fin 3 → Nat :=
  let c0_343 : Index := 0#32
  let c192_344 : Index := 192#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c512_i32_342 : BitVec 32 := 512#32
  let v481 : BitVec 32 := Scalar.muli v98 c512_i32_342
  let v482 : BitVec 32 := v481
  let v483 : Index := Scalar.indexCast v482
  ![0, 192, v483.toNat]
def k0_mult129 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_356 : BitVec 32 := 512#32
  let v503 : BitVec 32 := Scalar.muli v502 c512_i32_356
  v503
def k0_off209 (v92_1 : BitVec 32) (v92_0 : BitVec 32) : Fin 3 → Nat :=
  let c0_357 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_356 : BitVec 32 := 512#32
  let v503 : BitVec 32 := Scalar.muli v502 c512_i32_356
  let v504 : BitVec 32 := v503
  let v505 : Index := Scalar.indexCast v504
  let c0_358 : Index := 0#32
  ![0, v505.toNat, 0]
def k0_mult130 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_359 : BitVec 32 := 512#32
  let v508 : BitVec 32 := Scalar.muli v500 c512_i32_359
  v508
def k0_off210 (v92_1 : BitVec 32) (v92_0 : BitVec 32) : Fin 3 → Nat :=
  let c0_360 : Index := 0#32
  let c0_361 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_359 : BitVec 32 := 512#32
  let v508 : BitVec 32 := Scalar.muli v500 c512_i32_359
  let v509 : BitVec 32 := v508
  let v510 : Index := Scalar.indexCast v509
  ![0, 0, v510.toNat]
def k0_off211 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v519 : Index := Scalar.indexCast v298
  let c0_368 : Index := 0#32
  let c0_369 : Index := 0#32
  let c0_370 : Index := 0#32
  ![v519.toNat, 0, 0, 0]
def k0_off212 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v531 : Index := Scalar.indexCast v298
  let c0_375 : Index := 0#32
  let c0_376 : Index := 0#32
  let c0_377 : Index := 0#32
  ![v531.toNat, 0, 0, 0]
def k0_mult131 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_378 : BitVec 32 := 512#32
  let v536 : BitVec 32 := Scalar.muli v300 c512_i32_378
  v536
def k0_off213 (v92_1 : BitVec 32) (v92_0 : BitVec 32) : Fin 3 → Nat :=
  let c0_379 : Index := 0#32
  let c0_380 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_378 : BitVec 32 := 512#32
  let v536 : BitVec 32 := Scalar.muli v300 c512_i32_378
  let v537 : BitVec 32 := v536
  let v538 : Index := Scalar.indexCast v537
  ![0, 0, v538.toNat]
def k0_mult132 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_388 : BitVec 32 := 512#32
  let v552 : BitVec 32 := Scalar.muli v502 c512_i32_388
  v552
def k0_off214 (v92_1 : BitVec 32) (v92_0 : BitVec 32) : Fin 3 → Nat :=
  let c0_389 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_388 : BitVec 32 := 512#32
  let v552 : BitVec 32 := Scalar.muli v502 c512_i32_388
  let v553 : BitVec 32 := v552
  let v554 : Index := Scalar.indexCast v553
  let c128_390 : Index := 128#32
  ![0, v554.toNat, 128]
def k0_mult133 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_391 : BitVec 32 := 512#32
  let v557 : BitVec 32 := Scalar.muli v500 c512_i32_391
  v557
def k0_off215 (v92_1 : BitVec 32) (v92_0 : BitVec 32) : Fin 3 → Nat :=
  let c0_392 : Index := 0#32
  let c128_393 : Index := 128#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_391 : BitVec 32 := 512#32
  let v557 : BitVec 32 := Scalar.muli v500 c512_i32_391
  let v558 : BitVec 32 := v557
  let v559 : Index := Scalar.indexCast v558
  ![0, 128, v559.toNat]
def k0_off216 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v568 : Index := Scalar.indexCast v298
  let c1_400 : Index := 1#32
  let c0_401 : Index := 0#32
  let c0_402 : Index := 0#32
  ![v568.toNat, 1, 0, 0]
def k0_off217 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v580 : Index := Scalar.indexCast v298
  let c1_407 : Index := 1#32
  let c0_408 : Index := 0#32
  let c0_409 : Index := 0#32
  ![v580.toNat, 1, 0, 0]
def k0_mult134 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_410 : BitVec 32 := 512#32
  let v585 : BitVec 32 := Scalar.muli v300 c512_i32_410
  v585
def k0_off218 (v92_1 : BitVec 32) (v92_0 : BitVec 32) : Fin 3 → Nat :=
  let c0_411 : Index := 0#32
  let c64_412 : Index := 64#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_410 : BitVec 32 := 512#32
  let v585 : BitVec 32 := Scalar.muli v300 c512_i32_410
  let v586 : BitVec 32 := v585
  let v587 : Index := Scalar.indexCast v586
  ![0, 64, v587.toNat]
def k0_mult135 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_420 : BitVec 32 := 512#32
  let v601 : BitVec 32 := Scalar.muli v502 c512_i32_420
  v601
def k0_off219 (v92_1 : BitVec 32) (v92_0 : BitVec 32) : Fin 3 → Nat :=
  let c0_421 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_420 : BitVec 32 := 512#32
  let v601 : BitVec 32 := Scalar.muli v502 c512_i32_420
  let v602 : BitVec 32 := v601
  let v603 : Index := Scalar.indexCast v602
  let c256_422 : Index := 256#32
  ![0, v603.toNat, 256]
def k0_mult136 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_423 : BitVec 32 := 512#32
  let v606 : BitVec 32 := Scalar.muli v500 c512_i32_423
  v606
def k0_off220 (v92_1 : BitVec 32) (v92_0 : BitVec 32) : Fin 3 → Nat :=
  let c0_424 : Index := 0#32
  let c256_425 : Index := 256#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_423 : BitVec 32 := 512#32
  let v606 : BitVec 32 := Scalar.muli v500 c512_i32_423
  let v607 : BitVec 32 := v606
  let v608 : Index := Scalar.indexCast v607
  ![0, 256, v608.toNat]
def k0_off221 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v617 : Index := Scalar.indexCast v298
  let c2_432 : Index := 2#32
  let c0_433 : Index := 0#32
  let c0_434 : Index := 0#32
  ![v617.toNat, 2, 0, 0]
def k0_off222 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v629 : Index := Scalar.indexCast v298
  let c2_439 : Index := 2#32
  let c0_440 : Index := 0#32
  let c0_441 : Index := 0#32
  ![v629.toNat, 2, 0, 0]
def k0_mult137 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_442 : BitVec 32 := 512#32
  let v634 : BitVec 32 := Scalar.muli v300 c512_i32_442
  v634
def k0_off223 (v92_1 : BitVec 32) (v92_0 : BitVec 32) : Fin 3 → Nat :=
  let c0_443 : Index := 0#32
  let c128_444 : Index := 128#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_442 : BitVec 32 := 512#32
  let v634 : BitVec 32 := Scalar.muli v300 c512_i32_442
  let v635 : BitVec 32 := v634
  let v636 : Index := Scalar.indexCast v635
  ![0, 128, v636.toNat]
def k0_mult138 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_452 : BitVec 32 := 512#32
  let v650 : BitVec 32 := Scalar.muli v502 c512_i32_452
  v650
def k0_off224 (v92_1 : BitVec 32) (v92_0 : BitVec 32) : Fin 3 → Nat :=
  let c0_453 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_452 : BitVec 32 := 512#32
  let v650 : BitVec 32 := Scalar.muli v502 c512_i32_452
  let v651 : BitVec 32 := v650
  let v652 : Index := Scalar.indexCast v651
  let c384_454 : Index := 384#32
  ![0, v652.toNat, 384]
def k0_mult139 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_455 : BitVec 32 := 512#32
  let v655 : BitVec 32 := Scalar.muli v500 c512_i32_455
  v655
def k0_off225 (v92_1 : BitVec 32) (v92_0 : BitVec 32) : Fin 3 → Nat :=
  let c0_456 : Index := 0#32
  let c384_457 : Index := 384#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let c512_i32_455 : BitVec 32 := 512#32
  let v655 : BitVec 32 := Scalar.muli v500 c512_i32_455
  let v656 : BitVec 32 := v655
  let v657 : Index := Scalar.indexCast v656
  ![0, 384, v657.toNat]
def k0_off226 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v666 : Index := Scalar.indexCast v298
  let c3_464 : Index := 3#32
  let c0_465 : Index := 0#32
  let c0_466 : Index := 0#32
  ![v666.toNat, 3, 0, 0]
def k0_off227 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c1_i32_221 : BitVec 32 := 1#32
  let v297 : BitVec 32 := Scalar.addi v96 c1_i32_221
  let v298 : BitVec 32 := Scalar.select v296 v297 v96
  let v678 : Index := Scalar.indexCast v298
  let c3_471 : Index := 3#32
  let c0_472 : Index := 0#32
  let c0_473 : Index := 0#32
  ![v678.toNat, 3, 0, 0]
def k0_mult140 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_474 : BitVec 32 := 512#32
  let v683 : BitVec 32 := Scalar.muli v300 c512_i32_474
  v683
def k0_off228 (v92_1 : BitVec 32) (v92_0 : BitVec 32) : Fin 3 → Nat :=
  let c0_475 : Index := 0#32
  let c192_476 : Index := 192#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c512_i32_474 : BitVec 32 := 512#32
  let v683 : BitVec 32 := Scalar.muli v300 c512_i32_474
  let v684 : BitVec 32 := v683
  let v685 : Index := Scalar.indexCast v684
  ![0, 192, v685.toNat]
def k0_off229 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v715 : Index := Scalar.indexCast v500
  let c0_506 : Index := 0#32
  let c0_507 : Index := 0#32
  let c0_508 : Index := 0#32
  ![v715.toNat, 0, 0, 0]
def k0_off230 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v727 : Index := Scalar.indexCast v500
  let c0_513 : Index := 0#32
  let c0_514 : Index := 0#32
  let c0_515 : Index := 0#32
  ![v727.toNat, 0, 0, 0]
def k0_mult141 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_516 : BitVec 32 := 512#32
  let v732 : BitVec 32 := Scalar.muli v502 c512_i32_516
  v732
def k0_off231 (v92_1 : BitVec 32) (v92_0 : BitVec 32) : Fin 3 → Nat :=
  let c0_517 : Index := 0#32
  let c0_518 : Index := 0#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_516 : BitVec 32 := 512#32
  let v732 : BitVec 32 := Scalar.muli v502 c512_i32_516
  let v733 : BitVec 32 := v732
  let v734 : Index := Scalar.indexCast v733
  ![0, 0, v734.toNat]
def k0_off232 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v764 : Index := Scalar.indexCast v500
  let c1_548 : Index := 1#32
  let c0_549 : Index := 0#32
  let c0_550 : Index := 0#32
  ![v764.toNat, 1, 0, 0]
def k0_off233 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v776 : Index := Scalar.indexCast v500
  let c1_555 : Index := 1#32
  let c0_556 : Index := 0#32
  let c0_557 : Index := 0#32
  ![v776.toNat, 1, 0, 0]
def k0_mult142 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_558 : BitVec 32 := 512#32
  let v781 : BitVec 32 := Scalar.muli v502 c512_i32_558
  v781
def k0_off234 (v92_1 : BitVec 32) (v92_0 : BitVec 32) : Fin 3 → Nat :=
  let c0_559 : Index := 0#32
  let c64_560 : Index := 64#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_558 : BitVec 32 := 512#32
  let v781 : BitVec 32 := Scalar.muli v502 c512_i32_558
  let v782 : BitVec 32 := v781
  let v783 : Index := Scalar.indexCast v782
  ![0, 64, v783.toNat]
def k0_off235 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v813 : Index := Scalar.indexCast v500
  let c2_590 : Index := 2#32
  let c0_591 : Index := 0#32
  let c0_592 : Index := 0#32
  ![v813.toNat, 2, 0, 0]
def k0_off236 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v825 : Index := Scalar.indexCast v500
  let c2_597 : Index := 2#32
  let c0_598 : Index := 0#32
  let c0_599 : Index := 0#32
  ![v825.toNat, 2, 0, 0]
def k0_mult143 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_600 : BitVec 32 := 512#32
  let v830 : BitVec 32 := Scalar.muli v502 c512_i32_600
  v830
def k0_off237 (v92_1 : BitVec 32) (v92_0 : BitVec 32) : Fin 3 → Nat :=
  let c0_601 : Index := 0#32
  let c128_602 : Index := 128#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_600 : BitVec 32 := 512#32
  let v830 : BitVec 32 := Scalar.muli v502 c512_i32_600
  let v831 : BitVec 32 := v830
  let v832 : Index := Scalar.indexCast v831
  ![0, 128, v832.toNat]
def k0_off238 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v862 : Index := Scalar.indexCast v500
  let c3_632 : Index := 3#32
  let c0_633 : Index := 0#32
  let c0_634 : Index := 0#32
  ![v862.toNat, 3, 0, 0]
def k0_off239 (v92_1 : BitVec 32) (v92_0 : BitVec 32) : Fin 4 → Nat :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c1_i32_353 : BitVec 32 := 1#32
  let v499 : BitVec 32 := Scalar.addi v298 c1_i32_353
  let v500 : BitVec 32 := Scalar.select v498 v499 v298
  let v874 : Index := Scalar.indexCast v500
  let c3_639 : Index := 3#32
  let c0_640 : Index := 0#32
  let c0_641 : Index := 0#32
  ![v874.toNat, 3, 0, 0]
def k0_mult144 (v92_1 : BitVec 32) (v92_0 : BitVec 32) : BitVec 32 :=
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_642 : BitVec 32 := 512#32
  let v879 : BitVec 32 := Scalar.muli v502 c512_i32_642
  v879
def k0_off240 (v92_1 : BitVec 32) (v92_0 : BitVec 32) : Fin 3 → Nat :=
  let c0_643 : Index := 0#32
  let c192_644 : Index := 192#32
  let c1_i32_90 : BitVec 32 := 1#32
  let v93 : BitVec 32 := Scalar.addi v92_1 c1_i32_90
  let v94 : BitVec 1 := Scalar.cmpi .eq v93 v92_0
  let c0_i32_93 : BitVec 32 := 0#32
  let c1_i32_92 : BitVec 32 := 1#32
  let v97 : BitVec 32 := Scalar.addi v92_1 c1_i32_92
  let v98 : BitVec 32 := Scalar.select v94 c0_i32_93 v97
  let c1_i32_220 : BitVec 32 := 1#32
  let v295 : BitVec 32 := Scalar.addi v98 c1_i32_220
  let c1_i32_91 : BitVec 32 := 1#32
  let v95 : BitVec 32 := Scalar.addi v92_0 c1_i32_91
  let v96 : BitVec 32 := Scalar.select v94 v95 v92_0
  let v296 : BitVec 1 := Scalar.cmpi .eq v295 v96
  let c0_i32_223 : BitVec 32 := 0#32
  let c1_i32_222 : BitVec 32 := 1#32
  let v299 : BitVec 32 := Scalar.addi v98 c1_i32_222
  let v300 : BitVec 32 := Scalar.select v296 c0_i32_223 v299
  let c1_i32_352 : BitVec 32 := 1#32
  let v497 : BitVec 32 := Scalar.addi v300 c1_i32_352
  let c1_i32_221 : BitVec 32 := 1#32
  let v297 : BitVec 32 := Scalar.addi v96 c1_i32_221
  let v298 : BitVec 32 := Scalar.select v296 v297 v96
  let v498 : BitVec 1 := Scalar.cmpi .eq v497 v298
  let c0_i32_355 : BitVec 32 := 0#32
  let c1_i32_354 : BitVec 32 := 1#32
  let v501 : BitVec 32 := Scalar.addi v300 c1_i32_354
  let v502 : BitVec 32 := Scalar.select v498 c0_i32_355 v501
  let c512_i32_642 : BitVec 32 := 512#32
  let v879 : BitVec 32 := Scalar.muli v502 c512_i32_642
  let v880 : BitVec 32 := v879
  let v881 : Index := Scalar.indexCast v880
  ![0, 192, v881.toNat]

def k0_chk3_0 (v92_1 : BitVec 32) (v92_0 : BitVec 32) : Prop :=
  (512 ∣ (k0_mult105 v92_1 v92_0).toNat) ∧
  (∀ a, (k0_off169 v92_1 v92_0) a + S1x512x128.size a ≤ S1x4096x512.size a) ∧
  (512 ∣ (k0_mult106 v92_1 v92_0).toNat) ∧
  (∀ a, (k0_off170 v92_1 v92_0) a + S1x128x512.size a ≤ S1x512x4096.size a) ∧
  (∀ a, (k0_off171 v92_0) a + S1x1x1x512.size a ≤ S8x4x1x512.size a) ∧
  (∀ a, (k0_off172 v92_0) a + S1x1x80x512.size a ≤ S8x4x80x512.size a) ∧
  (512 ∣ (k0_mult108 v92_1 v92_0).toNat) ∧
  (∀ a, (k0_off174 v92_1 v92_0) a + S1x512x128.size a ≤ S1x4096x512.size a) ∧
  (512 ∣ (k0_mult109 v92_1 v92_0).toNat) ∧
  (∀ a, (k0_off175 v92_1 v92_0) a + S1x128x512.size a ≤ S1x512x4096.size a) ∧
  (∀ a, (k0_off176 v92_0) a + S1x1x1x512.size a ≤ S8x4x1x512.size a) ∧
  (∀ a, (k0_off177 v92_0) a + S1x1x80x512.size a ≤ S8x4x80x512.size a) ∧
  (512 ∣ (k0_mult111 v92_1 v92_0).toNat) ∧
  (∀ a, (k0_off179 v92_1 v92_0) a + S1x512x128.size a ≤ S1x4096x512.size a) ∧
  (512 ∣ (k0_mult112 v92_1 v92_0).toNat) ∧
  (∀ a, (k0_off180 v92_1 v92_0) a + S1x128x512.size a ≤ S1x512x4096.size a) ∧
  (∀ a, (k0_off181 v92_0) a + S1x1x1x512.size a ≤ S8x4x1x512.size a) ∧
  (∀ a, (k0_off182 v92_0) a + S1x1x80x512.size a ≤ S8x4x80x512.size a) ∧
  (512 ∣ (k0_mult114 v92_1 v92_0).toNat) ∧
  (∀ a, (k0_off184 v92_1 v92_0) a + S1x512x128.size a ≤ S1x4096x512.size a) ∧
  (512 ∣ (k0_mult115 v92_1 v92_0).toNat) ∧
  (∀ a, (k0_off185 v92_1 v92_0) a + S1x128x512.size a ≤ S1x512x4096.size a) ∧
  (∀ a, (k0_off186 v92_0) a + S1x1x1x512.size a ≤ S8x4x1x512.size a) ∧
  (∀ a, (k0_off187 v92_0) a + S1x1x80x512.size a ≤ S8x4x80x512.size a) ∧
  (512 ∣ (k0_mult117 v92_1 v92_0).toNat) ∧
  (∀ a, (k0_off189 v92_1 v92_0) a + S1x512x128.size a ≤ S1x4096x512.size a) ∧
  (512 ∣ (k0_mult118 v92_1 v92_0).toNat) ∧
  (∀ a, (k0_off190 v92_1 v92_0) a + S1x128x512.size a ≤ S1x512x4096.size a) ∧
  (∀ a, (k0_off191 v92_1 v92_0) a + S1x1x1x512.size a ≤ S8x4x1x512.size a) ∧
  (∀ a, (k0_off192 v92_1 v92_0) a + S1x1x80x512.size a ≤ S8x4x80x512.size a) ∧
  (512 ∣ (k0_mult119 v92_1 v92_0).toNat) ∧
  (∀ a, (k0_off193 v92_1 v92_0) a + S1x64x512.size a ≤ S1x256x4096.size a)
def k0_chk3_1 (v92_1 : BitVec 32) (v92_0 : BitVec 32) : Prop :=
  (512 ∣ (k0_mult120 v92_1 v92_0).toNat) ∧
  (∀ a, (k0_off194 v92_1 v92_0) a + S1x512x128.size a ≤ S1x4096x512.size a) ∧
  (512 ∣ (k0_mult121 v92_1 v92_0).toNat) ∧
  (∀ a, (k0_off195 v92_1 v92_0) a + S1x128x512.size a ≤ S1x512x4096.size a) ∧
  (∀ a, (k0_off196 v92_1 v92_0) a + S1x1x1x512.size a ≤ S8x4x1x512.size a) ∧
  (∀ a, (k0_off197 v92_1 v92_0) a + S1x1x80x512.size a ≤ S8x4x80x512.size a) ∧
  (512 ∣ (k0_mult122 v92_1 v92_0).toNat) ∧
  (∀ a, (k0_off198 v92_1 v92_0) a + S1x64x512.size a ≤ S1x256x4096.size a) ∧
  (512 ∣ (k0_mult123 v92_1 v92_0).toNat) ∧
  (∀ a, (k0_off199 v92_1 v92_0) a + S1x512x128.size a ≤ S1x4096x512.size a) ∧
  (512 ∣ (k0_mult124 v92_1 v92_0).toNat) ∧
  (∀ a, (k0_off200 v92_1 v92_0) a + S1x128x512.size a ≤ S1x512x4096.size a) ∧
  (∀ a, (k0_off201 v92_1 v92_0) a + S1x1x1x512.size a ≤ S8x4x1x512.size a) ∧
  (∀ a, (k0_off202 v92_1 v92_0) a + S1x1x80x512.size a ≤ S8x4x80x512.size a) ∧
  (512 ∣ (k0_mult125 v92_1 v92_0).toNat) ∧
  (∀ a, (k0_off203 v92_1 v92_0) a + S1x64x512.size a ≤ S1x256x4096.size a) ∧
  (512 ∣ (k0_mult126 v92_1 v92_0).toNat) ∧
  (∀ a, (k0_off204 v92_1 v92_0) a + S1x512x128.size a ≤ S1x4096x512.size a) ∧
  (512 ∣ (k0_mult127 v92_1 v92_0).toNat) ∧
  (∀ a, (k0_off205 v92_1 v92_0) a + S1x128x512.size a ≤ S1x512x4096.size a) ∧
  (∀ a, (k0_off206 v92_1 v92_0) a + S1x1x1x512.size a ≤ S8x4x1x512.size a) ∧
  (∀ a, (k0_off207 v92_1 v92_0) a + S1x1x80x512.size a ≤ S8x4x80x512.size a) ∧
  (512 ∣ (k0_mult128 v92_1 v92_0).toNat) ∧
  (∀ a, (k0_off208 v92_1 v92_0) a + S1x64x512.size a ≤ S1x256x4096.size a) ∧
  (512 ∣ (k0_mult129 v92_1 v92_0).toNat) ∧
  (∀ a, (k0_off209 v92_1 v92_0) a + S1x512x128.size a ≤ S1x4096x512.size a) ∧
  (512 ∣ (k0_mult130 v92_1 v92_0).toNat) ∧
  (∀ a, (k0_off210 v92_1 v92_0) a + S1x128x512.size a ≤ S1x512x4096.size a) ∧
  (∀ a, (k0_off211 v92_1 v92_0) a + S1x1x1x512.size a ≤ S8x4x1x512.size a) ∧
  (∀ a, (k0_off212 v92_1 v92_0) a + S1x1x80x512.size a ≤ S8x4x80x512.size a) ∧
  (512 ∣ (k0_mult131 v92_1 v92_0).toNat) ∧
  (∀ a, (k0_off213 v92_1 v92_0) a + S1x64x512.size a ≤ S1x256x4096.size a)
def k0_chk3_2 (v92_1 : BitVec 32) (v92_0 : BitVec 32) : Prop :=
  (512 ∣ (k0_mult132 v92_1 v92_0).toNat) ∧
  (∀ a, (k0_off214 v92_1 v92_0) a + S1x512x128.size a ≤ S1x4096x512.size a) ∧
  (512 ∣ (k0_mult133 v92_1 v92_0).toNat) ∧
  (∀ a, (k0_off215 v92_1 v92_0) a + S1x128x512.size a ≤ S1x512x4096.size a) ∧
  (∀ a, (k0_off216 v92_1 v92_0) a + S1x1x1x512.size a ≤ S8x4x1x512.size a) ∧
  (∀ a, (k0_off217 v92_1 v92_0) a + S1x1x80x512.size a ≤ S8x4x80x512.size a) ∧
  (512 ∣ (k0_mult134 v92_1 v92_0).toNat) ∧
  (∀ a, (k0_off218 v92_1 v92_0) a + S1x64x512.size a ≤ S1x256x4096.size a) ∧
  (512 ∣ (k0_mult135 v92_1 v92_0).toNat) ∧
  (∀ a, (k0_off219 v92_1 v92_0) a + S1x512x128.size a ≤ S1x4096x512.size a) ∧
  (512 ∣ (k0_mult136 v92_1 v92_0).toNat) ∧
  (∀ a, (k0_off220 v92_1 v92_0) a + S1x128x512.size a ≤ S1x512x4096.size a) ∧
  (∀ a, (k0_off221 v92_1 v92_0) a + S1x1x1x512.size a ≤ S8x4x1x512.size a) ∧
  (∀ a, (k0_off222 v92_1 v92_0) a + S1x1x80x512.size a ≤ S8x4x80x512.size a) ∧
  (512 ∣ (k0_mult137 v92_1 v92_0).toNat) ∧
  (∀ a, (k0_off223 v92_1 v92_0) a + S1x64x512.size a ≤ S1x256x4096.size a) ∧
  (512 ∣ (k0_mult138 v92_1 v92_0).toNat) ∧
  (∀ a, (k0_off224 v92_1 v92_0) a + S1x512x128.size a ≤ S1x4096x512.size a) ∧
  (512 ∣ (k0_mult139 v92_1 v92_0).toNat) ∧
  (∀ a, (k0_off225 v92_1 v92_0) a + S1x128x512.size a ≤ S1x512x4096.size a) ∧
  (∀ a, (k0_off226 v92_1 v92_0) a + S1x1x1x512.size a ≤ S8x4x1x512.size a) ∧
  (∀ a, (k0_off227 v92_1 v92_0) a + S1x1x80x512.size a ≤ S8x4x80x512.size a) ∧
  (512 ∣ (k0_mult140 v92_1 v92_0).toNat) ∧
  (∀ a, (k0_off228 v92_1 v92_0) a + S1x64x512.size a ≤ S1x256x4096.size a) ∧
  (∀ a, (k0_off229 v92_1 v92_0) a + S1x1x1x512.size a ≤ S8x4x1x512.size a) ∧
  (∀ a, (k0_off230 v92_1 v92_0) a + S1x1x80x512.size a ≤ S8x4x80x512.size a) ∧
  (512 ∣ (k0_mult141 v92_1 v92_0).toNat) ∧
  (∀ a, (k0_off231 v92_1 v92_0) a + S1x64x512.size a ≤ S1x256x4096.size a) ∧
  (∀ a, (k0_off232 v92_1 v92_0) a + S1x1x1x512.size a ≤ S8x4x1x512.size a) ∧
  (∀ a, (k0_off233 v92_1 v92_0) a + S1x1x80x512.size a ≤ S8x4x80x512.size a) ∧
  (512 ∣ (k0_mult142 v92_1 v92_0).toNat) ∧
  (∀ a, (k0_off234 v92_1 v92_0) a + S1x64x512.size a ≤ S1x256x4096.size a)
def k0_chk3_3 (v92_1 : BitVec 32) (v92_0 : BitVec 32) : Prop :=
  (∀ a, (k0_off235 v92_1 v92_0) a + S1x1x1x512.size a ≤ S8x4x1x512.size a) ∧
  (∀ a, (k0_off236 v92_1 v92_0) a + S1x1x80x512.size a ≤ S8x4x80x512.size a) ∧
  (512 ∣ (k0_mult143 v92_1 v92_0).toNat) ∧
  (∀ a, (k0_off237 v92_1 v92_0) a + S1x64x512.size a ≤ S1x256x4096.size a) ∧
  (∀ a, (k0_off238 v92_1 v92_0) a + S1x1x1x512.size a ≤ S8x4x1x512.size a) ∧
  (∀ a, (k0_off239 v92_1 v92_0) a + S1x1x80x512.size a ≤ S8x4x80x512.size a) ∧
  (512 ∣ (k0_mult144 v92_1 v92_0).toNat) ∧
  (∀ a, (k0_off240 v92_1 v92_0) a + S1x64x512.size a ≤ S1x256x4096.size a)
def k0_chk3 (v92_1 : BitVec 32) (v92_0 : BitVec 32) : Prop :=
  k0_chk3_0 v92_1 v92_0 ∧
  k0_chk3_1 v92_1 v92_0 ∧
  k0_chk3_2 v92_1 v92_0 ∧
  k0_chk3_3 v92_1 v92_0
theorem k0_mult105_dvd : ∀ (v92_1 : BitVec 32) (v92_0 : BitVec 32) (k0_hw3 : k0_chk3 v92_1 v92_0), 512 ∣ (k0_mult105 v92_1 v92_0).toNat := fun v92_1 v92_0 k0_hw3 => k0_hw3.1.1
theorem k0_off169_inb : ∀ (v92_1 : BitVec 32) (v92_0 : BitVec 32) (k0_hw3 : k0_chk3 v92_1 v92_0), ∀ a, (k0_off169 v92_1 v92_0) a + S1x512x128.size a ≤ S1x4096x512.size a := fun v92_1 v92_0 k0_hw3 => k0_hw3.1.2.1
theorem k0_mult106_dvd : ∀ (v92_1 : BitVec 32) (v92_0 : BitVec 32) (k0_hw3 : k0_chk3 v92_1 v92_0), 512 ∣ (k0_mult106 v92_1 v92_0).toNat := fun v92_1 v92_0 k0_hw3 => k0_hw3.1.2.2.1
theorem k0_off170_inb : ∀ (v92_1 : BitVec 32) (v92_0 : BitVec 32) (k0_hw3 : k0_chk3 v92_1 v92_0), ∀ a, (k0_off170 v92_1 v92_0) a + S1x128x512.size a ≤ S1x512x4096.size a := fun v92_1 v92_0 k0_hw3 => k0_hw3.1.2.2.2.1
theorem k0_off171_inb : ∀ (v92_1 : BitVec 32) (v92_0 : BitVec 32) (k0_hw3 : k0_chk3 v92_1 v92_0), ∀ a, (k0_off171 v92_0) a + S1x1x1x512.size a ≤ S8x4x1x512.size a := fun v92_1 v92_0 k0_hw3 => k0_hw3.1.2.2.2.2.1
theorem k0_off172_inb : ∀ (v92_1 : BitVec 32) (v92_0 : BitVec 32) (k0_hw3 : k0_chk3 v92_1 v92_0), ∀ a, (k0_off172 v92_0) a + S1x1x80x512.size a ≤ S8x4x80x512.size a := fun v92_1 v92_0 k0_hw3 => k0_hw3.1.2.2.2.2.2.1
theorem k0_mult108_dvd : ∀ (v92_1 : BitVec 32) (v92_0 : BitVec 32) (k0_hw3 : k0_chk3 v92_1 v92_0), 512 ∣ (k0_mult108 v92_1 v92_0).toNat := fun v92_1 v92_0 k0_hw3 => k0_hw3.1.2.2.2.2.2.2.1
theorem k0_off174_inb : ∀ (v92_1 : BitVec 32) (v92_0 : BitVec 32) (k0_hw3 : k0_chk3 v92_1 v92_0), ∀ a, (k0_off174 v92_1 v92_0) a + S1x512x128.size a ≤ S1x4096x512.size a := fun v92_1 v92_0 k0_hw3 => k0_hw3.1.2.2.2.2.2.2.2.1
theorem k0_mult109_dvd : ∀ (v92_1 : BitVec 32) (v92_0 : BitVec 32) (k0_hw3 : k0_chk3 v92_1 v92_0), 512 ∣ (k0_mult109 v92_1 v92_0).toNat := fun v92_1 v92_0 k0_hw3 => k0_hw3.1.2.2.2.2.2.2.2.2.1
theorem k0_off175_inb : ∀ (v92_1 : BitVec 32) (v92_0 : BitVec 32) (k0_hw3 : k0_chk3 v92_1 v92_0), ∀ a, (k0_off175 v92_1 v92_0) a + S1x128x512.size a ≤ S1x512x4096.size a := fun v92_1 v92_0 k0_hw3 => k0_hw3.1.2.2.2.2.2.2.2.2.2.1
theorem k0_off176_inb : ∀ (v92_1 : BitVec 32) (v92_0 : BitVec 32) (k0_hw3 : k0_chk3 v92_1 v92_0), ∀ a, (k0_off176 v92_0) a + S1x1x1x512.size a ≤ S8x4x1x512.size a := fun v92_1 v92_0 k0_hw3 => k0_hw3.1.2.2.2.2.2.2.2.2.2.2.1
theorem k0_off177_inb : ∀ (v92_1 : BitVec 32) (v92_0 : BitVec 32) (k0_hw3 : k0_chk3 v92_1 v92_0), ∀ a, (k0_off177 v92_0) a + S1x1x80x512.size a ≤ S8x4x80x512.size a := fun v92_1 v92_0 k0_hw3 => k0_hw3.1.2.2.2.2.2.2.2.2.2.2.2.1
theorem k0_mult111_dvd : ∀ (v92_1 : BitVec 32) (v92_0 : BitVec 32) (k0_hw3 : k0_chk3 v92_1 v92_0), 512 ∣ (k0_mult111 v92_1 v92_0).toNat := fun v92_1 v92_0 k0_hw3 => k0_hw3.1.2.2.2.2.2.2.2.2.2.2.2.2.1
theorem k0_off179_inb : ∀ (v92_1 : BitVec 32) (v92_0 : BitVec 32) (k0_hw3 : k0_chk3 v92_1 v92_0), ∀ a, (k0_off179 v92_1 v92_0) a + S1x512x128.size a ≤ S1x4096x512.size a := fun v92_1 v92_0 k0_hw3 => k0_hw3.1.2.2.2.2.2.2.2.2.2.2.2.2.2.1
theorem k0_mult112_dvd : ∀ (v92_1 : BitVec 32) (v92_0 : BitVec 32) (k0_hw3 : k0_chk3 v92_1 v92_0), 512 ∣ (k0_mult112 v92_1 v92_0).toNat := fun v92_1 v92_0 k0_hw3 => k0_hw3.1.2.2.2.2.2.2.2.2.2.2.2.2.2.2.1
theorem k0_off180_inb : ∀ (v92_1 : BitVec 32) (v92_0 : BitVec 32) (k0_hw3 : k0_chk3 v92_1 v92_0), ∀ a, (k0_off180 v92_1 v92_0) a + S1x128x512.size a ≤ S1x512x4096.size a := fun v92_1 v92_0 k0_hw3 => k0_hw3.1.2.2.2.2.2.2.2.2.2.2.2.2.2.2.2.1
theorem k0_off181_inb : ∀ (v92_1 : BitVec 32) (v92_0 : BitVec 32) (k0_hw3 : k0_chk3 v92_1 v92_0), ∀ a, (k0_off181 v92_0) a + S1x1x1x512.size a ≤ S8x4x1x512.size a := fun v92_1 v92_0 k0_hw3 => k0_hw3.1.2.2.2.2.2.2.2.2.2.2.2.2.2.2.2.2.1
theorem k0_off182_inb : ∀ (v92_1 : BitVec 32) (v92_0 : BitVec 32) (k0_hw3 : k0_chk3 v92_1 v92_0), ∀ a, (k0_off182 v92_0) a + S1x1x80x512.size a ≤ S8x4x80x512.size a := fun v92_1 v92_0 k0_hw3 => k0_hw3.1.2.2.2.2.2.2.2.2.2.2.2.2.2.2.2.2.2.1
theorem k0_mult114_dvd : ∀ (v92_1 : BitVec 32) (v92_0 : BitVec 32) (k0_hw3 : k0_chk3 v92_1 v92_0), 512 ∣ (k0_mult114 v92_1 v92_0).toNat := fun v92_1 v92_0 k0_hw3 => k0_hw3.1.2.2.2.2.2.2.2.2.2.2.2.2.2.2.2.2.2.2.1
theorem k0_off184_inb : ∀ (v92_1 : BitVec 32) (v92_0 : BitVec 32) (k0_hw3 : k0_chk3 v92_1 v92_0), ∀ a, (k0_off184 v92_1 v92_0) a + S1x512x128.size a ≤ S1x4096x512.size a := fun v92_1 v92_0 k0_hw3 => k0_hw3.1.2.2.2.2.2.2.2.2.2.2.2.2.2.2.2.2.2.2.2.1
theorem k0_mult115_dvd : ∀ (v92_1 : BitVec 32) (v92_0 : BitVec 32) (k0_hw3 : k0_chk3 v92_1 v92_0), 512 ∣ (k0_mult115 v92_1 v92_0).toNat := fun v92_1 v92_0 k0_hw3 => k0_hw3.1.2.2.2.2.2.2.2.2.2.2.2.2.2.2.2.2.2.2.2.2.1
theorem k0_off185_inb : ∀ (v92_1 : BitVec 32) (v92_0 : BitVec 32) (k0_hw3 : k0_chk3 v92_1 v92_0), ∀ a, (k0_off185 v92_1 v92_0) a + S1x128x512.size a ≤ S1x512x4096.size a := fun v92_1 v92_0 k0_hw3 => k0_hw3.1.2.2.2.2.2.2.2.2.2.2.2.2.2.2.2.2.2.2.2.2.2.1
theorem k0_off186_inb : ∀ (v92_1 : BitVec 32) (v92_0 : BitVec 32) (k0_hw3 : k0_chk3 v92_1 v92_0), ∀ a, (k0_off186 v92_0) a + S1x1x1x512.size a ≤ S8x4x1x512.size a := fun v92_1 v92_0 k0_hw3 => k0_hw3.1.2.2.2.2.2.2.2.2.2.2.2.2.2.2.2.2.2.2.2.2.2.2.1
theorem k0_off187_inb : ∀ (v92_1 : BitVec 32) (v92_0 : BitVec 32) (k0_hw3 : k0_chk3 v92_1 v92_0), ∀ a, (k0_off187 v92_0) a + S1x1x80x512.size a ≤ S8x4x80x512.size a := fun v92_1 v92_0 k0_hw3 => k0_hw3.1.2.2.2.2.2.2.2.2.2.2.2.2.2.2.2.2.2.2.2.2.2.2.2.1
theorem k0_mult117_dvd : ∀ (v92_1 : BitVec 32) (v92_0 : BitVec 32) (k0_hw3 : k0_chk3 v92_1 v92_0), 512 ∣ (k0_mult117 v92_1 v92_0).toNat := fun v92_1 v92_0 k0_hw3 => k0_hw3.1.2.2.2.2.2.2.2.2.2.2.2.2.2.2.2.2.2.2.2.2.2.2.2.2.1
theorem k0_off189_inb : ∀ (v92_1 : BitVec 32) (v92_0 : BitVec 32) (k0_hw3 : k0_chk3 v92_1 v92_0), ∀ a, (k0_off189 v92_1 v92_0) a + S1x512x128.size a ≤ S1x4096x512.size a := fun v92_1 v92_0 k0_hw3 => k0_hw3.1.2.2.2.2.2.2.2.2.2.2.2.2.2.2.2.2.2.2.2.2.2.2.2.2.2.1
theorem k0_mult118_dvd : ∀ (v92_1 : BitVec 32) (v92_0 : BitVec 32) (k0_hw3 : k0_chk3 v92_1 v92_0), 512 ∣ (k0_mult118 v92_1 v92_0).toNat := fun v92_1 v92_0 k0_hw3 => k0_hw3.1.2.2.2.2.2.2.2.2.2.2.2.2.2.2.2.2.2.2.2.2.2.2.2.2.2.2.1
theorem k0_off190_inb : ∀ (v92_1 : BitVec 32) (v92_0 : BitVec 32) (k0_hw3 : k0_chk3 v92_1 v92_0), ∀ a, (k0_off190 v92_1 v92_0) a + S1x128x512.size a ≤ S1x512x4096.size a := fun v92_1 v92_0 k0_hw3 => k0_hw3.1.2.2.2.2.2.2.2.2.2.2.2.2.2.2.2.2.2.2.2.2.2.2.2.2.2.2.2.1
theorem k0_off191_inb : ∀ (v92_1 : BitVec 32) (v92_0 : BitVec 32) (k0_hw3 : k0_chk3 v92_1 v92_0), ∀ a, (k0_off191 v92_1 v92_0) a + S1x1x1x512.size a ≤ S8x4x1x512.size a := fun v92_1 v92_0 k0_hw3 => k0_hw3.1.2.2.2.2.2.2.2.2.2.2.2.2.2.2.2.2.2.2.2.2.2.2.2.2.2.2.2.2.1
theorem k0_off192_inb : ∀ (v92_1 : BitVec 32) (v92_0 : BitVec 32) (k0_hw3 : k0_chk3 v92_1 v92_0), ∀ a, (k0_off192 v92_1 v92_0) a + S1x1x80x512.size a ≤ S8x4x80x512.size a := fun v92_1 v92_0 k0_hw3 => k0_hw3.1.2.2.2.2.2.2.2.2.2.2.2.2.2.2.2.2.2.2.2.2.2.2.2.2.2.2.2.2.2.1
theorem k0_mult119_dvd : ∀ (v92_1 : BitVec 32) (v92_0 : BitVec 32) (k0_hw3 : k0_chk3 v92_1 v92_0), 512 ∣ (k0_mult119 v92_1 v92_0).toNat := fun v92_1 v92_0 k0_hw3 => k0_hw3.1.2.2.2.2.2.2.2.2.2.2.2.2.2.2.2.2.2.2.2.2.2.2.2.2.2.2.2.2.2.2.1
theorem k0_off193_inb : ∀ (v92_1 : BitVec 32) (v92_0 : BitVec 32) (k0_hw3 : k0_chk3 v92_1 v92_0), ∀ a, (k0_off193 v92_1 v92_0) a + S1x64x512.size a ≤ S1x256x4096.size a := fun v92_1 v92_0 k0_hw3 => k0_hw3.1.2.2.2.2.2.2.2.2.2.2.2.2.2.2.2.2.2.2.2.2.2.2.2.2.2.2.2.2.2.2.2
theorem k0_mult120_dvd : ∀ (v92_1 : BitVec 32) (v92_0 : BitVec 32) (k0_hw3 : k0_chk3 v92_1 v92_0), 512 ∣ (k0_mult120 v92_1 v92_0).toNat := fun v92_1 v92_0 k0_hw3 => k0_hw3.2.1.1
theorem k0_off194_inb : ∀ (v92_1 : BitVec 32) (v92_0 : BitVec 32) (k0_hw3 : k0_chk3 v92_1 v92_0), ∀ a, (k0_off194 v92_1 v92_0) a + S1x512x128.size a ≤ S1x4096x512.size a := fun v92_1 v92_0 k0_hw3 => k0_hw3.2.1.2.1
theorem k0_mult121_dvd : ∀ (v92_1 : BitVec 32) (v92_0 : BitVec 32) (k0_hw3 : k0_chk3 v92_1 v92_0), 512 ∣ (k0_mult121 v92_1 v92_0).toNat := fun v92_1 v92_0 k0_hw3 => k0_hw3.2.1.2.2.1
theorem k0_off195_inb : ∀ (v92_1 : BitVec 32) (v92_0 : BitVec 32) (k0_hw3 : k0_chk3 v92_1 v92_0), ∀ a, (k0_off195 v92_1 v92_0) a + S1x128x512.size a ≤ S1x512x4096.size a := fun v92_1 v92_0 k0_hw3 => k0_hw3.2.1.2.2.2.1
theorem k0_off196_inb : ∀ (v92_1 : BitVec 32) (v92_0 : BitVec 32) (k0_hw3 : k0_chk3 v92_1 v92_0), ∀ a, (k0_off196 v92_1 v92_0) a + S1x1x1x512.size a ≤ S8x4x1x512.size a := fun v92_1 v92_0 k0_hw3 => k0_hw3.2.1.2.2.2.2.1
theorem k0_off197_inb : ∀ (v92_1 : BitVec 32) (v92_0 : BitVec 32) (k0_hw3 : k0_chk3 v92_1 v92_0), ∀ a, (k0_off197 v92_1 v92_0) a + S1x1x80x512.size a ≤ S8x4x80x512.size a := fun v92_1 v92_0 k0_hw3 => k0_hw3.2.1.2.2.2.2.2.1
theorem k0_mult122_dvd : ∀ (v92_1 : BitVec 32) (v92_0 : BitVec 32) (k0_hw3 : k0_chk3 v92_1 v92_0), 512 ∣ (k0_mult122 v92_1 v92_0).toNat := fun v92_1 v92_0 k0_hw3 => k0_hw3.2.1.2.2.2.2.2.2.1
theorem k0_off198_inb : ∀ (v92_1 : BitVec 32) (v92_0 : BitVec 32) (k0_hw3 : k0_chk3 v92_1 v92_0), ∀ a, (k0_off198 v92_1 v92_0) a + S1x64x512.size a ≤ S1x256x4096.size a := fun v92_1 v92_0 k0_hw3 => k0_hw3.2.1.2.2.2.2.2.2.2.1
theorem k0_mult123_dvd : ∀ (v92_1 : BitVec 32) (v92_0 : BitVec 32) (k0_hw3 : k0_chk3 v92_1 v92_0), 512 ∣ (k0_mult123 v92_1 v92_0).toNat := fun v92_1 v92_0 k0_hw3 => k0_hw3.2.1.2.2.2.2.2.2.2.2.1
theorem k0_off199_inb : ∀ (v92_1 : BitVec 32) (v92_0 : BitVec 32) (k0_hw3 : k0_chk3 v92_1 v92_0), ∀ a, (k0_off199 v92_1 v92_0) a + S1x512x128.size a ≤ S1x4096x512.size a := fun v92_1 v92_0 k0_hw3 => k0_hw3.2.1.2.2.2.2.2.2.2.2.2.1
theorem k0_mult124_dvd : ∀ (v92_1 : BitVec 32) (v92_0 : BitVec 32) (k0_hw3 : k0_chk3 v92_1 v92_0), 512 ∣ (k0_mult124 v92_1 v92_0).toNat := fun v92_1 v92_0 k0_hw3 => k0_hw3.2.1.2.2.2.2.2.2.2.2.2.2.1
theorem k0_off200_inb : ∀ (v92_1 : BitVec 32) (v92_0 : BitVec 32) (k0_hw3 : k0_chk3 v92_1 v92_0), ∀ a, (k0_off200 v92_1 v92_0) a + S1x128x512.size a ≤ S1x512x4096.size a := fun v92_1 v92_0 k0_hw3 => k0_hw3.2.1.2.2.2.2.2.2.2.2.2.2.2.1
theorem k0_off201_inb : ∀ (v92_1 : BitVec 32) (v92_0 : BitVec 32) (k0_hw3 : k0_chk3 v92_1 v92_0), ∀ a, (k0_off201 v92_1 v92_0) a + S1x1x1x512.size a ≤ S8x4x1x512.size a := fun v92_1 v92_0 k0_hw3 => k0_hw3.2.1.2.2.2.2.2.2.2.2.2.2.2.2.1
theorem k0_off202_inb : ∀ (v92_1 : BitVec 32) (v92_0 : BitVec 32) (k0_hw3 : k0_chk3 v92_1 v92_0), ∀ a, (k0_off202 v92_1 v92_0) a + S1x1x80x512.size a ≤ S8x4x80x512.size a := fun v92_1 v92_0 k0_hw3 => k0_hw3.2.1.2.2.2.2.2.2.2.2.2.2.2.2.2.1
theorem k0_mult125_dvd : ∀ (v92_1 : BitVec 32) (v92_0 : BitVec 32) (k0_hw3 : k0_chk3 v92_1 v92_0), 512 ∣ (k0_mult125 v92_1 v92_0).toNat := fun v92_1 v92_0 k0_hw3 => k0_hw3.2.1.2.2.2.2.2.2.2.2.2.2.2.2.2.2.1
theorem k0_off203_inb : ∀ (v92_1 : BitVec 32) (v92_0 : BitVec 32) (k0_hw3 : k0_chk3 v92_1 v92_0), ∀ a, (k0_off203 v92_1 v92_0) a + S1x64x512.size a ≤ S1x256x4096.size a := fun v92_1 v92_0 k0_hw3 => k0_hw3.2.1.2.2.2.2.2.2.2.2.2.2.2.2.2.2.2.1
theorem k0_mult126_dvd : ∀ (v92_1 : BitVec 32) (v92_0 : BitVec 32) (k0_hw3 : k0_chk3 v92_1 v92_0), 512 ∣ (k0_mult126 v92_1 v92_0).toNat := fun v92_1 v92_0 k0_hw3 => k0_hw3.2.1.2.2.2.2.2.2.2.2.2.2.2.2.2.2.2.2.1
theorem k0_off204_inb : ∀ (v92_1 : BitVec 32) (v92_0 : BitVec 32) (k0_hw3 : k0_chk3 v92_1 v92_0), ∀ a, (k0_off204 v92_1 v92_0) a + S1x512x128.size a ≤ S1x4096x512.size a := fun v92_1 v92_0 k0_hw3 => k0_hw3.2.1.2.2.2.2.2.2.2.2.2.2.2.2.2.2.2.2.2.1
theorem k0_mult127_dvd : ∀ (v92_1 : BitVec 32) (v92_0 : BitVec 32) (k0_hw3 : k0_chk3 v92_1 v92_0), 512 ∣ (k0_mult127 v92_1 v92_0).toNat := fun v92_1 v92_0 k0_hw3 => k0_hw3.2.1.2.2.2.2.2.2.2.2.2.2.2.2.2.2.2.2.2.2.1
theorem k0_off205_inb : ∀ (v92_1 : BitVec 32) (v92_0 : BitVec 32) (k0_hw3 : k0_chk3 v92_1 v92_0), ∀ a, (k0_off205 v92_1 v92_0) a + S1x128x512.size a ≤ S1x512x4096.size a := fun v92_1 v92_0 k0_hw3 => k0_hw3.2.1.2.2.2.2.2.2.2.2.2.2.2.2.2.2.2.2.2.2.2.1
theorem k0_off206_inb : ∀ (v92_1 : BitVec 32) (v92_0 : BitVec 32) (k0_hw3 : k0_chk3 v92_1 v92_0), ∀ a, (k0_off206 v92_1 v92_0) a + S1x1x1x512.size a ≤ S8x4x1x512.size a := fun v92_1 v92_0 k0_hw3 => k0_hw3.2.1.2.2.2.2.2.2.2.2.2.2.2.2.2.2.2.2.2.2.2.2.1
theorem k0_off207_inb : ∀ (v92_1 : BitVec 32) (v92_0 : BitVec 32) (k0_hw3 : k0_chk3 v92_1 v92_0), ∀ a, (k0_off207 v92_1 v92_0) a + S1x1x80x512.size a ≤ S8x4x80x512.size a := fun v92_1 v92_0 k0_hw3 => k0_hw3.2.1.2.2.2.2.2.2.2.2.2.2.2.2.2.2.2.2.2.2.2.2.2.1
theorem k0_mult128_dvd : ∀ (v92_1 : BitVec 32) (v92_0 : BitVec 32) (k0_hw3 : k0_chk3 v92_1 v92_0), 512 ∣ (k0_mult128 v92_1 v92_0).toNat := fun v92_1 v92_0 k0_hw3 => k0_hw3.2.1.2.2.2.2.2.2.2.2.2.2.2.2.2.2.2.2.2.2.2.2.2.2.1
theorem k0_off208_inb : ∀ (v92_1 : BitVec 32) (v92_0 : BitVec 32) (k0_hw3 : k0_chk3 v92_1 v92_0), ∀ a, (k0_off208 v92_1 v92_0) a + S1x64x512.size a ≤ S1x256x4096.size a := fun v92_1 v92_0 k0_hw3 => k0_hw3.2.1.2.2.2.2.2.2.2.2.2.2.2.2.2.2.2.2.2.2.2.2.2.2.2.1
theorem k0_mult129_dvd : ∀ (v92_1 : BitVec 32) (v92_0 : BitVec 32) (k0_hw3 : k0_chk3 v92_1 v92_0), 512 ∣ (k0_mult129 v92_1 v92_0).toNat := fun v92_1 v92_0 k0_hw3 => k0_hw3.2.1.2.2.2.2.2.2.2.2.2.2.2.2.2.2.2.2.2.2.2.2.2.2.2.2.1
theorem k0_off209_inb : ∀ (v92_1 : BitVec 32) (v92_0 : BitVec 32) (k0_hw3 : k0_chk3 v92_1 v92_0), ∀ a, (k0_off209 v92_1 v92_0) a + S1x512x128.size a ≤ S1x4096x512.size a := fun v92_1 v92_0 k0_hw3 => k0_hw3.2.1.2.2.2.2.2.2.2.2.2.2.2.2.2.2.2.2.2.2.2.2.2.2.2.2.2.1
theorem k0_mult130_dvd : ∀ (v92_1 : BitVec 32) (v92_0 : BitVec 32) (k0_hw3 : k0_chk3 v92_1 v92_0), 512 ∣ (k0_mult130 v92_1 v92_0).toNat := fun v92_1 v92_0 k0_hw3 => k0_hw3.2.1.2.2.2.2.2.2.2.2.2.2.2.2.2.2.2.2.2.2.2.2.2.2.2.2.2.2.1
theorem k0_off210_inb : ∀ (v92_1 : BitVec 32) (v92_0 : BitVec 32) (k0_hw3 : k0_chk3 v92_1 v92_0), ∀ a, (k0_off210 v92_1 v92_0) a + S1x128x512.size a ≤ S1x512x4096.size a := fun v92_1 v92_0 k0_hw3 => k0_hw3.2.1.2.2.2.2.2.2.2.2.2.2.2.2.2.2.2.2.2.2.2.2.2.2.2.2.2.2.2.1
theorem k0_off211_inb : ∀ (v92_1 : BitVec 32) (v92_0 : BitVec 32) (k0_hw3 : k0_chk3 v92_1 v92_0), ∀ a, (k0_off211 v92_1 v92_0) a + S1x1x1x512.size a ≤ S8x4x1x512.size a := fun v92_1 v92_0 k0_hw3 => k0_hw3.2.1.2.2.2.2.2.2.2.2.2.2.2.2.2.2.2.2.2.2.2.2.2.2.2.2.2.2.2.2.1
theorem k0_off212_inb : ∀ (v92_1 : BitVec 32) (v92_0 : BitVec 32) (k0_hw3 : k0_chk3 v92_1 v92_0), ∀ a, (k0_off212 v92_1 v92_0) a + S1x1x80x512.size a ≤ S8x4x80x512.size a := fun v92_1 v92_0 k0_hw3 => k0_hw3.2.1.2.2.2.2.2.2.2.2.2.2.2.2.2.2.2.2.2.2.2.2.2.2.2.2.2.2.2.2.2.1
theorem k0_mult131_dvd : ∀ (v92_1 : BitVec 32) (v92_0 : BitVec 32) (k0_hw3 : k0_chk3 v92_1 v92_0), 512 ∣ (k0_mult131 v92_1 v92_0).toNat := fun v92_1 v92_0 k0_hw3 => k0_hw3.2.1.2.2.2.2.2.2.2.2.2.2.2.2.2.2.2.2.2.2.2.2.2.2.2.2.2.2.2.2.2.2.1
theorem k0_off213_inb : ∀ (v92_1 : BitVec 32) (v92_0 : BitVec 32) (k0_hw3 : k0_chk3 v92_1 v92_0), ∀ a, (k0_off213 v92_1 v92_0) a + S1x64x512.size a ≤ S1x256x4096.size a := fun v92_1 v92_0 k0_hw3 => k0_hw3.2.1.2.2.2.2.2.2.2.2.2.2.2.2.2.2.2.2.2.2.2.2.2.2.2.2.2.2.2.2.2.2.2
theorem k0_mult132_dvd : ∀ (v92_1 : BitVec 32) (v92_0 : BitVec 32) (k0_hw3 : k0_chk3 v92_1 v92_0), 512 ∣ (k0_mult132 v92_1 v92_0).toNat := fun v92_1 v92_0 k0_hw3 => k0_hw3.2.2.1.1
theorem k0_off214_inb : ∀ (v92_1 : BitVec 32) (v92_0 : BitVec 32) (k0_hw3 : k0_chk3 v92_1 v92_0), ∀ a, (k0_off214 v92_1 v92_0) a + S1x512x128.size a ≤ S1x4096x512.size a := fun v92_1 v92_0 k0_hw3 => k0_hw3.2.2.1.2.1
theorem k0_mult133_dvd : ∀ (v92_1 : BitVec 32) (v92_0 : BitVec 32) (k0_hw3 : k0_chk3 v92_1 v92_0), 512 ∣ (k0_mult133 v92_1 v92_0).toNat := fun v92_1 v92_0 k0_hw3 => k0_hw3.2.2.1.2.2.1
theorem k0_off215_inb : ∀ (v92_1 : BitVec 32) (v92_0 : BitVec 32) (k0_hw3 : k0_chk3 v92_1 v92_0), ∀ a, (k0_off215 v92_1 v92_0) a + S1x128x512.size a ≤ S1x512x4096.size a := fun v92_1 v92_0 k0_hw3 => k0_hw3.2.2.1.2.2.2.1
theorem k0_off216_inb : ∀ (v92_1 : BitVec 32) (v92_0 : BitVec 32) (k0_hw3 : k0_chk3 v92_1 v92_0), ∀ a, (k0_off216 v92_1 v92_0) a + S1x1x1x512.size a ≤ S8x4x1x512.size a := fun v92_1 v92_0 k0_hw3 => k0_hw3.2.2.1.2.2.2.2.1
theorem k0_off217_inb : ∀ (v92_1 : BitVec 32) (v92_0 : BitVec 32) (k0_hw3 : k0_chk3 v92_1 v92_0), ∀ a, (k0_off217 v92_1 v92_0) a + S1x1x80x512.size a ≤ S8x4x80x512.size a := fun v92_1 v92_0 k0_hw3 => k0_hw3.2.2.1.2.2.2.2.2.1
theorem k0_mult134_dvd : ∀ (v92_1 : BitVec 32) (v92_0 : BitVec 32) (k0_hw3 : k0_chk3 v92_1 v92_0), 512 ∣ (k0_mult134 v92_1 v92_0).toNat := fun v92_1 v92_0 k0_hw3 => k0_hw3.2.2.1.2.2.2.2.2.2.1
theorem k0_off218_inb : ∀ (v92_1 : BitVec 32) (v92_0 : BitVec 32) (k0_hw3 : k0_chk3 v92_1 v92_0), ∀ a, (k0_off218 v92_1 v92_0) a + S1x64x512.size a ≤ S1x256x4096.size a := fun v92_1 v92_0 k0_hw3 => k0_hw3.2.2.1.2.2.2.2.2.2.2.1
theorem k0_mult135_dvd : ∀ (v92_1 : BitVec 32) (v92_0 : BitVec 32) (k0_hw3 : k0_chk3 v92_1 v92_0), 512 ∣ (k0_mult135 v92_1 v92_0).toNat := fun v92_1 v92_0 k0_hw3 => k0_hw3.2.2.1.2.2.2.2.2.2.2.2.1
theorem k0_off219_inb : ∀ (v92_1 : BitVec 32) (v92_0 : BitVec 32) (k0_hw3 : k0_chk3 v92_1 v92_0), ∀ a, (k0_off219 v92_1 v92_0) a + S1x512x128.size a ≤ S1x4096x512.size a := fun v92_1 v92_0 k0_hw3 => k0_hw3.2.2.1.2.2.2.2.2.2.2.2.2.1
theorem k0_mult136_dvd : ∀ (v92_1 : BitVec 32) (v92_0 : BitVec 32) (k0_hw3 : k0_chk3 v92_1 v92_0), 512 ∣ (k0_mult136 v92_1 v92_0).toNat := fun v92_1 v92_0 k0_hw3 => k0_hw3.2.2.1.2.2.2.2.2.2.2.2.2.2.1
theorem k0_off220_inb : ∀ (v92_1 : BitVec 32) (v92_0 : BitVec 32) (k0_hw3 : k0_chk3 v92_1 v92_0), ∀ a, (k0_off220 v92_1 v92_0) a + S1x128x512.size a ≤ S1x512x4096.size a := fun v92_1 v92_0 k0_hw3 => k0_hw3.2.2.1.2.2.2.2.2.2.2.2.2.2.2.1
theorem k0_off221_inb : ∀ (v92_1 : BitVec 32) (v92_0 : BitVec 32) (k0_hw3 : k0_chk3 v92_1 v92_0), ∀ a, (k0_off221 v92_1 v92_0) a + S1x1x1x512.size a ≤ S8x4x1x512.size a := fun v92_1 v92_0 k0_hw3 => k0_hw3.2.2.1.2.2.2.2.2.2.2.2.2.2.2.2.1
theorem k0_off222_inb : ∀ (v92_1 : BitVec 32) (v92_0 : BitVec 32) (k0_hw3 : k0_chk3 v92_1 v92_0), ∀ a, (k0_off222 v92_1 v92_0) a + S1x1x80x512.size a ≤ S8x4x80x512.size a := fun v92_1 v92_0 k0_hw3 => k0_hw3.2.2.1.2.2.2.2.2.2.2.2.2.2.2.2.2.1
theorem k0_mult137_dvd : ∀ (v92_1 : BitVec 32) (v92_0 : BitVec 32) (k0_hw3 : k0_chk3 v92_1 v92_0), 512 ∣ (k0_mult137 v92_1 v92_0).toNat := fun v92_1 v92_0 k0_hw3 => k0_hw3.2.2.1.2.2.2.2.2.2.2.2.2.2.2.2.2.2.1
theorem k0_off223_inb : ∀ (v92_1 : BitVec 32) (v92_0 : BitVec 32) (k0_hw3 : k0_chk3 v92_1 v92_0), ∀ a, (k0_off223 v92_1 v92_0) a + S1x64x512.size a ≤ S1x256x4096.size a := fun v92_1 v92_0 k0_hw3 => k0_hw3.2.2.1.2.2.2.2.2.2.2.2.2.2.2.2.2.2.2.1
theorem k0_mult138_dvd : ∀ (v92_1 : BitVec 32) (v92_0 : BitVec 32) (k0_hw3 : k0_chk3 v92_1 v92_0), 512 ∣ (k0_mult138 v92_1 v92_0).toNat := fun v92_1 v92_0 k0_hw3 => k0_hw3.2.2.1.2.2.2.2.2.2.2.2.2.2.2.2.2.2.2.2.1
theorem k0_off224_inb : ∀ (v92_1 : BitVec 32) (v92_0 : BitVec 32) (k0_hw3 : k0_chk3 v92_1 v92_0), ∀ a, (k0_off224 v92_1 v92_0) a + S1x512x128.size a ≤ S1x4096x512.size a := fun v92_1 v92_0 k0_hw3 => k0_hw3.2.2.1.2.2.2.2.2.2.2.2.2.2.2.2.2.2.2.2.2.1
theorem k0_mult139_dvd : ∀ (v92_1 : BitVec 32) (v92_0 : BitVec 32) (k0_hw3 : k0_chk3 v92_1 v92_0), 512 ∣ (k0_mult139 v92_1 v92_0).toNat := fun v92_1 v92_0 k0_hw3 => k0_hw3.2.2.1.2.2.2.2.2.2.2.2.2.2.2.2.2.2.2.2.2.2.1
theorem k0_off225_inb : ∀ (v92_1 : BitVec 32) (v92_0 : BitVec 32) (k0_hw3 : k0_chk3 v92_1 v92_0), ∀ a, (k0_off225 v92_1 v92_0) a + S1x128x512.size a ≤ S1x512x4096.size a := fun v92_1 v92_0 k0_hw3 => k0_hw3.2.2.1.2.2.2.2.2.2.2.2.2.2.2.2.2.2.2.2.2.2.2.1
theorem k0_off226_inb : ∀ (v92_1 : BitVec 32) (v92_0 : BitVec 32) (k0_hw3 : k0_chk3 v92_1 v92_0), ∀ a, (k0_off226 v92_1 v92_0) a + S1x1x1x512.size a ≤ S8x4x1x512.size a := fun v92_1 v92_0 k0_hw3 => k0_hw3.2.2.1.2.2.2.2.2.2.2.2.2.2.2.2.2.2.2.2.2.2.2.2.1
theorem k0_off227_inb : ∀ (v92_1 : BitVec 32) (v92_0 : BitVec 32) (k0_hw3 : k0_chk3 v92_1 v92_0), ∀ a, (k0_off227 v92_1 v92_0) a + S1x1x80x512.size a ≤ S8x4x80x512.size a := fun v92_1 v92_0 k0_hw3 => k0_hw3.2.2.1.2.2.2.2.2.2.2.2.2.2.2.2.2.2.2.2.2.2.2.2.2.1
theorem k0_mult140_dvd : ∀ (v92_1 : BitVec 32) (v92_0 : BitVec 32) (k0_hw3 : k0_chk3 v92_1 v92_0), 512 ∣ (k0_mult140 v92_1 v92_0).toNat := fun v92_1 v92_0 k0_hw3 => k0_hw3.2.2.1.2.2.2.2.2.2.2.2.2.2.2.2.2.2.2.2.2.2.2.2.2.2.1
theorem k0_off228_inb : ∀ (v92_1 : BitVec 32) (v92_0 : BitVec 32) (k0_hw3 : k0_chk3 v92_1 v92_0), ∀ a, (k0_off228 v92_1 v92_0) a + S1x64x512.size a ≤ S1x256x4096.size a := fun v92_1 v92_0 k0_hw3 => k0_hw3.2.2.1.2.2.2.2.2.2.2.2.2.2.2.2.2.2.2.2.2.2.2.2.2.2.2.1
theorem k0_off229_inb : ∀ (v92_1 : BitVec 32) (v92_0 : BitVec 32) (k0_hw3 : k0_chk3 v92_1 v92_0), ∀ a, (k0_off229 v92_1 v92_0) a + S1x1x1x512.size a ≤ S8x4x1x512.size a := fun v92_1 v92_0 k0_hw3 => k0_hw3.2.2.1.2.2.2.2.2.2.2.2.2.2.2.2.2.2.2.2.2.2.2.2.2.2.2.2.1
theorem k0_off230_inb : ∀ (v92_1 : BitVec 32) (v92_0 : BitVec 32) (k0_hw3 : k0_chk3 v92_1 v92_0), ∀ a, (k0_off230 v92_1 v92_0) a + S1x1x80x512.size a ≤ S8x4x80x512.size a := fun v92_1 v92_0 k0_hw3 => k0_hw3.2.2.1.2.2.2.2.2.2.2.2.2.2.2.2.2.2.2.2.2.2.2.2.2.2.2.2.2.1
theorem k0_mult141_dvd : ∀ (v92_1 : BitVec 32) (v92_0 : BitVec 32) (k0_hw3 : k0_chk3 v92_1 v92_0), 512 ∣ (k0_mult141 v92_1 v92_0).toNat := fun v92_1 v92_0 k0_hw3 => k0_hw3.2.2.1.2.2.2.2.2.2.2.2.2.2.2.2.2.2.2.2.2.2.2.2.2.2.2.2.2.2.1
theorem k0_off231_inb : ∀ (v92_1 : BitVec 32) (v92_0 : BitVec 32) (k0_hw3 : k0_chk3 v92_1 v92_0), ∀ a, (k0_off231 v92_1 v92_0) a + S1x64x512.size a ≤ S1x256x4096.size a := fun v92_1 v92_0 k0_hw3 => k0_hw3.2.2.1.2.2.2.2.2.2.2.2.2.2.2.2.2.2.2.2.2.2.2.2.2.2.2.2.2.2.2.1
theorem k0_off232_inb : ∀ (v92_1 : BitVec 32) (v92_0 : BitVec 32) (k0_hw3 : k0_chk3 v92_1 v92_0), ∀ a, (k0_off232 v92_1 v92_0) a + S1x1x1x512.size a ≤ S8x4x1x512.size a := fun v92_1 v92_0 k0_hw3 => k0_hw3.2.2.1.2.2.2.2.2.2.2.2.2.2.2.2.2.2.2.2.2.2.2.2.2.2.2.2.2.2.2.2.1
theorem k0_off233_inb : ∀ (v92_1 : BitVec 32) (v92_0 : BitVec 32) (k0_hw3 : k0_chk3 v92_1 v92_0), ∀ a, (k0_off233 v92_1 v92_0) a + S1x1x80x512.size a ≤ S8x4x80x512.size a := fun v92_1 v92_0 k0_hw3 => k0_hw3.2.2.1.2.2.2.2.2.2.2.2.2.2.2.2.2.2.2.2.2.2.2.2.2.2.2.2.2.2.2.2.2.1
theorem k0_mult142_dvd : ∀ (v92_1 : BitVec 32) (v92_0 : BitVec 32) (k0_hw3 : k0_chk3 v92_1 v92_0), 512 ∣ (k0_mult142 v92_1 v92_0).toNat := fun v92_1 v92_0 k0_hw3 => k0_hw3.2.2.1.2.2.2.2.2.2.2.2.2.2.2.2.2.2.2.2.2.2.2.2.2.2.2.2.2.2.2.2.2.2.1
theorem k0_off234_inb : ∀ (v92_1 : BitVec 32) (v92_0 : BitVec 32) (k0_hw3 : k0_chk3 v92_1 v92_0), ∀ a, (k0_off234 v92_1 v92_0) a + S1x64x512.size a ≤ S1x256x4096.size a := fun v92_1 v92_0 k0_hw3 => k0_hw3.2.2.1.2.2.2.2.2.2.2.2.2.2.2.2.2.2.2.2.2.2.2.2.2.2.2.2.2.2.2.2.2.2.2
theorem k0_off235_inb : ∀ (v92_1 : BitVec 32) (v92_0 : BitVec 32) (k0_hw3 : k0_chk3 v92_1 v92_0), ∀ a, (k0_off235 v92_1 v92_0) a + S1x1x1x512.size a ≤ S8x4x1x512.size a := fun v92_1 v92_0 k0_hw3 => k0_hw3.2.2.2.1
theorem k0_off236_inb : ∀ (v92_1 : BitVec 32) (v92_0 : BitVec 32) (k0_hw3 : k0_chk3 v92_1 v92_0), ∀ a, (k0_off236 v92_1 v92_0) a + S1x1x80x512.size a ≤ S8x4x80x512.size a := fun v92_1 v92_0 k0_hw3 => k0_hw3.2.2.2.2.1
theorem k0_mult143_dvd : ∀ (v92_1 : BitVec 32) (v92_0 : BitVec 32) (k0_hw3 : k0_chk3 v92_1 v92_0), 512 ∣ (k0_mult143 v92_1 v92_0).toNat := fun v92_1 v92_0 k0_hw3 => k0_hw3.2.2.2.2.2.1
theorem k0_off237_inb : ∀ (v92_1 : BitVec 32) (v92_0 : BitVec 32) (k0_hw3 : k0_chk3 v92_1 v92_0), ∀ a, (k0_off237 v92_1 v92_0) a + S1x64x512.size a ≤ S1x256x4096.size a := fun v92_1 v92_0 k0_hw3 => k0_hw3.2.2.2.2.2.2.1
theorem k0_off238_inb : ∀ (v92_1 : BitVec 32) (v92_0 : BitVec 32) (k0_hw3 : k0_chk3 v92_1 v92_0), ∀ a, (k0_off238 v92_1 v92_0) a + S1x1x1x512.size a ≤ S8x4x1x512.size a := fun v92_1 v92_0 k0_hw3 => k0_hw3.2.2.2.2.2.2.2.1
theorem k0_off239_inb : ∀ (v92_1 : BitVec 32) (v92_0 : BitVec 32) (k0_hw3 : k0_chk3 v92_1 v92_0), ∀ a, (k0_off239 v92_1 v92_0) a + S1x1x80x512.size a ≤ S8x4x80x512.size a := fun v92_1 v92_0 k0_hw3 => k0_hw3.2.2.2.2.2.2.2.2.1
theorem k0_mult144_dvd : ∀ (v92_1 : BitVec 32) (v92_0 : BitVec 32) (k0_hw3 : k0_chk3 v92_1 v92_0), 512 ∣ (k0_mult144 v92_1 v92_0).toNat := fun v92_1 v92_0 k0_hw3 => k0_hw3.2.2.2.2.2.2.2.2.2.1
theorem k0_off240_inb : ∀ (v92_1 : BitVec 32) (v92_0 : BitVec 32) (k0_hw3 : k0_chk3 v92_1 v92_0), ∀ a, (k0_off240 v92_1 v92_0) a + S1x64x512.size a ≤ S1x256x4096.size a := fun v92_1 v92_0 k0_hw3 => k0_hw3.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x1024x4096 : Shape := ⟨3, ![4, 1024, 4096]⟩
abbrev S4x4096x1024 : Shape := ⟨3, ![4, 4096, 1024]⟩
abbrev S4x512x4096 : Shape := ⟨3, ![4, 512, 4096]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S4x8x128x4096 : Shape := ⟨4, ![4, 8, 128, 4096]⟩
abbrev S4x4096x8x128 : Shape := ⟨4, ![4, 4096, 8, 128]⟩
abbrev S4x8x64x4096 : Shape := ⟨4, ![4, 8, 64, 4096]⟩
abbrev S4096 : Shape := ⟨1, ![4096]⟩
abbrev S4x8x4096x4096 : Shape := ⟨4, ![4, 8, 4096, 4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x8x4096 : Shape := ⟨3, ![4, 8, 4096]⟩
abbrev S4x8x4096x1 : Shape := ⟨4, ![4, 8, 4096, 1]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x4096x1024, .bf16⟩
  | .hbm, ⟨2, _⟩ => ⟨S4x512x4096, .bf16⟩
  | .hbm, ⟨3, _⟩ => ⟨S2x512x1024, .f32⟩
  | .hbm, ⟨4, _⟩ => ⟨S2x512x1024, .f32⟩
  | .hbm, ⟨5, _⟩ => ⟨S2x1024x1024, .f32⟩
  | .hbm, ⟨6, _⟩ => ⟨S2x1024x4096, .f32⟩
  | .hbm, ⟨7, _⟩ => ⟨S2x4096x1024, .f32⟩
  | .hbm, ⟨8, _⟩ => ⟨S4x1024x4096, .f32⟩
  | .hbm, ⟨9, _⟩ => ⟨S4x8x128x4096, .f32⟩
  | .hbm, ⟨10, _⟩ => ⟨S4x4096x1024, .f32⟩
  | .hbm, ⟨11, _⟩ => ⟨S4x4096x8x128, .f32⟩
  | .hbm, ⟨12, _⟩ => ⟨S4x512x4096, .f32⟩
  | .hbm, ⟨13, _⟩ => ⟨S4x8x64x4096, .f32⟩
  | .hbm, ⟨14, _⟩ => ⟨S4096, .i32⟩
  | .hbm, ⟨15, _⟩ => ⟨S4x8x4096x4096, .f32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4x8x4096x4096, .i1⟩
  | .hbm, ⟨24, _⟩ => ⟨S4x8x4096x4096, .f32⟩
  | .hbm, ⟨25, _⟩ => ⟨S4x8x4096x4096, .f32⟩
  | .hbm, ⟨26, _⟩ => ⟨S_, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S4x8x4096, .f32⟩
  | .hbm, ⟨36, _⟩ => ⟨S4x8x4096x1, .f32⟩
  | .hbm, ⟨37, _⟩ => ⟨S_, .f32⟩
  | .hbm, ⟨38, _⟩ => ⟨S4x8x4096x1, .f32⟩
  | .hbm, ⟨39, _⟩ => ⟨S4x8x4096x1, .f32⟩
  | .hbm, ⟨40, _⟩ => ⟨S4x8x4096x4096, .f32⟩
  | .hbm, ⟨41, _⟩ => ⟨S4x8x4096x4096, .f32⟩
  | .hbm, ⟨42, _⟩ => ⟨S4x8x64x4096, .f32⟩
  | .hbm, ⟨43, _⟩ => ⟨S4x512x4096, .f32⟩
  | .hbm, ⟨44, _⟩ => ⟨S4x512x4096, .bf16⟩
  | .hbm, ⟨45, _⟩ => ⟨S1x512x1024, .f32⟩
  | .hbm, ⟨46, _⟩ => ⟨S1x512x1024, .bf16⟩
  | .hbm, ⟨47, _⟩ => ⟨S1x512x1024, .f32⟩
  | .hbm, ⟨48, _⟩ => ⟨S1x512x1024, .bf16⟩
  | .hbm, ⟨49, _⟩ => ⟨S1x1024x1024, .f32⟩
  | .hbm, ⟨50, _⟩ => ⟨S1x1024x1024, .bf16⟩
  | .hbm, ⟨51, _⟩ => ⟨S1x1024x4096, .f32⟩
  | .hbm, ⟨52, _⟩ => ⟨S1x1024x4096, .bf16⟩
  | .hbm, ⟨53, _⟩ => ⟨S1x4096x1024, .f32⟩
  | .hbm, ⟨54, _⟩ => ⟨S1x4096x1024, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Mix.lean ====
abbrev S4x4096x1024 : Shape := ⟨3, ![4, 4096, 1024]⟩
abbrev S4x512x4096 : Shape := ⟨3, ![4, 512, 4096]⟩
abbrev S2x8x6144 : Shape := ⟨3, ![2, 8, 6144]⟩
abbrev S2x1024 : Shape := ⟨2, ![2, 1024]⟩
abbrev S1024 : Shape := ⟨1, ![1024]⟩
abbrev S2x1024x2560 : Shape := ⟨3, ![2, 1024, 2560]⟩
abbrev S2x4x128x128 : Shape := ⟨4, ![2, 4, 128, 128]⟩
abbrev S2x512 : Shape := ⟨2, ![2, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1x8x6144 : Shape := ⟨3, ![1, 8, 6144]⟩
abbrev S1x1024x2560 : Shape := ⟨3, ![1, 1024, 2560]⟩
abbrev S1x4x128x128 : Shape := ⟨4, ![1, 4, 128, 128]⟩
abbrev S1040x512 : Shape := ⟨2, ![1040, 512]⟩
abbrev S16x512 : Shape := ⟨2, ![16, 512]⟩
abbrev S1x1x1024 : Shape := ⟨3, ![1, 1, 1024]⟩
abbrev S512x1024 : Shape := ⟨2, ![512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x2048 : Shape := ⟨3, ![1, 1024, 2048]⟩
abbrev S1024x2048 : Shape := ⟨2, ![1024, 2048]⟩
abbrev S512x2048 : Shape := ⟨2, ![512, 2048]⟩
abbrev S16x1 : Shape := ⟨2, ![16, 1]⟩
abbrev S528x128 : Shape := ⟨2, ![528, 128]⟩
abbrev S512x128 : Shape := ⟨2, ![512, 128]⟩
abbrev S16x128 : Shape := ⟨2, ![16, 128]⟩
abbrev S496x128 : Shape := ⟨2, ![496, 128]⟩
abbrev S1x1x128x128 : Shape := ⟨4, ![1, 1, 128, 128]⟩
abbrev S128x128 : Shape := ⟨2, ![128, 128]⟩
abbrev S1x512 : Shape := ⟨2, ![1, 512]⟩
abbrev S1024x1024 : Shape := ⟨2, ![1024, 1024]⟩
abbrev S512x4096 : Shape := ⟨2, ![512, 4096]⟩
abbrev S4096x1024 : Shape := ⟨2, ![4096, 1024]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .bf16⟩
  | .hbm, ⟨2, _⟩ => ⟨S2x8x6144, .f32⟩
  | .hbm, ⟨3, _⟩ => ⟨S2x1024, .f32⟩
  | .hbm, ⟨4, _⟩ => ⟨S2x1024, .f32⟩
  | .hbm, ⟨5, _⟩ => ⟨S1024, .f32⟩
  | .hbm, ⟨6, _⟩ => ⟨S2x1024x2560, .bf16⟩
  | .hbm, ⟨7, _⟩ => ⟨S2x4x128x128, .f32⟩
  | .hbm, ⟨8, _⟩ => ⟨S2x512, .f32⟩
  | .hbm, ⟨9, _⟩ => ⟨S1x512x1024, .bf16⟩
  | .hbm, ⟨10, _⟩ => ⟨S1x512x1024, .bf16⟩
  | .hbm, ⟨11, _⟩ => ⟨S1x1024x1024, .bf16⟩
  | .hbm, ⟨12, _⟩ => ⟨S1x1024x4096, .bf16⟩
  | .hbm, ⟨13, _⟩ => ⟨S1x4096x1024, .bf16⟩
  | .hbm, ⟨14, _⟩ => ⟨S1x1024, .f32⟩
  | .hbm, ⟨15, _⟩ => ⟨S2x4x128x128, .bf16⟩
  | .hbm, ⟨16, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x8x6144, .f32⟩
  | .local _ .vmem, ⟨5, _⟩ => ⟨S2x1024, .f32⟩
  | .local _ .vmem, ⟨6, _⟩ => ⟨S2x1024, .f32⟩
  | .local _ .vmem, ⟨7, _⟩ => ⟨S1x1024, .f32⟩
  | .local _ .vmem, ⟨8, _⟩ => ⟨S1x1024x2560, .bf16⟩
  | .local _ .vmem, ⟨9, _⟩ => ⟨S1x4x128x128, .bf16⟩
  | .local _ .vmem, ⟨10, _⟩ => ⟨S2x512, .f32⟩
  | .local _ .vmem, ⟨11, _⟩ => ⟨S1x512x1024, .bf16⟩
  | .local _ .vmem, ⟨12, _⟩ => ⟨S1x512x1024, .bf16⟩
  | .local _ .vmem, ⟨13, _⟩ => ⟨S1x1024x1024, .bf16⟩
  | .local _ .vmem, ⟨14, _⟩ => ⟨S1x1024x4096, .bf16⟩
  | .local _ .vmem, ⟨15, _⟩ => ⟨S1x4096x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1040x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0 : Index := 0#32
  let arg0 : BitVec 32 := BitVec.ofNat 32 (i 0).val
  let v6 : Index := Scalar.indexCast arg0
  let c0_3 : Index := 0#32
  ![0, v6.toNat, 0]
def k0_off2 (i : grid0.Coords) : Fin 3 → Nat :=
  let c0_4 : Index := 0#32
  let arg0 : BitVec 32 := BitVec.ofNat 32 (i 0).val
  let v9 : Index := Scalar.indexCast arg0
  let c1024 : Index := 1024#32
  ![0, v9.toNat, 1024]
def k0_off3 (i : grid0.Coords) : Fin 3 → Nat :=
  let c0_5 : Index := 0#32
  let arg0 : BitVec 32 := BitVec.ofNat 32 (i 0).val
  let v12 : Index := Scalar.indexCast arg0
  let c2048 : Index := 2048#32
  ![0, v12.toNat, 2048]
def k0_off4 (i : grid0.Coords) : Fin 3 → Nat :=
  let c0_6 : Index := 0#32
  let arg0 : BitVec 32 := BitVec.ofNat 32 (i 0).val
  let v15 : Index := Scalar.indexCast arg0
  let c3072 : Index := 3072#32
  ![0, v15.toNat, 3072]
def k0_off5 (i : grid0.Coords) : Fin 3 → Nat :=
  let c0_7 : Index := 0#32
  let arg0 : BitVec 32 := BitVec.ofNat 32 (i 0).val
  let v18 : Index := Scalar.indexCast arg0
  let c4096 : Index := 4096#32
  ![0, v18.toNat, 4096]
def k0_off6 (i : grid0.Coords) : Fin 3 → Nat :=
  let c0_8 : Index := 0#32
  let arg0 : BitVec 32 := BitVec.ofNat 32 (i 0).val
  let v21 : Index := Scalar.indexCast arg0
  let c5120 : Index := 5120#32
  ![0, v21.toNat, 5120]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixReferenceIdeal.lean ====
abbrev S4x4096x1024 : Shape := ⟨3, ![4, 4096, 1024]⟩
abbrev S4x512x4096 : Shape := ⟨3, ![4, 512, 4096]⟩
abbrev S2x8x6144 : Shape := ⟨3, ![2, 8, 6144]⟩
abbrev S2x1024 : Shape := ⟨2, ![2, 1024]⟩
abbrev S1024 : Shape := ⟨1, ![1024]⟩
abbrev S2x1024x2560 : Shape := ⟨3, ![2, 1024, 2560]⟩
abbrev S2x4x128x128 : Shape := ⟨4, ![2, 4, 128, 128]⟩
abbrev S2x512 : Shape := ⟨2, ![2, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S4x4096x2560 : Shape := ⟨3, ![4, 4096, 2560]⟩
abbrev S4x4096x512 : Shape := ⟨3, ![4, 4096, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S4096 : Shape := ⟨1, ![4096]⟩
abbrev S4x4096x128 : Shape := ⟨3, ![4, 4096, 128]⟩
abbrev S4x4097x128 : Shape := ⟨3, ![4, 4097, 128]⟩
abbrev S1x4096x1 : Shape := ⟨3, ![1, 4096, 1]⟩
abbrev S4x4098x128 : Shape := ⟨3, ![4, 4098, 128]⟩
abbrev S4x4099x128 : Shape := ⟨3, ![4, 4099, 128]⟩
abbrev S4x4100x128 : Shape := ⟨3, ![4, 4100, 128]⟩
abbrev S4x4101x128 : Shape := ⟨3, ![4, 4101, 128]⟩
abbrev S4x4102x128 : Shape := ⟨3, ![4, 4102, 128]⟩
abbrev S4x4103x128 : Shape := ⟨3, ![4, 4103, 128]⟩
abbrev S4x4104x128 : Shape := ⟨3, ![4, 4104, 128]⟩
abbrev S4x4105x128 : Shape := ⟨3, ![4, 4105, 128]⟩
abbrev S4x4106x128 : Shape := ⟨3, ![4, 4106, 128]⟩
abbrev S4x4107x128 : Shape := ⟨3, ![4, 4107, 128]⟩
abbrev S4x4108x128 : Shape := ⟨3, ![4, 4108, 128]⟩
abbrev S4x4109x128 : Shape := ⟨3, ![4, 4109, 128]⟩
abbrev S4x4110x128 : Shape := ⟨3, ![4, 4110, 128]⟩
abbrev S4x4111x128 : Shape := ⟨3, ![4, 4111, 128]⟩
abbrev S4x4096x1x128 : Shape := ⟨4, ![4, 4096, 1, 128]⟩
abbrev S4x4096x4x128 : Shape := ⟨4, ![4, 4096, 4, 128]⟩
abbrev S4x128x4x4096 : Shape := ⟨4, ![4, 128, 4, 4096]⟩
abbrev S1x1x512 : Shape := ⟨3, ![1, 1, 512]⟩
abbrev S512x1024 : Shape := ⟨2, ![512, 1024]⟩
abbrev S1024x1024 : Shape := ⟨2, ![1024, 1024]⟩
abbrev S1024x4096 : Shape := ⟨2, ![1024, 4096]⟩
abbrev S4x4096x4096 : Shape := ⟨3, ![4, 4096, 4096]⟩
abbrev S4096x1024 : Shape := ⟨2, ![4096, 1024]⟩

abbrev nBuf : Space → Nat
  | .hbm => 341
  | .vmem => 0
  | .smem => 0
  | _ => 0

abbrev hbmTy0_0 (i : Nat) : BufTy := match i % 128 with
  | 0 => ⟨S4x4096x1024, .f32⟩
  | 1 => ⟨S4x512x4096, .bf16⟩
  | 2 => ⟨S2x8x6144, .f32⟩
  | 3 => ⟨S2x1024, .f32⟩
  | 4 => ⟨S2x1024, .f32⟩
  | 5 => ⟨S1024, .f32⟩
  | 6 => ⟨S2x1024x2560, .bf16⟩
  | 7 => ⟨S2x4x128x128, .f32⟩
  | 8 => ⟨S2x512, .f32⟩
  | 9 => ⟨S1x512x1024, .bf16⟩
  | 10 => ⟨S1x512x1024, .bf16⟩
  | 11 => ⟨S1x1024x1024, .bf16⟩
  | 12 => ⟨S1x1024x4096, .bf16⟩
  | 13 => ⟨S1x4096x1024, .bf16⟩
  | 14 => ⟨S1x4x6144, .f32⟩
  | 15 => ⟨S4x6144, .f32⟩
  | 16 => ⟨S4x1024, .f32⟩
  | 17 => ⟨S4x1024, .f32⟩
  | 18 => ⟨S4x1024, .f32⟩
  | 19 => ⟨S4x1024, .f32⟩
  | 20 => ⟨S4x1024, .f32⟩
  | 21 => ⟨S4x1024, .f32⟩
  | 22 => ⟨S4x1x1024, .f32⟩
  | 23 => ⟨S4x1x1024, .f32⟩
  | 24 => ⟨S4x1x1024, .f32⟩
  | 25 => ⟨S4x1x1024, .f32⟩
  | 26 => ⟨S4x1x1024, .f32⟩
  | 27 => ⟨S4x1x1024, .f32⟩
  | 28 => ⟨S1x1024, .f32⟩
  | 29 => ⟨S1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S_, .f32⟩
  | 38 => ⟨S4x4096x1, .f32⟩
  | 39 => ⟨S4x4096x1, .f32⟩
  | 40 => ⟨S4x4096x1, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S_, .f32⟩
  | 47 => ⟨S4x1x1024, .f32⟩
  | 48 => ⟨S4x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1024x2560, .bf16⟩
  | 54 => ⟨S1024x2560, .bf16⟩
  | 55 => ⟨S1024x2560, .f32⟩
  | 56 => ⟨S4x4096x2560, .f32⟩
  | 57 => ⟨S4x4096x512, .f32⟩
  | 58 => ⟨S4x4096x1024, .f32⟩
  | 59 => ⟨S4x4096x1024, .f32⟩
  | 60 => ⟨S1x4x128x128, .f32⟩
  | 61 => ⟨S4x128x128, .f32⟩
  | 62 => ⟨S1x512, .f32⟩
  | 63 => ⟨S512, .f32⟩
  | 64 => ⟨S4096, .i32⟩
  | 65 => ⟨S4x4096x128, .f32⟩
  | 66 => ⟨S_, .i32⟩
  | 67 => ⟨S_, .f32⟩
  | 68 => ⟨S4x4097x128, .f32⟩
  | 69 => ⟨S4x4096x128, .f32⟩
  | 70 => ⟨S4x4096x128, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S1x4096x1, .f32⟩
  | 79 => ⟨S4x4096x128, .f32⟩
  | 80 => ⟨S4x4096x128, .f32⟩
  | 81 => ⟨S4x4096x128, .f32⟩
  | 82 => ⟨S4x4096x128, .f32⟩
  | 83 => ⟨S_, .i32⟩
  | 84 => ⟨S_, .f32⟩
  | 85 => ⟨S4x4097x128, .f32⟩
  | 86 => ⟨S4x4096x128, .f32⟩
  | 87 => ⟨S4x4096x128, .f32⟩
  | 88 => ⟨S_, .i32⟩
  | 89 => ⟨S_, .f32⟩
  | 90 => ⟨S4x4098x128, .f32⟩
  | 91 => ⟨S4x4096x128, .f32⟩
  | 92 => ⟨S4x4096x128, .f32⟩
  | 93 => ⟨S_, .i32⟩
  | 94 => ⟨S_, .f32⟩
  | 95 => ⟨S4x4099x128, .f32⟩
  | 96 => ⟨S4x4096x128, .f32⟩
  | 97 => ⟨S4x4096x128, .f32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S4096, .f32⟩
  | 105 => ⟨S1x4096x1, .f32⟩
  | 106 => ⟨S4x4096x128, .f32⟩
  | 107 => ⟨S4x4096x128, .f32⟩
  | 108 => ⟨S4x4096x128, .f32⟩
  | 109 => ⟨S4x4096x128, .f32⟩
  | 110 => ⟨S_, .i32⟩
  | 111 => ⟨S_, .f32⟩
  | 112 => ⟨S4x4097x128, .f32⟩
  | 113 => ⟨S4x4096x128, .f32⟩
  | 114 => ⟨S4x4096x128, .f32⟩
  | 115 => ⟨S_, .i32⟩
  | 116 => ⟨S_, .f32⟩
  | 117 => ⟨S4x4098x128, .f32⟩
  | 118 => ⟨S4x4096x128, .f32⟩
  | 119 => ⟨S4x4096x128, .f32⟩
  | 120 => ⟨S_, .i32⟩
  | 121 => ⟨S_, .f32⟩
  | 122 => ⟨S4x4099x128, .f32⟩
  | 123 => ⟨S4x4096x128, .f32⟩
  | 124 => ⟨S4x4096x128, .f32⟩
  | 125 => ⟨S_, .i32⟩
  | 126 => ⟨S_, .f32⟩
  | 127 => ⟨S4x4100x128, .f32⟩
  | _ => ⟨S4x4096x1024, .f32⟩

abbrev hbmTy0_1 (i : Nat) : BufTy := match i % 128 with
  | 0 => ⟨S4x4096x128, .f32⟩
  | 1 => ⟨S4x4096x128, .f32⟩
  | 2 => ⟨S_, .i32⟩
  | 3 => ⟨S_, .f32⟩
  | 4 => ⟨S4x4101x128, .f32⟩
  | 5 => ⟨S4x4096x128, .f32⟩
  | 6 => ⟨S4x4096x128, .f32⟩
  | 7 => ⟨S_, .i32⟩
  | 8 => ⟨S_, .f32⟩
  | 9 => ⟨S4x4102x128, .f32⟩
  | 10 => ⟨S4x4096x128, .f32⟩
  | 11 => ⟨S4x4096x128, .f32⟩
  | 12 => ⟨S_, .i32⟩
  | 13 => ⟨S_, .f32⟩
  | 14 => ⟨S4x4103x128, .f32⟩
  | 15 => ⟨S4x4096x128, .f32⟩
  | 16 => ⟨S4x4096x128, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S1x4096x1, .f32⟩
  | 25 => ⟨S4x4096x128, .f32⟩
  | 26 => ⟨S4x4096x128, .f32⟩
  | 27 => ⟨S4x4096x128, .f32⟩
  | 28 => ⟨S4x4096x128, .f32⟩
  | 29 => ⟨S_, .i32⟩
  | 30 => ⟨S_, .f32⟩
  | 31 => ⟨S4x4097x128, .f32⟩
  | 32 => ⟨S4x4096x128, .f32⟩
  | 33 => ⟨S4x4096x128, .f32⟩
  | 34 => ⟨S_, .i32⟩
  | 35 => ⟨S_, .f32⟩
  | 36 => ⟨S4x4098x128, .f32⟩
  | 37 => ⟨S4x4096x128, .f32⟩
  | 38 => ⟨S4x4096x128, .f32⟩
  | 39 => ⟨S_, .i32⟩
  | 40 => ⟨S_, .f32⟩
  | 41 => ⟨S4x4099x128, .f32⟩
  | 42 => ⟨S4x4096x128, .f32⟩
  | 43 => ⟨S4x4096x128, .f32⟩
  | 44 => ⟨S_, .i32⟩
  | 45 => ⟨S_, .f32⟩
  | 46 => ⟨S4x4100x128, .f32⟩
  | 47 => ⟨S4x4096x128, .f32⟩
  | 48 => ⟨S4x4096x128, .f32⟩
  | 49 => ⟨S_, .i32⟩
  | 50 => ⟨S_, .f32⟩
  | 51 => ⟨S4x4101x128, .f32⟩
  | 52 => ⟨S4x4096x128, .f32⟩
  | 53 => ⟨S4x4096x128, .f32⟩
  | 54 => ⟨S_, .i32⟩
  | 55 => ⟨S_, .f32⟩
  | 56 => ⟨S4x4102x128, .f32⟩
  | 57 => ⟨S4x4096x128, .f32⟩
  | 58 => ⟨S4x4096x128, .f32⟩
  | 59 => ⟨S_, .i32⟩
  | 60 => ⟨S_, .f32⟩
  | 61 => ⟨S4x4103x128, .f32⟩
  | 62 => ⟨S4x4096x128, .f32⟩
  | 63 => ⟨S4x4096x128, .f32⟩
  | 64 => ⟨S_, .i32⟩
  | 65 => ⟨S_, .f32⟩
  | 66 => ⟨S4x4104x128, .f32⟩
  | 67 => ⟨S4x4096x128, .f32⟩
  | 68 => ⟨S4x4096x128, .f32⟩
  | 69 => ⟨S_, .i32⟩
  | 70 => ⟨S_, .f32⟩
  | 71 => ⟨S4x4105x128, .f32⟩
  | 72 => ⟨S4x4096x128, .f32⟩
  | 73 => ⟨S4x4096x128, .f32⟩
  | 74 => ⟨S_, .i32⟩
  | 75 => ⟨S_, .f32⟩
  | 76 => ⟨S4x4106x128, .f32⟩
  | 77 => ⟨S4x4096x128, .f32⟩
  | 78 => ⟨S4x4096x128, .f32⟩
  | 79 => ⟨S_, .i32⟩
  | 80 => ⟨S_, .f32⟩
  | 81 => ⟨S4x4107x128, .f32⟩
  | 82 => ⟨S4x4096x128, .f32⟩
  | 83 => ⟨S4x4096x128, .f32⟩
  | 84 => ⟨S_, .i32⟩
  | 85 => ⟨S_, .f32⟩
  | 86 => ⟨S4x4108x128, .f32⟩
  | 87 => ⟨S4x4096x128, .f32⟩
  | 88 => ⟨S4x4096x128, .f32⟩
  | 89 => ⟨S_, .i32⟩
  | 90 => ⟨S_, .f32⟩
  | 91 => ⟨S4x4109x128, .f32⟩
  | 92 => ⟨S4x4096x128, .f32⟩
  | 93 => ⟨S4x4096x128, .f32⟩
  | 94 => ⟨S_, .i32⟩
  | 95 => ⟨S_, .f32⟩
  | 96 => ⟨S4x4110x128, .f32⟩
  | 97 => ⟨S4x4096x128, .f32⟩
  | 98 => ⟨S4x4096x128, .f32⟩
  | 99 => ⟨S_, .i32⟩
  | 100 => ⟨S_, .f32⟩
  | 101 => ⟨S4x4111x128, .f32⟩
  | 102 => ⟨S4x4096x128, .f32⟩
  | 103 => ⟨S4x4096x128, .f32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096, .f32⟩
  | 111 => ⟨S1x4096x1, .f32⟩
  | 112 => ⟨S4x4096x128, .f32⟩
  | 113 => ⟨S4x4096x128, .f32⟩
  | 114 => ⟨S4x4096x128, .f32⟩
  | 115 => ⟨S4x4096x1x128, .f32⟩
  | 116 => ⟨S4x4096x1x128, .f32⟩
  | 117 => ⟨S4x4096x1x128, .f32⟩
  | 118 => ⟨S4x4096x1x128, .f32⟩
  | 119 => ⟨S4x4096x4x128, .f32⟩
  | 120 => ⟨S4x128x4x4096, .f32⟩
  | 121 => ⟨S4x4096x4x128, .f32⟩
  | 122 => ⟨S4x4096x512, .f32⟩
  | 123 => ⟨S1x1x512, .f32⟩
  | 124 => ⟨S4x4096x512, .f32⟩
  | 125 => ⟨S4x4096x512, .f32⟩
  | 126 => ⟨S512x1024, .bf16⟩
  | 127 => ⟨S512x1024, .f32⟩
  | _ => ⟨S4x4096x1024, .f32⟩

abbrev hbmTy0_2 (i : Nat) : BufTy := match i % 128 with
  | 0 => ⟨S4x4096x1024, .f32⟩
  | 1 => ⟨S4x4096x512, .bf16⟩
  | 2 => ⟨S4x4096x512, .f32⟩
  | 3 => ⟨S512x1024, .bf16⟩
  | 4 => ⟨S512x1024, .f32⟩
  | 5 => ⟨S4x4096x1024, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S_, .f32⟩
  | 12 => ⟨S4x4096x1024, .f32⟩
  | 13 => ⟨S4x4096x1024, .f32⟩
  | 14 => ⟨S4x4096x1024, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S4x4096x1024, .f32⟩
  | 25 => ⟨S1024x1024, .bf16⟩
  | 26 => ⟨S1024x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S4x4096x1024, .f32⟩
  | 34 => ⟨S_, .f32⟩
  | 35 => ⟨S4x4096, .f32⟩
  | 36 => ⟨S4x4096x1, .f32⟩
  | 37 => ⟨S_, .f32⟩
  | 38 => ⟨S4x4096x1, .f32⟩
  | 39 => ⟨S4x4096x1, .f32⟩
  | 40 => ⟨S_, .f32⟩
  | 41 => ⟨S4x4096x1, .f32⟩
  | 42 => ⟨S4x4096x1, .f32⟩
  | 43 => ⟨S4x4096x1, .f32⟩
  | 44 => ⟨S4x4096x1024, .f32⟩
  | 45 => ⟨S4x4096x1024, .f32⟩
  | 46 => ⟨S1x1x1024, .f32⟩
  | 47 => ⟨S4x4096x1024, .f32⟩
  | 48 => ⟨S4x4096x1024, .f32⟩
  | 49 => ⟨S_, .f32⟩
  | 50 => ⟨S4x1x1024, .f32⟩
  | 51 => ⟨S4x1x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S1024x4096, .bf16⟩
  | 57 => ⟨S1024x4096, .f32⟩
  | 58 => ⟨S4x4096x4096, .f32⟩
  | 59 => ⟨S_, .f32⟩
  | 60 => ⟨S4x4096x4096, .f32⟩
  | 61 => ⟨S4x4096x4096, .f32⟩
  | 62 => ⟨S4x4096x4096, .f32⟩
  | 63 => ⟨S4096x1024, .bf16⟩
  | 64 => ⟨S4096x1024, .f32⟩
  | 65 => ⟨S4x4096x1024, .f32⟩
  | 66 => ⟨S4x4096x1024, .f32⟩
  | 67 => ⟨S4x4096x1024, .f32⟩
  | 68 => ⟨S4x4096x1024, .f32⟩
  | 69 => ⟨S4x4096x1024, .f32⟩
  | 70 => ⟨S_, .f32⟩
  | 71 => ⟨S4x4096, .f32⟩
  | 72 => ⟨S4x4096x1, .f32⟩
  | 73 => ⟨S_, .f32⟩
  | 74 => ⟨S4x4096x1, .f32⟩
  | 75 => ⟨S4x4096x1, .f32⟩
  | 76 => ⟨S_, .f32⟩
  | 77 => ⟨S4x4096x1, .f32⟩
  | 78 => ⟨S4x4096x1, .f32⟩
  | 79 => ⟨S4x4096x1, .f32⟩
  | 80 => ⟨S4x4096x1024, .f32⟩
  | 81 => ⟨S4x4096x1024, .f32⟩
  | 82 => ⟨S1x1x1024, .f32⟩
  | 83 => ⟨S4x4096x1024, .f32⟩
  | 84 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_3 : Ref sig .tc := ⟨.hbm, 71, rfl⟩
abbrev main_v51 : Ref sig .tc := ⟨.hbm, 72, rfl⟩
abbrev main_v52 : Ref sig .tc := ⟨.hbm, 73, rfl⟩
abbrev main_c_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_5 : Ref sig .tc := ⟨.hbm, 83, rfl⟩
abbrev main_call1_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_6 : Ref sig .tc := ⟨.hbm, 88, rfl⟩
abbrev main_call2_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_7 : Ref sig .tc := ⟨.hbm, 93, rfl⟩
abbrev main_call3_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_8 : Ref sig .tc := ⟨.hbm, 98, rfl⟩
abbrev main_v70 : Ref sig .tc := ⟨.hbm, 99, rfl⟩
abbrev main_v71 : Ref sig .tc := ⟨.hbm, 100, rfl⟩
abbrev main_c_9 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_10 : Ref sig .tc := ⟨.hbm, 110, rfl⟩
abbrev main_call4_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_11 : Ref sig .tc := ⟨.hbm, 115, rfl⟩
abbrev main_call5_v0 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_12 : Ref sig .tc := ⟨.hbm, 120, rfl⟩
abbrev main_call6_v0 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_call7_v0 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_14 : Ref sig .tc := ⟨.hbm, 130, rfl⟩
abbrev main_call8_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_15 : Ref sig .tc := ⟨.hbm, 135, rfl⟩
abbrev main_call9_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_16 : Ref sig .tc := ⟨.hbm, 140, rfl⟩
abbrev main_call10_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_17 : Ref sig .tc := ⟨.hbm, 145, rfl⟩
abbrev main_v101 : Ref sig .tc := ⟨.hbm, 146, rfl⟩
abbrev main_v102 : Ref sig .tc := ⟨.hbm, 147, rfl⟩
abbrev main_c_18 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_19 : Ref sig .tc := ⟨.hbm, 157, rfl⟩
abbrev main_call11_v0 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_20 : Ref sig .tc := ⟨.hbm, 162, rfl⟩
abbrev main_call12_v0 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c_21 : Ref sig .tc := ⟨.hbm, 167, rfl⟩
abbrev main_call13_v0 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_22 : Ref sig .tc := ⟨.hbm, 172, rfl⟩
abbrev main_call14_v0 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_23 : Ref sig .tc := ⟨.hbm, 177, rfl⟩
abbrev main_call15_v0 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_24 : Ref sig .tc := ⟨.hbm, 182, rfl⟩
abbrev main_call16_v0 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_25 : Ref sig .tc := ⟨.hbm, 187, rfl⟩
abbrev main_call17_v0 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_c_26 : Ref sig .tc := ⟨.hbm, 192, rfl⟩
abbrev main_call18_v0 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_c_27 : Ref sig .tc := ⟨.hbm, 197, rfl⟩
abbrev main_call19_v0 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_c_28 : Ref sig .tc := ⟨.hbm, 202, rfl⟩
abbrev main_call20_v0 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_c_29 : Ref sig .tc := ⟨.hbm, 207, rfl⟩
abbrev main_call21_v0 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_c_30 : Ref sig .tc := ⟨.hbm, 212, rfl⟩
abbrev main_call22_v0 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_c_31 : Ref sig .tc := ⟨.hbm, 217, rfl⟩
abbrev main_call23_v0 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_c_32 : Ref sig .tc := ⟨.hbm, 222, rfl⟩
abbrev main_call24_v0 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_c_33 : Ref sig .tc := ⟨.hbm, 227, rfl⟩
abbrev main_call25_v0 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_c_34 : Ref sig .tc := ⟨.hbm, 232, rfl⟩
abbrev main_v156 : Ref sig .tc := ⟨.hbm, 233, rfl⟩
abbrev main_v157 : Ref sig .tc := ⟨.hbm, 234, rfl⟩
abbrev main_c_35 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_cst_36 : Ref sig .tc := ⟨.hbm, 264, rfl⟩
abbrev main_v186 : Ref sig .tc := ⟨.hbm, 265, rfl⟩
abbrev main_v187 : Ref sig .tc := ⟨.hbm, 266, rfl⟩
abbrev main_cst_37 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_cst_38 : Ref sig .tc := ⟨.hbm, 273, rfl⟩
abbrev main_v193 : Ref sig .tc := ⟨.hbm, 274, rfl⟩
abbrev main_v194 : Ref sig .tc := ⟨.hbm, 275, rfl⟩
abbrev main_cst_39 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_cst_40 : Ref sig .tc := ⟨.hbm, 290, rfl⟩
abbrev main_v208 : Ref sig .tc := ⟨.hbm, 291, rfl⟩
abbrev main_v209 : Ref sig .tc := ⟨.hbm, 292, rfl⟩
abbrev main_cst_41 : Ref sig .tc := ⟨.hbm, 293, rfl⟩
abbrev main_v210 : Ref sig .tc := ⟨.hbm, 294, rfl⟩
abbrev main_v211 : Ref sig .tc := ⟨.hbm, 295, rfl⟩
abbrev main_cst_42 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_cst_43 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_call26_cst : Ref sig .tc := ⟨.hbm, 315, rfl⟩
abbrev main_call26_v0 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_cst_44 : Ref sig .tc := ⟨.hbm, 326, rfl⟩
abbrev main_v238 : Ref sig .tc := ⟨.hbm, 327, rfl⟩
abbrev main_v239 : Ref sig .tc := ⟨.hbm, 328, rfl⟩
abbrev main_cst_45 : Ref sig .tc := ⟨.hbm, 329, rfl⟩
abbrev main_v240 : Ref sig .tc := ⟨.hbm, 330, rfl⟩
abbrev main_v241 : Ref sig .tc := ⟨.hbm, 331, rfl⟩
abbrev main_cst_46 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩

abbrev nD : Nat := 1
abbrev τ : Topo := Topo.v7x

variable {F : FTy → Type} [FloatOps F]
-- ==== Proof.Cmd.lean ====
/- The attention kernel's effects as a small language of its own: loads, unmasked stores and assumed side
   conditions over a fixed list of buffers. A command of it is read twice: as a program of the machine (`Cmd.prog`)
   and as a predicate over the buffers' contents (`Cmd.post`). -/
module

public import proofs.«01_k».proof.Proof.Gen.KernelIdeal
public import Idealize.ShloMosaic.Lib.Writes

@[expose] public section

namespace Cert.Attn

open Idealize.ShloMosaic Idealize.SL.Sem
open Cert.KernelIdeal

/-- The buffers the body is given: queries, keys, values, five f32 weight blocks, the output block, five cast
    weight blocks, and the three scratch buffers (scores, accumulators, running maxima). -/
inductive Buf
  | q | k | v | w5 | w6 | w7 | w8 | w9 | o | c11 | c12 | c13 | c14 | c15 | s | acc | m
  deriving DecidableEq

/-- They are finitely many. -/
instance : Fintype Buf where
  elems := {.q, .k, .v, .w5, .w6, .w7, .w8, .w9, .o, .c11, .c12, .c13, .c14, .c15, .s, .acc, .m}
  complete x := by cases x <;> decide

/-- Each buffer's shape. -/
@[reducible] def Buf.sh : Buf → Shape
  | .q => S1x512x4096 | .k => S1x4096x512 | .v => S1x256x4096
  | .w5 => S1x64x1024 | .w6 => S1x64x1024 | .w7 => S1x128x1024 | .w8 => S1x128x4096 | .w9 => S1x512x1024
  | .o => S1x256x4096
  | .c11 => S1x64x1024 | .c12 => S1x64x1024 | .c13 => S1x128x1024 | .c14 => S1x128x4096 | .c15 => S1x512x1024
  | .s => S2x4x512x512 | .acc => S8x4x80x512 | .m => S8x4x1x512

/-- Each buffer's element type. -/
@[reducible] def Buf.el : Buf → EltTy
  | .q => .bf16 | .k => .bf16 | .v => .bf16
  | .w5 => .f32 | .w6 => .f32 | .w7 => .f32 | .w8 => .f32 | .w9 => .f32
  | .o => .bf16
  | .c11 => .bf16 | .c12 => .bf16 | .c13 => .bf16 | .c14 => .bf16 | .c15 => .bf16
  | .s => .f32 | .acc => .f32 | .m => .f32

/-- A proposition with a decision of it, as an assumed side condition carries. -/
structure Chk where
  P : Prop
  dec : Decidable P

/-- The store on `r` is one the machine can do, in every whole buffer. -/
def CanStore (x : Buf) (r : Rect x.sh) : Prop :=
  ∀ (sig : RefSig) (m : Memref sig .tc .vmem x.sh x.el), m.IsWhole → (m.access r).Stores Finset.univ

/-- Straight-line commands over the buffers. -/
inductive Cmd (F : FTy → Type) (α : Type) : Type 1
  | ret (a : α) : Cmd F α
  | load (x : Buf) (r : LoadRect x.sh) (h : 0 < r.shape.numel) (k : (r.shape.Idx → Elt F x.el) → Cmd F α) : Cmd F α
  | store (x : Buf) (r : Rect x.sh) (w : r.shape.Idx → Elt F x.el)
      (hx : CanStore x r)
      (k : Cmd F α) : Cmd F α
  | assume (A : Chk) (k : Cmd F α) : Cmd F α

namespace Cmd

variable {F : FTy → Type} {α β : Type}

/-- One command after another. -/
noncomputable def bind (c : Cmd F α) (f : α → Cmd F β) : Cmd F β :=
  Cmd.rec (motive := fun _ => Cmd F β) f (fun x r h _ ih => .load x r h ih) (fun x r w hx _ ih => .store x r w hx ih)
    (fun A _ ih => .assume A ih) c

/-- A command as a program of the machine, on the buffers `M`. -/
noncomputable def prog {nD : Nat} {τ : Topo} {sig : RefSig} {Λ : Labels}
    (M : ∀ x : Buf, Memref sig .tc .vmem x.sh x.el) (W : ∀ x, (M x).IsWhole) (c : Cmd F α) :
    Prog (TpuEff nD τ sig (Elt F) Λ .tc) α :=
  Cmd.rec (motive := fun _ => Prog (TpuEff nD τ sig (Elt F) Λ .tc) α) (fun a => .ret a)
    (fun x r h _ ih => .op (.load (M x) r (View.loadsAt_vmem h)) ih)
    (fun x r w hx _ ih => .op (.store (M x) r w Finset.univ (hx _ (M x) (W x)) (.inl rfl)) fun _ => ih)
    (fun A _ ih => .op (.assume A.P A.dec) fun _ => ih) c

end Cmd

/-- The contents of all buffers. -/
abbrev St (F : FTy → Type) := ∀ x : Buf, x.sh.Idx → Elt F x.el

open Classical in
/-- A buffer's contents after the store of `w` on the rectangle `r`. -/
noncomputable def put {s : Shape} {E : Type} (r : Rect s) (w : r.shape.Idx → E) (X : s.Idx → E) : s.Idx → E :=
  fun y => if h : ∃ j, r.emb j = y then w h.choose else X y

/-- On the rectangle, the stored value; -/
theorem put_emb {s : Shape} {E : Type} (r : Rect s) (w : r.shape.Idx → E) (X : s.Idx → E) (j : r.shape.Idx) :
    put r w X (r.emb j) = w j := by
  have h : ∃ j', r.emb j' = r.emb j := ⟨j, rfl⟩
  rw [put, dif_pos h, r.emb.injective h.choose_spec]

/-- off it, what was there. -/
theorem put_off {s : Shape} {E : Type} (r : Rect s) (w : r.shape.Idx → E) (X : s.Idx → E) (y : s.Idx)
    (h : ¬ ∃ j, r.emb j = y) : put r w X y = X y := by
  rw [put, dif_neg h]

namespace Cmd

variable {F : FTy → Type} {α β : Type}

/-- What a command ends in, from contents `X`: its result and the final contents satisfy `Q`, and the conditions it
    assumes on the way hold. -/
noncomputable def post (c : Cmd F α) : St F → (α → St F → Prop) → Prop :=
  Cmd.rec (motive := fun _ => St F → (α → St F → Prop) → Prop) (fun a X Q => Q a X)
    (fun x r _ _ ih X Q => ih (fun j => X x (r.idx j)) X Q)
    (fun x r w _ _ ih X Q => ih (Function.update X x (put r w (X x))) Q)
    (fun A _ ih X Q => A.P ∧ ih X Q) c

/-- The predicate of a sequence is the first's, of the second's. -/
theorem post_bind (c : Cmd F α) (f : α → Cmd F β) (X : St F) (Q : β → St F → Prop) :
    (c.bind f).post X Q ↔ c.post X fun a Y => (f a).post Y Q := by
  induction c generalizing X with
  | ret a => exact Iff.rfl
  | load x r h k ih => exact ih _ X
  | store x r w hx k ih => exact ih _
  | assume A k ih => exact and_congr Iff.rfl (ih X)

/-- A weaker end is reached too. -/
theorem post_mono (c : Cmd F α) (X : St F) {Q Q' : α → St F → Prop} (h : ∀ a Y, Q a Y → Q' a Y) :
    c.post X Q → c.post X Q' := by
  induction c generalizing X with
  | ret a => exact h a X
  | load x r h k ih => exact ih _ X
  | store x r w hx k ih => exact ih _
  | assume A k ih => exact And.imp_right (ih X)

/-- Two ends reached are reached together. -/
theorem post_and (c : Cmd F α) (X : St F) {Q Q' : α → St F → Prop} :
    c.post X Q → c.post X Q' → c.post X fun a Y => Q a Y ∧ Q' a Y := by
  induction c generalizing X with
  | ret a => exact And.intro
  | load x r h k ih => exact ih _ X
  | store x r w hx k ih => exact ih _
  | assume A k ih => exact fun h h' => ⟨h.1, ih X h.2 h'.2⟩

end Cmd
end Cert.Attn
-- ==== Proof.Steps.lean ====
/- The attention body, written in the language of commands: the two kinds of step on a score tile (below the diagonal
   and on it), each over an arbitrary head, slot and tile, and the order in which the body takes them. -/
module

public import proofs.«01_k».proof.Proof.Cmd

@[expose] public section

namespace Cert.Attn

open Idealize.ShloMosaic Idealize.SL.Sem
open Cert.KernelIdeal Cert.KernelIdeal.Facts₀ Cert.KernelIdeal.Facts

variable {F : FTy → Type} [FloatOps F]

/-! ## Rectangles -/

/-- A fact about each of three axes. -/
theorem all3 {p : Fin 3 → Prop} (h0 : p 0) (h1 : p 1) (h2 : p 2) : ∀ a, p a := by
  intro a; fin_cases a <;> assumption

/-- A fact about each of four axes. -/
theorem all4 {p : Fin 4 → Prop} (h0 : p 0) (h1 : p 1) (h2 : p 2) (h3 : p 3) : ∀ a, p a := by
  intro a; fin_cases a <;> assumption

/-- Keys: 512 rows of tile `j`, head `hd`. -/
@[reducible] def rK (hd : Fin 4) (j : Fin 8) : Rect S1x4096x512 :=
  Rect.unit (s := S1x4096x512) ![0, 512 * j.val, 128 * hd.val] S1x512x128.size
    (all3 (Nat.le_refl 1) (show 512 * j.val + 512 ≤ 4096 by omega) (show 128 * hd.val + 128 ≤ 512 by omega))

/-- Queries: 512 columns of tile `i`, head `hd`. -/
@[reducible] def rQ (hd : Fin 4) (i : Fin 8) : Rect S1x512x4096 :=
  Rect.unit (s := S1x512x4096) ![0, 128 * hd.val, 512 * i.val] S1x128x512.size
    (all3 (Nat.le_refl 1) (show 128 * hd.val + 128 ≤ 512 by omega) (show 512 * i.val + 512 ≤ 4096 by omega))

/-- Values: 512 columns of tile `j`, head `hd`. -/
@[reducible] def rV (hd : Fin 4) (j : Fin 8) : Rect S1x256x4096 :=
  Rect.unit (s := S1x256x4096) ![0, 64 * hd.val, 512 * j.val] S1x64x512.size
    (all3 (Nat.le_refl 1) (show 64 * hd.val + 64 ≤ 256 by omega) (show 512 * j.val + 512 ≤ 4096 by omega))

/-- Keys: 256 rows of half `h` of tile `d`. -/
@[reducible] def rKh (hd : Fin 4) (d : Fin 8) (h : Fin 2) : Rect S1x4096x512 :=
  Rect.unit (s := S1x4096x512) ![0, 512 * d.val + 256 * h.val, 128 * hd.val] S1x256x128.size
    (all3 (Nat.le_refl 1) (show 512 * d.val + 256 * h.val + 256 ≤ 4096 by omega) (show 128 * hd.val + 128 ≤ 512 by omega))

/-- Queries: 256 columns of half `h` of tile `d`. -/
@[reducible] def rQh (hd : Fin 4) (d : Fin 8) (h : Fin 2) : Rect S1x512x4096 :=
  Rect.unit (s := S1x512x4096) ![0, 128 * hd.val, 512 * d.val + 256 * h.val] S1x128x256.size
    (all3 (Nat.le_refl 1) (show 128 * hd.val + 128 ≤ 512 by omega) (show 512 * d.val + 256 * h.val + 256 ≤ 4096 by omega))

/-- Values and output: 256 columns of half `h` of tile `d`. -/
@[reducible] def rVh (hd : Fin 4) (d : Fin 8) (h : Fin 2) : Rect S1x256x4096 :=
  Rect.unit (s := S1x256x4096) ![0, 64 * hd.val, 512 * d.val + 256 * h.val] S1x64x256.size
    (all3 (Nat.le_refl 1) (show 64 * hd.val + 64 ≤ 256 by omega) (show 512 * d.val + 256 * h.val + 256 ≤ 4096 by omega))

/-- The score tile of head `hd` in slot `sl`. -/
@[reducible] def rS (sl : Fin 2) (hd : Fin 4) : Rect S2x4x512x512 :=
  Rect.unit (s := S2x4x512x512) ![sl.val, hd.val, 0, 0] S1x1x512x512.size
    (all4 (show sl.val + 1 ≤ 2 by omega) (show hd.val + 1 ≤ 4 by omega) (Nat.le_refl 512) (Nat.le_refl 512))

/-- Its upper half. -/
@[reducible] def rSt (sl : Fin 2) (hd : Fin 4) : Rect S2x4x512x512 :=
  Rect.unit (s := S2x4x512x512) ![sl.val, hd.val, 0, 0] S1x1x256x512.size
    (all4 (show sl.val + 1 ≤ 2 by omega) (show hd.val + 1 ≤ 4 by omega) (show 0 + 256 ≤ 512 by omega) (Nat.le_refl 512))

/-- Its quarter at rows half `a`, columns half `b`. -/
@[reducible] def rSq (sl : Fin 2) (hd : Fin 4) (a b : Fin 2) : Rect S2x4x512x512 :=
  Rect.unit (s := S2x4x512x512) ![sl.val, hd.val, 256 * a.val, 256 * b.val] S1x1x256x256.size
    (all4 (show sl.val + 1 ≤ 2 by omega) (show hd.val + 1 ≤ 4 by omega) (show 256 * a.val + 256 ≤ 512 by omega)
      (show 256 * b.val + 256 ≤ 512 by omega))

/-- The accumulator of query tile `i`, head `hd`. -/
@[reducible] def rA (hd : Fin 4) (i : Fin 8) : Rect S8x4x80x512 :=
  Rect.unit (s := S8x4x80x512) ![i.val, hd.val, 0, 0] S1x1x80x512.size
    (all4 (show i.val + 1 ≤ 8 by omega) (show hd.val + 1 ≤ 4 by omega) (Nat.le_refl 80) (Nat.le_refl 512))

/-- The running maxima of query tile `i`, head `hd`. -/
@[reducible] def rM (hd : Fin 4) (i : Fin 8) : Rect S8x4x1x512 :=
  Rect.unit (s := S8x4x1x512) ![i.val, hd.val, 0, 0] S1x1x1x512.size
    (all4 (show i.val + 1 ≤ 8 by omega) (show hd.val + 1 ≤ 4 by omega) (Nat.le_refl 1) (Nat.le_refl 512))

/-- The output store's rows are whole words. -/
theorem rVh_packed : ∀ (hd : Fin 4) (d : Fin 8) (h : Fin 2), (rVh hd d h).PackedRows (EltTy.packing .bf16) := by
  decide

/-! ## The pure parts -/

/-- The sixteen rows of ones appended to the values. -/
noncomputable def ones : FVec F S16x512 .bf16 := broadcast S16x512 (Scalar.ofBits .bf16 0x3F80#16)

/-- Which entries of a diagonal quarter are kept: those whose column is at least their row. -/
def halfMask : IVec S256x256 1 :=
  cmpi .sge (iota .tc S256x256 32 [1] iota_S256x256_d1_w32) (iota .tc S256x256 32 [0] iota_S256x256_d0_w32)

/-- A tile of scores from its keys and queries. -/
noncomputable def tileS (k : Vec F S1x512x128 .bf16) (q : Vec F S1x128x512 .bf16) : FVec F S512x512 .f32 :=
  matmul dot_S512x128_S128x512_S512x512_1_0_0_1_n_n none (shapeCast S512x128 k shapeCasts_S1x512x128_S512x128 : FVec F S512x128 .bf16)
    (shapeCast S128x512 q shapeCasts_S1x128x512_S128x512 : FVec F S128x512 .bf16) (constant S512x512 .f32 0x00000000#32)

/-- The column maxima of a tile. -/
noncomputable def tileMax (s : FVec F S512x512 .f32) : FVec F S1x512 .f32 :=
  shapeCast S1x512 (multiReduction .maximumf [0] S512 s 0xFF800000#32 reduces_S512x512_S512 (.inl rfl) rfl)
    shapeCasts_S512_S1x512

/-- The upper half of a diagonal tile. -/
noncomputable def topS (k : Vec F S1x256x128 .bf16) (q : Vec F S1x128x512 .bf16) : FVec F S256x512 .f32 :=
  matmul dot_S256x128_S128x512_S256x512_1_0_0_1_n_n none (shapeCast S256x128 k shapeCasts_S1x256x128_S256x128 : FVec F S256x128 .bf16)
    (shapeCast S128x512 q shapeCasts_S1x128x512_S128x512 : FVec F S128x512 .bf16) (constant S256x512 .f32 0x00000000#32)

/-- The lower right quarter of a diagonal tile. -/
noncomputable def botS (k : Vec F S1x256x128 .bf16) (q : Vec F S1x128x256 .bf16) : FVec F S256x256 .f32 :=
  matmul dot_S256x128_S128x256_S256x256_1_0_0_1_n_n none (shapeCast S256x128 k shapeCasts_S1x256x128_S256x128 : FVec F S256x128 .bf16)
    (shapeCast S128x256 q shapeCasts_S1x128x256_S128x256 : FVec F S128x256 .bf16) (constant S256x256 .f32 0x00000000#32)

/-- The running maxima after a tile. -/
noncomputable def mNew (m : Vec F S1x1x1x512 .f32) (t : FVec F S1x512 .f32) : FVec F S1x512 .f32 :=
  maximumf (shapeCast S1x512 m shapeCasts_S1x1x1x512_S1x512 : FVec F S1x512 .f32) t

/-- The tile's weights relative to the new maxima. -/
noncomputable def tileP (s : Vec F S1x1x512x512 .f32) (mn : FVec F S1x512 .f32) : FVec F S512x512 .bf16 :=
  truncf .bf16 (exp2 (subf (shapeCast S512x512 s shapeCasts_S1x1x512x512_S512x512 : FVec F S512x512 .f32)
    (broadcastTo S512x512 mn broadcasts_S1x512_S512x512))) bitsLt_bf16_f32

/-- The accumulator after a tile. -/
noncomputable def accNew (m : Vec F S1x1x1x512 .f32) (mn : FVec F S1x512 .f32) (acc : Vec F S1x1x80x512 .f32)
    (v : Vec F S1x64x512 .bf16) (p : FVec F S512x512 .bf16) : FVec F S80x512 .f32 :=
  addf (mulf (broadcastTo S80x512 (exp2 (subf (shapeCast S1x512 m shapeCasts_S1x1x1x512_S1x512 : FVec F S1x512 .f32) mn))
      broadcasts_S1x512_S80x512) (shapeCast S80x512 acc shapeCasts_S1x1x80x512_S80x512 : FVec F S80x512 .f32))
    (matmul dot_S80x512_S512x512_S80x512_1_0_0_1_n_n none
      (concatenate S80x512 0 [⟨S64x512, (shapeCast S64x512 v shapeCasts_S1x64x512_S64x512 : FVec F S64x512 .bf16)⟩, ⟨S16x512, ones⟩]
        concatenates_S64x512_S16x512_S80x512_d0) p (constant S80x512 .f32 0x00000000#32))

/-- A quarter with its entries above the diagonal replaced by the least value. -/
noncomputable def maskQ (s : Vec F S1x1x256x256 .f32) : FVec F S256x256 .f32 :=
  select halfMask (shapeCast S256x256 s shapeCasts_S1x1x256x256_S256x256 : FVec F S256x256 .f32)
    (broadcast S256x256 (Scalar.ofBits .f32 0xFF800000#32))

/-- The column maxima of a quarter. -/
noncomputable def quarterMax (s : FVec F S256x256 .f32) : FVec F S1x256 .f32 :=
  shapeCast S1x256 (multiReduction .maximumf [0] S256 s 0xFF800000#32 reduces_S256x256_S256 (.inl rfl) rfl)
    shapeCasts_S256_S1x256

/-- The left and the right half of a row of maxima. -/
noncomputable def mL (m : Vec F S1x1x1x512 .f32) : FVec F S1x256 .f32 :=
  extractStridedSlice S1x256 ![0, 0] (shapeCast S1x512 m shapeCasts_S1x1x1x512_S1x512 : FVec F S1x512 .f32) slices_S1x512_o0_0_S1x256
noncomputable def mR (m : Vec F S1x1x1x512 .f32) : FVec F S1x256 .f32 :=
  extractStridedSlice S1x256 ![0, 256] (shapeCast S1x512 m shapeCasts_S1x1x1x512_S1x512 : FVec F S1x512 .f32) slices_S1x512_o0_256_S1x256

/-- The final maxima of the left half's columns, -/
noncomputable def mlF (m : Vec F S1x1x1x512 .f32) (tl : FVec F S256x256 .f32) : FVec F S1x256 .f32 :=
  maximumf (mL m) (quarterMax tl)
/-- and of the right half's. -/
noncomputable def mrF (m : Vec F S1x1x1x512 .f32) (tr br : FVec F S256x256 .f32) : FVec F S1x256 .f32 :=
  maximumf (mR m) (maximumf (quarterMax tr) (quarterMax br))

/-- A quarter's weights relative to the final maxima. -/
noncomputable def quarterP (s : FVec F S256x256 .f32) (mf : FVec F S1x256 .f32) : FVec F S256x256 .f32 :=
  exp2 (subf s (broadcastTo S256x256 mf broadcasts_S1x256_S256x256))

/-- The final accumulator of the left half's columns, -/
noncomputable def accL (m : Vec F S1x1x1x512 .f32) (tl : FVec F S256x256 .f32) (acc : Vec F S1x1x80x512 .f32)
    (v : Vec F S1x64x256 .bf16) : FVec F S80x256 .f32 :=
  addf (mulf (broadcastTo S80x256 (exp2 (subf (mL m) (mlF m tl))) broadcasts_S1x256_S80x256)
      (extractStridedSlice S80x256 ![0, 0] (shapeCast S80x512 acc shapeCasts_S1x1x80x512_S80x512 : FVec F S80x512 .f32) slices_S80x512_o0_0_S80x256))
    (matmul dot_S80x256_S256x256_S80x256_1_0_0_1_n_n none
      (concatenate S80x256 0 [⟨S64x256, (shapeCast S64x256 v shapeCasts_S1x64x256_S64x256 : FVec F S64x256 .bf16)⟩,
          ⟨S16x256, extractStridedSlice S16x256 ![0, 0] (ones (F := F)) slices_S16x512_o0_0_S16x256⟩]
        concatenates_S64x256_S16x256_S80x256_d0) (truncf .bf16 (quarterP tl (mlF m tl)) bitsLt_bf16_f32)
      (constant S80x256 .f32 0x00000000#32))

/-- and of the right half's. -/
noncomputable def accR (m : Vec F S1x1x1x512 .f32) (tr br : FVec F S256x256 .f32) (acc : Vec F S1x1x80x512 .f32)
    (v : Vec F S1x64x512 .bf16) : FVec F S80x256 .f32 :=
  addf (mulf (broadcastTo S80x256 (exp2 (subf (mR m) (mrF m tr br))) broadcasts_S1x256_S80x256)
      (extractStridedSlice S80x256 ![0, 256] (shapeCast S80x512 acc shapeCasts_S1x1x80x512_S80x512 : FVec F S80x512 .f32) slices_S80x512_o0_256_S80x256))
    (matmul dot_S80x512_S512x256_S80x256_1_0_0_1_n_n none
      (concatenate S80x512 0 [⟨S64x512, (shapeCast S64x512 v shapeCasts_S1x64x512_S64x512 : FVec F S64x512 .bf16)⟩, ⟨S16x512, ones⟩]
        concatenates_S64x512_S16x512_S80x512_d0)
      (truncf .bf16 (concatenate S512x256 0 [⟨S256x256, quarterP tr (mrF m tr br)⟩, ⟨S256x256, quarterP br (mrF m tr br)⟩]
        concatenates_S256x256_S256x256_S512x256_d0) bitsLt_bf16_f32)
      (constant S80x256 .f32 0x00000000#32))

/-- The output of a half: the accumulated values over the accumulated weight. -/
noncomputable def outH (a : FVec F S80x256 .f32) : FVec F S1x64x256 .bf16 :=
  shapeCast S1x64x256 (truncf .bf16 (mulf (extractStridedSlice S64x256 ![0, 0] a slices_S80x256_o0_0_S64x256)
    (broadcastTo S64x256 (divf (broadcast S1x256 (Scalar.ofBits .f32 0x3F800000#32))
      (extractStridedSlice S1x256 ![64, 0] a slices_S80x256_o64_0_S1x256)) broadcasts_S1x256_S64x256)) bitsLt_bf16_f32 : FVec F S64x256 .bf16)
    shapeCasts_S64x256_S1x64x256

/-! ## The steps -/

/-- Scores of tile `(i, j)` into slot `sl`; the result is their column maxima. -/
noncomputable def produce {α : Type} (sl : Fin 2) (hd : Fin 4) (i j : Fin 8) (κ : FVec F S1x512 .f32 → Cmd F α) : Cmd F α :=
  .load .k (rK hd j).toLoadRect h_S1x512x128 fun k =>
  .load .q (rQ hd i).toLoadRect h_S1x128x512 fun q =>
  .load .s (rS sl hd).toLoadRect h_S1x1x512x512 fun _ =>
  .store .s (rS sl hd) (shapeCast S1x1x512x512 (tileS k q) shapeCasts_S512x512_S1x1x512x512)
    (fun _ _ _ => View.stores_vmem_bits_univ h_S1x1x512x512 rfl) <|
  κ (tileMax (tileS k q))

/-- Tile `(i, j)` of slot `sl`, its column maxima `t`, into the accumulator and the maxima. -/
noncomputable def consume {α : Type} (sl : Fin 2) (hd : Fin 4) (i j : Fin 8) (t : FVec F S1x512 .f32) (κ : Cmd F α) : Cmd F α :=
  .load .m (rM hd i).toLoadRect h_S1x1x1x512 fun m =>
  .load .s (rS sl hd).toLoadRect h_S1x1x512x512 fun s =>
  .load .acc (rA hd i).toLoadRect h_S1x1x80x512 fun acc =>
  .load .v (rV hd j).toLoadRect h_S1x64x512 fun v =>
  .load .acc (rA hd i).toLoadRect h_S1x1x80x512 fun _ =>
  .store .acc (rA hd i) (shapeCast S1x1x80x512 (accNew m (mNew m t) acc v (tileP s (mNew m t))) shapeCasts_S80x512_S1x1x80x512)
    (fun _ _ _ => View.stores_vmem_bits_univ h_S1x1x80x512 rfl) <|
  .load .m (rM hd i).toLoadRect h_S1x1x1x512 fun _ =>
  .store .m (rM hd i) (shapeCast S1x1x1x512 (mNew m t) shapeCasts_S1x512_S1x1x1x512)
    (fun _ _ _ => View.stores_vmem_bits_univ h_S1x1x1x512 rfl) <|
  κ

/-- Scores of diagonal tile `d` into slot `sl`: the upper half and the lower right quarter. -/
noncomputable def produceD {α : Type} (sl : Fin 2) (hd : Fin 4) (d : Fin 8) (κ : Cmd F α) : Cmd F α :=
  .load .k (rKh hd d 0).toLoadRect h_S1x256x128 fun k =>
  .load .q (rQ hd d).toLoadRect h_S1x128x512 fun q =>
  .load .s (rSt sl hd).toLoadRect h_S1x1x256x512 fun _ =>
  .store .s (rSt sl hd) (shapeCast S1x1x256x512 (topS k q) shapeCasts_S256x512_S1x1x256x512)
    (fun _ _ _ => View.stores_vmem_bits_univ h_S1x1x256x512 rfl) <|
  .load .k (rKh hd d 1).toLoadRect h_S1x256x128 fun k' =>
  .load .q (rQh hd d 1).toLoadRect h_S1x128x256 fun q' =>
  .load .s (rSq sl hd 1 1).toLoadRect h_S1x1x256x256 fun _ =>
  .store .s (rSq sl hd 1 1) (shapeCast S1x1x256x256 (botS k' q') shapeCasts_S256x256_S1x1x256x256)
    (fun _ _ _ => View.stores_vmem_bits_univ h_S1x1x256x256 rfl) <|
  κ

/-- Diagonal tile `d` of slot `sl` into the output. -/
noncomputable def consumeD {α : Type} (sl : Fin 2) (hd : Fin 4) (d : Fin 8) (κ : Cmd F α) : Cmd F α :=
  .load .s (rSq sl hd 0 0).toLoadRect h_S1x1x256x256 fun tl =>
  .load .s (rSq sl hd 0 1).toLoadRect h_S1x1x256x256 fun tr =>
  .load .s (rSq sl hd 1 1).toLoadRect h_S1x1x256x256 fun br =>
  .load .m (rM hd d).toLoadRect h_S1x1x1x512 fun m =>
  .load .acc (rA hd d).toLoadRect h_S1x1x80x512 fun acc =>
  .load .v (rVh hd d 0).toLoadRect h_S1x64x256 fun v =>
  .load .v (rV hd d).toLoadRect h_S1x64x512 fun v' =>
  .load .o (rVh hd d 0).toLoadRect h_S1x64x256 fun _ =>
  .store .o (rVh hd d 0) (outH (accL m (maskQ tl) acc v))
    (fun _ _ W => View.stores_vmem h_S1x64x256 (W.storeExact_slice rfl _ (rVh_packed hd d 0)) (fun _ => rfl)) <|
  .load .o (rVh hd d 1).toLoadRect h_S1x64x256 fun _ =>
  .store .o (rVh hd d 1) (outH (accR m (shapeCast S256x256 tr shapeCasts_S1x1x256x256_S256x256) (maskQ br) acc v'))
    (fun _ _ W => View.stores_vmem h_S1x64x256 (W.storeExact_slice rfl _ (rVh_packed hd d 1)) (fun _ => rfl)) <|
  κ

/-! ## The order of the steps -/

/-- The maxima of the four heads of a tile. -/
abbrev Maxes (F : FTy → Type) : Type := FVec F S1x512 .f32 × FVec F S1x512 .f32 × FVec F S1x512 .f32 × FVec F S1x512 .f32

/-- One step below the diagonal: for each head, the next tile's scores are produced, then this tile's consumed. -/
noncomputable def below {α : Type} (sl sl' : Fin 2) (t t' : Fin 8 × Fin 8) (x : Maxes F) (κ : Maxes F → Cmd F α) : Cmd F α :=
  produce sl' 0 t'.1 t'.2 fun n0 => consume sl 0 t.1 t.2 x.1 <|
  produce sl' 1 t'.1 t'.2 fun n1 => consume sl 1 t.1 t.2 x.2.1 <|
  produce sl' 2 t'.1 t'.2 fun n2 => consume sl 2 t.1 t.2 x.2.2.1 <|
  produce sl' 3 t'.1 t'.2 fun n3 => consume sl 3 t.1 t.2 x.2.2.2 <|
  κ (n0, n1, n2, n3)

/-- The last step below the diagonal: the next scores are the first diagonal tile's. -/
noncomputable def belowLast {α : Type} (sl sl' : Fin 2) (t : Fin 8 × Fin 8) (d : Fin 8) (x : Maxes F) (κ : Cmd F α) : Cmd F α :=
  produceD sl' 0 d <| consume sl 0 t.1 t.2 x.1 <|
  produceD sl' 1 d <| consume sl 1 t.1 t.2 x.2.1 <|
  produceD sl' 2 d <| consume sl 2 t.1 t.2 x.2.2.1 <|
  produceD sl' 3 d <| consume sl 3 t.1 t.2 x.2.2.2 <|
  κ

/-- One step on the diagonal: the next diagonal tile's scores are produced, this one's consumed. -/
noncomputable def diag {α : Type} (sl sl' : Fin 2) (d d' : Fin 8) (κ : Cmd F α) : Cmd F α :=
  produceD sl' 0 d' <| consumeD sl 0 d <|
  produceD sl' 1 d' <| consumeD sl 1 d <|
  produceD sl' 2 d' <| consumeD sl 2 d <|
  produceD sl' 3 d' <| consumeD sl 3 d <|
  κ

/-- The last step on the diagonal. -/
noncomputable def diagLast {α : Type} (sl : Fin 2) (d : Fin 8) (κ : Cmd F α) : Cmd F α :=
  consumeD sl 0 d <| consumeD sl 1 d <| consumeD sl 2 d <| consumeD sl 3 d <| κ

/-- The tiles below the diagonal, row by row. -/
def tile : Nat → Fin 8 × Fin 8
  | 0 => (1, 0) | 1 => (2, 0) | 2 => (2, 1) | 3 => (3, 0) | 4 => (3, 1) | 5 => (3, 2) | 6 => (4, 0) | 7 => (4, 1)
  | 8 => (4, 2) | 9 => (4, 3) | 10 => (5, 0) | 11 => (5, 1) | 12 => (5, 2) | 13 => (5, 3) | 14 => (5, 4) | 15 => (6, 0)
  | 16 => (6, 1) | 17 => (6, 2) | 18 => (6, 3) | 19 => (6, 4) | 20 => (6, 5) | 21 => (7, 0) | 22 => (7, 1) | 23 => (7, 2)
  | 24 => (7, 3) | 25 => (7, 4) | 26 => (7, 5) | _ => (7, 6)

/-- Two steps below the diagonal, from tile `n` in slot 0. -/
noncomputable def pair {α : Type} (n : Nat) (x : Maxes F) (κ : Maxes F → Cmd F α) : Cmd F α :=
  below 0 1 (tile n) (tile (n + 1)) x fun y => below 1 0 (tile (n + 1)) (tile (n + 2)) y κ

/-- A trip of the loop: eight steps, under its assumed side conditions. -/
noncomputable def trip {α : Type} (A : Chk × Chk) (n : Nat) (x : Maxes F) (κ : Maxes F → Cmd F α) : Cmd F α :=
  .assume A.1 <| .assume A.2 <|
  pair n x fun x => pair (n + 2) x fun x => pair (n + 4) x fun x => pair (n + 6) x κ

/-- What comes before the loop: the first tile's scores, the scratch buffers' fill, the casts of the weights. -/
noncomputable def start {α : Type} (κ : Maxes F → Cmd F α) : Cmd F α :=
  produce 0 0 1 0 fun x0 => produce 0 1 1 0 fun x1 => produce 0 2 1 0 fun x2 => produce 0 3 1 0 fun x3 =>
  .load .acc (Rect.unit (s := S8x4x80x512) ![0, 0, 0, 0] S8x4x80x512.size inb_S8x4x80x512_S8x4x80x512_0_0_0_0).toLoadRect h_S8x4x80x512 fun _ =>
  .store .acc (Rect.unit (s := S8x4x80x512) ![0, 0, 0, 0] S8x4x80x512.size inb_S8x4x80x512_S8x4x80x512_0_0_0_0)
    (shapeCast S8x4x80x512 (broadcast S8x4x80x512 (Scalar.ofBits .f32 0x00000000#32 : F .f32) : FVec F S8x4x80x512 .f32) shapeCasts_S8x4x80x512_S8x4x80x512)
    (fun _ _ _ => View.stores_vmem_bits_univ h_S8x4x80x512 rfl) <|
  .load .m (Rect.unit (s := S8x4x1x512) ![0, 0, 0, 0] S8x4x1x512.size inb_S8x4x1x512_S8x4x1x512_0_0_0_0).toLoadRect h_S8x4x1x512 fun _ =>
  .store .m (Rect.unit (s := S8x4x1x512) ![0, 0, 0, 0] S8x4x1x512.size inb_S8x4x1x512_S8x4x1x512_0_0_0_0)
    (shapeCast S8x4x1x512 (broadcast S8x4x1x512 (Scalar.ofBits .f32 0xFF800000#32 : F .f32) : FVec F S8x4x1x512 .f32) shapeCasts_S8x4x1x512_S8x4x1x512)
    (fun _ _ _ => View.stores_vmem_bits_univ h_S8x4x1x512 rfl) <|
  .load .w5 (Rect.unit (s := S1x64x1024) ![0, 0, 0] S1x64x1024.size inb_S1x64x1024_S1x64x1024_0_0_0).toLoadRect h_S1x64x1024 fun w =>
  .load .c11 (Rect.unit (s := S1x64x1024) ![0, 0, 0] S1x64x1024.size inb_S1x64x1024_S1x64x1024_0_0_0).toLoadRect h_S1x64x1024 fun _ =>
  .store .c11 (Rect.unit (s := S1x64x1024) ![0, 0, 0] S1x64x1024.size inb_S1x64x1024_S1x64x1024_0_0_0)
    (truncf .bf16 (w : FVec F S1x64x1024 .f32) bitsLt_bf16_f32 : FVec F S1x64x1024 .bf16)
    (fun _ _ W => View.stores_vmem h_S1x64x1024 (W.storeExact_slice rfl _ packedbf16_S1x64x1024_S1x64x1024_0_0_0) (fun _ => rfl)) <|
  .load .w6 (Rect.unit (s := S1x64x1024) ![0, 0, 0] S1x64x1024.size inb_S1x64x1024_S1x64x1024_0_0_0).toLoadRect h_S1x64x1024 fun w =>
  .load .c12 (Rect.unit (s := S1x64x1024) ![0, 0, 0] S1x64x1024.size inb_S1x64x1024_S1x64x1024_0_0_0).toLoadRect h_S1x64x1024 fun _ =>
  .store .c12 (Rect.unit (s := S1x64x1024) ![0, 0, 0] S1x64x1024.size inb_S1x64x1024_S1x64x1024_0_0_0)
    (truncf .bf16 (w : FVec F S1x64x1024 .f32) bitsLt_bf16_f32 : FVec F S1x64x1024 .bf16)
    (fun _ _ W => View.stores_vmem h_S1x64x1024 (W.storeExact_slice rfl _ packedbf16_S1x64x1024_S1x64x1024_0_0_0) (fun _ => rfl)) <|
  .load .w7 (Rect.unit (s := S1x128x1024) ![0, 0, 0] S1x128x1024.size inb_S1x128x1024_S1x128x1024_0_0_0).toLoadRect h_S1x128x1024 fun w =>
  .load .c13 (Rect.unit (s := S1x128x1024) ![0, 0, 0] S1x128x1024.size inb_S1x128x1024_S1x128x1024_0_0_0).toLoadRect h_S1x128x1024 fun _ =>
  .store .c13 (Rect.unit (s := S1x128x1024) ![0, 0, 0] S1x128x1024.size inb_S1x128x1024_S1x128x1024_0_0_0)
    (truncf .bf16 (w : FVec F S1x128x1024 .f32) bitsLt_bf16_f32 : FVec F S1x128x1024 .bf16)
    (fun _ _ W => View.stores_vmem h_S1x128x1024 (W.storeExact_slice rfl _ packedbf16_S1x128x1024_S1x128x1024_0_0_0) (fun _ => rfl)) <|
  .load .w8 (Rect.unit (s := S1x128x4096) ![0, 0, 0] S1x128x4096.size inb_S1x128x4096_S1x128x4096_0_0_0).toLoadRect h_S1x128x4096 fun w =>
  .load .c14 (Rect.unit (s := S1x128x4096) ![0, 0, 0] S1x128x4096.size inb_S1x128x4096_S1x128x4096_0_0_0).toLoadRect h_S1x128x4096 fun _ =>
  .store .c14 (Rect.unit (s := S1x128x4096) ![0, 0, 0] S1x128x4096.size inb_S1x128x4096_S1x128x4096_0_0_0)
    (truncf .bf16 (w : FVec F S1x128x4096 .f32) bitsLt_bf16_f32 : FVec F S1x128x4096 .bf16)
    (fun _ _ W => View.stores_vmem h_S1x128x4096 (W.storeExact_slice rfl _ packedbf16_S1x128x4096_S1x128x4096_0_0_0) (fun _ => rfl)) <|
  .load .w9 (Rect.unit (s := S1x512x1024) ![0, 0, 0] S1x512x1024.size inb_S1x512x1024_S1x512x1024_0_0_0).toLoadRect h_S1x512x1024 fun w =>
  .load .c15 (Rect.unit (s := S1x512x1024) ![0, 0, 0] S1x512x1024.size inb_S1x512x1024_S1x512x1024_0_0_0).toLoadRect h_S1x512x1024 fun _ =>
  .store .c15 (Rect.unit (s := S1x512x1024) ![0, 0, 0] S1x512x1024.size inb_S1x512x1024_S1x512x1024_0_0_0)
    (truncf .bf16 (w : FVec F S1x512x1024 .f32) bitsLt_bf16_f32 : FVec F S1x512x1024 .bf16)
    (fun _ _ W => View.stores_vmem h_S1x512x1024 (W.storeExact_slice rfl _ packedbf16_S1x512x1024_S1x512x1024_0_0_0) (fun _ => rfl)) <|
  κ (x0, x1, x2, x3)

/-- What comes after the loop: the last four tiles below the diagonal, then the eight on it. -/
noncomputable def finish (A : Chk × Chk) (x : Maxes F) : Cmd F PUnit :=
  .assume A.1 <| .assume A.2 <|
  pair 24 x fun x => below 0 1 (tile 26) (tile 27) x fun x => belowLast 1 0 (tile 27) 0 x <|
  diag 0 1 0 1 <| diag 1 0 1 2 <| diag 0 1 2 3 <| diag 1 0 3 4 <| diag 0 1 4 5 <| diag 1 0 5 6 <| diag 0 1 6 7 <|
  diagLast 1 7 (.ret ⟨⟩)

end Cert.Attn
-- ==== Proof.Text.lean ====
/- The printed body is the commands of `Steps`, read as a program. -/
module

public import proofs.«01_k».proof.Proof.Steps
public import proofs.«01_k».proof.Proof.Gen.KernelIdeal.Skeleton
public import Idealize.ShloMosaic.Lib.Pipeline.Regions

@[expose] public section

namespace Cert.KernelIdeal.Attn

open Idealize.ShloMosaic Idealize.SL.Sem Cert.Attn
open Cert.KernelIdeal

variable {F : FTy → Type} [FloatOps F]

section
variable (i : grid0.Coords) (arg2 : Memref sig .tc .vmem S1x512x4096 .bf16) (harg2 : arg2.IsWhole) (arg3 : Memref sig .tc .vmem S1x4096x512 .bf16) (harg3 : arg3.IsWhole) (arg4 : Memref sig .tc .vmem S1x256x4096 .bf16) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x128x1024 .f32) (harg7 : arg7.IsWhole) (arg8 : Memref sig .tc .vmem S1x128x4096 .f32) (harg8 : arg8.IsWhole) (arg9 : Memref sig .tc .vmem S1x512x1024 .f32) (harg9 : arg9.IsWhole) (arg10 : Memref sig .tc .vmem S1x256x4096 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x128x1024 .bf16) (harg13 : arg13.IsWhole) (arg14 : Memref sig .tc .vmem S1x128x4096 .bf16) (harg14 : arg14.IsWhole) (arg15 : Memref sig .tc .vmem S1x512x1024 .bf16) (harg15 : arg15.IsWhole) (arg16 : Memref sig .tc .vmem S2x4x512x512 .f32) (harg16 : arg16.IsWhole) (arg17 : Memref sig .tc .vmem S8x4x80x512 .f32) (harg17 : arg17.IsWhole) (arg18 : Memref sig .tc .vmem S8x4x1x512 .f32) (harg18 : arg18.IsWhole)

/-- The memrefs the body is given, by the buffer each stands for. -/
def bufs (arg2 : Memref sig .tc .vmem S1x512x4096 .bf16) (arg3 : Memref sig .tc .vmem S1x4096x512 .bf16) (arg4 : Memref sig .tc .vmem S1x256x4096 .bf16) (arg5 : Memref sig .tc .vmem S1x64x1024 .f32) (arg6 : Memref sig .tc .vmem S1x64x1024 .f32) (arg7 : Memref sig .tc .vmem S1x128x1024 .f32) (arg8 : Memref sig .tc .vmem S1x128x4096 .f32) (arg9 : Memref sig .tc .vmem S1x512x1024 .f32) (arg10 : Memref sig .tc .vmem S1x256x4096 .bf16) (arg11 : Memref sig .tc .vmem S1x64x1024 .bf16) (arg12 : Memref sig .tc .vmem S1x64x1024 .bf16) (arg13 : Memref sig .tc .vmem S1x128x1024 .bf16) (arg14 : Memref sig .tc .vmem S1x128x4096 .bf16) (arg15 : Memref sig .tc .vmem S1x512x1024 .bf16) (arg16 : Memref sig .tc .vmem S2x4x512x512 .f32) (arg17 : Memref sig .tc .vmem S8x4x80x512 .f32) (arg18 : Memref sig .tc .vmem S8x4x1x512 .f32) :
    ∀ x : Cert.Attn.Buf, Memref sig .tc .vmem x.sh x.el
  | .q => arg2 | .k => arg3 | .v => arg4 | .w5 => arg5 | .w6 => arg6 | .w7 => arg7 | .w8 => arg8 | .w9 => arg9
  | .o => arg10 | .c11 => arg11 | .c12 => arg12 | .c13 => arg13 | .c14 => arg14 | .c15 => arg15
  | .s => arg16 | .acc => arg17 | .m => arg18

local notation "𝕄" => bufs arg2 arg3 arg4 arg5 arg6 arg7 arg8 arg9 arg10 arg11 arg12 arg13 arg14 arg15 arg16 arg17 arg18

/-- The two side conditions a trip assumes at the tile it starts from. -/
@[reducible] def tripChk (a b : BitVec 32) : Chk × Chk := (⟨k0_chk2 a, k0_chk2.dec a⟩, ⟨k0_chk1 a b, k0_chk1.dec a b⟩)

/-- The two side conditions assumed after the loop. -/
@[reducible] def endChk (a b : BitVec 32) : Chk × Chk := (⟨k0_chk4 b, k0_chk4.dec b⟩, ⟨k0_chk3 b a, k0_chk3.dec b a⟩)

/-- The body as commands. -/
noncomputable def cmd : Cmd F PUnit :=
  start fun x => trip (tripChk 1#32 0#32) 0 x fun x => trip (tripChk 4#32 2#32) 8 x fun x =>
  trip (tripChk 6#32 1#32) 16 x fun x => finish (endChk 7#32 3#32) x

set_option maxRecDepth 100000 in
set_option maxHeartbeats 0 in
/-- The printed body is the commands', on its memrefs. -/
theorem body_eq (W : ∀ x, (𝕄 x).IsWhole) :
    cc0_mla_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = cmd.prog 𝕄 W := by
  rw [Gen.cc0_mla_attention_eq_skeleton]
  delta Gen.cc0_mla_attention_skel
  rw [Gen.k0_part158_eq_skeleton]
  delta Gen.k0_part158_skel
  rw [Gen.k0_part50_eq_skeleton]
  delta Gen.k0_part50_skel
  simp only [Scf.Loop.for, Scf.for_eq]
  chain_rfl
end
end Cert.KernelIdeal.Attn
-- ==== Proof.Keeps.lean ====
/- The body stores into no buffer it only reads: from any contents it ends, its input blocks unchanged, the side
   conditions it assumes holding. -/
module

public import proofs.«01_k».proof.Proof.Text

@[expose] public section

namespace Cert.Attn

open Idealize.ShloMosaic Idealize.SL.Sem
open Cert.KernelIdeal

variable {F : FTy → Type}

/-- The buffers that are only read: queries, keys, values and the weights to cast. -/
def Buf.isIn : Buf → Bool
  | .q | .k | .v | .w5 | .w6 | .w7 | .w8 | .w9 => true
  | _ => false

/-- The buffers of results. -/
def Buf.isOut : Buf → Bool
  | .o | .c11 | .c12 | .c13 | .c14 | .c15 => true
  | _ => false

/-- From any contents with the inputs at `I`, the command ends with the inputs at `I`. -/
def Keeps (I : St F) (c : Cmd F PUnit) : Prop :=
  ∀ X : St F, (∀ x : Buf, x.isIn = true → X x = I x) → c.post X fun _ Y => ∀ x : Buf, x.isIn = true → Y x = I x

section
variable {I : St F}

theorem keeps_ret : Keeps I (.ret ⟨⟩) := fun _ h => h

theorem keeps_load {x : Buf} {r : LoadRect x.sh} {h : 0 < r.shape.numel} {k : (r.shape.Idx → Elt F x.el) → Cmd F PUnit}
    (hk : ∀ v, Keeps I (k v)) : Keeps I (.load x r h k) := fun X hX => hk _ X hX

theorem keeps_store {x : Buf} {r : Rect x.sh} {w : r.shape.Idx → Elt F x.el}
    {hx : CanStore x r} {k : Cmd F PUnit}
    (ho : x.isIn = false) (hk : Keeps I k) : Keeps I (.store x r w hx k) := fun X hX =>
  hk (Function.update X x (put r w (X x))) fun y hy => by
    rw [Function.update_of_ne (fun e => by rw [e, ho] at hy; exact Bool.noConfusion hy)]; exact hX y hy

theorem keeps_assume {A : Chk} {k : Cmd F PUnit} (hA : A.P) (hk : Keeps I k) : Keeps I (.assume A k) :=
  fun X hX => ⟨hA, hk X hX⟩

variable [FloatOps F]

theorem keeps_produce {sl : Fin 2} {hd : Fin 4} {i j : Fin 8} {κ : FVec F S1x512 .f32 → Cmd F PUnit}
    (h : ∀ n, Keeps I (κ n)) : Keeps I (produce sl hd i j κ) :=
  keeps_load fun _ => keeps_load fun _ => keeps_load fun _ => keeps_store rfl (h _)

theorem keeps_consume {sl : Fin 2} {hd : Fin 4} {i j : Fin 8} {t : FVec F S1x512 .f32} {κ : Cmd F PUnit}
    (h : Keeps I κ) : Keeps I (consume sl hd i j t κ) :=
  keeps_load fun _ => keeps_load fun _ => keeps_load fun _ => keeps_load fun _ => keeps_load fun _ => keeps_store rfl <|
    keeps_load fun _ => keeps_store rfl h

theorem keeps_produceD {sl : Fin 2} {hd : Fin 4} {d : Fin 8} {κ : Cmd F PUnit} (h : Keeps I κ) : Keeps I (produceD sl hd d κ) :=
  keeps_load fun _ => keeps_load fun _ => keeps_load fun _ => keeps_store rfl <|
    keeps_load fun _ => keeps_load fun _ => keeps_load fun _ => keeps_store rfl h

theorem keeps_consumeD {sl : Fin 2} {hd : Fin 4} {d : Fin 8} {κ : Cmd F PUnit} (h : Keeps I κ) : Keeps I (consumeD sl hd d κ) :=
  keeps_load fun _ => keeps_load fun _ => keeps_load fun _ => keeps_load fun _ => keeps_load fun _ => keeps_load fun _ =>
    keeps_load fun _ => keeps_load fun _ => keeps_store rfl <| keeps_load fun _ => keeps_store rfl h

theorem keeps_below {sl sl' : Fin 2} {t t' : Fin 8 × Fin 8} {x : Maxes F} {κ : Maxes F → Cmd F PUnit}
    (h : ∀ y, Keeps I (κ y)) : Keeps I (below sl sl' t t' x κ) :=
  keeps_produce fun _ => keeps_consume <| keeps_produce fun _ => keeps_consume <| keeps_produce fun _ => keeps_consume <|
    keeps_produce fun _ => keeps_consume (h _)

theorem keeps_belowLast {sl sl' : Fin 2} {t : Fin 8 × Fin 8} {d : Fin 8} {x : Maxes F} {κ : Cmd F PUnit}
    (h : Keeps I κ) : Keeps I (belowLast sl sl' t d x κ) :=
  keeps_produceD <| keeps_consume <| keeps_produceD <| keeps_consume <| keeps_produceD <| keeps_consume <|
    keeps_produceD <| keeps_consume h

theorem keeps_diag {sl sl' : Fin 2} {d d' : Fin 8} {κ : Cmd F PUnit} (h : Keeps I κ) : Keeps I (diag sl sl' d d' κ) :=
  keeps_produceD <| keeps_consumeD <| keeps_produceD <| keeps_consumeD <| keeps_produceD <| keeps_consumeD <|
    keeps_produceD <| keeps_consumeD h

theorem keeps_diagLast {sl : Fin 2} {d : Fin 8} {κ : Cmd F PUnit} (h : Keeps I κ) : Keeps I (diagLast sl d κ) :=
  keeps_consumeD <| keeps_consumeD <| keeps_consumeD <| keeps_consumeD h

theorem keeps_pair {n : Nat} {x : Maxes F} {κ : Maxes F → Cmd F PUnit} (h : ∀ y, Keeps I (κ y)) : Keeps I (pair n x κ) :=
  keeps_below fun _ => keeps_below h

theorem keeps_trip {A : Chk × Chk} {n : Nat} {x : Maxes F} {κ : Maxes F → Cmd F PUnit} (h1 : A.1.P) (h2 : A.2.P)
    (h : ∀ y, Keeps I (κ y)) : Keeps I (trip A n x κ) :=
  keeps_assume h1 <| keeps_assume h2 <| keeps_pair fun _ => keeps_pair fun _ => keeps_pair fun _ => keeps_pair h

theorem keeps_start {κ : Maxes F → Cmd F PUnit} (h : ∀ y, Keeps I (κ y)) : Keeps I (start κ) :=
  keeps_produce fun _ => keeps_produce fun _ => keeps_produce fun _ => keeps_produce fun _ =>
    keeps_load fun _ => keeps_store rfl <| keeps_load fun _ => keeps_store rfl <|
    keeps_load fun _ => keeps_load fun _ => keeps_store rfl <| keeps_load fun _ => keeps_load fun _ => keeps_store rfl <|
    keeps_load fun _ => keeps_load fun _ => keeps_store rfl <| keeps_load fun _ => keeps_load fun _ => keeps_store rfl <|
    keeps_load fun _ => keeps_load fun _ => keeps_store rfl (h _)

theorem keeps_finish {A : Chk × Chk} {x : Maxes F} (h1 : A.1.P) (h2 : A.2.P) : Keeps I (finish A x) :=
  keeps_assume h1 <| keeps_assume h2 <| keeps_pair fun _ => keeps_below fun _ => keeps_belowLast <|
    keeps_diag <| keeps_diag <| keeps_diag <| keeps_diag <| keeps_diag <| keeps_diag <| keeps_diag <| keeps_diagLast keeps_ret

end
end Cert.Attn

namespace Cert.KernelIdeal.Attn

open Idealize.ShloMosaic Idealize.SL.Sem Cert.Attn

variable {F : FTy → Type} [FloatOps F]

/-- The side conditions hold where the body assumes them. -/
theorem chk_0 : (tripChk 1#32 0#32).1.P ∧ (tripChk 1#32 0#32).2.P := by decide
theorem chk_8 : (tripChk 4#32 2#32).1.P ∧ (tripChk 4#32 2#32).2.P := by decide
theorem chk_16 : (tripChk 6#32 1#32).1.P ∧ (tripChk 6#32 1#32).2.P := by decide
theorem chk_end : (endChk 7#32 3#32).1.P ∧ (endChk 7#32 3#32).2.P := by decide

/-- The body keeps its inputs. -/
theorem keeps_cmd (I : St F) : Keeps I cmd :=
  keeps_start fun _ => keeps_trip chk_0.1 chk_0.2 fun _ => keeps_trip chk_8.1 chk_8.2 fun _ =>
    keeps_trip chk_16.1 chk_16.2 fun _ => keeps_finish chk_end.1 chk_end.2

end Cert.KernelIdeal.Attn
-- ==== Proof.Sound.lean ====
/- A command's predicate is a proof of its program: owning the buffers at contents from which `Cmd.post` holds, the
   program ends owning them at contents the predicate describes. -/
module

public import proofs.«01_k».proof.Proof.Cmd
public import Idealize.ShloMosaic.Lib.Memref
public import Idealize.ShloMosaic.Lib.Writes
public import Idealize.ShloMosaic.Lib.Tactic

@[expose] public section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {F : FTy → Type} {Λ : Labels}
variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
variable (M : ∀ x : Buf, Memref sig .tc .vmem x.sh x.el) (W : ∀ x, (M x).IsWhole)

local notation "𝕄" => MT nD τ sig Ix (Elt F) Name U Lvl

/-- Every buffer owned whole, at the contents `X`. -/
noncomputable def own (X : St F) : sProp 𝕄 :=
  bigSep Finset.univ fun x : Buf => owns (c.tc : Thread nD τ) (M x) fullShare (X x)

/-- The buffers other than `x`. -/
noncomputable def rest (x : Buf) (X : St F) : sProp 𝕄 :=
  bigSep (Finset.univ.erase x) fun y : Buf => owns (c.tc : Thread nD τ) (M y) fullShare (X y)

/-- One buffer and the others. -/
theorem own_split (x : Buf) (X : St F) :
    (own c M X : sProp 𝕄) = iprop(owns (c.tc : Thread nD τ) (M x) fullShare (X x) ∗ rest c M x X) :=
  bigSep_erase (Finset.mem_univ x)

/-- A change of one buffer is none of the others. -/
theorem rest_update (x : Buf) (X : St F) (w : x.sh.Idx → Elt F x.el) :
    (rest c M x (Function.update X x w) : sProp 𝕄) = rest c M x X :=
  bigSep_congr fun y hy => by rw [Function.update_of_ne (Finset.ne_of_mem_erase hy)]

/-- What a view reads after a store on a rectangle is what it read before, with the stored value put there. -/
theorem read_put {s : Shape} {e : EltTy} (m : Memref sig .tc .vmem s e) (f : m.view.ty.Contents (Elt F)) (r : Rect s)
    (w : r.shape.Idx → Elt F e) :
    m.view.read (Elt F) (m.view.writes (Elt F) f [⟨r, w⟩]) = put r w (m.view.read (Elt F) f) := by
  funext y
  by_cases h : ∃ j, r.emb j = y
  · obtain ⟨j, rfl⟩ := h
    rw [put_emb]
    exact View.read_writes_cons_emb _ _ r w [] j
  · rw [put_off _ _ _ _ h]
    exact View.read_writes_cons_miss _ _ ⟨r, w⟩ [] y fun hy => h (r.exists_idx_of_mem hy)

set_option maxHeartbeats 1000000 in
/-- THE SOUNDNESS of the commands' predicate. -/
theorem Cmd.sound {α : Type} (p : Cmd F α) (X : St F) (Q : α → St F → Prop) (Φ : α → sProp 𝕄) (h : p.post X Q) :
    iprop(own c M X ∗ ∀ a Y, ⌜Q a Y⌝ -∗ own c M Y -∗ Φ a)
      ⊢ wp frame (wpE defs 𝒱 (c.tc : Thread nD τ) bd) E (p.prog M W) Φ := by
  induction p generalizing X with
  | ret a =>
    iintro ⟨H, K⟩
    rw [show Cmd.prog (nD := nD) (τ := τ) (Λ := Λ) M W (.ret a : Cmd F α) = .ret a from rfl, wp_ret]
    imodintro
    iapply K $$ %a %X [] H
    ipureintro; exact h
  | load x r hr k ih =>
    have h' : (k fun j => X x (r.idx j)).post X Q := h
    show _ ⊢ wp frame (wpE defs 𝒱 (c.tc : Thread nD τ) bd) E
      (.op (.load (M x) r (View.loadsAt_vmem hr)) fun v => (k v).prog M W) Φ
    rw [own_split c M x]
    unfold owns
    iintro ⟨⟨⟨%f, %hf, H⟩, R⟩, K⟩
    iapply (wp_load 𝒱 (c.tc : Thread nD τ) bd E (S := (M x).view.set) (View.setOn_subset_set _ _)) $$ H
    iintro H
    have e : (M x).view.readAt (Elt F) r f = fun j => X x (r.idx j) := by
      funext j; rw [View.readAt_apply, hf]
    rw [e]
    iapply (ih _ X h')
    isplitr [K]
    · rw [own_split c M x]
      isplitl [H]
      · unfold owns; iexists f; isplitr; · ipureintro; exact hf
        iexact H
      iexact R
    iexact K
  | store x r w hx k ih =>
    have h' : k.post (Function.update X x (put r w (X x))) Q := h
    show _ ⊢ wp frame (wpE defs 𝒱 (c.tc : Thread nD τ) bd) E
      (.op (.store (M x) r w Finset.univ (hx _ (M x) (W x)) (.inl rfl)) fun _ => k.prog M W) Φ
    rw [own_split c M x]
    unfold owns
    iintro ⟨⟨⟨%f, %hf, H⟩, R⟩, K⟩
    iapply (wp_store_writes₀ 𝒱 (c.tc : Thread nD τ) bd E (S := (M x).view.set) (View.set_slice_subset _ _)) $$ H
    iintro H
    iapply (ih (Function.update X x (put r w (X x))) h')
    isplitr [K]
    · rw [own_split c M x, rest_update, Function.update_self]
      isplitl [H]
      · unfold owns; iexists _; isplitr
        swap; · iexact H
        ipureintro; rw [read_put, hf]
      iexact R
    iexact K
  | assume A k ih =>
    obtain ⟨hA, h'⟩ := (h : A.P ∧ k.post X Q)
    show _ ⊢ wp frame (wpE defs 𝒱 (c.tc : Thread nD τ) bd) E
      (.op (.assume A.P A.dec) fun _ => k.prog M W) Φ
    rw [wp_assume_of 𝒱 (c.tc : Thread nD τ) bd E hA]
    exact ih X h'

end
end Cert.Attn
-- ==== Proof.Launch.lean ====
/- The attention call's run at any float operations: the body at a grid point as commands on the staging buffers, and
   the two forms of the launch — the outputs not named (`frame`), and the outputs at given contents (`run_exact`). -/
module

public import proofs.«01_k».proof.Proof.Keeps
public import proofs.«01_k».proof.Proof.Sound
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen Cert.Attn

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is given at point `t`. -/
noncomputable def atPt (t : Fin cfg0.N) : ∀ x : Cert.Attn.Buf, Memref sig .tc .vmem x.sh x.el :=
  bufs (st0_0 t) (st0_1 t) (st0_2 t) (st0_3 t) (st0_4 t) (st0_5 t) (st0_6 t) (st0_7 t) (st0_8 t) (st0_9 t) (st0_10 t)
    (st0_11 t) (st0_12 t) (st0_13 t) (Memref.whole cc0_scratch0) (Memref.whole cc0_scratch1) (Memref.whole cc0_scratch2)

/-- Each is a whole buffer. -/
theorem atPt_whole (t : Fin cfg0.N) : ∀ x, (atPt t x).IsWhole
  | .q => hstage0_0 ((cfg0.slots t 0).cast nbuf0_0) | .k => hstage0_1 ((cfg0.slots t 1).cast nbuf0_1)
  | .v => hstage0_2 ((cfg0.slots t 2).cast nbuf0_2) | .w5 => hstage0_3 ((cfg0.slots t 3).cast nbuf0_3)
  | .w6 => hstage0_4 ((cfg0.slots t 4).cast nbuf0_4) | .w7 => hstage0_5 ((cfg0.slots t 5).cast nbuf0_5)
  | .w8 => hstage0_6 ((cfg0.slots t 6).cast nbuf0_6) | .w9 => hstage0_7 ((cfg0.slots t 7).cast nbuf0_7)
  | .o => hstage0_8 ((cfg0.slots t 8).cast nbuf0_8) | .c11 => hstage0_9 ((cfg0.slots t 9).cast nbuf0_9)
  | .c12 => hstage0_10 ((cfg0.slots t 10).cast nbuf0_10) | .c13 => hstage0_11 ((cfg0.slots t 11).cast nbuf0_11)
  | .c14 => hstage0_12 ((cfg0.slots t 12).cast nbuf0_12) | .c15 => hstage0_13 ((cfg0.slots t 13).cast nbuf0_13)
  | .s => Memref.isWhole_whole _ | .acc => Memref.isWhole_whole _ | .m => Memref.isWhole_whole _

/-- The body at a point is the commands on them. -/
theorem bodyAt_eq (t : Fin cfg0.N) : bodyAt0 (F := F) t = cmd.prog (atPt t) (atPt_whole t) :=
  body_eq _ _ _ _ _ _ _ _ _ _ _ _ _ _ _ _ _ _ _ _ _ _ _ _ _ _ _ _ _ _ _ _ _ _ _ (atPt_whole t)

/-- The buffers at a point owned, one by one. -/
theorem own_at (c : Dev nD) (t : Fin cfg0.N) (X : St F) :
    (own c (atPt t) X : sProp 𝕄) = iprop(owns (c : Thread nD τ) (st0_0 t) fullShare (X .q) ∗ owns (c : Thread nD τ) (st0_1 t) fullShare (X .k)
      ∗ owns (c : Thread nD τ) (st0_2 t) fullShare (X .v) ∗ owns (c : Thread nD τ) (st0_3 t) fullShare (X .w5)
      ∗ owns (c : Thread nD τ) (st0_4 t) fullShare (X .w6) ∗ owns (c : Thread nD τ) (st0_5 t) fullShare (X .w7)
      ∗ owns (c : Thread nD τ) (st0_6 t) fullShare (X .w8) ∗ owns (c : Thread nD τ) (st0_7 t) fullShare (X .w9)
      ∗ owns (c : Thread nD τ) (st0_8 t) fullShare (X .o) ∗ owns (c : Thread nD τ) (st0_9 t) fullShare (X .c11)
      ∗ owns (c : Thread nD τ) (st0_10 t) fullShare (X .c12) ∗ owns (c : Thread nD τ) (st0_11 t) fullShare (X .c13)
      ∗ owns (c : Thread nD τ) (st0_12 t) fullShare (X .c14) ∗ owns (c : Thread nD τ) (st0_13 t) fullShare (X .c15)

      ∗ ((c : Thread nD τ).loc cc0_scratch0 ↦{fullShare} X .s) ∗ ((c : Thread nD τ).loc cc0_scratch1 ↦{fullShare} X .acc)
      ∗ ((c : Thread nD τ).loc cc0_scratch2 ↦{fullShare} X .m)) := by
  rw [← owns_whole (c : Thread nD τ) cc0_scratch0 fullShare (X .s), ← owns_whole (c : Thread nD τ) cc0_scratch1 fullShare (X .acc),
    ← owns_whole (c : Thread nD τ) cc0_scratch2 fullShare (X .m)]
  exact bigSep_univ_eq_bigSepL [Buf.q, .k, .v, .w5, .w6, .w7, .w8, .w9, .o, .c11, .c12, .c13, .c14, .c15, .s, .acc, .m]
    (by decide) (by decide) _

/-- The input blocks of point `t`; the other buffers' entries are not used. -/
noncomputable def ins (c : Dev nD) (t : Fin cfg0.N) (X : St F) : St F
  | .q => iblk m c 0 t | .k => iblk m c 1 t | .v => iblk m c 2 t | .w5 => iblk m c 3 t
  | .w6 => iblk m c 4 t | .w7 => iblk m c 5 t | .w8 => iblk m c 6 t | .w9 => iblk m c 7 t
  | .o => X .o | .c11 => X .c11 | .c12 => X .c12 | .c13 => X .c13 | .c14 => X .c14 | .c15 => X .c15
  | .s => X .s | .acc => X .acc | .m => X .m

/-- The proof data, the outputs' blocks after each point at `O`. -/
noncomputable def dats (O : Dev nD → Fin cfg0.N → St F) (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => iblk m c 4 t | 5 => iblk m c 5 t | 6 => iblk m c 6 t | 7 => iblk m c 7 t
    | 8 => O c t .o | 9 => O c t .c11 | 10 => O c t .c12 | 11 => O c t .c13 | 12 => O c t .c14 | 13 => O c t .c15
    | ⟨_ + 14, h⟩ => absurd h (Nat.not_lt.2 (Nat.le_add_left _ _))
  Φ _ := Pipeline.ΦA spec0 c
  q _ := fullShare
  owed _ := 0

variable (O : Dev nD → Fin cfg0.N → St F)

theorem A_eq (c : Dev nD) (w : Fin cfg0.W) : (dats m O 0 c).A w = V m c (Pipeline.arrRef spec0 w) := by
  dsimp only [dats]

theorem before_0 (c : Dev nD) (t : Fin cfg0.N) (d) : (dats m O 0 c).before 0 t d = iblk m c 0 t :=
  before0_0_of m (dats m O 0 c) (A_eq m O c 0) (fun _ => by dsimp only [dats]) t d
theorem before_1 (c : Dev nD) (t : Fin cfg0.N) (d) : (dats m O 0 c).before 1 t d = iblk m c 1 t :=
  before0_1_of m (dats m O 0 c) (A_eq m O c 1) (fun _ => by dsimp only [dats]) t d
theorem before_2 (c : Dev nD) (t : Fin cfg0.N) (d) : (dats m O 0 c).before 2 t d = iblk m c 2 t :=
  before0_2_of m (dats m O 0 c) (A_eq m O c 2) (fun _ => by dsimp only [dats]) t d
theorem before_3 (c : Dev nD) (t : Fin cfg0.N) (d) : (dats m O 0 c).before 3 t d = iblk m c 3 t :=
  before0_3_of m (dats m O 0 c) (A_eq m O c 3) (fun _ => by dsimp only [dats]) t d
theorem before_4 (c : Dev nD) (t : Fin cfg0.N) (d) : (dats m O 0 c).before 4 t d = iblk m c 4 t :=
  before0_4_of m (dats m O 0 c) (A_eq m O c 4) (fun _ => by dsimp only [dats]) t d
theorem before_5 (c : Dev nD) (t : Fin cfg0.N) (d) : (dats m O 0 c).before 5 t d = iblk m c 5 t :=
  before0_5_of m (dats m O 0 c) (A_eq m O c 5) (fun _ => by dsimp only [dats]) t d
theorem before_6 (c : Dev nD) (t : Fin cfg0.N) (d) : (dats m O 0 c).before 6 t d = iblk m c 6 t :=
  before0_6_of m (dats m O 0 c) (A_eq m O c 6) (fun _ => by dsimp only [dats]) t d
theorem before_7 (c : Dev nD) (t : Fin cfg0.N) (d) : (dats m O 0 c).before 7 t d = iblk m c 7 t :=
  before0_7_of m (dats m O 0 c) (A_eq m O c 7) (fun _ => by dsimp only [dats]) t d

/-- The buffers' contents given one by one. -/
noncomputable def mk (q : Vec F S1x512x4096 .bf16) (k : Vec F S1x4096x512 .bf16) (v : Vec F S1x256x4096 .bf16) (w5 w6 : Vec F S1x64x1024 .f32)
    (w7 : Vec F S1x128x1024 .f32) (w8 : Vec F S1x128x4096 .f32) (w9 : Vec F S1x512x1024 .f32) (o : Vec F S1x256x4096 .bf16)
    (c11 c12 : Vec F S1x64x1024 .bf16) (c13 : Vec F S1x128x1024 .bf16) (c14 : Vec F S1x128x4096 .bf16) (c15 : Vec F S1x512x1024 .bf16)
    (s : Vec F S2x4x512x512 .f32) (acc : Vec F S8x4x80x512 .f32) (mx : Vec F S8x4x1x512 .f32) : St F
  | .q => q | .k => k | .v => v | .w5 => w5 | .w6 => w6 | .w7 => w7 | .w8 => w8 | .w9 => w9
  | .o => o | .c11 => c11 | .c12 => c12 | .c13 => c13 | .c14 => c14 | .c15 => c15 | .s => s | .acc => acc | .m => mx

/-- The same, the inputs' contents known. -/
theorem own_ins (c : Dev nD) (t : Fin cfg0.N) (X : St F) (h : ins m c t X = X) :
    (own c (atPt t) X : sProp 𝕄) = iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ owns (c : Thread nD τ) (st0_7 t) fullShare (iblk m c 7 t)
      ∗ owns (c : Thread nD τ) (st0_8 t) fullShare (X .o) ∗ owns (c : Thread nD τ) (st0_9 t) fullShare (X .c11)
      ∗ owns (c : Thread nD τ) (st0_10 t) fullShare (X .c12) ∗ owns (c : Thread nD τ) (st0_11 t) fullShare (X .c13)
      ∗ owns (c : Thread nD τ) (st0_12 t) fullShare (X .c14) ∗ owns (c : Thread nD τ) (st0_13 t) fullShare (X .c15)

      ∗ ((c : Thread nD τ).loc cc0_scratch0 ↦{fullShare} X .s) ∗ ((c : Thread nD τ).loc cc0_scratch1 ↦{fullShare} X .acc)
      ∗ ((c : Thread nD τ).loc cc0_scratch2 ↦{fullShare} X .m)) := by
  rw [own_at]
  have h0 : iblk m c 0 t = X .q := congrFun h .q
  have h1 : iblk m c 1 t = X .k := congrFun h .k
  have h2 : iblk m c 2 t = X .v := congrFun h .v
  have h3 : iblk m c 3 t = X .w5 := congrFun h .w5
  have h4 : iblk m c 4 t = X .w6 := congrFun h .w6
  have h5 : iblk m c 5 t = X .w7 := congrFun h .w7
  have h6 : iblk m c 6 t = X .w8 := congrFun h .w8
  have h7 : iblk m c 7 t = X .w9 := congrFun h .w9
  rw [h0, h1, h2, h3, h4, h5, h6, h7]

theorem mk_ins (c : Dev nD) (t : Fin cfg0.N) (o : Vec F S1x256x4096 .bf16)
    (c11 c12 : Vec F S1x64x1024 .bf16) (c13 : Vec F S1x128x1024 .bf16) (c14 : Vec F S1x128x4096 .bf16) (c15 : Vec F S1x512x1024 .bf16)
    (s : Vec F S2x4x512x512 .f32) (acc : Vec F S8x4x80x512 .f32) (mx : Vec F S8x4x1x512 .f32) :
    ins m c t (mk (iblk m c 0 t) (iblk m c 1 t) (iblk m c 2 t) (iblk m c 3 t) (iblk m c 4 t) (iblk m c 5 t)
      (iblk m c 6 t) (iblk m c 7 t) o c11 c12 c13 c14 c15 s acc mx)
    = mk (iblk m c 0 t) (iblk m c 1 t) (iblk m c 2 t) (iblk m c 3 t) (iblk m c 4 t) (iblk m c 5 t)
      (iblk m c 6 t) (iblk m c 7 t) o c11 c12 c13 c14 c15 s acc mx := by
  funext x; cases x <;> rfl

/-- What the body does at a point, the outputs' and the scratch buffers' contents on entry arbitrary: the blocks of the
    inputs are unchanged, and of any end `Q` that the commands reach from every such contents. -/
theorem sound_body (c : Dev nD) (t : Fin cfg0.N) (Q : St F → Prop)
    (hQ : ∀ X : St F, ins m c t X = X → cmd.post X fun _ Y => ins m c t Y = Y ∧ Q Y) (R : sProp 𝕄) :
    iprop(Pipeline.ΦA (Val := Elt F) (U := UR sig nD τ) spec0 c ∗ R
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ owns (c : Thread nD τ) (st0_7 t) fullShare (iblk m c 7 t)
      ∗ (∃ X, owns (c : Thread nD τ) (st0_8 t) fullShare X) ∗ (∃ X, owns (c : Thread nD τ) (st0_9 t) fullShare X)
      ∗ (∃ X, owns (c : Thread nD τ) (st0_10 t) fullShare X) ∗ (∃ X, owns (c : Thread nD τ) (st0_11 t) fullShare X)
      ∗ (∃ X, owns (c : Thread nD τ) (st0_12 t) fullShare X) ∗ (∃ X, owns (c : Thread nD τ) (st0_13 t) fullShare X))
    ⊢ wp frame (wpE (defs₀ (F := F)) Variants.none c none) Set.univ (bodyAt0 t) fun _ =>
      iprop(∃ Y : St F, ⌜Q Y⌝ ∗ Pipeline.ΦA (Val := Elt F) (U := UR sig nD τ) spec0 c ∗ R
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ owns (c : Thread nD τ) (st0_7 t) fullShare (iblk m c 7 t)
      ∗ owns (c : Thread nD τ) (st0_8 t) fullShare (Y .o) ∗ owns (c : Thread nD τ) (st0_9 t) fullShare (Y .c11)
      ∗ owns (c : Thread nD τ) (st0_10 t) fullShare (Y .c12) ∗ owns (c : Thread nD τ) (st0_11 t) fullShare (Y .c13)
      ∗ owns (c : Thread nD τ) (st0_12 t) fullShare (Y .c14) ∗ owns (c : Thread nD τ) (st0_13 t) fullShare (Y .c15)) := by
  rw [bodyAt_eq]
  unfold Pipeline.ΦA
  rw [scopedRest0_eq]
  iintro ⟨⟨⟨⟨%fs, Hs⟩, ⟨%fa, Ha⟩, ⟨%fm, Hm⟩⟩, Hg⟩, HR, H0, H1, H2, H3, H4, H5, H6, H7, ⟨%x8, H8⟩, ⟨%x9, H9⟩, ⟨%x10, H10⟩, ⟨%x11, H11⟩, ⟨%x12, H12⟩, ⟨%x13, H13⟩⟩
  ihave H := (Entails.of_eq (own_ins m c t (mk (iblk m c 0 t) (iblk m c 1 t) (iblk m c 2 t) (iblk m c 3 t) (iblk m c 4 t) (iblk m c 5 t)
    (iblk m c 6 t) (iblk m c 7 t) x8 x9 x10 x11 x12 x13 fs fa fm) (mk_ins m c t x8 x9 x10 x11 x12 x13 fs fa fm)).symm) $$ [H0 H1 H2 H3 H4 H5 H6 H7 H8 H9 H10 H11 H12 H13 Hs Ha Hm]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Hs]; · iexact Hs
    isplitl [Ha]; · iexact Ha
    iexact Hm
  iapply (Cmd.sound (defs := defs₀ (F := F)) Variants.none c none Set.univ (atPt t) (atPt_whole t) cmd _ _ _
    (hQ _ (mk_ins m c t x8 x9 x10 x11 x12 x13 fs fa fm)))
  isplitl [H]; · iexact H
  iintro %a %Y %hY H
  obtain ⟨hi, hq⟩ := hY
  ihave H := (Entails.of_eq (own_ins m c t Y hi)) $$ H
  icases H with ⟨H0, H1, H2, H3, H4, H5, H6, H7, H8, H9, H10, H11, H12, H13, Hs, Ha, Hm⟩
  iexists Y
  isplitr; · ipureintro; exact hq
  isplitl [Hg Hs Ha Hm]
  · isplitl [Hs Ha Hm]
    · isplitl [Hs]; · iexists (Y .s); iexact Hs
      isplitl [Ha]; · iexists (Y .acc); iexact Ha
      iexists (Y .m); iexact Hm
    iexact Hg
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Attn
end
-- ==== Proof.Run.lean ====
/- The attention call's runs: the frame (the outputs not named), and the run whose outputs are at given contents. -/
module

public import proofs.«01_k».proof.Proof.Launch

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.KernelIdeal.Gen Cert.Attn

variable {F : FTy → Type} [FloatOps F]

local notation "𝕄" => MT nD τ sig Unit (Elt F) ℕ (UR sig nD τ) ℕ

variable (m : (ℓ : Loc nD τ sig) → Buf (Elt F) ℓ) (ρ : Dev nD → PrngReg) (O : Dev nD → Fin cfg0.N → St F)

theorem defs₀_row (t : Fin cfg0.N) : defs₀ (F := F) .tc cfg0.body (cfg0.bodyArgs t (cfg0.slots t)) = bodyAt0 t := by
  unfold defs₀; rw [Defs.onTc_tc]

/-- The windows of the results. -/
noncomputable def outW : Fin cfg0.W → Bool
  | 0 => false | 1 => false | 2 => false | 3 => false | 4 => false | 5 => false | 6 => false | 7 => false
  | 8 => true | 9 => true | 10 => true | 11 => true | 12 => true | 13 => true
  | ⟨_ + 14, h⟩ => absurd h (Nat.not_lt.2 (Nat.le_add_left _ _))

/-- What the obligation hands the body, the inputs' blocks named. -/
theorem pre_named (c : Dev nD) (t : Fin cfg0.N) :
    iprop((dats m O 0 c).Φ t.castSucc ∗ (dats m O 0 c).owesAt () t.castSucc ∗ (∃ d, owns (c : Thread nD τ) (st0_0 t) fullShare ((dats m O 0 c).before 0 t d)) ∗ (∃ d, owns (c : Thread nD τ) (st0_1 t) fullShare ((dats m O 0 c).before 1 t d))
       ∗ (∃ d, owns (c : Thread nD τ) (st0_2 t) fullShare ((dats m O 0 c).before 2 t d)) ∗ (∃ d, owns (c : Thread nD τ) (st0_3 t) fullShare ((dats m O 0 c).before 3 t d))
       ∗ (∃ d, owns (c : Thread nD τ) (st0_4 t) fullShare ((dats m O 0 c).before 4 t d)) ∗ (∃ d, owns (c : Thread nD τ) (st0_5 t) fullShare ((dats m O 0 c).before 5 t d))
       ∗ (∃ d, owns (c : Thread nD τ) (st0_6 t) fullShare ((dats m O 0 c).before 6 t d)) ∗ (∃ d, owns (c : Thread nD τ) (st0_7 t) fullShare ((dats m O 0 c).before 7 t d))
       ∗ (∃ X, owns (c : Thread nD τ) (st0_8 t) fullShare X) ∗ (∃ X, owns (c : Thread nD τ) (st0_9 t) fullShare X)
       ∗ (∃ X, owns (c : Thread nD τ) (st0_10 t) fullShare X) ∗ (∃ X, owns (c : Thread nD τ) (st0_11 t) fullShare X)
       ∗ (∃ X, owns (c : Thread nD τ) (st0_12 t) fullShare X) ∗ (∃ X, owns (c : Thread nD τ) (st0_13 t) fullShare X))
    ⊢ (iprop(Pipeline.ΦA (Val := Elt F) (U := UR sig nD τ) spec0 c ∗ (dats m O 0 c).owesAt () t.castSucc ∗ owns (c : Thread nD τ) (st0_0 t) fullShare (iblk m c 0 t) ∗ owns (c : Thread nD τ) (st0_1 t) fullShare (iblk m c 1 t)
       ∗ owns (c : Thread nD τ) (st0_2 t) fullShare (iblk m c 2 t) ∗ owns (c : Thread nD τ) (st0_3 t) fullShare (iblk m c 3 t)
       ∗ owns (c : Thread nD τ) (st0_4 t) fullShare (iblk m c 4 t) ∗ owns (c : Thread nD τ) (st0_5 t) fullShare (iblk m c 5 t)
       ∗ owns (c : Thread nD τ) (st0_6 t) fullShare (iblk m c 6 t) ∗ owns (c : Thread nD τ) (st0_7 t) fullShare (iblk m c 7 t)
       ∗ (∃ X, owns (c : Thread nD τ) (st0_8 t) fullShare X) ∗ (∃ X, owns (c : Thread nD τ) (st0_9 t) fullShare X)
       ∗ (∃ X, owns (c : Thread nD τ) (st0_10 t) fullShare X) ∗ (∃ X, owns (c : Thread nD τ) (st0_11 t) fullShare X)
       ∗ (∃ X, owns (c : Thread nD τ) (st0_12 t) fullShare X) ∗ (∃ X, owns (c : Thread nD τ) (st0_13 t) fullShare X)) : sProp 𝕄) := by
  rw [show (dats m O 0 c).Φ t.castSucc = Pipeline.ΦA (Val := Elt F) (U := UR sig nD τ) spec0 c from rfl]
  simp only [before_0, before_1, before_2, before_3, before_4, before_5, before_6, before_7]
  iintro ⟨HΦ, HW, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13⟩
  isplitl [HΦ]; · iexact HΦ
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- What is before the results is something. -/
theorem pre_any (c : Dev nD) (t : Fin cfg0.N) :
    iprop((dats m O 0 c).Φ t.castSucc ∗ (dats m O 0 c).owesAt () t.castSucc ∗ (∃ d, owns (c : Thread nD τ) (st0_0 t) fullShare ((dats m O 0 c).before 0 t d)) ∗ (∃ d, owns (c : Thread nD τ) (st0_1 t) fullShare ((dats m O 0 c).before 1 t d))
       ∗ (∃ d, owns (c : Thread nD τ) (st0_2 t) fullShare ((dats m O 0 c).before 2 t d)) ∗ (∃ d, owns (c : Thread nD τ) (st0_3 t) fullShare ((dats m O 0 c).before 3 t d))
       ∗ (∃ d, owns (c : Thread nD τ) (st0_4 t) fullShare ((dats m O 0 c).before 4 t d)) ∗ (∃ d, owns (c : Thread nD τ) (st0_5 t) fullShare ((dats m O 0 c).before 5 t d))
       ∗ (∃ d, owns (c : Thread nD τ) (st0_6 t) fullShare ((dats m O 0 c).before 6 t d)) ∗ (∃ d, owns (c : Thread nD τ) (st0_7 t) fullShare ((dats m O 0 c).before 7 t d))
       ∗ (∃ d, owns (c : Thread nD τ) (st0_8 t) fullShare ((dats m O 0 c).before 8 t d)) ∗ (∃ d, owns (c : Thread nD τ) (st0_9 t) fullShare ((dats m O 0 c).before 9 t d))
       ∗ (∃ d, owns (c : Thread nD τ) (st0_10 t) fullShare ((dats m O 0 c).before 10 t d)) ∗ (∃ d, owns (c : Thread nD τ) (st0_11 t) fullShare ((dats m O 0 c).before 11 t d))
       ∗ (∃ d, owns (c : Thread nD τ) (st0_12 t) fullShare ((dats m O 0 c).before 12 t d)) ∗ (∃ d, owns (c : Thread nD τ) (st0_13 t) fullShare ((dats m O 0 c).before 13 t d)))
    ⊢ (iprop((dats m O 0 c).Φ t.castSucc ∗ (dats m O 0 c).owesAt () t.castSucc ∗ (∃ d, owns (c : Thread nD τ) (st0_0 t) fullShare ((dats m O 0 c).before 0 t d)) ∗ (∃ d, owns (c : Thread nD τ) (st0_1 t) fullShare ((dats m O 0 c).before 1 t d))
       ∗ (∃ d, owns (c : Thread nD τ) (st0_2 t) fullShare ((dats m O 0 c).before 2 t d)) ∗ (∃ d, owns (c : Thread nD τ) (st0_3 t) fullShare ((dats m O 0 c).before 3 t d))
       ∗ (∃ d, owns (c : Thread nD τ) (st0_4 t) fullShare ((dats m O 0 c).before 4 t d)) ∗ (∃ d, owns (c : Thread nD τ) (st0_5 t) fullShare ((dats m O 0 c).before 5 t d))
       ∗ (∃ d, owns (c : Thread nD τ) (st0_6 t) fullShare ((dats m O 0 c).before 6 t d)) ∗ (∃ d, owns (c : Thread nD τ) (st0_7 t) fullShare ((dats m O 0 c).before 7 t d))
       ∗ (∃ X, owns (c : Thread nD τ) (st0_8 t) fullShare X) ∗ (∃ X, owns (c : Thread nD τ) (st0_9 t) fullShare X)
       ∗ (∃ X, owns (c : Thread nD τ) (st0_10 t) fullShare X) ∗ (∃ X, owns (c : Thread nD τ) (st0_11 t) fullShare X)
       ∗ (∃ X, owns (c : Thread nD τ) (st0_12 t) fullShare X) ∗ (∃ X, owns (c : Thread nD τ) (st0_13 t) fullShare X)) : sProp 𝕄) := by
  iintro ⟨HΦ, HW, H0, H1, H2, H3, H4, H5, H6, H7, ⟨%d8, H8⟩, ⟨%d9, H9⟩, ⟨%d10, H10⟩, ⟨%d11, H11⟩, ⟨%d12, H12⟩, ⟨%d13, H13⟩⟩
  isplitl [HΦ]; · iexact HΦ
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

/-- What the body leaves, the results' contents forgotten. -/
theorem post_forget (c : Dev nD) (t : Fin cfg0.N) (Q : St F → Prop) :
    iprop(∃ Y : St F, ⌜Q Y⌝ ∗ Pipeline.ΦA (Val := Elt F) (U := UR sig nD τ) spec0 c ∗ (dats m O 0 c).owesAt () t.castSucc ∗ owns (c : Thread nD τ) (st0_0 t) fullShare (iblk m c 0 t) ∗ owns (c : Thread nD τ) (st0_1 t) fullShare (iblk m c 1 t)
       ∗ owns (c : Thread nD τ) (st0_2 t) fullShare (iblk m c 2 t) ∗ owns (c : Thread nD τ) (st0_3 t) fullShare (iblk m c 3 t)
       ∗ owns (c : Thread nD τ) (st0_4 t) fullShare (iblk m c 4 t) ∗ owns (c : Thread nD τ) (st0_5 t) fullShare (iblk m c 5 t)
       ∗ owns (c : Thread nD τ) (st0_6 t) fullShare (iblk m c 6 t) ∗ owns (c : Thread nD τ) (st0_7 t) fullShare (iblk m c 7 t)
       ∗ owns (c : Thread nD τ) (st0_8 t) fullShare (Y .o) ∗ owns (c : Thread nD τ) (st0_9 t) fullShare (Y .c11)
       ∗ owns (c : Thread nD τ) (st0_10 t) fullShare (Y .c12) ∗ owns (c : Thread nD τ) (st0_11 t) fullShare (Y .c13)
       ∗ owns (c : Thread nD τ) (st0_12 t) fullShare (Y .c14) ∗ owns (c : Thread nD τ) (st0_13 t) fullShare (Y .c15))
    ⊢ (iprop((dats m O 0 c).Φ t.succ ∗ (dats m O 0 c).owesAt () t.succ ∗ owns (c : Thread nD τ) (st0_0 t) fullShare ((dats m O 0 c).after 0 t) ∗ owns (c : Thread nD τ) (st0_1 t) fullShare ((dats m O 0 c).after 1 t)
       ∗ owns (c : Thread nD τ) (st0_2 t) fullShare ((dats m O 0 c).after 2 t) ∗ owns (c : Thread nD τ) (st0_3 t) fullShare ((dats m O 0 c).after 3 t)
       ∗ owns (c : Thread nD τ) (st0_4 t) fullShare ((dats m O 0 c).after 4 t) ∗ owns (c : Thread nD τ) (st0_5 t) fullShare ((dats m O 0 c).after 5 t)
       ∗ owns (c : Thread nD τ) (st0_6 t) fullShare ((dats m O 0 c).after 6 t) ∗ owns (c : Thread nD τ) (st0_7 t) fullShare ((dats m O 0 c).after 7 t)
       ∗ (∃ X, owns (c : Thread nD τ) (st0_8 t) fullShare X) ∗ (∃ X, owns (c : Thread nD τ) (st0_9 t) fullShare X)
       ∗ (∃ X, owns (c : Thread nD τ) (st0_10 t) fullShare X) ∗ (∃ X, owns (c : Thread nD τ) (st0_11 t) fullShare X)
       ∗ (∃ X, owns (c : Thread nD τ) (st0_12 t) fullShare X) ∗ (∃ X, owns (c : Thread nD τ) (st0_13 t) fullShare X)) : sProp 𝕄) := by
  rw [show (dats m O 0 c).Φ t.succ = Pipeline.ΦA (Val := Elt F) (U := UR sig nD τ) spec0 c from rfl,
    show (dats m O 0 c).owesAt () t.succ = (dats m O 0 c).owesAt () t.castSucc from rfl]
  iintro ⟨%Y, -, HΦ, HW, H0, H1, H2, H3, H4, H5, H6, H7, H8, H9, H10, H11, H12, H13⟩
  isplitl [HΦ]; · iexact HΦ
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists (Y .o); iexact H8
  isplitl [H9]; · iexists (Y .c11); iexact H9
  isplitl [H10]; · iexists (Y .c12); iexact H10
  isplitl [H11]; · iexists (Y .c13); iexact H11
  isplitl [H12]; · iexists (Y .c14); iexact H12
  iexists (Y .c15); iexact H13

/-- What the body leaves, the results' contents known. -/
theorem post_exact (c : Dev nD) (t : Fin cfg0.N) :
    iprop(∃ Y : St F, ⌜∀ x : Cert.Attn.Buf, x.isOut = true → Y x = O c t x⌝ ∗ Pipeline.ΦA (Val := Elt F) (U := UR sig nD τ) spec0 c ∗ (dats m O 0 c).owesAt () t.castSucc ∗ owns (c : Thread nD τ) (st0_0 t) fullShare (iblk m c 0 t) ∗ owns (c : Thread nD τ) (st0_1 t) fullShare (iblk m c 1 t)
       ∗ owns (c : Thread nD τ) (st0_2 t) fullShare (iblk m c 2 t) ∗ owns (c : Thread nD τ) (st0_3 t) fullShare (iblk m c 3 t)
       ∗ owns (c : Thread nD τ) (st0_4 t) fullShare (iblk m c 4 t) ∗ owns (c : Thread nD τ) (st0_5 t) fullShare (iblk m c 5 t)
       ∗ owns (c : Thread nD τ) (st0_6 t) fullShare (iblk m c 6 t) ∗ owns (c : Thread nD τ) (st0_7 t) fullShare (iblk m c 7 t)
       ∗ owns (c : Thread nD τ) (st0_8 t) fullShare (Y .o) ∗ owns (c : Thread nD τ) (st0_9 t) fullShare (Y .c11)
       ∗ owns (c : Thread nD τ) (st0_10 t) fullShare (Y .c12) ∗ owns (c : Thread nD τ) (st0_11 t) fullShare (Y .c13)
       ∗ owns (c : Thread nD τ) (st0_12 t) fullShare (Y .c14) ∗ owns (c : Thread nD τ) (st0_13 t) fullShare (Y .c15))
    ⊢ (iprop((dats m O 0 c).Φ t.succ ∗ (dats m O 0 c).owesAt () t.succ ∗ owns (c : Thread nD τ) (st0_0 t) fullShare ((dats m O 0 c).after 0 t) ∗ owns (c : Thread nD τ) (st0_1 t) fullShare ((dats m O 0 c).after 1 t)
       ∗ owns (c : Thread nD τ) (st0_2 t) fullShare ((dats m O 0 c).after 2 t) ∗ owns (c : Thread nD τ) (st0_3 t) fullShare ((dats m O 0 c).after 3 t)
       ∗ owns (c : Thread nD τ) (st0_4 t) fullShare ((dats m O 0 c).after 4 t) ∗ owns (c : Thread nD τ) (st0_5 t) fullShare ((dats m O 0 c).after 5 t)
       ∗ owns (c : Thread nD τ) (st0_6 t) fullShare ((dats m O 0 c).after 6 t) ∗ owns (c : Thread nD τ) (st0_7 t) fullShare ((dats m O 0 c).after 7 t)
       ∗ owns (c : Thread nD τ) (st0_8 t) fullShare ((dats m O 0 c).after 8 t) ∗ owns (c : Thread nD τ) (st0_9 t) fullShare ((dats m O 0 c).after 9 t)
       ∗ owns (c : Thread nD τ) (st0_10 t) fullShare ((dats m O 0 c).after 10 t) ∗ owns (c : Thread nD τ) (st0_11 t) fullShare ((dats m O 0 c).after 11 t)
       ∗ owns (c : Thread nD τ) (st0_12 t) fullShare ((dats m O 0 c).after 12 t) ∗ owns (c : Thread nD τ) (st0_13 t) fullShare ((dats m O 0 c).after 13 t)) : sProp 𝕄) := by
  rw [show (dats m O 0 c).Φ t.succ = Pipeline.ΦA (Val := Elt F) (U := UR sig nD τ) spec0 c from rfl,
    show (dats m O 0 c).owesAt () t.succ = (dats m O 0 c).owesAt () t.castSucc from rfl]
  iintro ⟨%Y, %hY, HΦ, HW, H0, H1, H2, H3, H4, H5, H6, H7, H8, H9, H10, H11, H12, H13⟩
  simp only [hY .o rfl, hY .c11 rfl, hY .c12 rfl, hY .c13 rfl, hY .c14 rfl, hY .c15 rfl]
  isplitl [HΦ]; · iexact HΦ
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The inputs are kept, read on the blocks of a point. -/
theorem ins_of_keeps (c : Dev nD) (t : Fin cfg0.N) (X Y : St F) (hX : ins m c t X = X)
    (hY : ∀ x : Cert.Attn.Buf, x.isIn = true → Y x = X x) : ins m c t Y = Y := by
  funext x
  have e : ∀ y : Cert.Attn.Buf, y.isIn = true → ins m c t Y y = Y y := fun y hy =>
    (show ins m c t Y y = ins m c t X y by cases y <;> first | rfl | exact Bool.noConfusion hy).trans ((congrFun hX y).trans (hY y hy).symm)
  cases x <;> first | exact e _ rfl | rfl

/-- The body's obligation with nothing said of the results. -/
theorem body_forget (c : Dev nD) : BodyObligationLoose (dats (F := F) m O 0 c) (defs₀ (F := F)) Variants.none () Set.univ outW := fun t => by
  rw [bigSep_W0, bigSep_W0, defs₀_row]
  exact triple_restated (sound_body m c t (fun _ => True) (fun X hX => Cmd.post_mono _ _
    (fun _ Y hY => ⟨ins_of_keeps m c t X Y hX hY, trivial⟩) (keeps_cmd X X fun _ _ => rfl))
    ((dats m O 0 c).owesAt () t.castSucc)) rfl (pre_named m O c t) fun _ => post_forget m O c t _

/-- The body's obligation with the results at `O`, where the commands leave them. -/
theorem body_exact (c : Dev nD) (hO : ∀ t, ∀ X : St F, ins m c t X = X → cmd.post X fun _ Y => ∀ x : Cert.Attn.Buf, x.isOut = true → Y x = O c t x) :
    BodyObligationLoose (dats (F := F) m O 0 c) (defs₀ (F := F)) Variants.none () Set.univ := fun t => by
  rw [bigSep_W0, bigSep_W0, defs₀_row]
  exact triple_restated (sound_body m c t (fun Y => ∀ x : Cert.Attn.Buf, x.isOut = true → Y x = O c t x) (fun X hX => Cmd.post_and _ _
    (Cmd.post_mono _ _ (fun _ Y hY => ins_of_keeps m c t X Y hX hY) (keeps_cmd X X fun _ _ => rfl)) (hO t X hX))
    ((dats m O 0 c).owesAt () t.castSucc)) rfl ((pre_any m O c t).trans (pre_named m O c t)) fun _ => post_exact m O c t

/-- The run with nothing said of the results. -/
theorem run_forget : θ_run defs (onTc (τ := τ) (main (F := F))) (s₀ m ρ) fun r =>
    Pipeline.RDat.FramePost cfg0 (fun c => (dats m O 0 c).toRForget outW) (V m) r ∧ r.2.sem = fun _ => 0 :=
  Pipeline.θ_run_frame_forget (Q' := _) cfgs (dats m O) (0 : Fin 1) launch0 defs₀ Variants.none outW m ρ main
    (hbody := fun c => body_forget m O c) (hshare := fun c => (dats m O 0 c).share_full fun _ => rfl)
    (howed := fun _ _ => rfl) (V := V m) (hmain := hmain m Variants.none) (hA := A_eq m O) (hΦ := fun _ _ => rfl)

/-- The run with the results at `O`. -/
theorem run_exact (hO : ∀ c t, ∀ X : St F, ins m c t X = X → cmd.post X fun _ Y => ∀ x : Cert.Attn.Buf, x.isOut = true → Y x = O c t x) :
    θ_run defs (onTc (τ := τ) (main (F := F))) (s₀ m ρ) (Pipeline.FramePost cfgs (dats m O) 0 (V m)) :=
  Pipeline.θ_run_frame cfgs (dats m O) (0 : Fin 1) launch0 defs₀ Variants.none m ρ main
    (hbody := fun c => body_exact m O c (hO c)) (hshare := fun c => (dats m O 0 c).share_full fun _ => rfl)
    (howed := fun _ _ => rfl) (V := V m) (hmain := hmain m Variants.none) (hA := A_eq m O) (hΦ := fun _ _ => rfl)

/-- THE FRAME at any float operations: the call ends, its arguments unchanged, every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
      ⟨h.1.arr_in c 0 rfl, h.1.arr_in c 1 rfl, h.1.arr_in c 2 rfl, h.1.arr_in c 3 rfl, h.1.arr_in c 4 rfl,
       h.1.arr_in c 5 rfl, h.1.arr_in c 6 rfl, h.1.arr_in c 7 rfl⟩, h.2⟩)
    (run_forget m ρ fun _ _ => fun _ _ => Classical.arbitrary _)

end Cert.KernelIdeal.Attn
end
-- ==== Proof.Frames.lean ====
/- The three frames: the attention call as printed, the same call at exact arithmetic, and the reference. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Frames

open Idealize.ShloMosaic Idealize.ShloMosaic.TcCoe Idealize.SL.Sem

attribute [local instance] Cert.Kernel.Gen.facts Cert.KernelIdeal.Gen.facts Cert.ReferenceIdeal.Gen.facts

/-- What the frame says of the call as printed, at any float operations. -/
def FrameK (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)
        ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

/-- The same of the call's exact-arithmetic print, whose text is the same. -/
def FrameI (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- Both prints of the call have one text, so the two frames are one proposition. -/
theorem frameK_eq (F : FTy → Type) [FloatOps F] : FrameK F = FrameI F := by chain_rfl

/-- The frame of the exact-arithmetic print, at any float operations. -/
theorem frameI (F : FTy → Type) [FloatOps F] : FrameI F := fun m g => Cert.KernelIdeal.Attn.frame m g

/-- THE FRAME of the attention call as printed. -/
theorem frame_kernel : Cert.quiescent_Kernel := fun m g _ => (frameK_eq Bits).mpr (frameI Bits) m g

/-- THE FRAME of the attention call at exact arithmetic. -/
theorem frame_ideal : Cert.quiescent_KernelIdeal := fun m g _ => frameI Ideal m g

/-- THE FRAME of the reference: its run, read at the arguments; it declares no semaphore. -/
theorem frame_reference : Cert.quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

end Cert.Frames
end
-- ==== Proof.Online.lean ====
/- The online softmax over extended reals: the maximum and the weighted sum of a prefix of a column of scores, how
   they grow by a block of entries, and their quotient. -/
module

public import Idealize.ShloMosaic.PureOps.Ideal
public import Idealize.ShloMosaic.PureOps.Ideal.Laws

@[expose] public section

noncomputable section

namespace Cert.Attn

open Idealize.ShloMosaic

/-- The largest of the first `L` scores. -/
def pmax (s : ℕ → EReal) (L : ℕ) : EReal := (Finset.range L).sup s

/-- The sum of `v` over the first `L` entries, each weighted by two to its score less the largest. -/
def psum (s v : ℕ → EReal) (L : ℕ) : EReal := ∑ k ∈ Finset.range L, v k * Ideal.exp2 (s k - pmax s L)

/-- The largest after a block more. -/
theorem pmax_add (s : ℕ → EReal) (L n : ℕ) :
    pmax s (L + n) = max (pmax s L) ((Finset.range n).sup fun j => s (L + j)) := by
  rw [pmax, Finset.range_add, Finset.sup_union, Finset.sup_map]; rfl

/-- Multiplication by a nonnegative real goes under a finite sum. -/
theorem mul_sum_real {ι : Type} (t : Finset ι) (f : ι → EReal) (x : EReal) (h0 : 0 ≤ x) (h1 : x ≠ ⊤) :
    x * ∑ i ∈ t, f i = ∑ i ∈ t, x * f i := by
  classical
  induction t using Finset.induction_on with
  | empty => simp
  | insert a t ha ih => rw [Finset.sum_insert ha, Finset.sum_insert ha, EReal.left_distrib_of_nonneg_of_ne_top h0 h1, ih]

/-- Two to a score less a bound of it is a real between 0 and 1. -/
theorem exp2_sub_real (a b : EReal) (h : a ≤ b) : ∃ r : ℝ, 0 ≤ r ∧ Ideal.exp2 (a - b) = (r : EReal) := by
  induction b with
  | bot => exact ⟨0, le_rfl, by rw [le_bot_iff.1 h]; simp⟩
  | top => exact ⟨0, le_rfl, by simp⟩
  | coe b =>
    induction a with
    | bot => exact ⟨0, le_rfl, by simp⟩
    | top => exact absurd h (by simp)
    | coe a =>
      refine ⟨Real.rpow 2 (a - b), Real.rpow_nonneg (by norm_num) _, ?_⟩
      rw [← EReal.coe_sub, Ideal.exp2_coe]

/-- Weights rebase: below `a ≤ b ≤ c`, the weight relative to `b` times the rebasing factor is the weight relative to `c`. -/
theorem exp2_rebase (a b c : EReal) (hab : a ≤ b) (hbc : b ≤ c) :
    Ideal.exp2 (b - c) * Ideal.exp2 (a - b) = Ideal.exp2 (a - c) := by
  induction c with
  | bot =>
    obtain rfl := le_bot_iff.1 hbc
    obtain rfl := le_bot_iff.1 hab
    simp
  | top => simp
  | coe c =>
    induction b with
    | top => exact absurd hbc (by simp)
    | bot => obtain rfl := le_bot_iff.1 hab; simp
    | coe b =>
      induction a with
      | top => exact absurd hab (by simp)
      | bot => simp
      | coe a =>
        rw [← EReal.coe_sub, ← EReal.coe_sub, ← EReal.coe_sub, Ideal.exp2_coe, Ideal.exp2_coe, Ideal.exp2_coe, ← EReal.coe_mul]
        refine congrArg _ ((Real.rpow_add (by norm_num : (0 : ℝ) < 2) (b - c) (a - b)).symm.trans ?_)
        exact congrArg _ (by ring)

theorem le_pmax (s : ℕ → EReal) {k L : ℕ} (h : k < L) : s k ≤ pmax s L := Finset.le_sup (f := s) (Finset.mem_range.2 h)

theorem pmax_le_add (s : ℕ → EReal) (L n : ℕ) : pmax s L ≤ pmax s (L + n) := by rw [pmax_add]; exact le_max_left _ _

/-- The weighted sum after a block more. -/
theorem psum_add (s v : ℕ → EReal) (L n : ℕ) :
    psum s v (L + n) = Ideal.exp2 (pmax s L - pmax s (L + n)) * psum s v L
      + ∑ j ∈ Finset.range n, v (L + j) * Ideal.exp2 (s (L + j) - pmax s (L + n)) := by
  rw [psum, Finset.sum_range_add]
  obtain ⟨r, h0, hr⟩ := exp2_sub_real _ _ (pmax_le_add s L n)
  congr 1
  rw [psum, hr, mul_sum_real _ _ _ (by exact_mod_cast h0) (EReal.coe_ne_top r), ← hr]
  refine Finset.sum_congr rfl fun k hk => ?_
  rw [← exp2_rebase (s k) (pmax s L) (pmax s (L + n)) (le_pmax s (Finset.mem_range.1 hk)) (pmax_le_add s L n)]
  rw [mul_left_comm]

/-- Nothing summed yet. -/
theorem psum_zero (s v : ℕ → EReal) : psum s v 0 = 0 := by simp [psum]
theorem pmax_zero (s : ℕ → EReal) : pmax s 0 = ⊥ := by simp [pmax]

/-- Masked entries change nothing: the maximum, -/
theorem pmax_masked (s : ℕ → EReal) (L n : ℕ) (h : ∀ k, L ≤ k → s k = ⊥) : pmax s (L + n) = pmax s L := by
  rw [pmax_add]
  refine max_eq_left (Finset.sup_le fun j _ => ?_)
  rw [h _ (Nat.le_add_right L j)]; exact bot_le

/-- and the weighted sum. -/
theorem psum_masked (s v : ℕ → EReal) (L n : ℕ) (h : ∀ k, L ≤ k → s k = ⊥) : psum s v (L + n) = psum s v L := by
  rw [psum, psum, Finset.sum_range_add, pmax_masked s L n h]
  refine (congrArg (_ + ·) (Finset.sum_eq_zero fun j _ => ?_)).trans (add_zero _)
  rw [h _ (Nat.le_add_right L j)]; simp

/-- The sum of the weights is a nonnegative real. -/
theorem psum_one_real (s : ℕ → EReal) (L : ℕ) : ∃ r : ℝ, 0 ≤ r ∧ psum s (fun _ => 1) L = (r : EReal) := by
  unfold psum
  have key : ∀ t : Finset ℕ, t ⊆ Finset.range L →
      ∃ r : ℝ, 0 ≤ r ∧ ∑ k ∈ t, 1 * Ideal.exp2 (s k - pmax s L) = (r : EReal) := by
    intro t
    induction t using Finset.induction_on with
    | empty => exact fun _ => ⟨0, le_rfl, by simp⟩
    | insert a t ha ih =>
      intro hs
      obtain ⟨r, h0, hr⟩ := ih fun x hx => hs (Finset.mem_insert_of_mem hx)
      obtain ⟨q, h1, hq⟩ := exp2_sub_real (s a) (pmax s L) (le_pmax s (Finset.mem_range.1 (hs (Finset.mem_insert_self a t))))
      exact ⟨q + r, add_nonneg h1 h0, by rw [Finset.sum_insert ha, hr, hq, one_mul, EReal.coe_add]⟩
  exact key _ subset_rfl

/-- If the weights sum to nothing each of them is nothing. -/
theorem weight_zero (s : ℕ → EReal) (L k : ℕ) (hk : k < L) (h : psum s (fun _ => 1) L = 0) :
    Ideal.exp2 (s k - pmax s L) = 0 := by
  obtain ⟨q, h1, hq⟩ := exp2_sub_real (s k) (pmax s L) (le_pmax s hk)
  have hle : Ideal.exp2 (s k - pmax s L) ≤ psum s (fun _ => 1) L := by
    refine (one_mul _).symm.le.trans (Finset.single_le_sum (f := fun k => 1 * Ideal.exp2 (s k - pmax s L)) (fun i hi => ?_) (Finset.mem_range.2 hk))
    obtain ⟨q, h1, hq⟩ := exp2_sub_real (s i) (pmax s L) (le_pmax s (Finset.mem_range.1 hi))
    show 0 ≤ 1 * _
    rw [hq, one_mul]; exact_mod_cast h1
  rw [h] at hle
  refine le_antisymm hle ?_
  rw [hq]; exact_mod_cast h1

/-- THE QUOTIENT: dividing the weighted sum by the sum of the weights is weighting by the normalised weights. -/
theorem psum_div (s v : ℕ → EReal) (L : ℕ) :
    psum s v L * Ideal.div 1 (psum s (fun _ => 1) L)
      = ∑ k ∈ Finset.range L, v k * (Ideal.exp2 (s k - pmax s L) * Ideal.div 1 (psum s (fun _ => 1) L)) := by
  obtain ⟨l, h0, hl⟩ := psum_one_real s L
  by_cases hz : psum s (fun _ => 1) L = 0
  · have hw := fun k hk => weight_zero s L k hk hz
    rw [show psum s v L = 0 from Finset.sum_eq_zero fun k hk => by rw [hw k (Finset.mem_range.1 hk), mul_zero], zero_mul]
    exact (Finset.sum_eq_zero fun k hk => by rw [hw k (Finset.mem_range.1 hk), zero_mul, mul_zero]).symm
  · have hd : Ideal.div 1 (psum s (fun _ => 1) L) = ((l⁻¹ : ℝ) : EReal) := by
      rw [Ideal.div, if_neg hz, one_mul, hl, EReal.coe_inv]
    rw [hd, mul_comm, psum, mul_sum_real _ _ _ (by exact_mod_cast inv_nonneg.2 h0) (EReal.coe_ne_top _)]
    exact Finset.sum_congr rfl fun k _ => by rw [mul_comm, mul_assoc]

/-- Two raised to a power is the same function. -/
theorem pow_two (x : EReal) : Ideal.pow ((2 : ℝ) : EReal) x = Ideal.exp2 x := by
  induction x with
  | bot =>
    show (if (2 : ℝ) < 0 then ⊥ else if (1 : ℝ) < 2 then 0 else if (2 : ℝ) = 1 then 1 else ⊤) = (0 : EReal)
    norm_num
  | top =>
    show (if (2 : ℝ) < 0 then ⊥ else if (1 : ℝ) < 2 then ⊤ else if (2 : ℝ) = 1 then 1 else 0) = (⊤ : EReal)
    norm_num
  | coe r => rfl

end Cert.Attn
end
-- ==== Proof.Reads.lean ====
/- The pure parts of the attention body at exact arithmetic, read at an index. -/
module

public import proofs.«01_k».proof.Proof.Steps
public import proofs.«01_k».proof.Proof.Online
public import Idealize.ShloMosaic.Lib.ValueLayout
public import Idealize.ShloMosaic.Lib.MatmulPlain
public import Idealize.ShloMosaic.Lib.IdealHost
public import Idealize.ShloMosaic.Lib.Pipeline.Value
public import Idealize.ShloMosaic.Lib.WordCmp

@[expose] public section

noncomputable section

namespace Cert.Attn

open Idealize.ShloMosaic Idealize.ShloMosaic.ValueIdx
open Cert.KernelIdeal Cert.KernelIdeal.Facts₀ Cert.KernelIdeal.Facts

/-! ## Layout -/

section
variable {α : Type} {a b : ℕ}

/-- Two leading unit axes dropped, -/
theorem cast_drop2 (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show (((0 * 1 + 0) * a + i.val) * b + j.val) = i.val * b + j.val
    simp only [Nat.zero_mul, Nat.zero_add])

/-- and added. -/
theorem cast_add2 (x : (⟨2, ![a, b]⟩ : Shape).Idx → α) (h : (⟨2, ![a, b]⟩ : Shape).ShapeCasts ⟨4, ![1, 1, a, b]⟩)
    (u w : Fin 1) (i : Fin a) (j : Fin b) : shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = (((u.val * 1 + w.val) * a + i.val) * b + j.val)
    rw [hu, hw]; simp only [Nat.zero_mul, Nat.zero_add])

/-- A block of a matrix. -/
theorem slice_apply {c d : ℕ} (o p : ℕ) (x : (⟨2, ![a, b]⟩ : Shape).Idx → α)
    (h : (⟨2, ![a, b]⟩ : Shape).Slices ![o, p] ⟨2, ![c, d]⟩) (i : Fin c) (j : Fin d) (hi : o + i.val < a) (hj : p + j.val < b) :
    extractStridedSlice ⟨2, ![c, d]⟩ ![o, p] x h (ix2 i j) = x (ix2 ⟨o + i.val, hi⟩ ⟨p + j.val, hj⟩) :=
  congrArg x (funext fun z => match z with | ⟨0, _⟩ => rfl | ⟨1, _⟩ => rfl)

/-- Two matrices stacked: a row of the first, -/
theorem stack_fst {c n : ℕ} (x : (⟨2, ![a, b]⟩ : Shape).Idx → α) (y : (⟨2, ![c, b]⟩ : Shape).Idx → α)
    (h : Shape.Concatenates [⟨2, ![a, b]⟩, ⟨2, ![c, b]⟩] ⟨2, ![n, b]⟩ 0) (i : Fin n) (j : Fin b) (hi : i.val < a) :
    concatenate ⟨2, ![n, b]⟩ 0 [⟨⟨2, ![a, b]⟩, x⟩, ⟨⟨2, ![c, b]⟩, y⟩] h (ix2 i j) = x (ix2 ⟨i.val, hi⟩ j) :=
  concatenate_pair_apply_left 0 x y h _ rfl _ fun z => match z with | ⟨0, _⟩ => rfl | ⟨1, _⟩ => rfl

/-- and of the second. -/
theorem stack_snd {c n : ℕ} (x : (⟨2, ![a, b]⟩ : Shape).Idx → α) (y : (⟨2, ![c, b]⟩ : Shape).Idx → α)
    (h : Shape.Concatenates [⟨2, ![a, b]⟩, ⟨2, ![c, b]⟩] ⟨2, ![n, b]⟩ 0) (i : Fin n) (j : Fin b) (k : Fin c) (hi : k.val + a = i.val) :
    concatenate ⟨2, ![n, b]⟩ 0 [⟨⟨2, ![a, b]⟩, x⟩, ⟨⟨2, ![c, b]⟩, y⟩] h (ix2 i j) = y (ix2 k j) :=
  concatenate_pair_apply_right 0 x y h _ rfl rfl _
    (fun z => match z with | ⟨0, _⟩ => fun hz => absurd rfl hz | ⟨1, _⟩ => fun _ => rfl) hi

end

/-! ## Sums and maxima over an axis -/

/-- The column maxima of a matrix. -/
theorem colMax_apply {a b : ℕ} (x : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ)
    (hc : (⟨1, ![b]⟩ : Shape).ShapeCasts ⟨2, ![1, b]⟩) (j : Fin b) :
    (shapeCast ⟨2, ![1, b]⟩ (multiReduction .maximumf [0] ⟨1, ![b]⟩ x 0xFF800000#32 h hφ hacc) hc (ix2 (0 : Fin 1) j) : EReal)
      = Finset.univ.sup fun i : Fin a => x (ix2 i j) := by
  rw [shapeCast_a_1a_apply, Ideal.multiReduction_maximumf_single]
  have hb : (FloatOps.ofBits .f32 0xFF800000#32 : Ideal .f32) = (⊥ : EReal) := by simp [Ideal.ofBits, Ideal.ieee]
  rw [hb]
  refine congrArg (Finset.univ.fold max ⊥) (funext fun i => congrArg x (funext fun z => ?_))
  match z with
  | ⟨0, _⟩ => rfl
  | ⟨1, _⟩ => rfl

/-- A maximum over the first naturals is one over the coordinates. -/
theorem sup_range (n : ℕ) (f : ℕ → EReal) : (Finset.range n).sup f = Finset.univ.sup fun i : Fin n => f i.val := by
  refine le_antisymm (Finset.sup_le fun k hk => ?_) (Finset.sup_le fun i _ => ?_)
  · exact Finset.le_sup (f := fun i : Fin n => f i.val) (Finset.mem_univ ⟨k, Finset.mem_range.1 hk⟩)
  · exact Finset.le_sup (f := f) (Finset.mem_range.2 i.isLt)

/-! ## The parts -/

theorem ones_apply (i : S16x512.Idx) : (ones (F := Ideal) i : EReal) = 1 := Ideal.ofBits_one_bf16

theorem halfMask_apply (a c : Fin 256) : halfMask (ix2 a c) = if a.val ≤ c.val then 1 else 0 := by
  have e1 : iota .tc S256x256 32 [1] iota_S256x256_d1_w32 (ix2 a c) = BitVec.ofNat 32 c.val := iota_single_apply _ _ _ _ _ _
  have e0 : iota .tc S256x256 32 [0] iota_S256x256_d0_w32 (ix2 a c) = BitVec.ofNat 32 a.val := iota_single_apply _ _ _ _ _ _
  show IntOp.cmpi .sge (iota .tc S256x256 32 [1] iota_S256x256_d1_w32 (ix2 a c)) (iota .tc S256x256 32 [0] iota_S256x256_d0_w32 (ix2 a c)) = _
  have ha : (BitVec.ofNat 32 a.val).toNat = a.val := by rw [BitVec.toNat_ofNat]; omega
  have hc : (BitVec.ofNat 32 c.val).toNat = c.val := by rw [BitVec.toNat_ofNat]; omega
  rw [e1, e0, WordCmp.cmpi_sge_of_lt (by rw [hc]; omega) (by rw [ha]; omega), ha, hc]
  by_cases h : a.val ≤ c.val
  · rw [if_pos h, decide_eq_true h]; rfl
  · rw [if_neg h, decide_eq_false h]; rfl

theorem tileS_apply (k : Vec Ideal S1x512x128 .bf16) (q : Vec Ideal S1x128x512 .bf16) (a c : Fin 512) :
    (tileS k q (ix2 a c) : EReal) = ∑ e : Fin 128, k (ix3 0 a e) * q (ix3 0 e c) := by
  refine (Ideal.matmul_plain_apply none _ _ _ a c).trans ?_
  simp only [shapeCast_1ab_ab_apply]
  exact (congrArg (· + _) Ideal.ofBits_zero_f32).trans (zero_add _)

theorem tileMax_apply (s : FVec Ideal S512x512 .f32) (c : Fin 512) :
    (tileMax s (ix2 0 c) : EReal) = Finset.univ.sup fun a : Fin 512 => s (ix2 a c) := colMax_apply s _ _ _ _ c

theorem topS_apply (k : Vec Ideal S1x256x128 .bf16) (q : Vec Ideal S1x128x512 .bf16) (a : Fin 256) (c : Fin 512) :
    (topS k q (ix2 a c) : EReal) = ∑ e : Fin 128, k (ix3 0 a e) * q (ix3 0 e c) := by
  refine (Ideal.matmul_plain_apply none _ _ _ a c).trans ?_
  simp only [shapeCast_1ab_ab_apply]
  exact (congrArg (· + _) Ideal.ofBits_zero_f32).trans (zero_add _)

theorem botS_apply (k : Vec Ideal S1x256x128 .bf16) (q : Vec Ideal S1x128x256 .bf16) (a : Fin 256) (c : Fin 256) :
    (botS k q (ix2 a c) : EReal) = ∑ e : Fin 128, k (ix3 0 a e) * q (ix3 0 e c) := by
  refine (Ideal.matmul_plain_apply none _ _ _ a c).trans ?_
  simp only [shapeCast_1ab_ab_apply]
  exact (congrArg (· + _) Ideal.ofBits_zero_f32).trans (zero_add _)

theorem mNew_apply (m : Vec Ideal S1x1x1x512 .f32) (t : FVec Ideal S1x512 .f32) (c : Fin 512) :
    (mNew m t (ix2 0 c) : EReal) = max (m (ix4 0 0 0 c)) (t (ix2 0 c)) :=
  congrArg (max · (t (ix2 0 c))) (cast_drop2 m _ 0 c)

theorem tileP_apply (s : Vec Ideal S1x1x512x512 .f32) (mn : FVec Ideal S1x512 .f32) (a c : Fin 512) :
    (tileP s mn (ix2 a c) : EReal) = Ideal.exp2 (s (ix4 0 0 a c) - mn (ix2 0 c)) :=
  congrArg Ideal.exp2 (congrArg₂ (fun x y : EReal => x - y) (cast_drop2 s _ a c) (broadcastTo_1b_ab_apply mn _ a c))

/-- The values over their row of ones. -/
def withOnes {n : ℕ} (v : Vec Ideal ⟨3, ![1, 64, n]⟩ .bf16) (r : Fin 80) (c : Fin n) : EReal :=
  if h : r.val < 64 then v (ix3 0 ⟨r.val, h⟩ c) else 1

theorem accNew_apply (m : Vec Ideal S1x1x1x512 .f32) (mn : FVec Ideal S1x512 .f32) (acc : Vec Ideal S1x1x80x512 .f32)
    (v : Vec Ideal S1x64x512 .bf16) (p : FVec Ideal S512x512 .bf16) (r : Fin 80) (c : Fin 512) :
    (accNew m mn acc v p (ix2 r c) : EReal) = Ideal.exp2 (m (ix4 0 0 0 c) - mn (ix2 0 c)) * acc (ix4 0 0 r c)
      + ∑ a : Fin 512, withOnes v r a * p (ix2 a c) := by
  refine congrArg₂ (fun x y : EReal => x + y) (congrArg₂ (fun x y : EReal => x * y) ?_ (cast_drop2 acc _ r c)) ?_
  · refine (broadcastTo_1b_ab_apply _ _ r c).trans (congrArg Ideal.exp2 (congrArg (fun x : EReal => x - mn (ix2 0 c)) ?_))
    exact cast_drop2 m _ 0 c
  · refine (Ideal.matmul_plain_apply none _ _ _ r c).trans ((congrArg (· + _) Ideal.ofBits_zero_f32).trans ((zero_add _).trans ?_))
    refine Finset.sum_congr rfl fun a _ => congrArg (fun x : EReal => x * p (ix2 a c)) ?_
    by_cases h : r.val < 64
    · rw [withOnes, dif_pos h]
      exact (stack_fst _ _ _ r a h).trans (shapeCast_1ab_ab_apply v _ _ a)
    · rw [withOnes, dif_neg h]
      exact (stack_snd _ _ _ r a ⟨r.val - 64, by omega⟩ (by show r.val - 64 + 64 = r.val; omega)).trans (ones_apply _)

theorem maskQ_apply (s : Vec Ideal S1x1x256x256 .f32) (a c : Fin 256) :
    (maskQ s (ix2 a c) : EReal) = if a.val ≤ c.val then s (ix4 0 0 a c) else ⊥ := by
  have hb : (Scalar.ofBits .f32 0xFF800000#32 : Ideal .f32) = (⊥ : EReal) := by
    show Ideal.ofBits .f32 0xFF800000#32 = ⊥
    simp [Ideal.ofBits, Ideal.ieee]
  show Scalar.select (halfMask (ix2 a c)) (shapeCast S256x256 s shapeCasts_S1x1x256x256_S256x256 (ix2 a c)) (Scalar.ofBits .f32 0xFF800000#32 : Ideal .f32) = _
  rw [halfMask_apply, hb]
  by_cases h : a.val ≤ c.val
  · rw [if_pos h, if_pos h]; exact cast_drop2 s _ a c
  · rw [if_neg h, if_neg h]; rfl

theorem quarterMax_apply (s : FVec Ideal S256x256 .f32) (c : Fin 256) :
    (quarterMax s (ix2 0 c) : EReal) = Finset.univ.sup fun a : Fin 256 => s (ix2 a c) := colMax_apply s _ _ _ _ c

theorem mL_apply (m : Vec Ideal S1x1x1x512 .f32) (c : Fin 256) :
    (mL m (ix2 0 c) : EReal) = m (ix4 0 0 0 ⟨c.val, by omega⟩) := by
  refine (slice_apply 0 0 _ _ 0 c (by omega) (by omega)).trans ((cast_drop2 m _ _ _).trans ?_)
  exact congrArg m (congrArg (ix4 (0 : Fin 1) (0 : Fin 1) (0 : Fin 1)) (Fin.ext (Nat.zero_add _)))

theorem mR_apply (m : Vec Ideal S1x1x1x512 .f32) (c : Fin 256) :
    (mR m (ix2 0 c) : EReal) = m (ix4 0 0 0 ⟨256 + c.val, by omega⟩) :=
  (slice_apply 0 256 _ _ 0 c (by omega) (by omega)).trans (cast_drop2 m _ _ _)

theorem mlF_apply (m : Vec Ideal S1x1x1x512 .f32) (tl : FVec Ideal S256x256 .f32) (c : Fin 256) :
    (mlF m tl (ix2 0 c) : EReal) = max (m (ix4 0 0 0 ⟨c.val, by omega⟩)) (Finset.univ.sup fun a : Fin 256 => tl (ix2 a c)) :=
  congrArg₂ (fun x y : EReal => max x y) (mL_apply m c) (quarterMax_apply tl c)

theorem mrF_apply (m : Vec Ideal S1x1x1x512 .f32) (tr br : FVec Ideal S256x256 .f32) (c : Fin 256) :
    (mrF m tr br (ix2 0 c) : EReal) = max (m (ix4 0 0 0 ⟨256 + c.val, by omega⟩))
      (max (Finset.univ.sup fun a : Fin 256 => tr (ix2 a c)) (Finset.univ.sup fun a : Fin 256 => br (ix2 a c))) :=
  congrArg₂ (fun x y : EReal => max x y) (mR_apply m c)
    (congrArg₂ (fun x y : EReal => max x y) (quarterMax_apply tr c) (quarterMax_apply br c))

theorem quarterP_apply (s : FVec Ideal S256x256 .f32) (mf : FVec Ideal S1x256 .f32) (a c : Fin 256) :
    (quarterP s mf (ix2 a c) : EReal) = Ideal.exp2 (s (ix2 a c) - mf (ix2 0 c)) :=
  congrArg Ideal.exp2 (congrArg (fun y : EReal => s (ix2 a c) - y) (broadcastTo_1b_ab_apply mf _ a c))

theorem accL_apply (m : Vec Ideal S1x1x1x512 .f32) (tl : FVec Ideal S256x256 .f32) (acc : Vec Ideal S1x1x80x512 .f32)
    (v : Vec Ideal S1x64x256 .bf16) (r : Fin 80) (c : Fin 256) :
    (accL m tl acc v (ix2 r c) : EReal)
      = Ideal.exp2 (m (ix4 0 0 0 ⟨c.val, by omega⟩) - mlF m tl (ix2 0 c)) * acc (ix4 0 0 r ⟨c.val, by omega⟩)
        + ∑ a : Fin 256, withOnes v r a * Ideal.exp2 (tl (ix2 a c) - mlF m tl (ix2 0 c)) := by
  refine congrArg₂ (fun x y : EReal => x + y) (congrArg₂ (fun x y : EReal => x * y) ?_ ?_) ?_
  · refine (broadcastTo_1b_ab_apply _ _ r c).trans (congrArg Ideal.exp2 (congrArg (fun x : EReal => x - mlF m tl (ix2 0 c)) ?_))
    exact mL_apply m c
  · refine (slice_apply 0 0 _ _ r c (by omega) (by omega)).trans ((cast_drop2 acc _ _ _).trans ?_)
    exact congrArg acc (congrArg₂ (ix4 (0 : Fin 1) (0 : Fin 1)) (Fin.ext (Nat.zero_add _)) (Fin.ext (Nat.zero_add _)))
  · refine (Ideal.matmul_plain_apply none _ _ _ r c).trans ((congrArg (· + _) Ideal.ofBits_zero_f32).trans ((zero_add _).trans ?_))
    refine Finset.sum_congr rfl fun a _ => congrArg₂ (fun x y : EReal => x * y) ?_ (quarterP_apply tl (mlF m tl) a c)
    by_cases h : r.val < 64
    · rw [withOnes, dif_pos h]
      exact (stack_fst _ _ _ r a h).trans (shapeCast_1ab_ab_apply v _ _ a)
    · rw [withOnes, dif_neg h]
      refine (stack_snd _ _ _ r a ⟨r.val - 64, by omega⟩ (by show r.val - 64 + 64 = r.val; omega)).trans ?_
      exact ones_apply _

/-- Two quarters one below the other. -/
def halves (tr br : FVec Ideal S256x256 .f32) (a : Fin 512) (c : Fin 256) : EReal :=
  if h : a.val < 256 then tr (ix2 ⟨a.val, h⟩ c) else br (ix2 ⟨a.val - 256, by omega⟩ c)

theorem accR_apply (m : Vec Ideal S1x1x1x512 .f32) (tr br : FVec Ideal S256x256 .f32) (acc : Vec Ideal S1x1x80x512 .f32)
    (v : Vec Ideal S1x64x512 .bf16) (r : Fin 80) (c : Fin 256) :
    (accR m tr br acc v (ix2 r c) : EReal)
      = Ideal.exp2 (m (ix4 0 0 0 ⟨256 + c.val, by omega⟩) - mrF m tr br (ix2 0 c)) * acc (ix4 0 0 r ⟨256 + c.val, by omega⟩)
        + ∑ a : Fin 512, withOnes v r a * Ideal.exp2 (halves tr br a c - mrF m tr br (ix2 0 c)) := by
  refine congrArg₂ (fun x y : EReal => x + y) (congrArg₂ (fun x y : EReal => x * y) ?_ ?_) ?_
  · refine (broadcastTo_1b_ab_apply _ _ r c).trans (congrArg Ideal.exp2 (congrArg (fun x : EReal => x - mrF m tr br (ix2 0 c)) ?_))
    exact mR_apply m c
  · refine (slice_apply 0 256 _ _ r c (by omega) (by omega)).trans ((cast_drop2 acc _ _ _).trans ?_)
    exact congrArg acc (congrArg (fun x => ix4 (0 : Fin 1) (0 : Fin 1) x (⟨256 + c.val, by omega⟩ : Fin 512)) (Fin.ext (Nat.zero_add _)))
  · refine (Ideal.matmul_plain_apply none _ _ _ r c).trans ((congrArg (· + _) Ideal.ofBits_zero_f32).trans ((zero_add _).trans ?_))
    refine Finset.sum_congr rfl fun a _ => congrArg₂ (fun x y : EReal => x * y) ?_ ?_
    · by_cases h : r.val < 64
      · rw [withOnes, dif_pos h]
        exact (stack_fst _ _ _ r a h).trans (shapeCast_1ab_ab_apply v _ _ a)
      · rw [withOnes, dif_neg h]
        exact (stack_snd _ _ _ r a ⟨r.val - 64, by omega⟩ (by show r.val - 64 + 64 = r.val; omega)).trans (ones_apply _)
    · by_cases h : a.val < 256
      · rw [halves, dif_pos h]
        exact Eq.trans (b := (quarterP tr (mrF m tr br) (ix2 ⟨a.val, h⟩ c) : EReal)) (stack_fst _ _ concatenates_S256x256_S256x256_S512x256_d0 a c h)
          (quarterP_apply tr (mrF m tr br) _ c)
      · rw [halves, dif_neg h]
        exact Eq.trans (b := (quarterP br (mrF m tr br) (ix2 ⟨a.val - 256, by omega⟩ c) : EReal))
          (stack_snd _ _ concatenates_S256x256_S256x256_S512x256_d0 a c ⟨a.val - 256, by omega⟩ (by show a.val - 256 + 256 = a.val; omega))
          (quarterP_apply br (mrF m tr br) _ c)

theorem outH_apply (a : FVec Ideal S80x256 .f32) (r : Fin 64) (c : Fin 256) :
    (outH a (ix3 0 r c) : EReal) = a (ix2 ⟨r.val, by omega⟩ c) * Ideal.div 1 (a (ix2 64 c)) := by
  refine (shapeCast_ab_1ab_apply _ _ 0 r c).trans ?_
  refine congrArg₂ (fun x y : EReal => x * y) ?_ ?_
  · refine (slice_apply 0 0 _ _ r c (by omega) (by omega)).trans ?_
    exact congrArg a (congrArg₂ ix2 (Fin.ext (Nat.zero_add _)) (Fin.ext (Nat.zero_add _)))
  · refine (broadcastTo_1b_ab_apply _ _ r c).trans ?_
    refine congrArg₂ (fun x y : EReal => Ideal.div x y) Ideal.ofBits_one_f32 ?_
    refine (slice_apply 64 0 _ _ 0 c (by omega) (by omega)).trans ?_
    exact congrArg a (congrArg₂ ix2 rfl (Fin.ext (Nat.zero_add _)))

end Cert.Attn
end
-- ==== Proof.State.lean ====
/- What the buffers hold while the attention body runs, at exact arithmetic, and how each step keeps it. -/
module

public import proofs.«01_k».proof.Proof.Reads
public import proofs.«01_k».proof.Proof.Keeps

@[expose] public section

noncomputable section

namespace Cert.Attn

open Idealize.ShloMosaic Idealize.ShloMosaic.ValueIdx
open Cert.KernelIdeal Cert.KernelIdeal.Facts₀ Cert.KernelIdeal.Facts

/-! ## Reading a rectangle -/

/-- A store is read back inside its rectangle, -/
theorem put_in {s : Shape} {E : Type} (r : Rect s) (w : r.shape.Idx → E) (X : s.Idx → E) (y : s.Idx) (j : r.shape.Idx)
    (h : ∀ a, (r.emb j a).val = (y a).val) : put r w X y = w j := by
  have e : r.emb j = y := funext fun a => Fin.ext (h a)
  rw [← e]; exact put_emb r w X j

/-- and not outside of it. -/
theorem put_out {s : Shape} {E : Type} (off size : Fin s.rank → ℕ) (inb : ∀ a, off a + size a ≤ s.size a)
    (w : (Rect.unit off size inb).shape.Idx → E) (X : s.Idx → E) (y : s.Idx) (a : Fin s.rank)
    (h : (y a).val < off a ∨ off a + size a ≤ (y a).val) : put (Rect.unit off size inb) w X y = X y := by
  refine put_off _ _ _ _ ?_
  rintro ⟨j, rfl⟩
  have h1 : (j a).val < size a := (j a).isLt
  have h2 : ((Rect.unit off size inb).emb j a).val = off a + 1 * (j a).val := rfl
  omega

/-- A load reads the contents at its offset. -/
theorem read_at {s : Shape} {E : Type} (X : s.Idx → E) (r : LoadRect s) (j : r.shape.Idx) (y : s.Idx)
    (h : ∀ a, (r.idx j a).val = (y a).val) : X (r.idx j) = X y :=
  congrArg X (funext fun a => Fin.ext (h a))

/-! ## The mathematics of a column -/

/-- The score of key `k` for query `q`, in head `hd`. -/
def raw (Z : St Ideal) (hd : Fin 4) (k q : ℕ) : EReal :=
  if h : k < 4096 ∧ q < 4096 then
    ∑ e : Fin 128, (Z .k (ix3 0 ⟨k, h.1⟩ ⟨128 * hd.val + e.val, by omega⟩) : EReal) * Z .q (ix3 0 ⟨128 * hd.val + e.val, by omega⟩ ⟨q, h.2⟩)
  else 0

/-- The same under the causal mask, as a column over the keys. -/
def sco (Z : St Ideal) (hd : Fin 4) (q : ℕ) (k : ℕ) : EReal := if k ≤ q then raw Z hd k q else ⊥

/-- Row `r` of the values over the keys; ones from row 64 on. -/
def val (Z : St Ideal) (hd : Fin 4) (r : ℕ) (k : ℕ) : EReal :=
  if h : r < 64 then (if h' : k < 4096 then Z .v (ix3 0 ⟨64 * hd.val + r, by omega⟩ ⟨k, h'⟩) else 0) else 1

/-- The attention's output. -/
def res (Z : St Ideal) (hd : Fin 4) (r q : ℕ) : EReal :=
  psum (sco Z hd q) (val Z hd r) 4096 * Ideal.div 1 (psum (sco Z hd q) (fun _ => 1) 4096)

theorem sco_le {Z : St Ideal} {hd : Fin 4} {q k : ℕ} (h : k ≤ q) : sco Z hd q k = raw Z hd k q := if_pos h
theorem sco_gt {Z : St Ideal} {hd : Fin 4} {q k : ℕ} (h : q < k) : sco Z hd q k = ⊥ := if_neg (by omega)
theorem val_one {Z : St Ideal} {hd : Fin 4} {r : ℕ} (h : 64 ≤ r) : val Z hd r = fun _ => 1 :=
  funext fun _ => dif_neg (by omega)

/-! ## The order of the tiles -/

/-- The query tile of the `n`-th tile taken: the tiles below the diagonal first, then those on it. -/
def ti (n : ℕ) : ℕ := if n < 28 then (tile n).1.val else n - 28
/-- Its key tile. -/
def tj (n : ℕ) : ℕ := if n < 28 then (tile n).2.val else n - 28

/-- How many key tiles of query tile `i` are among the first `n`. -/
def cnt (n : ℕ) (i : Fin 8) : ℕ := ((Finset.range (min n 28)).filter fun m => (tile m).1 = i).card

theorem cnt_at : ∀ n < 28, ∀ i : Fin 8, i.val = ti n → cnt n i = tj n ∧ cnt (n + 1) i = tj n + 1 := by decide
theorem cnt_off : ∀ n < 28, ∀ i : Fin 8, i.val ≠ ti n → cnt (n + 1) i = cnt n i := by decide
theorem cnt_zero (i : Fin 8) : cnt 0 i = 0 := rfl
theorem cnt_28 : ∀ i : Fin 8, cnt 28 i = i.val := by decide
theorem cnt_full (n : ℕ) (i : Fin 8) (h : 28 ≤ n) : cnt n i = i.val := by
  have e : min n 28 = min 28 28 := by omega
  rw [← cnt_28, cnt, cnt, e]
theorem tj_lt : ∀ n < 28, tj n < ti n := by decide

/-! ## The invariant -/

/-- Slot `n % 2` of head `hd` holds the scores of tile `n`; on the diagonal not those of its lower left quarter. -/
def Slot (Z : St Ideal) (hd : Fin 4) (n : ℕ) (X : St Ideal) : Prop :=
  ∀ sl : Fin 2, sl.val = n % 2 → ∀ a c : Fin 512, (n < 28 ∨ a.val < 256 ∨ 256 ≤ c.val) →
    (X .s (ix4 sl hd a c) : EReal) = raw Z hd (512 * tj n + a.val) (512 * ti n + c.val)

/-- `t` is the row of column maxima of tile `n`. -/
def Tm (Z : St Ideal) (hd : Fin 4) (n : ℕ) (t : FVec Ideal S1x512 .f32) : Prop :=
  ∀ c : Fin 512, (t (ix2 0 c) : EReal) = (Finset.range 512).sup fun a => raw Z hd (512 * tj n + a) (512 * ti n + c.val)

/-- The buffers the steps write. -/
def Buf.moves : Buf → Bool
  | .s | .acc | .m | .o => true
  | _ => false

/-- One more for the head `hd`. -/
@[reducible] def bump (p : Fin 4 → ℕ) (hd : Fin 4) : Fin 4 → ℕ := Function.update p hd (p hd + 1)

theorem bump_self {p : Fin 4 → ℕ} {hd : Fin 4} : bump p hd hd = p hd + 1 := Function.update_self _ _ _
theorem bump_ne {p : Fin 4 → ℕ} {hd hd' : Fin 4} (h : hd' ≠ hd) : bump p hd hd' = p hd' := Function.update_of_ne h _ _

/-- The state after the first `p hd` tiles of each head are scored and the first `g hd` accumulated; `b` says that the
    accumulators, the maxima and the cast weights have been filled. -/
structure Inv (Z : St Ideal) (b : Prop) (p g : Fin 4 → ℕ) (X : St Ideal) : Prop where
  fix : ∀ x : Buf, x.moves = false → (b ∨ x.isIn = true) → X x = Z x
  slot : ∀ hd n, g hd ≤ n → n < p hd → Slot Z hd n X
  mx : b → ∀ (hd : Fin 4) (i : Fin 8) (c : Fin 512),
    (X .m (ix4 i hd 0 c) : EReal) = pmax (sco Z hd (512 * i.val + c.val)) (512 * cnt (g hd) i)
  ac : b → ∀ (hd : Fin 4) (i : Fin 8) (r : Fin 80) (c : Fin 512),
    (X .acc (ix4 i hd r c) : EReal) = psum (sco Z hd (512 * i.val + c.val)) (val Z hd r.val) (512 * cnt (g hd) i)
  out : ∀ (hd : Fin 4) (d : ℕ) (r c : ℕ) (row : Fin 256) (col : Fin 4096), d < g hd - 28 → r < 64 → c < 512 →
    row.val = 64 * hd.val + r → col.val = 512 * d + c → (X .o (ix3 0 row col) : EReal) = res Z hd r col.val

/-! ## Scoring a tile -/

section
variable {α : Type} {Z X : St Ideal} {b : Prop} {p g : Fin 4 → ℕ} {Q : α → St Ideal → Prop}

/-- Scores into a slot that holds no tile still to be accumulated. -/
theorem Inv.score (I : Inv Z b p g X) (hd : Fin 4) (hg : g hd ≤ p hd) (hp : p hd ≤ g hd + 1) (sl : Fin 2) (hsl : sl.val = p hd % 2)
    (Y : S2x4x512x512.Idx → EReal)
    (hoff : ∀ (sl' : Fin 2) (hd' : Fin 4) (a c : Fin 512), (sl' ≠ sl ∨ hd' ≠ hd) → Y (ix4 sl' hd' a c) = X .s (ix4 sl' hd' a c))
    (hon : ∀ a c : Fin 512, (p hd < 28 ∨ a.val < 256 ∨ 256 ≤ c.val) →
      Y (ix4 sl hd a c) = raw Z hd (512 * tj (p hd) + a.val) (512 * ti (p hd) + c.val)) :
    Inv Z b (bump p hd) g (Function.update X .s Y) where
  fix x hx ho := (Function.update_of_ne (fun e => by subst e; exact Bool.noConfusion hx) _ _).trans (I.fix x hx ho)
  mx hb hd' i c := (congrFun (Function.update_of_ne (by decide) _ _) _).trans (I.mx hb hd' i c)
  ac hb hd' i r c := (congrFun (Function.update_of_ne (by decide) _ _) _).trans (I.ac hb hd' i r c)
  out hd' d r c row col h1 h2 h3 h4 h5 :=
    (congrFun (Function.update_of_ne (by decide) _ _) _).trans (I.out hd' d r c row col h1 h2 h3 h4 h5)
  slot hd' n h1 h2 := by
    intro sl' hs a c hac
    refine (congrFun (Function.update_self _ _ _) _).trans ?_
    by_cases e : hd' = hd
    · subst e
      rw [bump_self] at h2
      by_cases en : n = p hd'
      · subst en
        obtain rfl : sl' = sl := Fin.ext (hs.trans hsl.symm)
        exact hon a c hac
      · refine (hoff sl' hd' a c (.inl fun es => ?_)).trans (I.slot hd' n h1 (by omega) sl' hs a c hac)
        subst es; omega
    · rw [bump_ne e] at h2
      exact (hoff sl' hd' a c (.inr e)).trans (I.slot hd' n h1 h2 sl' hs a c hac)

/-- The scores of a block of keys and queries. -/
theorem raw_block (I : Inv Z b p g X) (hd : Fin 4) (k q : ℕ) (ra : LoadRect S1x4096x512) (rb : LoadRect S1x512x4096)
    (ja : Fin 128 → ra.shape.Idx) (jb : Fin 128 → rb.shape.Idx) (hk : k < 4096) (hq : q < 4096)
    (ha : ∀ e a, (ra.idx (ja e) a).val = ((ix3 (0 : Fin 1) (⟨k, hk⟩ : Fin 4096) (⟨128 * hd.val + e.val, by omega⟩ : Fin 512) : S1x4096x512.Idx) a).val)
    (hb : ∀ e a, (rb.idx (jb e) a).val = ((ix3 (0 : Fin 1) (⟨128 * hd.val + e.val, by omega⟩ : Fin 512) (⟨q, hq⟩ : Fin 4096) : S1x512x4096.Idx) a).val) :
    ∑ e : Fin 128, (X .k (ra.idx (ja e)) : EReal) * X .q (rb.idx (jb e)) = raw Z hd k q := by
  rw [raw, dif_pos ⟨hk, hq⟩]
  refine Finset.sum_congr rfl fun e _ => ?_
  exact congrArg₂ (fun x y : EReal => x * y) ((read_at _ ra _ _ (ha e)).trans (congrFun (I.fix .k rfl (.inr rfl)) _))
    ((read_at _ rb _ _ (hb e)).trans (congrFun (I.fix .q rfl (.inr rfl)) _))

/-- A tile below the diagonal is scored. -/
theorem produce_ok (I : Inv Z b p g X) (sl : Fin 2) (hd : Fin 4) (i j : Fin 8) (κ : FVec Ideal S1x512 .f32 → Cmd Ideal α)
    (hg : g hd ≤ p hd) (hp : p hd ≤ g hd + 1) (hn : p hd < 28) (hsl : sl.val = p hd % 2) (hi : i.val = ti (p hd)) (hj : j.val = tj (p hd))
    (h : ∀ t X', Tm Z hd (p hd) t → Inv Z b (bump p hd) g X' → (κ t).post X' Q) :
    (produce sl hd i j κ).post X Q := by
  have key : ∀ a c : Fin 512, (tileS (fun y => X .k ((rK hd j).toLoadRect.idx y)) (fun y => X .q ((rQ hd i).toLoadRect.idx y)) (ix2 a c) : EReal)
      = raw Z hd (512 * tj (p hd) + a.val) (512 * ti (p hd) + c.val) := fun a c => by
    rw [tileS_apply, ← hi, ← hj]
    refine raw_block I hd (512 * j.val + a.val) (512 * i.val + c.val) (rK hd j).toLoadRect (rQ hd i).toLoadRect (fun e => ix3 0 a e) (fun e => ix3 0 e c) (by omega) (by omega) (fun e => ?_) (fun e => ?_)
    · refine all3 rfl ?_ ?_
      · show 512 * j.val + 1 * a.val = 512 * j.val + a.val; omega
      · show 128 * hd.val + 1 * e.val = 128 * hd.val + e.val; omega
    · refine all3 rfl ?_ ?_
      · show 128 * hd.val + 1 * e.val = 128 * hd.val + e.val; omega
      · show 512 * i.val + 1 * c.val = 512 * i.val + c.val; omega
  refine h _ _ (fun c => ?_) (I.score hd hg hp sl hsl _ (fun sl' hd' a c ho => ?_) (fun a c _ => ?_))
  · rw [tileMax_apply, sup_range]
    exact congrArg _ (funext fun a => key a c)
  · rcases ho with ho | ho
    · refine put_out _ _ _ _ _ _ (0 : Fin 4) ?_
      have : sl'.val ≠ sl.val := fun e => ho (Fin.ext e)
      show sl'.val < sl.val ∨ sl.val + 1 ≤ sl'.val; omega
    · refine put_out _ _ _ _ _ _ (1 : Fin 4) ?_
      have : hd'.val ≠ hd.val := fun e => ho (Fin.ext e)
      show hd'.val < hd.val ∨ hd.val + 1 ≤ hd'.val; omega
  · refine Eq.trans (put_in (rS sl hd) _ _ (ix4 sl hd a c) (ix4 0 0 a c) (all4 ?_ ?_ ?_ ?_)) ?_
    rotate_left 4
    · refine Eq.trans ?_ (key a c)
      exact cast_add2 (tileS _ _) shapeCasts_S512x512_S1x1x512x512 0 0 a c
    · show sl.val + 1 * 0 = sl.val; omega
    · show hd.val + 1 * 0 = hd.val; omega
    · show 0 + 1 * a.val = a.val; omega
    · show 0 + 1 * c.val = c.val; omega

end

end Cert.Attn
end
-- ==== Proof.Below.lean ====
/- Accumulating a tile below the diagonal, at exact arithmetic. -/
module

public import proofs.«01_k».proof.Proof.State

@[expose] public section

noncomputable section

namespace Cert.Attn

open Idealize.ShloMosaic Idealize.ShloMosaic.ValueIdx
open Cert.KernelIdeal Cert.KernelIdeal.Facts₀ Cert.KernelIdeal.Facts

/-- The maximum of a prefix and of the block after it. -/
theorem pmax_step {s : ℕ → EReal} {L n : ℕ} {m : EReal} {f : Fin n → EReal} (hm : m = pmax s L) (hf : ∀ a, f a = s (L + a.val)) :
    max m (Finset.univ.sup f) = pmax s (L + n) := by
  rw [pmax_add, hm, sup_range, funext hf]

/-- The weighted sum of a prefix rebased, and of the block after it. -/
theorem psum_step {s v : ℕ → EReal} {L n : ℕ} {m mn acc : EReal} {f : Fin n → EReal} (hm : m = pmax s L) (hn : mn = pmax s (L + n))
    (ha : acc = psum s v L) (hf : ∀ a, f a = v (L + a.val) * Ideal.exp2 (s (L + a.val) - pmax s (L + n))) :
    Ideal.exp2 (m - mn) * acc + ∑ a, f a = psum s v (L + n) := by
  rw [psum_add, hm, hn, ha, Finset.sum_range, funext hf]

section
variable {α : Type} {Z X : St Ideal} {b : Prop} {p g : Fin 4 → ℕ} {Q : α → St Ideal → Prop}

/-- The values a load brings, over the rows of ones. -/
theorem val_block (I : Inv Z b p g X) (hd : Fin 4) {n : ℕ} (r : Fin 80) (a : Fin n) (k : ℕ) (hk : k < 4096) (ra : LoadRect S1x256x4096)
    (j : (⟨3, ![1, 64, n]⟩ : Shape).Idx → ra.shape.Idx)
    (h : ∀ h : r.val < 64, ∀ z, (ra.idx (j (ix3 0 ⟨r.val, h⟩ a)) z).val
      = ((ix3 (0 : Fin 1) (⟨64 * hd.val + r.val, by omega⟩ : Fin 256) (⟨k, hk⟩ : Fin 4096) : S1x256x4096.Idx) z).val) :
    withOnes (fun y => X .v (ra.idx (j y))) r a = val Z hd r.val k := by
  by_cases hr : r.val < 64
  · rw [withOnes, dif_pos hr, val, dif_pos hr, dif_pos hk]
    exact (read_at _ ra _ _ (h hr)).trans (congrFun (I.fix .v rfl (.inr rfl)) _)
  · rw [withOnes, dif_neg hr, val, dif_neg hr]

/-- The running maxima of a query tile, as loaded, -/
theorem read_m (X : St Ideal) (hd : Fin 4) (i : Fin 8) (c : Fin 512) :
    X .m ((rM hd i).toLoadRect.idx (ix4 0 0 0 c)) = X .m (ix4 i hd 0 c) :=
  read_at (X .m) (rM hd i).toLoadRect (ix4 0 0 0 c) (ix4 i hd 0 c) (all4
    (show i.val + 1 * 0 = i.val by omega) (show hd.val + 1 * 0 = hd.val by omega) rfl (show 0 + 1 * c.val = c.val by omega))

/-- and its accumulators. -/
theorem read_acc (X : St Ideal) (hd : Fin 4) (i : Fin 8) (r : Fin 80) (c : Fin 512) :
    X .acc ((rA hd i).toLoadRect.idx (ix4 0 0 r c)) = X .acc (ix4 i hd r c) :=
  read_at (X .acc) (rA hd i).toLoadRect (ix4 0 0 r c) (ix4 i hd r c) (all4
    (show i.val + 1 * 0 = i.val by omega) (show hd.val + 1 * 0 = hd.val by omega) (show 0 + 1 * r.val = r.val by omega)
    (show 0 + 1 * c.val = c.val by omega))

/-- A head's accumulators and maxima move on by a tile. -/
theorem Inv.accumulate (I : Inv Z b p g X) (hd : Fin 4) (i : Fin 8) (hn : g hd < 28) (hi : i.val = ti (g hd))
    (A : S8x4x80x512.Idx → EReal) (M : S8x4x1x512.Idx → EReal)
    (hA : ∀ (i' : Fin 8) (hd' : Fin 4) (r : Fin 80) (c : Fin 512), (i' ≠ i ∨ hd' ≠ hd) → A (ix4 i' hd' r c) = X .acc (ix4 i' hd' r c))
    (hM : ∀ (i' : Fin 8) (hd' : Fin 4) (c : Fin 512), (i' ≠ i ∨ hd' ≠ hd) → M (ix4 i' hd' 0 c) = X .m (ix4 i' hd' 0 c))
    (hA' : ∀ (r : Fin 80) (c : Fin 512),
      A (ix4 i hd r c) = psum (sco Z hd (512 * i.val + c.val)) (val Z hd r.val) (512 * (tj (g hd) + 1)))
    (hM' : ∀ c : Fin 512, M (ix4 i hd 0 c) = pmax (sco Z hd (512 * i.val + c.val)) (512 * (tj (g hd) + 1))) :
    Inv Z b p (bump g hd) (Function.update (Function.update X .acc A) .m M) where
  fix x hx ho := by
    rw [Function.update_of_ne (fun e => by subst e; exact Bool.noConfusion hx),
      Function.update_of_ne (fun e => by subst e; exact Bool.noConfusion hx)]
    exact I.fix x hx ho
  slot hd' n h1 h2 := by
    intro sl hs a c hac
    have hg : g hd' ≤ n := by
      by_cases e : hd' = hd
      · subst e; rw [bump_self] at h1; omega
      · rwa [bump_ne e] at h1
    rw [Function.update_of_ne (by decide), Function.update_of_ne (by decide)]
    exact I.slot hd' n hg h2 sl hs a c hac
  mx hb hd' i' c := by
    rw [Function.update_self]
    by_cases e : hd' = hd
    · subst e
      rw [bump_self]
      by_cases ei : i' = i
      · subst ei
        rw [(cnt_at _ hn i' hi).2]; exact hM' c
      · rw [cnt_off _ hn i' (fun e => ei (Fin.ext (e.trans hi.symm)))]
        exact (hM i' hd' c (.inl ei)).trans (I.mx hb hd' i' c)
    · rw [bump_ne e]
      exact (hM i' hd' c (.inr e)).trans (I.mx hb hd' i' c)
  ac hb hd' i' r c := by
    rw [Function.update_of_ne (by decide), Function.update_self]
    by_cases e : hd' = hd
    · subst e
      rw [bump_self]
      by_cases ei : i' = i
      · subst ei
        rw [(cnt_at _ hn i' hi).2]; exact hA' r c
      · rw [cnt_off _ hn i' (fun e => ei (Fin.ext (e.trans hi.symm)))]
        exact (hA i' hd' r c (.inl ei)).trans (I.ac hb hd' i' r c)
    · rw [bump_ne e]
      exact (hA i' hd' r c (.inr e)).trans (I.ac hb hd' i' r c)
  out hd' d r c row col h1 h2 h3 h4 h5 := by
    have h1' : d < g hd' - 28 := by
      by_cases e : hd' = hd
      · subst e; rw [bump_self] at h1; omega
      · rwa [bump_ne e] at h1
    rw [Function.update_of_ne (by decide), Function.update_of_ne (by decide)]
    exact I.out hd' d r c row col h1' h2 h3 h4 h5

/-- A tile below the diagonal is accumulated. -/
theorem consume_ok (hb : b) (I : Inv Z b p g X) (sl : Fin 2) (hd : Fin 4) (i j : Fin 8) (t : FVec Ideal S1x512 .f32) (κ : Cmd Ideal α)
    (hg : g hd < p hd) (hn : g hd < 28) (hsl : sl.val = g hd % 2) (hi : i.val = ti (g hd)) (hj : j.val = tj (g hd))
    (ht : Tm Z hd (g hd) t) (h : ∀ X', Inv Z b p (bump g hd) X' → κ.post X' Q) :
    (consume sl hd i j t κ).post X Q := by
  have hlt : j.val < i.val := by rw [hi, hj]; exact tj_lt _ hn
  have hc : cnt (g hd) i = j.val := by rw [hj]; exact (cnt_at _ hn i hi).1
  have hs : ∀ a c : Fin 512, raw Z hd (512 * j.val + a.val) (512 * i.val + c.val) = sco Z hd (512 * i.val + c.val) (512 * j.val + a.val) :=
    fun a c => (sco_le (by omega)).symm
  have hm : ∀ c : Fin 512, (mNew (fun y => X .m ((rM hd i).toLoadRect.idx y)) t (ix2 0 c) : EReal)
      = pmax (sco Z hd (512 * i.val + c.val)) (512 * j.val + 512) := fun c => by
    rw [mNew_apply, ht c, ← hi, ← hj, sup_range]
    exact pmax_step ((read_m X hd i c).trans ((I.mx hb hd i c).trans (by rw [hc]))) fun a => hs a c
  have hp : ∀ a c : Fin 512, (tileP (fun y => X .s ((rS sl hd).toLoadRect.idx y)) (mNew (fun y => X .m ((rM hd i).toLoadRect.idx y)) t) (ix2 a c) : EReal)
      = Ideal.exp2 (sco Z hd (512 * i.val + c.val) (512 * j.val + a.val) - pmax (sco Z hd (512 * i.val + c.val)) (512 * j.val + 512)) := fun a c => by
    rw [tileP_apply, hm]
    refine congrArg (fun x : EReal => Ideal.exp2 (x - _)) ?_
    refine (read_at (X .s) (rS sl hd).toLoadRect (ix4 0 0 a c) (ix4 sl hd a c) (all4
      (show sl.val + 1 * 0 = sl.val by omega) (show hd.val + 1 * 0 = hd.val by omega) (show 0 + 1 * a.val = a.val by omega)
      (show 0 + 1 * c.val = c.val by omega))).trans ?_
    rw [I.slot hd _ le_rfl hg sl hsl a c (.inl hn), ← hi, ← hj, hs]
  refine h _ (I.accumulate hd i hn hi _ _ ?_ ?_ ?_ ?_)
  · intro i' hd' r c ho
    rcases ho with ho | ho
    · refine put_out _ _ _ _ _ _ (0 : Fin 4) ?_
      have : i'.val ≠ i.val := fun e => ho (Fin.ext e)
      show i'.val < i.val ∨ i.val + 1 ≤ i'.val; omega
    · refine put_out _ _ _ _ _ _ (1 : Fin 4) ?_
      have : hd'.val ≠ hd.val := fun e => ho (Fin.ext e)
      show hd'.val < hd.val ∨ hd.val + 1 ≤ hd'.val; omega
  · intro i' hd' c ho
    rcases ho with ho | ho
    · refine (put_out _ _ _ _ _ _ (0 : Fin 4) ?_).trans (congrFun (Function.update_of_ne (by decide) _ X) _)
      have : i'.val ≠ i.val := fun e => ho (Fin.ext e)
      show i'.val < i.val ∨ i.val + 1 ≤ i'.val; omega
    · refine (put_out _ _ _ _ _ _ (1 : Fin 4) ?_).trans (congrFun (Function.update_of_ne (by decide) _ X) _)
      have : hd'.val ≠ hd.val := fun e => ho (Fin.ext e)
      show hd'.val < hd.val ∨ hd.val + 1 ≤ hd'.val; omega
  · intro r c
    refine Eq.trans (put_in (rA hd i) _ _ (ix4 i hd r c) (ix4 0 0 r c) (all4
      (show i.val + 1 * 0 = i.val by omega) (show hd.val + 1 * 0 = hd.val by omega) (show 0 + 1 * r.val = r.val by omega)
      (show 0 + 1 * c.val = c.val by omega))) ?_
    refine (cast_add2 (accNew _ _ _ _ _) shapeCasts_S80x512_S1x1x80x512 0 0 r c).trans ?_
    rw [accNew_apply, ← hj, Nat.mul_add, Nat.mul_one]
    refine psum_step ((read_m X hd i c).trans ((I.mx hb hd i c).trans (by rw [hc]))) (hm c)
      ((read_acc X hd i r c).trans ((I.ac hb hd i r c).trans (by rw [hc]))) fun a => congrArg₂ (fun x y : EReal => x * y) ?_ (hp a c)
    refine val_block I hd r a (512 * j.val + a.val) (by omega) (rV hd j).toLoadRect (fun y => y) fun _ => all3 rfl ?_ ?_
    · show 64 * hd.val + 1 * r.val = 64 * hd.val + r.val; omega
    · show 512 * j.val + 1 * a.val = 512 * j.val + a.val; omega
  · intro c
    refine Eq.trans (put_in (rM hd i) _ _ (ix4 i hd 0 c) (ix4 0 0 0 c) (all4
      (show i.val + 1 * 0 = i.val by omega) (show hd.val + 1 * 0 = hd.val by omega) rfl
      (show 0 + 1 * c.val = c.val by omega))) ?_
    refine (cast_add2 (mNew _ _) shapeCasts_S1x512_S1x1x1x512 0 0 0 c).trans ((hm c).trans ?_)
    rw [← hj, Nat.mul_add, Nat.mul_one]

end

end Cert.Attn
end
-- ==== Proof.Diag.lean ====
/- Scoring and finishing a tile on the diagonal, at exact arithmetic. -/
module

public import proofs.«01_k».proof.Proof.Below

@[expose] public section

noncomputable section

namespace Cert.Attn

open Idealize.ShloMosaic Idealize.ShloMosaic.ValueIdx
open Cert.KernelIdeal Cert.KernelIdeal.Facts₀ Cert.KernelIdeal.Facts

theorem ti_diag {n : ℕ} (d : Fin 8) (h : n = 28 + d.val) : ti n = d.val := by rw [ti, if_neg (by omega)]; omega
theorem tj_diag {n : ℕ} (d : Fin 8) (h : n = 28 + d.val) : tj n = d.val := by rw [tj, if_neg (by omega)]; omega

section
variable {α : Type} {Z X : St Ideal} {b : Prop} {p g : Fin 4 → ℕ} {Q : α → St Ideal → Prop}

/-- The two stores of a diagonal tile's scores: the upper half and the lower right quarter. -/
theorem Inv.scoreD (I : Inv Z b p g X) (hd : Fin 4) (hg : g hd ≤ p hd) (hp : p hd ≤ g hd + 1) (sl : Fin 2) (d : Fin 8)
    (hn : p hd = 28 + d.val) (hsl : sl.val = p hd % 2)
    (w : (rSt sl hd).shape.Idx → EReal) (w' : (rSq sl hd 1 1).shape.Idx → EReal)
    (hw : ∀ (a : Fin 256) (c : Fin 512), w (ix4 0 0 a c) = raw Z hd (512 * d.val + a.val) (512 * d.val + c.val))
    (hw' : ∀ a c : Fin 256, w' (ix4 0 0 a c) = raw Z hd (512 * d.val + 256 + a.val) (512 * d.val + 256 + c.val)) :
    Inv Z b (bump p hd) g (Function.update X .s (put (rSq sl hd 1 1) w' (put (rSt sl hd) w (X .s)))) := by
  refine I.score hd hg hp sl hsl _ (fun sl' hd' a c ho => ?_) (fun a c hac => ?_)
  · rcases ho with ho | ho
    · have : sl'.val ≠ sl.val := fun e => ho (Fin.ext e)
      refine (put_out _ _ _ _ _ _ (0 : Fin 4) ?_).trans (put_out _ _ _ _ _ _ (0 : Fin 4) ?_)
      all_goals show sl'.val < sl.val ∨ sl.val + 1 ≤ sl'.val; omega
    · have : hd'.val ≠ hd.val := fun e => ho (Fin.ext e)
      refine (put_out _ _ _ _ _ _ (1 : Fin 4) ?_).trans (put_out _ _ _ _ _ _ (1 : Fin 4) ?_)
      all_goals show hd'.val < hd.val ∨ hd.val + 1 ≤ hd'.val; omega
  · rw [ti_diag d hn, tj_diag d hn]
    by_cases ha : a.val < 256
    · refine (put_out _ _ _ _ _ _ (2 : Fin 4) (.inl (show a.val < 256 * 1 by omega))).trans ?_
      refine (put_in (rSt sl hd) _ _ (ix4 sl hd a c) (ix4 0 0 ⟨a.val, ha⟩ c) (all4
        (show sl.val + 1 * 0 = sl.val by omega) (show hd.val + 1 * 0 = hd.val by omega) (show 0 + 1 * a.val = a.val by omega)
        (show 0 + 1 * c.val = c.val by omega))).trans (hw ⟨a.val, ha⟩ c)
    · have hc : 256 ≤ c.val := by omega
      refine (put_in (rSq sl hd 1 1) _ _ (ix4 sl hd a c) (ix4 0 0 ⟨a.val - 256, by omega⟩ ⟨c.val - 256, by omega⟩) (all4
        (show sl.val + 1 * 0 = sl.val by omega) (show hd.val + 1 * 0 = hd.val by omega)
        (show 256 * 1 + 1 * (a.val - 256) = a.val by omega) (show 256 * 1 + 1 * (c.val - 256) = c.val by omega))).trans ?_
      refine (hw' _ _).trans (congrArg₂ (raw Z hd) ?_ ?_)
      · show 512 * d.val + 256 + (a.val - 256) = 512 * d.val + a.val; omega
      · show 512 * d.val + 256 + (c.val - 256) = 512 * d.val + c.val; omega

/-- A diagonal tile is scored. -/
theorem produceD_ok (I : Inv Z b p g X) (sl : Fin 2) (hd : Fin 4) (d : Fin 8) (κ : Cmd Ideal α)
    (hg : g hd ≤ p hd) (hp : p hd ≤ g hd + 1) (hn : p hd = 28 + d.val) (hsl : sl.val = p hd % 2)
    (h : ∀ X', Inv Z b (bump p hd) g X' → κ.post X' Q) : (produceD sl hd d κ).post X Q := by
  have e : ∀ (w : (rSt sl hd).shape.Idx → EReal) (w' : (rSq sl hd 1 1).shape.Idx → EReal),
      Function.update X .s (put (rSq sl hd 1 1) w' (put (rSt sl hd) w (X .s)))
      = Function.update (Function.update X .s (put (rSt sl hd) w (X .s))) .s
          (put (rSq sl hd 1 1) w' (Function.update X .s (put (rSt sl hd) w (X .s)) .s)) := fun w w' => by
    rw [Function.update_idem, Function.update_self]
  refine h _ ?_
  refine (congrArg (Inv Z b _ g) (e _ _)).mp (I.scoreD hd hg hp sl d hn hsl _ _ (fun a c => ?_) (fun a c => ?_))
  · refine (cast_add2 (topS _ _) shapeCasts_S256x512_S1x1x256x512 0 0 a c).trans ?_
    rw [topS_apply]
    refine raw_block I hd (512 * d.val + a.val) (512 * d.val + c.val) (rKh hd d 0).toLoadRect (rQ hd d).toLoadRect (fun e => ix3 0 a e)
      (fun e => ix3 0 e c) (by omega) (by omega) (fun e => ?_) (fun e => ?_)
    · refine all3 rfl ?_ ?_
      · show 512 * d.val + 256 * 0 + 1 * a.val = 512 * d.val + a.val; omega
      · show 128 * hd.val + 1 * e.val = 128 * hd.val + e.val; omega
    · refine all3 rfl ?_ ?_
      · show 128 * hd.val + 1 * e.val = 128 * hd.val + e.val; omega
      · show 512 * d.val + 1 * c.val = 512 * d.val + c.val; omega
  · refine (cast_add2 (botS _ _) shapeCasts_S256x256_S1x1x256x256 0 0 a c).trans ?_
    rw [botS_apply]
    refine (Finset.sum_congr rfl fun x _ => ?_).trans (raw_block I hd (512 * d.val + 256 + a.val) (512 * d.val + 256 + c.val)
      (rKh hd d 1).toLoadRect (rQh hd d 1).toLoadRect (fun e => ix3 0 a e)
      (fun e => ix3 0 e c) (by omega) (by omega) (fun e => ?_) (fun e => ?_))
    · rw [Function.update_of_ne (by decide), Function.update_of_ne (by decide)]
    · refine all3 rfl ?_ ?_
      · show 512 * d.val + 256 * 1 + 1 * a.val = 512 * d.val + 256 + a.val; omega
      · show 128 * hd.val + 1 * e.val = 128 * hd.val + e.val; omega
    · refine all3 rfl ?_ ?_
      · show 128 * hd.val + 1 * e.val = 128 * hd.val + e.val; omega
      · show 512 * d.val + 256 * 1 + 1 * c.val = 512 * d.val + 256 + c.val; omega

/-- The two stores of a diagonal tile's output: its left and its right half. -/
theorem Inv.finishD (I : Inv Z b p g X) (hd : Fin 4) (d : Fin 8) (hn : g hd = 28 + d.val)
    (w w' : S1x64x256.Idx → EReal)
    (hw : ∀ (r : Fin 64) (c : Fin 256), w (ix3 0 r c) = res Z hd r.val (512 * d.val + c.val))
    (hw' : ∀ (r : Fin 64) (c : Fin 256), w' (ix3 0 r c) = res Z hd r.val (512 * d.val + (256 + c.val))) :
    Inv Z b p (bump g hd) (Function.update X .o (put (rVh hd d 1) w' (put (rVh hd d 0) w (X .o)))) where
  fix x hx ho := (Function.update_of_ne (fun e => by subst e; exact Bool.noConfusion hx) _ _).trans (I.fix x hx ho)
  slot hd' n h1 h2 := by
    intro sl hs a c hac
    have hg : g hd' ≤ n := by
      by_cases e : hd' = hd
      · subst e; rw [bump_self] at h1; omega
      · rwa [bump_ne e] at h1
    exact (congrFun (Function.update_of_ne (by decide) _ _) _).trans (I.slot hd' n hg h2 sl hs a c hac)
  mx hb hd' i c := by
    have e : cnt (bump g hd hd') i = cnt (g hd') i := by
      by_cases e : hd' = hd
      · subst e; rw [bump_self, cnt_full _ _ (by omega), cnt_full _ _ (by omega)]
      · rw [bump_ne e]
    rw [e]
    exact (congrFun (Function.update_of_ne (by decide) _ _) _).trans (I.mx hb hd' i c)
  ac hb hd' i r c := by
    have e : cnt (bump g hd hd') i = cnt (g hd') i := by
      by_cases e : hd' = hd
      · subst e; rw [bump_self, cnt_full _ _ (by omega), cnt_full _ _ (by omega)]
      · rw [bump_ne e]
    rw [e]
    exact (congrFun (Function.update_of_ne (by decide) _ _) _).trans (I.ac hb hd' i r c)
  out hd' d' r c row col h1 h2 h3 h4 h5 := by
    refine (congrFun (Function.update_self _ _ _) _).trans ?_
    by_cases e : hd' = hd ∧ d' = d.val
    · obtain ⟨rfl, rfl⟩ := e
      by_cases hc : c < 256
      · refine (put_out _ _ _ _ _ _ (2 : Fin 3) (.inl (show col.val < 512 * d.val + 256 * 1 by omega))).trans ?_
        refine (put_in (rVh hd' d 0) _ _ (ix3 0 row col) (ix3 0 ⟨r, h2⟩ ⟨c, hc⟩) (all3 rfl
          (show 64 * hd'.val + 1 * r = row.val by omega) (show 512 * d.val + 256 * 0 + 1 * c = col.val by omega))).trans ?_
        exact (hw ⟨r, h2⟩ ⟨c, hc⟩).trans (congrArg (res Z hd' r) h5.symm)
      · refine (put_in (rVh hd' d 1) _ _ (ix3 0 row col) (ix3 0 ⟨r, h2⟩ ⟨c - 256, by omega⟩) (all3 rfl
          (show 64 * hd'.val + 1 * r = row.val by omega) (show 512 * d.val + 256 * 1 + 1 * (c - 256) = col.val by omega))).trans ?_
        refine (hw' ⟨r, h2⟩ ⟨c - 256, by omega⟩).trans (congrArg (res Z hd' r) ?_)
        show 512 * d.val + (256 + (c - 256)) = col.val; omega
    · have h1' : d' < g hd' - 28 := by
        by_cases e' : hd' = hd
        · subst e'; rw [bump_self] at h1
          have : d' ≠ d.val := fun h => e ⟨rfl, h⟩
          omega
        · rwa [bump_ne e'] at h1
      by_cases e' : hd' = hd
      · have : d' ≠ d.val := fun h => e ⟨e', h⟩
        refine (put_out _ _ _ _ _ _ (2 : Fin 3) ?_).trans ((put_out _ _ _ _ _ _ (2 : Fin 3) ?_).trans (I.out hd' d' r c row col h1' h2 h3 h4 h5))
        · show col.val < 512 * d.val + 256 * 1 ∨ 512 * d.val + 256 * 1 + 256 ≤ col.val; omega
        · show col.val < 512 * d.val + 256 * 0 ∨ 512 * d.val + 256 * 0 + 256 ≤ col.val; omega
      · have : hd'.val ≠ hd.val := fun h => e' (Fin.ext h)
        refine (put_out _ _ _ _ _ _ (1 : Fin 3) ?_).trans ((put_out _ _ _ _ _ _ (1 : Fin 3) ?_).trans (I.out hd' d' r c row col h1' h2 h3 h4 h5))
        all_goals show row.val < 64 * hd.val ∨ 64 * hd.val + 64 ≤ row.val; omega

/-- What a prefix of a column that reaches the query gives is the output. -/
theorem res_of_prefix (hd : Fin 4) (r q L : ℕ) (hq : q < L) (hL : L ≤ 4096) (x y : EReal)
    (hx : x = psum (sco Z hd q) (val Z hd r) L) (hy : y = psum (sco Z hd q) (val Z hd 64) L) :
    x * Ideal.div 1 y = res Z hd r q := by
  have hb : ∀ k, L ≤ k → sco Z hd q k = ⊥ := fun k hk => sco_gt (by omega)
  have e : ∀ v, psum (sco Z hd q) v 4096 = psum (sco Z hd q) v L := fun v => by
    rw [← psum_masked (sco Z hd q) v L (4096 - L) hb]; congr 1; omega
  rw [hx, hy, res, e, e, val_one le_rfl]

/-- A diagonal tile is finished. -/
theorem consumeD_ok (hb : b) (I : Inv Z b p g X) (sl : Fin 2) (hd : Fin 4) (d : Fin 8) (κ : Cmd Ideal α)
    (hg : g hd < p hd) (hn : g hd = 28 + d.val) (hsl : sl.val = g hd % 2)
    (h : ∀ X', Inv Z b p (bump g hd) X' → κ.post X' Q) : (consumeD sl hd d κ).post X Q := by
  have hc : cnt (g hd) d = d.val := cnt_full _ _ (by omega)
  have e : ∀ w w' : S1x64x256.Idx → EReal,
      Function.update X .o (put (rVh hd d 1) w' (put (rVh hd d 0) w (X .o)))
      = Function.update (Function.update X .o (put (rVh hd d 0) w (X .o))) .o
          (put (rVh hd d 1) w' (Function.update X .o (put (rVh hd d 0) w (X .o)) .o)) := fun w w' => by
    rw [Function.update_idem, Function.update_self]
  have hs : ∀ (a b : Fin 2) (x y : Fin 256), (a = 0 ∨ b = 1) →
      (X .s ((rSq sl hd a b).toLoadRect.idx (ix4 0 0 x y)) : EReal)
        = raw Z hd (512 * d.val + (256 * a.val + x.val)) (512 * d.val + (256 * b.val + y.val)) := fun a b x y hab => by
    refine (read_at (X .s) (rSq sl hd a b).toLoadRect (ix4 0 0 x y)
      (ix4 sl hd ⟨256 * a.val + x.val, by omega⟩ ⟨256 * b.val + y.val, by omega⟩) (all4
      (show sl.val + 1 * 0 = sl.val by omega) (show hd.val + 1 * 0 = hd.val by omega)
      (show 256 * a.val + 1 * x.val = 256 * a.val + x.val by omega) (show 256 * b.val + 1 * y.val = 256 * b.val + y.val by omega))).trans ?_
    refine (I.slot hd _ le_rfl hg sl hsl _ _ (.inr ?_)).trans ?_
    · rcases hab with rfl | rfl
      · exact .inl (show 256 * 0 + x.val < 256 by omega)
      · exact .inr (show 256 ≤ 256 * 1 + y.val by omega)
    · rw [ti_diag d hn, tj_diag d hn]
  -- the left half
  have htl : ∀ a c : Fin 256, (maskQ (fun y => X .s ((rSq sl hd 0 0).toLoadRect.idx y)) (ix2 a c) : EReal)
      = sco Z hd (512 * d.val + c.val) (512 * d.val + a.val) := fun a c => by
    rw [maskQ_apply]
    by_cases hac : a.val ≤ c.val
    · rw [if_pos hac, sco_le (by omega), hs 0 0 a c (.inl rfl)]
      exact congrArg₂ (raw Z hd) (by show 512 * d.val + (256 * 0 + a.val) = _; omega) (by show 512 * d.val + (256 * 0 + c.val) = _; omega)
    · rw [if_neg hac, sco_gt (by omega)]
  have hml : ∀ c : Fin 256, (mlF (fun y => X .m ((rM hd d).toLoadRect.idx y)) (maskQ (fun y => X .s ((rSq sl hd 0 0).toLoadRect.idx y))) (ix2 0 c) : EReal)
      = pmax (sco Z hd (512 * d.val + c.val)) (512 * d.val + 256) := fun c => by
    rw [mlF_apply]
    exact pmax_step ((read_m X hd d _).trans ((I.mx hb hd d _).trans (by rw [hc]))) fun a => htl a c
  have hal : ∀ (r : Fin 80) (c : Fin 256), (accL (fun y => X .m ((rM hd d).toLoadRect.idx y)) (maskQ (fun y => X .s ((rSq sl hd 0 0).toLoadRect.idx y)))
        (fun y => X .acc ((rA hd d).toLoadRect.idx y)) (fun y => X .v ((rVh hd d 0).toLoadRect.idx y)) (ix2 r c) : EReal)
      = psum (sco Z hd (512 * d.val + c.val)) (val Z hd r.val) (512 * d.val + 256) := fun r c => by
    rw [accL_apply]
    refine psum_step ((read_m X hd d _).trans ((I.mx hb hd d _).trans (by rw [hc]))) (hml c)
      ((read_acc X hd d r _).trans ((I.ac hb hd d r _).trans (by rw [hc]))) fun a => congrArg₂ (fun x y : EReal => x * y) ?_ ?_
    · refine val_block I hd r a (512 * d.val + a.val) (by omega) (rVh hd d 0).toLoadRect (fun y => y) fun _ => all3 rfl ?_ ?_
      · show 64 * hd.val + 1 * r.val = 64 * hd.val + r.val; omega
      · show 512 * d.val + 256 * 0 + 1 * a.val = 512 * d.val + a.val; omega
    · exact congrArg₂ (fun x y : EReal => Ideal.exp2 (x - y)) (htl a c) (hml c)
  -- the right half
  have hh : ∀ (a : Fin 512) (c : Fin 256),
      halves (shapeCast S256x256 (fun y => X .s ((rSq sl hd 0 1).toLoadRect.idx y)) shapeCasts_S1x1x256x256_S256x256)
        (maskQ (fun y => X .s ((rSq sl hd 1 1).toLoadRect.idx y))) a c
      = sco Z hd (512 * d.val + (256 + c.val)) (512 * d.val + a.val) := fun a c => by
    by_cases ha : a.val < 256
    · rw [halves, dif_pos ha, sco_le (by omega)]
      refine (cast_drop2 _ shapeCasts_S1x1x256x256_S256x256 ⟨a.val, ha⟩ c).trans ((hs 0 1 ⟨a.val, ha⟩ c (.inl rfl)).trans ?_)
      exact congrArg₂ (raw Z hd) (by show 512 * d.val + (256 * 0 + a.val) = _; omega) (by show 512 * d.val + (256 * 1 + c.val) = _; omega)
    · rw [halves, dif_neg ha, maskQ_apply]
      by_cases hac : a.val - 256 ≤ c.val
      · rw [if_pos hac, sco_le (by omega), hs 1 1 _ c (.inr rfl)]
        exact congrArg₂ (raw Z hd) (by show 512 * d.val + (256 * 1 + (a.val - 256)) = _; omega) (by show 512 * d.val + (256 * 1 + c.val) = _; omega)
      · rw [if_neg hac, sco_gt (by omega)]
  have hmr : ∀ c : Fin 256, (mrF (fun y => X .m ((rM hd d).toLoadRect.idx y))
        (shapeCast S256x256 (fun y => X .s ((rSq sl hd 0 1).toLoadRect.idx y)) shapeCasts_S1x1x256x256_S256x256)
        (maskQ (fun y => X .s ((rSq sl hd 1 1).toLoadRect.idx y))) (ix2 0 c) : EReal)
      = pmax (sco Z hd (512 * d.val + (256 + c.val))) (512 * d.val + 512) := fun c => by
    rw [mrF_apply, show 512 * d.val + 512 = 512 * d.val + 256 + 256 by omega, ← max_assoc]
    refine pmax_step (pmax_step ((read_m X hd d _).trans ((I.mx hb hd d _).trans (by rw [hc]))) fun a => ?_) fun a => ?_
    · refine Eq.trans ?_ (hh ⟨a.val, by omega⟩ c)
      rw [halves, dif_pos a.isLt]
    · refine Eq.trans ?_ ((hh ⟨256 + a.val, by omega⟩ c).trans (congrArg _ (by show 512 * d.val + (256 + a.val) = _; omega)))
      rw [halves, dif_neg (by show ¬ 256 + a.val < 256; omega)]
      exact congrArg (fun x => maskQ _ (ix2 x c)) (Fin.ext (by show a.val = 256 + a.val - 256; omega))
  have har : ∀ (r : Fin 80) (c : Fin 256), (accR (fun y => X .m ((rM hd d).toLoadRect.idx y))
        (shapeCast S256x256 (fun y => X .s ((rSq sl hd 0 1).toLoadRect.idx y)) shapeCasts_S1x1x256x256_S256x256)
        (maskQ (fun y => X .s ((rSq sl hd 1 1).toLoadRect.idx y)))
        (fun y => X .acc ((rA hd d).toLoadRect.idx y)) (fun y => X .v ((rV hd d).toLoadRect.idx y)) (ix2 r c) : EReal)
      = psum (sco Z hd (512 * d.val + (256 + c.val))) (val Z hd r.val) (512 * d.val + 512) := fun r c => by
    rw [accR_apply]
    refine psum_step ((read_m X hd d _).trans ((I.mx hb hd d _).trans (by rw [hc]))) (hmr c)
      ((read_acc X hd d r _).trans ((I.ac hb hd d r _).trans (by rw [hc]))) fun a => congrArg₂ (fun x y : EReal => x * y) ?_ ?_
    · refine val_block I hd r a (512 * d.val + a.val) (by omega) (rV hd d).toLoadRect (fun y => y) fun _ => all3 rfl ?_ ?_
      · show 64 * hd.val + 1 * r.val = 64 * hd.val + r.val; omega
      · show 512 * d.val + 1 * a.val = 512 * d.val + a.val; omega
    · exact congrArg₂ (fun x y : EReal => Ideal.exp2 (x - y)) (hh a c) (hmr c)
  refine h _ ?_
  refine (congrArg (Inv Z b p _) (e _ _)).mp (I.finishD hd d hn _ _ (fun r c => ?_) (fun r c => ?_))
  · exact (outH_apply _ r c).trans (res_of_prefix hd r.val _ _ (by omega) (by omega) _ _ (hal ⟨r.val, by omega⟩ c) (hal 64 c))
  · exact (outH_apply _ r c).trans (res_of_prefix hd r.val _ _ (by omega) (by omega) _ _ (har ⟨r.val, by omega⟩ c) (har 64 c))

end

end Cert.Attn
end
-- ==== Proof.Chain.lean ====
/- The attention body from its inputs to its outputs, at exact arithmetic: the steps one after another. -/
module

public import proofs.«01_k».proof.Proof.Diag

@[expose] public section

noncomputable section

namespace Cert.Attn

open Idealize.ShloMosaic Idealize.ShloMosaic.ValueIdx
open Cert.KernelIdeal Cert.KernelIdeal.Facts₀ Cert.KernelIdeal.Facts

/-- The same count for every head. -/
abbrev all (n : ℕ) : Fin 4 → ℕ := fun _ => n

/-- One more for each head in turn is one more for all. -/
theorem all_succ (n : ℕ) : bump (bump (bump (bump (all n) 0) 1) 2) 3 = all (n + 1) := by
  funext x; fin_cases x <;> rfl

/-- The step over all heads. -/
theorem Inv.heads {Z X : St Ideal} {b : Prop} {n k : ℕ} (I : Inv Z b (bump (bump (bump (bump (all n) 0) 1) 2) 3)
    (bump (bump (bump (bump (all k) 0) 1) 2) 3) X) : Inv Z b (all (n + 1)) (all (k + 1)) X := by
  rw [all_succ, all_succ] at I; exact I

theorem ti_tile {n : ℕ} (h : n < 28) : (tile n).1.val = ti n := (if_pos h).symm
theorem tj_tile {n : ℕ} (h : n < 28) : (tile n).2.val = tj n := (if_pos h).symm

/-- The maxima of a tile, of all heads. -/
def TmAll (Z : St Ideal) (n : ℕ) (x : Maxes Ideal) : Prop :=
  Tm Z 0 n x.1 ∧ Tm Z 1 n x.2.1 ∧ Tm Z 2 n x.2.2.1 ∧ Tm Z 3 n x.2.2.2

/-- An assumed condition that holds is passed. -/
theorem post_assume {α : Type} {A : Chk} {k : Cmd Ideal α} {X : St Ideal} {Q : α → St Ideal → Prop} (hA : A.P) (h : k.post X Q) :
    (Cmd.assume A k).post X Q := ⟨hA, h⟩

section
variable {α : Type} {Z X : St Ideal} {Q : α → St Ideal → Prop}

/-- A step below the diagonal. -/
theorem below_ok (n : ℕ) (I : Inv Z True (all (n + 1)) (all n) X) (sl sl' : Fin 2) (x : Maxes Ideal) (κ : Maxes Ideal → Cmd Ideal α)
    (hx : TmAll Z n x) (hn : n + 1 < 28) (hs : sl.val = n % 2) (hs' : sl'.val = (n + 1) % 2)
    (h : ∀ y X', TmAll Z (n + 1) y → Inv Z True (all (n + 2)) (all (n + 1)) X' → (κ y).post X' Q) :
    (below sl sl' (tile n) (tile (n + 1)) x κ).post X Q := by
  have hn' : n < 28 := by omega
  have hi := ti_tile hn
  have hj := tj_tile hn
  have gi := ti_tile hn'
  have gj := tj_tile hn'
  have l1 : n ≤ n + 1 := by omega
  refine produce_ok I sl' 0 _ _ _ l1 le_rfl hn hs' hi hj fun t0 _ T0 I => ?_
  refine consume_ok trivial I sl 0 _ _ x.1 _ (show n < n + 1 + 1 by omega) hn' hs gi gj hx.1 fun _ I => ?_
  refine produce_ok I sl' 1 _ _ _ l1 le_rfl hn hs' hi hj fun t1 _ T1 I => ?_
  refine consume_ok trivial I sl 1 _ _ x.2.1 _ (show n < n + 1 + 1 by omega) hn' hs gi gj hx.2.1 fun _ I => ?_
  refine produce_ok I sl' 2 _ _ _ l1 le_rfl hn hs' hi hj fun t2 _ T2 I => ?_
  refine consume_ok trivial I sl 2 _ _ x.2.2.1 _ (show n < n + 1 + 1 by omega) hn' hs gi gj hx.2.2.1 fun _ I => ?_
  refine produce_ok I sl' 3 _ _ _ l1 le_rfl hn hs' hi hj fun t3 _ T3 I => ?_
  refine consume_ok trivial I sl 3 _ _ x.2.2.2 _ (show n < n + 1 + 1 by omega) hn' hs gi gj hx.2.2.2 fun X' I => ?_
  exact h (t0, t1, t2, t3) X' ⟨T0, T1, T2, T3⟩ I.heads

/-- The last step below the diagonal. -/
theorem belowLast_ok (I : Inv Z True (all 28) (all 27) X) (x : Maxes Ideal) (κ : Cmd Ideal α) (hx : TmAll Z 27 x)
    (h : ∀ X', Inv Z True (all 29) (all 28) X' → κ.post X' Q) : (belowLast 1 0 (tile 27) 0 x κ).post X Q := by
  have hn : 27 < 28 := by decide
  have gi := ti_tile hn
  have gj := tj_tile hn
  refine produceD_ok I 0 0 0 _ (show 27 ≤ 28 by decide) le_rfl rfl rfl fun _ I => ?_
  refine consume_ok trivial I 1 0 _ _ x.1 _ (show 27 < 29 by decide) hn rfl gi gj hx.1 fun _ I => ?_
  refine produceD_ok I 0 1 0 _ (show 27 ≤ 28 by decide) le_rfl rfl rfl fun _ I => ?_
  refine consume_ok trivial I 1 1 _ _ x.2.1 _ (show 27 < 29 by decide) hn rfl gi gj hx.2.1 fun _ I => ?_
  refine produceD_ok I 0 2 0 _ (show 27 ≤ 28 by decide) le_rfl rfl rfl fun _ I => ?_
  refine consume_ok trivial I 1 2 _ _ x.2.2.1 _ (show 27 < 29 by decide) hn rfl gi gj hx.2.2.1 fun _ I => ?_
  refine produceD_ok I 0 3 0 _ (show 27 ≤ 28 by decide) le_rfl rfl rfl fun _ I => ?_
  refine consume_ok trivial I 1 3 _ _ x.2.2.2 _ (show 27 < 29 by decide) hn rfl gi gj hx.2.2.2 fun X' I => ?_
  exact h X' I.heads

/-- A step on the diagonal. -/
theorem diag_ok (d d' : Fin 8) (sl sl' : Fin 2) (hd : d'.val = d.val + 1) (hs : sl.val = (28 + d.val) % 2)
    (hs' : sl'.val = (28 + d.val + 1) % 2) (κ : Cmd Ideal α) (I : Inv Z True (all (28 + d.val + 1)) (all (28 + d.val)) X)
    (h : ∀ X', Inv Z True (all (28 + d.val + 1 + 1)) (all (28 + d.val + 1)) X' → κ.post X' Q) : (diag sl sl' d d' κ).post X Q := by
  have l1 : 28 + d.val ≤ 28 + d.val + 1 := by omega
  have l2 : 28 + d.val < 28 + d.val + 1 + 1 := by omega
  have e : 28 + d.val + 1 = 28 + d'.val := by omega
  refine produceD_ok I sl' 0 d' _ l1 le_rfl e hs' fun _ I => consumeD_ok trivial I sl 0 d _ l2 rfl hs fun _ I => ?_
  refine produceD_ok I sl' 1 d' _ l1 le_rfl e hs' fun _ I => consumeD_ok trivial I sl 1 d _ l2 rfl hs fun _ I => ?_
  refine produceD_ok I sl' 2 d' _ l1 le_rfl e hs' fun _ I => consumeD_ok trivial I sl 2 d _ l2 rfl hs fun _ I => ?_
  refine produceD_ok I sl' 3 d' _ l1 le_rfl e hs' fun _ I => consumeD_ok trivial I sl 3 d _ l2 rfl hs fun X' I => ?_
  exact h X' I.heads

/-- The last step on the diagonal. -/
theorem diagLast_ok (κ : Cmd Ideal α) (I : Inv Z True (all 36) (all 35) X) (h : ∀ X', Inv Z True (all 36) (all 36) X' → κ.post X' Q) :
    (diagLast 1 7 κ).post X Q := by
  have l : 35 < 36 := by decide
  refine consumeD_ok trivial I 1 0 7 _ l rfl rfl fun _ I => consumeD_ok trivial I 1 1 7 _ l rfl rfl fun _ I =>
    consumeD_ok trivial I 1 2 7 _ l rfl rfl fun _ I => consumeD_ok trivial I 1 3 7 _ l rfl rfl fun X' I => h X' ?_
  rw [all_succ] at I; exact I

/-- Two steps below the diagonal. -/
theorem pair_ok (n : ℕ) (he : n % 2 = 0) (hn : n + 2 < 28) (I : Inv Z True (all (n + 1)) (all n) X) (x : Maxes Ideal)
    (κ : Maxes Ideal → Cmd Ideal α) (hx : TmAll Z n x)
    (h : ∀ y X', TmAll Z (n + 2) y → Inv Z True (all (n + 3)) (all (n + 2)) X' → (κ y).post X' Q) : (pair n x κ).post X Q :=
  below_ok n I 0 1 x _ hx (by omega) he.symm (by show 1 = _; omega) fun y _ hy I =>
    below_ok (n + 1) I 1 0 y _ hy hn (by show 1 = _; omega) (by show 0 = _; omega) h

/-- A trip of the loop. -/
theorem trip_ok (n : ℕ) (he : n % 2 = 0) (hn : n + 8 < 28) (A : Chk × Chk) (hA : A.1.P ∧ A.2.P) (I : Inv Z True (all (n + 1)) (all n) X)
    (x : Maxes Ideal) (κ : Maxes Ideal → Cmd Ideal α) (hx : TmAll Z n x)
    (h : ∀ y X', TmAll Z (n + 8) y → Inv Z True (all (n + 9)) (all (n + 8)) X' → (κ y).post X' Q) : (trip A n x κ).post X Q :=
  post_assume hA.1 <| post_assume hA.2 <| pair_ok n he (by omega) I x _ hx fun y _ hy I => pair_ok (n + 2) (by omega) (by omega) I y _ hy fun y _ hy I =>
    pair_ok (n + 4) (by omega) (by omega) I y _ hy fun y _ hy I => pair_ok (n + 6) (by omega) (by omega) I y _ hy h

/-- What comes after the loop. -/
theorem finish_ok {Q : PUnit → St Ideal → Prop} (A : Chk × Chk) (hA : A.1.P ∧ A.2.P) (I : Inv Z True (all 25) (all 24) X)
    (x : Maxes Ideal) (hx : TmAll Z 24 x)
    (h : ∀ X', Inv Z True (all 36) (all 36) X' → Q ⟨⟩ X') : (finish A x).post X Q :=
  post_assume hA.1 <| post_assume hA.2 <| pair_ok 24 rfl (by decide) I x _ hx fun y _ hy I => below_ok 26 I 0 1 y _ hy (by decide) rfl rfl fun y _ hy I =>
    belowLast_ok I y _ hy fun _ I =>
    diag_ok 0 1 0 1 rfl rfl rfl _ I fun _ I => diag_ok 1 2 1 0 rfl rfl rfl _ I fun _ I => diag_ok 2 3 0 1 rfl rfl rfl _ I fun _ I =>
    diag_ok 3 4 1 0 rfl rfl rfl _ I fun _ I => diag_ok 4 5 0 1 rfl rfl rfl _ I fun _ I => diag_ok 5 6 1 0 rfl rfl rfl _ I fun _ I =>
    diag_ok 6 7 0 1 rfl rfl rfl _ I fun _ I => diagLast_ok _ I h

/-! ## The beginning -/

/-- A store over a whole buffer. -/
theorem put_all {s : Shape} {E : Type} (off : Fin s.rank → ℕ) (inb : ∀ a, off a + s.size a ≤ s.size a) (w X : s.Idx → E) :
    put (Rect.unit off s.size inb) w X = w :=
  funext fun y => put_in (Rect.unit off s.size inb) w X y y fun a => by
    have := inb a
    show off a + 1 * (y a).val = (y a).val
    omega

/-- A load of a whole buffer. -/
theorem read_all {s : Shape} {E : Type} (off : Fin s.rank → ℕ) (inb : ∀ a, off a + s.size a ≤ s.size a) (X : s.Idx → E) :
    (fun y : s.Idx => X ((Rect.unit off s.size inb).toLoadRect.idx y)) = X :=
  funext fun y => read_at X (Rect.unit off s.size inb).toLoadRect y y fun a => by
    have := inb a
    show off a + 1 * (y a).val = (y a).val
    omega

/-- The contents with the five weights cast. -/
def casts (X : St Ideal) : St Ideal
  | .c11 => X .w5
  | .c12 => X .w6
  | .c13 => X .w7
  | .c14 => X .w8
  | .c15 => X .w9
  | x => X x

theorem casts_in (X : St Ideal) (x : Buf) (h : x.isIn = true) : casts X x = X x := by
  cases x <;> first | rfl | exact Bool.noConfusion h

end

/-- What comes before the loop. -/
theorem start_ok {α : Type} {Q : α → St Ideal → Prop} (X : St Ideal) (κ : Maxes Ideal → Cmd Ideal α)
    (h : ∀ y X', TmAll (casts X) 0 y → Inv (casts X) True (all 1) (all 0) X' → (κ y).post X' Q) : (start κ).post X Q := by
  have I : Inv (casts X) False (all 0) (all 0) X :=
    { fix := fun x _ hx => (casts_in X x (hx.resolve_left id)).symm
      slot := fun _ _ _ h => absurd h (Nat.not_lt_zero _)
      mx := fun h => h.elim
      ac := fun h => h.elim
      out := fun _ _ _ _ _ _ h => absurd h (Nat.not_lt_zero _) }
  have hn : 0 < 28 := by decide
  have hi := ti_tile hn
  have hj := tj_tile hn
  refine produce_ok I 0 0 1 0 _ le_rfl (show 0 ≤ 1 by decide) hn rfl hi hj fun t0 X0 T0 I => ?_
  refine produce_ok I 0 1 1 0 _ le_rfl (show 0 ≤ 1 by decide) hn rfl hi hj fun t1 X1 T1 I => ?_
  refine produce_ok I 0 2 1 0 _ le_rfl (show 0 ≤ 1 by decide) hn rfl hi hj fun t2 X2 T2 I => ?_
  refine produce_ok I 0 3 1 0 _ le_rfl (show 0 ≤ 1 by decide) hn rfl hi hj fun t3 X3 T3 I => ?_
  have I : Inv (casts X) False (all 1) (all 0) X3 := by rw [all_succ] at I; exact I
  have hin : ∀ x : Buf, x.isIn = true → X3 x = X x := fun x hx => (I.fix x (by cases x <;> first | rfl | exact Bool.noConfusion hx) (.inr hx)).trans
    (casts_in X x hx)
  refine h (t0, t1, t2, t3) _ ⟨T0, T1, T2, T3⟩ ?_
  exact
    { fix := fun x hx _ => by
        cases x
        case c11 => simp only [Function.update_self, Function.update_of_ne, ne_eq, reduceCtorEq, not_false_eq_true]; exact (put_all _ _ _ _).trans ((read_all _ _ (X3 .w5)).trans (hin .w5 rfl))
        case c12 => simp only [Function.update_self, Function.update_of_ne, ne_eq, reduceCtorEq, not_false_eq_true]; exact (put_all _ _ _ _).trans ((read_all _ _ (X3 .w6)).trans (hin .w6 rfl))
        case c13 => simp only [Function.update_self, Function.update_of_ne, ne_eq, reduceCtorEq, not_false_eq_true]; exact (put_all _ _ _ _).trans ((read_all _ _ (X3 .w7)).trans (hin .w7 rfl))
        case c14 => simp only [Function.update_self, Function.update_of_ne, ne_eq, reduceCtorEq, not_false_eq_true]; exact (put_all _ _ _ _).trans ((read_all _ _ (X3 .w8)).trans (hin .w8 rfl))
        case c15 => simp only [Function.update_self, Function.update_of_ne, ne_eq, reduceCtorEq, not_false_eq_true]; exact (put_all _ _ _ _).trans ((read_all _ _ (X3 .w9)).trans (hin .w9 rfl))
        all_goals first | exact Bool.noConfusion hx | exact hin _ rfl
      slot := fun hd n h1 h2 => by
        intro sl hs a c hac
        simp only [Function.update_self, Function.update_of_ne, ne_eq, reduceCtorEq, not_false_eq_true]
        exact I.slot hd n h1 h2 sl hs a c hac
      mx := fun _ hd i c => by
        simp only [Function.update_self, Function.update_of_ne, ne_eq, reduceCtorEq, not_false_eq_true]
        refine (congrFun (put_all _ _ _ _) _).trans ?_
        show Ideal.ofBits .f32 0xFF800000#32 = pmax _ 0
        rw [pmax_zero]; simp [Ideal.ofBits, Ideal.ieee]
      ac := fun _ hd i r c => by
        simp only [Function.update_self, Function.update_of_ne, ne_eq, reduceCtorEq, not_false_eq_true]
        refine (congrFun (put_all _ _ _ _) _).trans ?_
        show Ideal.ofBits .f32 0x00000000#32 = psum _ _ 0
        rw [psum_zero]; exact Ideal.ofBits_zero_f32
      out := fun _ _ _ _ _ _ h => absurd h (Nat.not_lt_zero _) }

/-! ## The whole body -/

/-- The output block: the attention of each head, its rows one below another. -/
def outO (X : St Ideal) : S1x256x4096.Idx → EReal := fun y =>
  res X ⟨(y 1).val / 64, by have : (y 1).val < 256 := (y 1).isLt; omega⟩ ((y 1).val % 64) (y 2).val

/-- What the body leaves in each buffer of results. -/
def outs (X : St Ideal) : St Ideal
  | .o => outO X
  | x => casts X x

/-- The output depends on the queries, keys and values only. -/
theorem outO_casts (X : St Ideal) : outO (casts X) = outO X := rfl

end Cert.Attn

namespace Cert.KernelIdeal.Attn

open Idealize.ShloMosaic Idealize.ShloMosaic.ValueIdx Cert.Attn

/-- The body computes the attention and the casts. -/
theorem cmd_ok (X : St Ideal) : cmd.post X fun _ Y => ∀ x : Cert.Attn.Buf, x.isOut = true → Y x = outs X x :=
  start_ok X _ fun x _ hx I => trip_ok 0 rfl (by decide) _ chk_0 I x _ hx fun x _ hx I => trip_ok 8 rfl (by decide) _ chk_8 I x _ hx
    fun x _ hx I => trip_ok 16 rfl (by decide) _ chk_16 I x _ hx fun x _ hx I => finish_ok _ chk_end I x hx fun Y I => by
    intro x hx
    cases x
    case o =>
      funext y
      have h1 : (y 1).val < 256 := (y 1).isLt
      have h2 : (y 2).val < 4096 := (y 2).isLt
      have e : y = ix3 0 (⟨(y 1).val, h1⟩ : Fin 256) (⟨(y 2).val, h2⟩ : Fin 4096) :=
        funext (all3 (Subsingleton.elim (α := Fin 1) _ _) rfl rfl)
      refine (congrArg (Y .o) e).trans ?_
      exact (I.out ⟨(y 1).val / 64, by omega⟩ ((y 2).val / 512) ((y 1).val % 64) ((y 2).val % 512) _ _ (by show _ < 36 - 28; omega)
        (by omega) (by omega) (by show (y 1).val = 64 * ((y 1).val / 64) + _; omega) (by show (y 2).val = _; omega))
    all_goals first | exact Bool.noConfusion hx | exact I.fix _ rfl (.inl trivial)

end Cert.KernelIdeal.Attn
end
-- ==== Proof.Grid.lean ====
/- From the blocks of the grid's points to the whole arrays, at exact arithmetic. -/
module

public import proofs.«01_k».proof.Proof.Chain
public import proofs.«01_k».proof.Proof.Run
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat Cfg Window)
open Cert.KernelIdeal.Gen Cert.Attn

/-! ## The attention over the whole arrays -/

section
variable (q : S4x1024x4096.Idx → EReal) (k : S4x4096x1024.Idx → EReal) (v : S4x512x4096.Idx → EReal)

/-- The score of key `x` for query `y` in head `h` of batch `b`. -/
def araw (b : Fin 4) (h : Fin 8) (x y : ℕ) : EReal :=
  if p : x < 4096 ∧ y < 4096 then
    ∑ e : Fin 128, k (ValueIdx.ix3 b ⟨x, p.1⟩ ⟨128 * h.val + e.val, by omega⟩) * q (ValueIdx.ix3 b ⟨128 * h.val + e.val, by omega⟩ ⟨y, p.2⟩)
  else 0

/-- The same under the causal mask. -/
def asco (b : Fin 4) (h : Fin 8) (y : ℕ) (x : ℕ) : EReal := if x ≤ y then araw q k b h x y else ⊥

/-- A row of the values. -/
def aval (b : Fin 4) (h : Fin 8) (r : Fin 64) (x : ℕ) : EReal :=
  if p : x < 4096 then v (ValueIdx.ix3 b ⟨64 * h.val + r.val, by omega⟩ ⟨x, p⟩) else 0

/-- The attention's output. -/
def ares (b : Fin 4) (h : Fin 8) (r : Fin 64) (y : ℕ) : EReal :=
  psum (asco q k b h y) (aval v b h r) 4096 * Ideal.div 1 (psum (asco q k b h y) (fun _ => 1) 4096)

/-- Its whole array. -/
def attn : S4x512x4096.Idx → EReal := fun i =>
  ares q k v ⟨(i 0).val, (i 0).isLt⟩ ⟨(i 1).val / 64, by have : (i 1).val < 512 := (i 1).isLt; omega⟩ ⟨(i 1).val % 64, by omega⟩ (i 2).val

end

/-! ## The blocks -/

variable (m : (ℓ : Loc nD τ sig) → Buf (Elt Ideal) ℓ) (ρ : Dev nD → PrngReg)

/-- The input blocks of a point. -/
def blockIn (c : Dev nD) (t : Fin cfg0.N) : St Ideal := ins m c t fun _ _ => Classical.arbitrary _

/-- What the point leaves. -/
def blockOut (c : Dev nD) (t : Fin cfg0.N) : St Ideal := outs (blockIn m c t)

/-- The results depend on the inputs only. -/
theorem outs_congr (X Z : St Ideal) (h : ∀ x : Cert.Attn.Buf, x.isIn = true → X x = Z x) (x : Cert.Attn.Buf) (hx : x.isOut = true) :
    outs X x = outs Z x := by
  cases x
  case o =>
    have hr : raw X = raw Z := by funext hd a b; simp only [raw, h .k rfl, h .q rfl]
    have hv : val X = val Z := by funext hd a b; simp only [val, h .v rfl]
    show outO X = outO Z
    funext y; simp only [outO, res]
    have hs : sco X = sco Z := by funext hd a b; simp only [sco, hr]
    rw [hs, hv]
  case c11 => exact h .w5 rfl
  case c12 => exact h .w6 rfl
  case c13 => exact h .w7 rfl
  case c14 => exact h .w8 rfl
  case c15 => exact h .w9 rfl
  all_goals exact Bool.noConfusion hx

/-- The run, its results' blocks those of `blockOut`. -/
theorem run_blocks : θ_run defs (onTc (τ := τ) (main (F := Ideal))) (s₀ m ρ) (Pipeline.FramePost cfgs (dats m (blockOut m)) 0 (V m)) :=
  run_exact m ρ (blockOut m) fun c t X hX => Cmd.post_mono cmd X (fun _ Y hY x hx => (hY x hx).trans
    (outs_congr X (blockIn m c t) (fun x hx => by rw [← hX]; cases x <;> first | rfl | exact Bool.noConfusion hx) x hx)) (cmd_ok X)

/-! ## Where the blocks lie -/

theorem idxQ : ∀ t : Fin cfg0.N, win0_0.index t = ![t.val / 2, t.val % 2, 0] := (by decide +kernel : ∀ t : Fin grid0.N, _)
theorem idxK : ∀ t : Fin cfg0.N, win0_1.index t = ![t.val / 2, 0, t.val % 2] := (by decide +kernel : ∀ t : Fin grid0.N, _)
theorem idxV : ∀ t : Fin cfg0.N, win0_2.index t = ![t.val / 2, t.val % 2, 0] := (by decide +kernel : ∀ t : Fin grid0.N, _)
theorem idxO : ∀ t : Fin cfg0.N, win0_8.index t = ![t.val / 2, t.val % 2, 0] := (by decide +kernel : ∀ t : Fin grid0.N, _)

theorem idxW : ∀ t : Fin cfg0.N, (win0_3.index t = ![0, t.val, 0] ∧ win0_4.index t = ![0, t.val, 0] ∧ win0_5.index t = ![0, t.val, 0]
    ∧ win0_6.index t = ![0, t.val, 0] ∧ win0_7.index t = ![0, t.val, 0]) ∧ win0_9.index t = ![0, t.val, 0]
    ∧ win0_10.index t = ![0, t.val, 0] ∧ win0_11.index t = ![0, t.val, 0] ∧ win0_12.index t = ![0, t.val, 0]
    ∧ win0_13.index t = ![0, t.val, 0] := (by decide +kernel : ∀ t : Fin grid0.N, _)

/-- The blocks of the queries, keys and values, in the arrays' coordinates. -/
theorem readQ (c : Dev nD) (t : Fin cfg0.N) (a : Fin 512) (b : Fin 4096) : blockIn m c t .q (ValueIdx.ix3 0 a b)
    = m ((c.tc : Thread nD τ).loc main_arg0) (ValueIdx.ix3 ⟨t.val / 2, by have : t.val < 8 := t.isLt; omega⟩ ⟨512 * (t.val % 2) + a.val, by omega⟩ b) := by
  show iblk m c 0 t _ = _
  blk_ext [iblk, V, idxQ t]
  show t.val % 2 * 512 + a.val = 512 * (t.val % 2) + a.val
  omega

theorem readK (c : Dev nD) (t : Fin cfg0.N) (a : Fin 4096) (b : Fin 512) : blockIn m c t .k (ValueIdx.ix3 0 a b)
    = m ((c.tc : Thread nD τ).loc main_arg1) (ValueIdx.ix3 ⟨t.val / 2, by have : t.val < 8 := t.isLt; omega⟩ a ⟨512 * (t.val % 2) + b.val, by omega⟩) := by
  show iblk m c 1 t _ = _
  blk_ext [iblk, V, idxK t]
  show t.val % 2 * 512 + b.val = 512 * (t.val % 2) + b.val
  omega

theorem readV (c : Dev nD) (t : Fin cfg0.N) (a : Fin 256) (b : Fin 4096) : blockIn m c t .v (ValueIdx.ix3 0 a b)
    = m ((c.tc : Thread nD τ).loc main_arg2) (ValueIdx.ix3 ⟨t.val / 2, by have : t.val < 8 := t.isLt; omega⟩ ⟨256 * (t.val % 2) + a.val, by omega⟩ b) := by
  show iblk m c 2 t _ = _
  blk_ext [iblk, V, idxV t]
  show t.val % 2 * 256 + a.val = 256 * (t.val % 2) + a.val
  omega

theorem ix3_congr {n₀ n₁ n₂ : ℕ} {a a' : Fin n₀} {b b' : Fin n₁} {c c' : Fin n₂} (h₁ : a.val = a'.val) (h₂ : b.val = b'.val)
    (h₃ : c.val = c'.val) : ValueIdx.ix3 a b c = ValueIdx.ix3 a' b' c' := by rw [Fin.ext h₁, Fin.ext h₂, Fin.ext h₃]

/-- A point's head `hd` is the head `4 * (t % 2) + hd` of its batch. -/
theorem raw_block (c : Dev nD) (t : Fin cfg0.N) (b : Fin 4) (hb : b.val = t.val / 2) (hd : Fin 4) (h : Fin 8)
    (hh : h.val = 4 * (t.val % 2) + hd.val) (x y : ℕ) : raw (blockIn m c t) hd x y
      = araw (m ((c.tc : Thread nD τ).loc main_arg0)) (m ((c.tc : Thread nD τ).loc main_arg1)) b h x y := by
  unfold raw araw
  by_cases p : x < 4096 ∧ y < 4096
  · rw [dif_pos p, dif_pos p]
    refine Finset.sum_congr rfl fun e _ => ?_
    have hl : (512 * (t.val % 2) + (128 * hd.val + e.val)) = 128 * h.val + e.val := by omega
    refine congrArg₂ (· * ·) ((readK m c t _ _).trans (congrArg _ ?_)) ((readQ m c t _ _).trans (congrArg _ ?_))
    · exact ix3_congr hb.symm rfl hl
    · exact ix3_congr hb.symm hl rfl
  · rw [dif_neg p, dif_neg p]

theorem val_block (c : Dev nD) (t : Fin cfg0.N) (b : Fin 4) (hb : b.val = t.val / 2) (hd : Fin 4) (h : Fin 8)
    (hh : h.val = 4 * (t.val % 2) + hd.val) (r : Fin 64) (x : ℕ) : val (blockIn m c t) hd r.val x
      = aval (m ((c.tc : Thread nD τ).loc main_arg2)) b h r x := by
  unfold val aval
  rw [dif_pos r.isLt]
  by_cases p : x < 4096
  · rw [dif_pos p, dif_pos p]
    have hl : (256 * (t.val % 2) + (64 * hd.val + r.val)) = 64 * h.val + r.val := by omega
    refine (readV m c t _ _).trans (congrArg _ ?_)
    exact ix3_congr hb.symm hl rfl
  · rw [dif_neg p, dif_neg p]

theorem res_block (c : Dev nD) (t : Fin cfg0.N) (b : Fin 4) (hb : b.val = t.val / 2) (hd : Fin 4) (h : Fin 8)
    (hh : h.val = 4 * (t.val % 2) + hd.val) (r : Fin 64) (y : ℕ) : res (blockIn m c t) hd r.val y
      = ares (m ((c.tc : Thread nD τ).loc main_arg0)) (m ((c.tc : Thread nD τ).loc main_arg1)) (m ((c.tc : Thread nD τ).loc main_arg2)) b h r y := by
  have hs : sco (blockIn m c t) hd y = asco (m ((c.tc : Thread nD τ).loc main_arg0)) (m ((c.tc : Thread nD τ).loc main_arg1)) b h y :=
    funext fun x => by unfold sco asco; rw [raw_block m c t b hb hd h hh]
  unfold res ares
  rw [hs, funext fun x => val_block m c t b hb hd h hh r x]

/-! ## The arrays at the end -/

theorem arr8 (c : Dev nD) : (dats m (blockOut m) 0 c).arrAt 8 cfg0.N
    = attn (m ((c.tc : Thread nD τ).loc main_arg0)) (m ((c.tc : Thread nD τ).loc main_arg1)) (m ((c.tc : Thread nD τ).loc main_arg2)) := by
  refine (dats m (blockOut m) 0 c).arrAt_eq_of_covers 8 _ (by decide +kernel) fun t hf y => ?_
  blk_simp
  show outO (blockIn m c t) y = _
  have e := idxO t
  unfold outO attn
  blk_simp [e]
  have hy : (y 1).val < 256 := (y 1).isLt
  refine Eq.trans (congrArg (fun n => res (blockIn m c t) _ n _) ?_) (res_block m c t _ rfl _ _ ?_ _ _)
  · show (y 1).val % 64 = (t.val % 2 * 256 + (y 1).val) % 64
    omega
  · show (t.val % 2 * 256 + (y 1).val) / 64 = 4 * (t.val % 2) + (y 1).val / 64
    omega

/-- The first layer of a stack of weights. -/
def layer {r d : ℕ} (w : (⟨3, ![2, r, d]⟩ : Shape).Idx → EReal) : (⟨3, ![1, r, d]⟩ : Shape).Idx → EReal :=
  fun i => w (ValueIdx.ix3 0 (i 1) (i 2))

/-- An index of the stack that is one of the first layer. -/
theorem layer_at {r d : ℕ} (w : (⟨3, ![2, r, d]⟩ : Shape).Idx → EReal) (i : (⟨3, ![2, r, d]⟩ : Shape).Idx)
    (j : (⟨3, ![1, r, d]⟩ : Shape).Idx) (h : ∀ a : Fin 3, (i a).val = (j a).val) : w i = layer w j := by
  refine congrArg w (funext fun a => Fin.ext ?_)
  fin_cases a
  · have : (j 0).val < 1 := (j 0).isLt
    exact (h 0).trans (by show (j 0).val = 0; omega)
  · exact h 1
  · exact h 2

theorem arr9 (c : Dev nD) : (dats m (blockOut m) 0 c).arrAt 9 cfg0.N = layer (m ((c.tc : Thread nD τ).loc main_arg3)) := by
  refine (dats m (blockOut m) 0 c).arrAt_eq_of_covers 9 _ (by decide +kernel) fun t hf y => ?_
  blk_simp
  refine layer_at _ ((win0_3.blk t).view.emb y) _ fun a => ?_
  have e1 := (idxW t).1.1
  have e2 := (idxW t).2.1
  fin_cases a <;> blk_simp [e1, e2]

theorem arr10 (c : Dev nD) : (dats m (blockOut m) 0 c).arrAt 10 cfg0.N = layer (m ((c.tc : Thread nD τ).loc main_arg4)) := by
  refine (dats m (blockOut m) 0 c).arrAt_eq_of_covers 10 _ (by decide +kernel) fun t hf y => ?_
  blk_simp
  refine layer_at _ ((win0_4.blk t).view.emb y) _ fun a => ?_
  have e1 := (idxW t).1.2.1
  have e2 := (idxW t).2.2.1
  fin_cases a <;> blk_simp [e1, e2]

theorem arr11 (c : Dev nD) : (dats m (blockOut m) 0 c).arrAt 11 cfg0.N = layer (m ((c.tc : Thread nD τ).loc main_arg5)) := by
  refine (dats m (blockOut m) 0 c).arrAt_eq_of_covers 11 _ (by decide +kernel) fun t hf y => ?_
  blk_simp
  refine layer_at _ ((win0_5.blk t).view.emb y) _ fun a => ?_
  have e1 := (idxW t).1.2.2.1
  have e2 := (idxW t).2.2.2.1
  fin_cases a <;> blk_simp [e1, e2]

theorem arr12 (c : Dev nD) : (dats m (blockOut m) 0 c).arrAt 12 cfg0.N = layer (m ((c.tc : Thread nD τ).loc main_arg6)) := by
  refine (dats m (blockOut m) 0 c).arrAt_eq_of_covers 12 _ (by decide +kernel) fun t hf y => ?_
  blk_simp
  refine layer_at _ ((win0_6.blk t).view.emb y) _ fun a => ?_
  have e1 := (idxW t).1.2.2.2.1
  have e2 := (idxW t).2.2.2.2.1
  fin_cases a <;> blk_simp [e1, e2]

theorem arr13 (c : Dev nD) : (dats m (blockOut m) 0 c).arrAt 13 cfg0.N = layer (m ((c.tc : Thread nD τ).loc main_arg7)) := by
  refine (dats m (blockOut m) 0 c).arrAt_eq_of_covers 13 _ (by decide +kernel) fun t hf y => ?_
  blk_simp
  refine layer_at _ ((win0_7.blk t).view.emb y) _ fun a => ?_
  have e1 := (idxW t).1.2.2.2.2
  have e2 := (idxW t).2.2.2.2.2
  fin_cases a <;> blk_simp [e1, e2]

/-- An input's array is unchanged. -/
theorem arr_kept {r : PUnit × MemSt nD τ sig (Elt Ideal)} (h : Pipeline.FramePost cfgs (dats m (blockOut m)) 0 (V m) r) (c : Dev nD)
    (w : Fin (cfgs 0).W) (hin : ((cfgs 0).win w).isOut = false) :
    r.2.mem (((cfgs 0).spec w).arr.view.loc (c.tc : Thread nD τ)) = V m c (Pipeline.arrRef spec0 w) :=
  (((h c).1 w).trans ((dats m (blockOut m) 0 c).arrAt_in w hin _)).trans (A_eq m (blockOut m) c w)

/-- The run: the attention of the arrays, the first layers of the weights, the arguments unchanged. -/
theorem run_values : θ_run defs (onTc (τ := τ) (main (F := Ideal))) (s₀ m ρ) fun r => (∀ c : Dev nD,
      (r.2.mem ((c.tc : Thread nD τ).loc main_v0_0)
          = attn (m ((c.tc : Thread nD τ).loc main_arg0)) (m ((c.tc : Thread nD τ).loc main_arg1)) (m ((c.tc : Thread nD τ).loc main_arg2))
      ∧ r.2.mem ((c.tc : Thread nD τ).loc main_v0_1) = layer (m ((c.tc : Thread nD τ).loc main_arg3))
      ∧ r.2.mem ((c.tc : Thread nD τ).loc main_v0_2) = layer (m ((c.tc : Thread nD τ).loc main_arg4))
      ∧ r.2.mem ((c.tc : Thread nD τ).loc main_v0_3) = layer (m ((c.tc : Thread nD τ).loc main_arg5))
      ∧ r.2.mem ((c.tc : Thread nD τ).loc main_v0_4) = layer (m ((c.tc : Thread nD τ).loc main_arg6))
      ∧ r.2.mem ((c.tc : Thread nD τ).loc main_v0_5) = layer (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r (h : Pipeline.FramePost cfgs (dats m (blockOut m)) 0 (V m) r) c =>
      ⟨⟨((h c).1 8).trans (arr8 m c), ((h c).1 9).trans (arr9 m c), ((h c).1 10).trans (arr10 m c), ((h c).1 11).trans (arr11 m c),
        ((h c).1 12).trans (arr12 m c), ((h c).1 13).trans (arr13 m c)⟩,
       arr_kept m h c 0 rfl, arr_kept m h c 1 rfl, arr_kept m h c 2 rfl, arr_kept m h c 3 rfl, arr_kept m h c 4 rfl,
       arr_kept m h c 5 rfl, arr_kept m h c 6 rfl, arr_kept m h c 7 rfl⟩) (run_blocks m ρ)

end Cert.KernelIdeal.Attn
end
-- ==== Proof.RefValue.lean ====
/- What the reference computes, at exact arithmetic. -/
module

public import proofs.«01_k».proof.Proof.Grid
public import proofs.«01_k».proof.Proof.Gen.ReferenceIdeal.Run
public import Idealize.ShloMosaic.Lib.Pointwise
public import Idealize.ShloMosaic.Lib.Tactic.CleanTypes
public import Idealize.ShloMosaic.Lib.IdealHost

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

variable (m : (ℓ : Loc nD τ sig) → Buf (Elt Ideal) ℓ)

/-- The three arguments the attention is of. -/
abbrev argQ (c : Dev nD) : S4x1024x4096.Idx → EReal := m ((c.tc : Thread nD τ).loc main_arg0)
abbrev argK (c : Dev nD) : S4x4096x1024.Idx → EReal := m ((c.tc : Thread nD τ).loc main_arg1)
abbrev argV (c : Dev nD) : S4x512x4096.Idx → EReal := m ((c.tc : Thread nD τ).loc main_arg2)

theorem ofBits_two : Ideal.ofBits FTy.f32 1073741824#32 = ((2 : ℝ) : EReal) := by
  simp [Ideal.ofBits, Ideal.ieee, -EReal.coe_mul]; norm_num

theorem ofBits_bot : Ideal.ofBits FTy.f32 4286578688#32 = ⊥ := by simp [Ideal.ofBits, Ideal.ieee]

/-- The maximum of a row, a fold from −∞. -/
theorem fold_pmax (f : ℕ → EReal) (n : ℕ) : (Finset.univ : Finset (Fin n)).fold max ⊥ (fun x => f x.val) = pmax f n :=
  (sup_range n f).symm

/-- The masked score of the reference. -/
theorem score_at (q : S4x1024x4096.Idx → EReal) (k : S4x4096x1024.Idx → EReal) (b : Fin 4) (r : Fin 512) (y : Fin 4096) (x : Fin 4096)
    (p : ∀ e : Fin 128, r.val / 64 * 128 + e.val < 1024) (p' : ∀ e : Fin 128, r.val / 64 * 128 + e.val < 1024) (h : r.val / 64 < 8) :
    Scalar.select (IntOp.cmpi CmpIPredicate.sge (BitVec.ofNat 32 y.val) (BitVec.ofNat 32 x.val))
      (∑ e : Fin 128, q (ix3 b ⟨r.val / 64 * 128 + e.val, p e⟩ y) * k (ix3 b x ⟨r.val / 64 * 128 + e.val, p' e⟩))
      (id (constant (F := Ideal) S_ FTy.f32 4286578688#32) ix0)
      = Cert.KernelIdeal.Attn.asco q k b ⟨r.val / 64, h⟩ y.val x.val := by
  rw [WordCmp.cmpi_sge_ofNat (by have := y.isLt; omega) (by have := x.isLt; omega)]
  unfold Cert.KernelIdeal.Attn.asco
  by_cases hx : x.val ≤ y.val
  · rw [if_pos hx, decide_eq_true hx]
    refine (if_pos rfl).trans ?_
    unfold Cert.KernelIdeal.Attn.araw
    rw [dif_pos ⟨x.isLt, y.isLt⟩]
    refine Finset.sum_congr rfl fun e _ => ?_
    rw [mul_comm]
    exact congrArg₂ (· * ·) (congrArg k (Cert.KernelIdeal.Attn.ix3_congr rfl rfl (by show r.val / 64 * 128 + e.val = 128 * (r.val / 64) + e.val; omega)))
      (congrArg q (Cert.KernelIdeal.Attn.ix3_congr rfl (by show r.val / 64 * 128 + e.val = 128 * (r.val / 64) + e.val; omega) rfl))
  · rw [if_neg hx, decide_eq_false hx]
    exact (if_neg (by decide)).trans ofBits_bot

/-- The reference's first result is the attention. -/
theorem out_apply (c : Dev nD) (i : S4x512x4096.Idx) : res_out0 m c i = Cert.KernelIdeal.Attn.attn (argQ m c) (argK m c) (argV m c) i := by
  unfold res_out0 res_main_v28
  clean_types
  pointwise
  have h : (i 1).val / 64 < 8 := by have : (i 1).val < 512 := (i 1).isLt; omega
  simp only [score_at (argQ m c) (argK m c) (i 0) (i 1) (i 2) _ _ _ h, ofBits_two, ofBits_bot, pow_two]
  unfold Cert.KernelIdeal.Attn.attn Cert.KernelIdeal.Attn.ares
  rw [psum_div, Finset.sum_range]
  have hm := fold_pmax (Cert.KernelIdeal.Attn.asco (argQ m c) (argK m c) (i 0) ⟨(i 1).val / 64, h⟩ (i 2).val) 4096
  refine Finset.sum_congr rfl fun x _ => congrArg₂ (· * ·) ?_ (congrArg₂ (· * ·) ?_ (congrArg (Ideal.div 1) ?_))
  · unfold Cert.KernelIdeal.Attn.aval
    rw [dif_pos x.isLt]
    exact congrArg (argV m c) (Cert.KernelIdeal.Attn.ix3_congr rfl (by show (i 1).val = 64 * ((i 1).val / 64) + (i 1).val % 64; omega) rfl)
  · exact congrArg (fun t => Ideal.exp2 (_ - t)) hm
  · rw [psum, Finset.sum_range]
    exact Finset.sum_congr rfl fun x _ => (congrArg (fun t => Ideal.exp2 (_ - t)) hm).trans (one_mul _).symm

end Cert.ReferenceIdeal.Attn
end
-- ==== Proof.Algebraic.lean ====
/- The kernel and the reference leave the same results, at exact arithmetic. -/
module

public import proofs.«01_k».proof.Defs
public import proofs.«01_k».proof.Proof.RefValue

@[expose] public section

noncomputable section

namespace Cert.Algebraic

open Idealize.ShloMosaic Idealize.ShloMosaic.TcCoe Idealize.SL.Sem
open Cert.KernelIdeal.Attn

/-- The reference's slice is the first layer. -/
theorem slice_layer {r d : ℕ} (w : (⟨3, ![2, r, d]⟩ : Shape).Idx → EReal)
    (h : (⟨3, ![2, r, d]⟩ : Shape).Slices ![0, 0, 0] ⟨3, ![1, r, d]⟩) :
    extractStridedSlice (⟨3, ![1, r, d]⟩ : Shape) ![0, 0, 0] w h = layer w :=
  funext fun i => layer_at w _ i fun a => by
    fin_cases a <;> exact Nat.zero_add _

/-- The attention and the weights of both programs agree. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => layer (m ((c.tc : Thread Cert.KernelIdeal.nD Cert.KernelIdeal.τ).loc Cert.KernelIdeal.main_arg3)),
    fun c => layer (m ((c.tc : Thread Cert.KernelIdeal.nD Cert.KernelIdeal.τ).loc Cert.KernelIdeal.main_arg4)),
    fun c => layer (m ((c.tc : Thread Cert.KernelIdeal.nD Cert.KernelIdeal.τ).loc Cert.KernelIdeal.main_arg5)),
    fun c => layer (m ((c.tc : Thread Cert.KernelIdeal.nD Cert.KernelIdeal.τ).loc Cert.KernelIdeal.main_arg6)),
    fun c => layer (m ((c.tc : Thread Cert.KernelIdeal.nD Cert.KernelIdeal.τ).loc Cert.KernelIdeal.main_arg7)),
    (θ_run Cert.KernelIdeal.defs _ _).mono (fun r h c => ?_) (run_values m g),
    (θ_run Cert.ReferenceIdeal.defs _ _).mono (fun r h c => ?_) (Cert.ReferenceIdeal.Value.run m' g')⟩
  · obtain ⟨⟨h0, h1, h2, h3, h4, h5⟩, ha⟩ := h c
    exact ⟨h0, h1, h2, h3, h4, h5, ha⟩
  · obtain ⟨h0, h1, h2, h3, h4, h5, ha⟩ := h c
    obtain ⟨e0, e1, e2, e3, e4, e5, e6, e7⟩ := hm c
    refine ⟨h0.trans ((funext (Cert.ReferenceIdeal.Attn.out_apply m' c)).trans ?_),
      h1.trans ((slice_layer _ Cert.ReferenceIdeal.Gen.slices_S2x512x1024_S1x512x1024_0_0_0).trans (congrArg layer e3)),
      h2.trans ((slice_layer _ Cert.ReferenceIdeal.Gen.slices_S2x512x1024_S1x512x1024_0_0_0).trans (congrArg layer e4)),
      h3.trans ((slice_layer _ Cert.ReferenceIdeal.Gen.slices_S2x1024x1024_S1x1024x1024_0_0_0).trans (congrArg layer e5)),
      h4.trans ((slice_layer _ Cert.ReferenceIdeal.Gen.slices_S2x1024x4096_S1x1024x4096_0_0_0).trans (congrArg layer e6)),
      h5.trans ((slice_layer _ Cert.ReferenceIdeal.Gen.slices_S2x4096x1024_S1x4096x1024_0_0_0).trans (congrArg layer e7)), ha⟩
    unfold Cert.ReferenceIdeal.Attn.argQ Cert.ReferenceIdeal.Attn.argK Cert.ReferenceIdeal.Attn.argV
    rw [e0, e1, e2]

end Cert.Algebraic
end
-- ==== Proof.MixRow.lean ====
/- One token's row of the mix call, as mathematics. -/
module

public import proofs.«01_k».proof.Proof.Gen.MixIdeal.Skeleton
public import Idealize.ShloMosaic.Lib.Pointwise
public import Idealize.ShloMosaic.Lib.Tactic.CleanTypes
public import Idealize.ShloMosaic.Lib.IdealHost

@[expose] public section

set_option maxRecDepth 16384

noncomputable section

namespace Cert.MixRow

open Idealize.ShloMosaic

/-- The weights one token's row meets, as functions of their coordinates. -/
structure Weights where
  l1 : Fin 1024 → EReal
  l2 : Fin 1024 → EReal
  gf : Fin 1024 → EReal
  win : Fin 1024 → Fin 2560 → EReal
  wp : Fin 4 → Fin 128 → Fin 128 → EReal
  ps : Fin 512 → EReal
  pp : Fin 512 → Fin 1024 → EReal
  pa : Fin 512 → Fin 1024 → EReal
  wo : Fin 1024 → Fin 1024 → EReal
  w1 : Fin 1024 → Fin 4096 → EReal
  w2 : Fin 4096 → Fin 1024 → EReal

/-- The six modulation rows of one batch element. -/
structure Mod where
  sh1 : Fin 1024 → EReal
  sc1 : Fin 1024 → EReal
  g1 : Fin 1024 → EReal
  sh2 : Fin 1024 → EReal
  sc2 : Fin 1024 → EReal
  g2 : Fin 1024 → EReal

/-- The reciprocal root mean square of a row, with the small constant under the root. -/
def rinv (f : Fin 1024 → EReal) : EReal :=
  Ideal.rsqrt (Ideal.div (∑ k, f k * f k) (Ideal.ofBits .f32 0x44800000#32) + Ideal.ofBits .f32 0x358637BD#32)

/-- A normalised, scaled and shifted row. -/
def modn (f g sc sh : Fin 1024 → EReal) (k : Fin 1024) : EReal := f k * rinv f * g k * (1 + sc k) + sh k

/-- A row by a column of a matrix. -/
def dotp {n p : ℕ} (h : Fin n → EReal) (w : Fin n → Fin p → EReal) (c : Fin p) : EReal := ∑ k, h k * w k c

/-- The first normalised row. -/
def hrow (W : Weights) (M : Mod) (x : Fin 1024 → EReal) : Fin 1024 → EReal := modn x W.l1 M.sc1 M.sh1

/-- The row's product with the input weights: 512 channels to pool, then the two gates. -/
def zrow (W : Weights) (M : Mod) (x : Fin 1024 → EReal) : Fin 2560 → EReal := dotp (hrow W M x) W.win

/-- The mean over a window of `w` tokens that ends at position `pos`, less the token's own value; `e i` is the value `i` tokens back. -/
def wmean (w : ℕ) (e : ℕ → EReal) (pos : ℕ) : EReal :=
  (∑ i ∈ Finset.range w, e i) * Ideal.div 1 (((min (pos + 1) w : ℕ) : ℝ) : EReal) - e 0

/-- The pooled channels. Channel group `g` has a window of `2 ^ (g + 1)` tokens. -/
def yrow (W : Weights) (e : ℕ → Fin 512 → EReal) (pos : ℕ) (q : Fin 512) : EReal :=
  (∑ c : Fin 128, wmean (2 ^ (q.val / 128 + 1)) (fun i => e i ⟨q.val / 128 * 128 + c.val, by omega⟩) pos
    * W.wp ⟨q.val / 128, by omega⟩ c ⟨q.val % 128, by omega⟩) * W.ps q

/-- A gate: the logistic function. -/
def gate (z : EReal) : EReal := Ideal.div 1 (1 + Ideal.exp (-z))

/-- The two branches under their gates. -/
def merged (W : Weights) (z : Fin 2560 → EReal) (ot : Fin 512 → EReal) (e : ℕ → Fin 512 → EReal) (pos : ℕ) (n : Fin 1024) : EReal :=
  gate (z ⟨512 + n.val, by omega⟩) * dotp (yrow W e pos) W.pp n + gate (z ⟨1536 + n.val, by omega⟩) * dotp ot W.pa n

/-- A squared positive part. -/
def act (a : EReal) : EReal := max a 0 * max a 0

/-- The row after the gated branches. -/
def x1row (W : Weights) (M : Mod) (x : Fin 1024 → EReal) (ot : Fin 512 → EReal) (e : ℕ → Fin 512 → EReal) (pos : ℕ) (n : Fin 1024) : EReal :=
  x n + M.g1 n * dotp (merged W (zrow W M x) ot e pos) W.wo n

/-- The row after the feed-forward part. -/
def x2row (W : Weights) (M : Mod) (x1 : Fin 1024 → EReal) (n : Fin 1024) : EReal :=
  x1 n + M.g2 n * dotp (fun f => act (dotp (modn x1 W.l2 M.sc2 M.sh2) W.w1 f)) W.w2 n

/-- The row the call leaves. -/
def orow (W : Weights) (M : Mod) (x : Fin 1024 → EReal) (ot : Fin 512 → EReal) (e : ℕ → Fin 512 → EReal) (pos : ℕ) (n : Fin 1024) : EReal :=
  let x2 := x2row W M (x1row W M x ot e pos)
  x2 n * rinv x2 * W.gf n

/-- The call's arguments, whole. -/
structure Arrays where
  x : (⟨3, ![4, 4096, 1024]⟩ : Shape).Idx → EReal
  ot : (⟨3, ![4, 512, 4096]⟩ : Shape).Idx → EReal
  mod : (⟨3, ![2, 8, 6144]⟩ : Shape).Idx → EReal
  l1 : (⟨2, ![2, 1024]⟩ : Shape).Idx → EReal
  l2 : (⟨2, ![2, 1024]⟩ : Shape).Idx → EReal
  gf : (⟨1, ![1024]⟩ : Shape).Idx → EReal
  win : (⟨3, ![2, 1024, 2560]⟩ : Shape).Idx → EReal
  wp : (⟨4, ![2, 4, 128, 128]⟩ : Shape).Idx → EReal
  ps : (⟨2, ![2, 512]⟩ : Shape).Idx → EReal
  pp : (⟨3, ![1, 512, 1024]⟩ : Shape).Idx → EReal
  pa : (⟨3, ![1, 512, 1024]⟩ : Shape).Idx → EReal
  wo : (⟨3, ![1, 1024, 1024]⟩ : Shape).Idx → EReal
  w1 : (⟨3, ![1, 1024, 4096]⟩ : Shape).Idx → EReal
  w2 : (⟨3, ![1, 4096, 1024]⟩ : Shape).Idx → EReal

namespace Arrays

variable (A : Arrays)

/-- The weights of the second layer. -/
def wts : Weights where
  l1 k := A.l1 (ix2 1 k)
  l2 k := A.l2 (ix2 1 k)
  gf k := A.gf (ix1 k)
  win k c := A.win (ix3 1 k c)
  wp g c d := A.wp (ix4 1 g c d)
  ps q := A.ps (ix2 1 q)
  pp q n := A.pp (ix3 0 q n)
  pa q n := A.pa (ix3 0 q n)
  wo q n := A.wo (ix3 0 q n)
  w1 k f := A.w1 (ix3 0 k f)
  w2 f n := A.w2 (ix3 0 f n)

/-- A batch element among the modulation's eight rows. -/
def brow (b : Fin 4) : Fin 8 := ⟨b.val, by omega⟩

/-- The modulation rows of a batch element in the second layer. -/
def mods (b : Fin 4) : Mod where
  sh1 k := A.mod (ix3 1 (brow b) ⟨k.val, by omega⟩)
  sc1 k := A.mod (ix3 1 (brow b) ⟨1024 + k.val, by omega⟩)
  g1 k := A.mod (ix3 1 (brow b) ⟨2048 + k.val, by omega⟩)
  sh2 k := A.mod (ix3 1 (brow b) ⟨3072 + k.val, by omega⟩)
  sc2 k := A.mod (ix3 1 (brow b) ⟨4096 + k.val, by omega⟩)
  g2 k := A.mod (ix3 1 (brow b) ⟨5120 + k.val, by omega⟩)

/-- A token's row of the product with the input weights. -/
def zat (b : Fin 4) (p : Fin 4096) : Fin 2560 → EReal := zrow A.wts (A.mods b) fun k => A.x (ix3 b p k)

/-- The channels to pool of the token `i` back of position `p`; nothing before the first token. -/
def eback (b : Fin 4) (p : ℕ) (i : ℕ) (q : Fin 512) : EReal :=
  if h : i ≤ p ∧ p - i < 4096 then A.zat b ⟨p - i, h.2⟩ ⟨q.val, by omega⟩ else 0

/-- What the call leaves for a token. -/
def oat (b : Fin 4) (p : Fin 4096) : Fin 1024 → EReal :=
  orow A.wts (A.mods b) (fun k => A.x (ix3 b p k)) (fun k => A.ot (ix3 b k p)) (A.eback b p.val) p.val

end Arrays

end Cert.MixRow
end
-- ==== Proof.MixPay.lean ====
/- The mix call's payloads at an index. -/
module

public import proofs.«01_k».proof.Proof.MixRow

@[expose] public section

set_option maxRecDepth 16384

noncomputable section

namespace Cert.MixIdeal.Val

open Idealize.ShloMosaic Idealize.ShloMosaic.TcCoe Idealize.SL.Sem
open Cert.MixIdeal Cert.MixIdeal.Gen Cert.MixRow

theorem pay14_at (v8 v11 : FVec Ideal S1x1024 .f32) (v25 : FVec Ideal S512x1024 .f32) (v41 : Vec Ideal S1x1024 .f32) (j : S512x1024.Idx) :
    k0_pay14 v8 v11 v25 v41 j = modn (fun k => v25 (ix2 (j 0) k)) (fun k => v41 (ix2 0 k)) (fun k => v11 (ix2 0 k)) (fun k => v8 (ix2 0 k)) (j 1) := by
  unfold k0_pay14 modn rinv
  clean_types
  pointwise

theorem pay18_at (v8 v11 : FVec Ideal S1x1024 .f32) (v25 : FVec Ideal S512x1024 .f32) (v41 : Vec Ideal S1x1024 .f32) (v51 : Vec Ideal S1x1024x512 .bf16) (j : S512x512.Idx) :
    k0_pay18 v8 v11 v25 v41 v51 j = ∑ k, k0_pay14 v8 v11 v25 v41 (ix2 (j 0) k) * v51 (ix3 0 k (j 1)) := by
  unfold k0_pay18
  clean_types
  pointwise

theorem pay13_at (v27 : Vec Ideal S1x512x512 .bf16) (v29 : Vec Ideal S1x512x1024 .bf16) (j : S512x1024.Idx) :
    k0_pay13 (k0_pay11 v27) (k0_pay12 v29) (constant S512x1024 .f32 0x00000000#32) j = ∑ k, v27 (ix3 0 k (j 0)) * v29 (ix3 0 k (j 1)) := by
  unfold k0_pay13 k0_pay11 k0_pay12
  clean_types
  pointwise

theorem pay16_at (v8 v11 : FVec Ideal S1x1024 .f32) (v25 : FVec Ideal S512x1024 .f32) (v41 : Vec Ideal S1x1024 .f32) (v54 : Vec Ideal S1x1024x2048 .bf16) (j : S512x1024.Idx) :
    k0_pay16 v8 v11 v25 v41 v54 j = ∑ k, k0_pay14 v8 v11 v25 v41 (ix2 (j 0) k) * v54 (ix3 0 k ⟨(j 1).val, by have : (j 1).val < 1024 := (j 1).isLt; omega⟩) := by
  unfold k0_pay16 k0_pay15
  clean_types
  pointwise

theorem pay17_at (v8 v11 : FVec Ideal S1x1024 .f32) (v25 : FVec Ideal S512x1024 .f32) (v41 : Vec Ideal S1x1024 .f32) (v54 : Vec Ideal S1x1024x2048 .bf16) (j : S512x1024.Idx) :
    k0_pay17 v8 v11 v25 v41 v54 j = ∑ k, k0_pay14 v8 v11 v25 v41 (ix2 (j 0) k) * v54 (ix3 0 k ⟨1024 + (j 1).val, by have : (j 1).val < 1024 := (j 1).isLt; omega⟩) := by
  unfold k0_pay17 k0_pay15
  clean_types
  pointwise

theorem pay30_at (v14 : FVec Ideal S1x1024 .f32) (v25 v30 v57 v58 v182 : FVec Ideal S512x1024 .f32) (v201 : Vec Ideal S1x1024x1024 .bf16) (j : S512x1024.Idx) :
    k0_pay30 v14 v25 v30 v58 v182 (k0_pay29 v57) (Scalar.ofBits .f32 0x3F800000#32) v201 j
      = v25 j + v14 (ix2 0 (j 1)) * ∑ k, (gate (v57 (ix2 (j 0) k)) * v182 (ix2 (j 0) k) + gate (v58 (ix2 (j 0) k)) * v30 (ix2 (j 0) k)) * v201 (ix3 0 k (j 1)) := by
  unfold k0_pay30 k0_pay29 gate
  clean_types
  pointwise
  simp only [zero_sub]

theorem pay31_at (v14 v17 v20 : FVec Ideal S1x1024 .f32) (v25 v30 v58 v182 v187 : FVec Ideal S512x1024 .f32) (z : Ideal .f32) (v201 : Vec Ideal S1x1024x1024 .bf16)
    (v217 : Vec Ideal S1x1024 .f32) (j : S512x1024.Idx) :
    k0_pay31 v14 v17 v20 v25 v30 v58 v182 v187 z v201 v217 j
      = modn (fun k => k0_pay30 v14 v25 v30 v58 v182 v187 z v201 (ix2 (j 0) k)) (fun k => v217 (ix2 0 k)) (fun k => v20 (ix2 0 k)) (fun k => v17 (ix2 0 k)) (j 1) := by
  unfold k0_pay31
  generalize k0_pay30 v14 v25 v30 v58 v182 v187 z v201 = v206
  unfold modn rinv
  clean_types
  pointwise

theorem pay32_at (v14 v17 v20 : FVec Ideal S1x1024 .f32) (v25 v30 v58 v182 v187 : FVec Ideal S512x1024 .f32) (z : Ideal .f32) (v201 : Vec Ideal S1x1024x1024 .bf16)
    (v217 : Vec Ideal S1x1024 .f32) (v227 : Vec Ideal S1x1024x1024 .bf16) (j : S512x1024.Idx) :
    k0_pay32 v14 v17 v20 v25 v30 v58 v182 v187 z v201 v217 v227 j
      = ∑ k, k0_pay31 v14 v17 v20 v25 v30 v58 v182 v187 z v201 v217 (ix2 (j 0) k) * v227 (ix3 0 k (j 1)) := by
  unfold k0_pay32
  clean_types
  pointwise

/-- The feed-forward part, whose hidden channels come in four quarters, as one sum over all hidden channels. -/
theorem pay33_at (W : Weights) (v23 : FVec Ideal S1x1024 .f32) (v206 : FVec Ideal S512x1024 .f32) (v226 : FVec Ideal S512x1024 .bf16)
    (f1 f2 f3 f4 : Vec Ideal S1x1024x1024 .bf16) (w2 : Vec Ideal S1x4096x1024 .bf16) (v229 : FVec Ideal S512x1024 .f32) (j : S512x1024.Idx)
    (h229 : ∀ c, v229 (ix2 (j 0) c) = ∑ k, v226 (ix2 (j 0) k) * f1 (ix3 0 k c))
    (h1 : ∀ k (c : Fin 1024), f1 (ix3 0 k c) = W.w1 k ⟨c.val, by omega⟩) (h2 : ∀ k (c : Fin 1024), f2 (ix3 0 k c) = W.w1 k ⟨1024 + c.val, by omega⟩)
    (h3 : ∀ k (c : Fin 1024), f3 (ix3 0 k c) = W.w1 k ⟨2048 + c.val, by omega⟩) (h4 : ∀ k (c : Fin 1024), f4 (ix3 0 k c) = W.w1 k ⟨3072 + c.val, by omega⟩)
    (hw : ∀ f n, w2 (ix3 0 f n) = W.w2 f n) :
    k0_pay33 v23 v206 v226 v229 (Scalar.ofBits .f32 0x00000000#32) f2 f3 f4 w2 j
      = v206 j + v23 (ix2 0 (j 1)) * dotp (fun f => act (dotp (fun k => v226 (ix2 (j 0) k)) W.w1 f)) W.w2 (j 1) := by
  unfold k0_pay33
  clean_types
  pointwise
  refine congrArg (v206 j + v23 (ix2 0 (j 1)) * ·) (Finset.sum_congr rfl fun x _ => congrArg₂ (· * ·) ?_ (hw x (j 1)))
  show _ = act (∑ k, v226 (ix2 (j 0) k) * W.w1 k x)
  split
  · rw [h229]; simp only [h1]; rfl
  split
  · simp only [h2]
    rename_i a b
    rw [show (⟨1024 + (x.val - 1024), by omega⟩ : Fin 4096) = x from Fin.ext (by show 1024 + (x.val - 1024) = x.val; omega)]; rfl
  split
  · simp only [h3]
    rename_i a b c
    rw [show (⟨2048 + (x.val - 1024 - 1024), by omega⟩ : Fin 4096) = x from Fin.ext (by show 2048 + (x.val - 1024 - 1024) = x.val; omega)]; rfl
  · simp only [h4]
    rename_i a b c
    rw [show (⟨3072 + (x.val - 1024 - 1024 - 1024), by omega⟩ : Fin 4096) = x from Fin.ext (by show 3072 + (x.val - 1024 - 1024 - 1024) = x.val; omega)]; rfl

theorem pay36_at (v261 : FVec Ideal S512x1024 .f32) (v272 : Vec Ideal S1x1024 .f32) (v266 v267 : FVec Ideal S512x1 .f32) (j : S1x512x1024.Idx) :
    k0_pay36 v261 v266 v267 v272 j = v261 (ix2 (j 1) (j 2)) * Ideal.rsqrt (v266 (ix2 (j 1) 0) + v267 (ix2 (j 1) 0)) * v272 (ix2 0 (j 2)) := by
  unfold k0_pay36
  clean_types
  pointwise

theorem pay34_at (v23 : FVec Ideal S1x1024 .f32) (v206 : FVec Ideal S512x1024 .f32) (v226 : FVec Ideal S512x1024 .bf16) (v229 : FVec Ideal S512x1024 .f32) (z : Ideal .f32)
    (f2 f3 f4 : Vec Ideal S1x1024x1024 .bf16) (w2 : Vec Ideal S1x4096x1024 .bf16) (r : Fin 512) :
    Ideal.rsqrt (k0_pay34 v23 v206 v226 v229 z f2 f3 f4 w2 (ix2 r 0) + k0_pay35 (F := Ideal) (ix2 r 0)) = rinv (fun k => k0_pay33 v23 v206 v226 v229 z f2 f3 f4 w2 (ix2 r k)) := by
  unfold k0_pay34 k0_pay35
  generalize k0_pay33 v23 v206 v226 v229 z f2 f3 f4 w2 = v261
  unfold rinv
  clean_types
  pointwise

end Cert.MixIdeal.Val
end
-- ==== Proof.MixPool.lean ====
/- The mix call's window means at an index: sums by doubled rotations are the sums over the window. -/
module

public import proofs.«01_k».proof.Proof.MixRow

@[expose] public section

set_option maxRecDepth 16384

noncomputable section

namespace Cert.MixIdeal.Val

open Idealize.ShloMosaic Idealize.ShloMosaic.TcCoe Idealize.SL.Sem
open Cert.MixIdeal Cert.MixIdeal.Gen Cert.MixRow

/-- A column of a 528-row vector as a function on all naturals. -/
def col (e : Vec Ideal S528x128 .f32) (x : Fin 128) (n : ℕ) : EReal := if h : n < 528 then e (ix2 ⟨n, h⟩ x) else 0

theorem to_col (e : Vec Ideal S528x128 .f32) (x : Fin 128) (n : ℕ) (h : n < 528) : e (ix2 ⟨n, h⟩ x) = col e x n := by
  unfold col; rw [dif_pos h]

/-- One step back by rotation, where it does not wrap. -/
theorem back (n k : ℕ) (hk : k ≤ n) (hn : n < 528) : (n + 528 - k) % 528 = n - k := by omega

theorem shift_tail (r : ℕ) (h : ¬ r < 16) : 16 + (r - 16) = r := by omega

/-- The reciprocal of the number of tokens under a window, as the first rows of a block compute it from the position's word. -/
theorem head_word (p w : ℕ) (hp : p < 4096) (hw : w ≤ 16) (b : BitVec 32) (hb : b = BitVec.ofNat 32 p) :
    FloatOps.sitofp (F := Ideal) FTy.f32 (IntOp.minsi (IntOp.addi b 1#32) (BitVec.ofNat 32 w)) = (((min (p + 1) w : ℕ) : ℝ) : EReal) := by
  subst hb
  have e : IntOp.minsi (IntOp.addi (BitVec.ofNat 32 p) 1#32) (BitVec.ofNat 32 w) = BitVec.ofNat 32 (min (p + 1) w) := by
    unfold IntOp.minsi IntOp.addi
    have h1 : BitVec.ofNat 32 p + 1#32 = BitVec.ofNat 32 (p + 1) := by apply BitVec.eq_of_toNat_eq; simp
    rw [h1]
    have t (n : ℕ) (hn : n < 8192) : (BitVec.ofNat 32 n).toInt = n := by
      rw [BitVec.toInt_eq_toNat_of_lt (by simp; omega)]; simp; omega
    split <;> rename_i hle <;> rw [BitVec.slt_iff_toInt_lt, t _ (by omega), t _ (by omega)] at hle <;> congr 1 <;> omega
  rw [e]
  show (((BitVec.ofNat 32 (min (p + 1) w)).toInt : ℝ) : EReal) = _
  rw [BitVec.toInt_eq_toNat_of_lt (by simp; omega)]
  congr 2
  simp; omega

/-- The two halves of a block's window means are one formula. -/
theorem pool_cases (r P w : ℕ) (S : r < 16 → EReal) (S' : ¬ r < 16 → EReal) (d : r < 16 → EReal) (c e0 : EReal) (E : ℕ → EReal)
    (hS : ∀ h, S h = ∑ i ∈ Finset.range w, E i) (hS' : ∀ h, S' h = ∑ i ∈ Finset.range w, E i)
    (hd : ∀ h, d h = (((min (P + r + 1) w : ℕ) : ℝ) : EReal))
    (hw : w ≤ 16) (hc : c = Ideal.div 1 (((w : ℕ) : ℝ) : EReal)) (h0 : e0 = E 0) :
    (if h : r < 16 then S h * Ideal.div 1 (d h) else S' h * c) - e0 = wmean w E (P + r) := by
  unfold wmean
  rw [h0]
  split
  · rename_i h; rw [hS h, hd h]
  · rename_i h; rw [hS' h, hc, min_eq_right (by omega)]

theorem div_one_nat (w : ℕ) (hw : w ≠ 0) : Ideal.div 1 (((w : ℕ) : ℝ) : EReal) = (((w : ℝ)⁻¹ : ℝ) : EReal) := by
  unfold Ideal.div
  rw [if_neg (by exact_mod_cast hw), one_mul, EReal.coe_inv]

theorem half : Ideal.ofBits .f32 1056964608#32 = Ideal.div 1 (((2 : ℕ) : ℝ) : EReal) := by
  rw [div_one_nat _ (by decide)]; simp [Ideal.ofBits, Ideal.ieee, -EReal.coe_mul]; norm_num
theorem quarter : Ideal.ofBits .f32 1048576000#32 = Ideal.div 1 (((4 : ℕ) : ℝ) : EReal) := by
  rw [div_one_nat _ (by decide)]; simp [Ideal.ofBits, Ideal.ieee, -EReal.coe_mul]; norm_num
theorem eighth : Ideal.ofBits .f32 1040187392#32 = Ideal.div 1 (((8 : ℕ) : ℝ) : EReal) := by
  rw [div_one_nat _ (by decide)]; simp [Ideal.ofBits, Ideal.ieee, -EReal.coe_mul]; norm_num
theorem sixteenth : Ideal.ofBits .f32 1031798784#32 = Ideal.div 1 (((16 : ℕ) : ℝ) : EReal) := by
  rw [div_one_nat _ (by decide)]; simp [Ideal.ofBits, Ideal.ieee, -EReal.coe_mul]; norm_num

/-- The pooled group read at a row and an output channel. -/
def poolDot (w : ℕ) (e : Vec Ideal S528x128 .f32) (p : Vec Ideal S1x1x128x128 .bf16) (P : ℕ) (r : ℕ) (d : Fin 128) : EReal :=
  ∑ c, wmean w (fun i => col e c (16 + r - i)) (P + r) * p (ix4 0 0 c d)

/-- A vector added to itself turned down its rows by `k`. -/
def dbl (k : BitVec 32) (v : FVec Ideal S528x128 .f32) : FVec Ideal S528x128 .f32 := addf v (dynamicRotate 0 k none v rotates_S528x128_d0)

/-- Every row of `v` past the first `w - 1` holds the sum of `e` over the `w` rows that end there. -/
def HasWin (e v : Vec Ideal S528x128 .f32) (w : ℕ) : Prop :=
  ∀ (n : ℕ) (h : n < 528) (x : Fin 128), w ≤ n + 1 → v (ix2 ⟨n, h⟩ x) = ∑ i ∈ Finset.range w, col e x (n - i)

theorem hasWin_one (e : Vec Ideal S528x128 .f32) : HasWin e e 1 := fun n h x _ =>
  (to_col e x n h).trans (Finset.sum_range_one (f := fun i => col e x (n - i))).symm

theorem HasWin.dbl {e v : Vec Ideal S528x128 .f32} {w : ℕ} (h : HasWin e v w) (k : BitVec 32) (hk : k.toNat = w) (hw : 0 < w) :
    HasWin e (Val.dbl k v) (w + w) := fun n hn x hle => by
  have e2 : Val.dbl k v (ix2 ⟨n, hn⟩ x) = v (ix2 ⟨n, hn⟩ x) + v (ix2 ⟨n - w, by omega⟩ x) := by
    unfold Val.dbl
    pointwise
    refine congrArg (fun y : S528x128.Idx => v (ix2 ⟨n, hn⟩ x) + v y) (congrArg (ix2 · x) (Fin.ext ?_))
    show (n + 528 - k.toNat % 528) % 528 = n - w
    rw [hk]; omega
  rw [e2, h n hn x (by omega), h (n - w) (by omega) x (by omega), Finset.sum_range_add]
  exact congrArg _ (Finset.sum_congr rfl fun i _ => by rw [Nat.sub_sub])

theorem win2 (e : Vec Ideal S528x128 .f32) : HasWin e (dbl 1#32 e) 2 := (hasWin_one e).dbl _ rfl (by decide)
theorem win4 (e : Vec Ideal S528x128 .f32) : HasWin e (dbl 2#32 (dbl 1#32 e)) 4 := (win2 e).dbl _ rfl (by decide)
theorem win8 (e : Vec Ideal S528x128 .f32) : HasWin e (dbl 4#32 (dbl 2#32 (dbl 1#32 e))) 8 := (win4 e).dbl _ rfl (by decide)
theorem win16 (e : Vec Ideal S528x128 .f32) : HasWin e (dbl 8#32 (dbl 4#32 (dbl 2#32 (dbl 1#32 e)))) 16 := (win8 e).dbl _ rfl (by decide)

/-- One channel group of a block: the window sums `win` of `e` to means, less `e`, by the group's weights. -/
def poolTail (v66 : IVec S16x1 32) (w cw : BitVec 32) (win e : Vec Ideal S528x128 .f32) (p : Vec Ideal S1x1x128x128 .bf16) : FVec Ideal S512x128 .f32 :=
  let a : FVec Ideal S512x128 .f32 := extractStridedSlice S512x128 ![16, 0] win slices_S528x128_o16_0_S512x128
  let b : FVec Ideal S512x128 .f32 := extractStridedSlice S512x128 ![16, 0] e slices_S528x128_o16_0_S512x128
  let d : FVec Ideal S16x1 .f32 := divf (broadcast S16x1 (Scalar.ofBits .f32 0x3F800000#32)) (sitofp .f32 (minsi (addi v66 (broadcast S16x1 1#32)) (broadcast S16x1 w)))
  let hd : FVec Ideal S16x128 .f32 := mulf (extractStridedSlice S16x128 ![0, 0] a slices_S512x128_o0_0_S16x128) (broadcastTo S16x128 d broadcasts_S16x1_S16x128)
  let tl : FVec Ideal S496x128 .f32 := mulf (extractStridedSlice S496x128 ![16, 0] a slices_S512x128_o16_0_S496x128) (broadcast S496x128 (Scalar.ofBits .f32 cw))
  matmul dot_S512x128_S128x128_S512x128_1_0_0_1_n_n none
    (truncf .bf16 (subf (concatenate S512x128 0 [⟨S16x128, hd⟩, ⟨S496x128, tl⟩] concatenates_S16x128_S496x128_S512x128_d0) b) bitsLt_bf16_f32)
    (shapeCast S128x128 p shapeCasts_S1x1x128x128_S128x128 : FVec Ideal S128x128 .bf16) (constant S512x128 .f32 0x00000000#32)

theorem poolTail_at (v66 : IVec S16x1 32) (w : ℕ) (cw : BitVec 32) (win e : Vec Ideal S528x128 .f32) (p : Vec Ideal S1x1x128x128 .bf16) (P : ℕ)
    (hP : P ≤ 3584) (hv : ∀ i : Fin 16, v66 (ix2 i 0) = BitVec.ofNat 32 (P + i.val)) (hw : w ≤ 16) (hwin : HasWin e win w)
    (hc : Ideal.ofBits .f32 cw = Ideal.div 1 (((w : ℕ) : ℝ) : EReal)) (j : S512x128.Idx) :
    poolTail v66 (BitVec.ofNat 32 w) cw win e p j = poolDot w e p P (j 0).val (j 1) := by
  unfold poolTail
  clean_types
  pointwise
  have hr : (j 0).val < 512 := (j 0).isLt
  refine Finset.sum_congr rfl fun x _ => congrArg (· * _) ?_
  refine pool_cases _ P w _ _ _ _ _ _ (fun h => ?_) (fun h => ?_) (fun h => ?_) hw hc ?_
  · exact hwin _ _ _ (by omega)
  · simp only [shift_tail _ h]
    exact hwin _ _ _ (by omega)
  · exact head_word (P + (j 0).val) w (by omega) (by omega) _ (hv ⟨(j 0).val, h⟩)
  · exact to_col ..

/-- The pooled groups side by side, scaled, by the projection's weights. -/
def poolOut (g0 g1 g2 g3 : FVec Ideal S512x128 .f32) (ps : Vec Ideal S1x512 .f32) (pp : Vec Ideal S1x512x1024 .bf16) : FVec Ideal S512x1024 .f32 :=
  matmul dot_S512x512_S512x1024_S512x1024_1_0_0_1_n_n none
    (truncf .bf16 (mulf (concatenate S512x512 1 [⟨S512x128, g0⟩, ⟨S512x128, g1⟩, ⟨S512x128, g2⟩, ⟨S512x128, g3⟩] concatenates_S512x128_S512x128_S512x128_S512x128_S512x512_d1)
      (broadcastTo S512x512 ps broadcasts_S1x512_S512x512)) bitsLt_bf16_f32)
    (shapeCast S512x1024 pp shapeCasts_S1x512x1024_S512x1024 : FVec Ideal S512x1024 .bf16) (constant S512x1024 .f32 0x00000000#32)

/-- The pooled branch of a block. -/
def poolAll (v66 : IVec S16x1 32) (e0 e1 e2 e3 : Vec Ideal S528x128 .f32) (p0 p1 p2 p3 : Vec Ideal S1x1x128x128 .bf16)
    (ps : Vec Ideal S1x512 .f32) (pp : Vec Ideal S1x512x1024 .bf16) : FVec Ideal S512x1024 .f32 :=
  poolOut (poolTail v66 2#32 0x3F000000#32 (dbl 1#32 e0) e0 p0) (poolTail v66 4#32 0x3E800000#32 (dbl 2#32 (dbl 1#32 e1)) e1 p1)
    (poolTail v66 8#32 0x3E000000#32 (dbl 4#32 (dbl 2#32 (dbl 1#32 e2))) e2 p2) (poolTail v66 16#32 0x3D800000#32 (dbl 8#32 (dbl 4#32 (dbl 2#32 (dbl 1#32 e3)))) e3 p3) ps pp

theorem wmean_congr (w : ℕ) (hw : w ≤ 16) (h0 : 0 < w) (e e' : ℕ → EReal) (pos : ℕ) (h : ∀ i < 16, e i = e' i) : wmean w e pos = wmean w e' pos := by
  unfold wmean
  rw [h 0 (by decide), Finset.sum_congr rfl fun i hi => h i (by have := Finset.mem_range.mp hi; omega)]

/-- The pooled channels of one group. -/
theorem yrow_of (W : Weights) (E : ℕ → Fin 512 → EReal) (pos : ℕ) (q : Fin 512) (g : Fin 4) (d : Fin 128) (hq : q.val = 128 * g.val + d.val) :
    yrow W E pos q = (∑ c : Fin 128, wmean (2 ^ (g.val + 1)) (fun i => E i ⟨128 * g.val + c.val, by omega⟩) pos * W.wp g c d) * W.ps q := by
  have h1 : (⟨q.val / 128, by omega⟩ : Fin 4) = g := Fin.ext (by show q.val / 128 = g.val; omega)
  have h2 : (⟨q.val % 128, by omega⟩ : Fin 128) = d := Fin.ext (by show q.val % 128 = d.val; omega)
  have h3 : q.val / 128 = g.val := by omega
  unfold yrow
  rw [h1, h2]
  refine congrArg (· * _) (Finset.sum_congr rfl fun c _ => congrArg (· * _) ?_)
  refine congrArg₂ (wmean · · _) (congrArg (fun n : ℕ => 2 ^ (n + 1)) h3) (funext fun i => congrArg (E i) (Fin.ext ?_))
  show q.val / 128 * 128 + c.val = 128 * g.val + c.val
  omega

/-- One group of a block's pooled branch is the row's. -/
theorem group_at (W : Weights) (E : ℕ → Fin 512 → EReal) (P r : ℕ) (e : Vec Ideal S528x128 .f32) (p : Vec Ideal S1x1x128x128 .bf16)
    (ps : Vec Ideal S1x512 .f32) (g : Fin 4) (q : Fin 512) (d : Fin 128) (hq : q.val = 128 * g.val + d.val)
    (hE : ∀ i < 16, ∀ c : Fin 128, col e c (16 + r - i) = E i ⟨128 * g.val + c.val, by omega⟩)
    (hp : ∀ c d : Fin 128, p (ix4 0 0 c d) = W.wp g c d) (hps : ∀ q : Fin 512, ps (ix2 0 q) = W.ps q) (w : ℕ) (hw : w = 2 ^ (g.val + 1)) :
    poolDot w e p P r d * ps (ix2 0 q) = yrow W E (P + r) q := by
  rw [yrow_of W E (P + r) q g d hq, hps]
  subst hw
  refine congrArg (· * _) (Finset.sum_congr rfl fun c _ => ?_)
  rw [hp]
  refine congrArg (· * _) (wmean_congr _ ?_ (by positivity) _ _ _ fun i hi => hE i hi c)
  have : ∀ g : Fin 4, 2 ^ (g.val + 1) ≤ 16 := by decide
  exact this g

theorem poolAll_at (W : Weights) (E : ℕ → Fin 512 → EReal) (P : ℕ) (v66 : IVec S16x1 32) (e0 e1 e2 e3 : Vec Ideal S528x128 .f32)
    (p0 p1 p2 p3 : Vec Ideal S1x1x128x128 .bf16) (ps : Vec Ideal S1x512 .f32) (pp : Vec Ideal S1x512x1024 .bf16)
    (hP : P ≤ 3584) (hv : ∀ i : Fin 16, v66 (ix2 i 0) = BitVec.ofNat 32 (P + i.val)) (j : S512x1024.Idx)
    (h0 : ∀ i < 16, ∀ c : Fin 128, col e0 c (16 + (j 0).val - i) = E i ⟨128 * 0 + c.val, by omega⟩)
    (h1 : ∀ i < 16, ∀ c : Fin 128, col e1 c (16 + (j 0).val - i) = E i ⟨128 * 1 + c.val, by omega⟩)
    (h2 : ∀ i < 16, ∀ c : Fin 128, col e2 c (16 + (j 0).val - i) = E i ⟨128 * 2 + c.val, by omega⟩)
    (h3 : ∀ i < 16, ∀ c : Fin 128, col e3 c (16 + (j 0).val - i) = E i ⟨128 * 3 + c.val, by omega⟩)
    (hp0 : ∀ c d : Fin 128, p0 (ix4 0 0 c d) = W.wp 0 c d) (hp1 : ∀ c d : Fin 128, p1 (ix4 0 0 c d) = W.wp 1 c d)
    (hp2 : ∀ c d : Fin 128, p2 (ix4 0 0 c d) = W.wp 2 c d) (hp3 : ∀ c d : Fin 128, p3 (ix4 0 0 c d) = W.wp 3 c d)
    (hps : ∀ q : Fin 512, ps (ix2 0 q) = W.ps q) (hpp : ∀ q n, pp (ix3 0 q n) = W.pp q n) :
    poolAll v66 e0 e1 e2 e3 p0 p1 p2 p3 ps pp j = dotp (yrow W E (P + (j 0).val)) W.pp (j 1) := by
  unfold poolAll poolOut dotp
  clean_types
  pointwise
  refine Finset.sum_congr rfl fun x _ => congrArg₂ (· * ·) ?_ (hpp x (j 1))
  split
  · exact (congrArg (· * _) (poolTail_at v66 2 _ _ e0 p0 P hP hv (by decide) (win2 e0) half _)).trans
      (group_at W E P _ e0 p0 ps 0 x _ (by show x.val = 128 * 0 + x.val; omega) h0 hp0 hps 2 rfl)
  split
  · exact (congrArg (· * _) (poolTail_at v66 4 _ _ e1 p1 P hP hv (by decide) (win4 e1) quarter _)).trans
      (group_at W E P _ e1 p1 ps 1 x _ (by show x.val = 128 * 1 + (x.val - 128); omega) h1 hp1 hps 4 rfl)
  split
  · exact (congrArg (· * _) (poolTail_at v66 8 _ _ e2 p2 P hP hv (by decide) (win8 e2) eighth _)).trans
      (group_at W E P _ e2 p2 ps 2 x _ (by show x.val = 128 * 2 + (x.val - 128 - 128); omega) h2 hp2 hps 8 rfl)
  · exact (congrArg (· * _) (poolTail_at v66 16 _ _ e3 p3 P hP hv (by decide) (win16 e3) sixteenth _)).trans
      (group_at W E P _ e3 p3 ps 3 x _ (by show x.val = 128 * 3 + (x.val - 128 - 128 - 128); omega) h3 hp3 hps 16 rfl)

/-- The first half's pooled branch is that. -/
theorem pay28_eq (v66 : IVec S16x1 32) (e0 e1 e2 e3 : Vec Ideal S528x128 .f32) (p0 p1 p2 p3 : Vec Ideal S1x1x128x128 .bf16)
    (ps : Vec Ideal S1x512 .f32) (pp : Vec Ideal S1x512x1024 .bf16) :
    k0_pay28 v66 (k0_pay20 v66 e0 1#32 p0) (k0_pay25 (k0_pay22 e1) (k0_pay23 v66 e1) (k0_pay24 e1) p1) (k0_pay26 v66 e2 p2) e3 (k0_pay27 e3) 2#32 p3 ps pp
      = poolAll v66 e0 e1 e2 e3 p0 p1 p2 p3 ps pp := rfl

end Cert.MixIdeal.Val
end
-- ==== Proof.MixSub.lean ====
/- Half a block of the mix call, from the blocks it reads to the rows it leaves. -/
module

public import proofs.«01_k».proof.Proof.MixPay
public import proofs.«01_k».proof.Proof.MixPool

@[expose] public section

set_option maxRecDepth 16384

noncomputable section

namespace Cert.MixIdeal.Val

open Idealize.ShloMosaic Idealize.ShloMosaic.TcCoe Cert.MixIdeal Cert.MixIdeal.Gen Cert.MixRow

/-- What half a block reads, besides its tokens. -/
structure Blocks where
  m1 : Vec Ideal S1x1x1024 .f32
  m2 : Vec Ideal S1x1x1024 .f32
  m3 : Vec Ideal S1x1x1024 .f32
  m4 : Vec Ideal S1x1x1024 .f32
  m5 : Vec Ideal S1x1x1024 .f32
  m6 : Vec Ideal S1x1x1024 .f32
  l1 : Vec Ideal S1x1024 .f32
  l2 : Vec Ideal S1x1024 .f32
  gf : Vec Ideal S1x1024 .f32
  wu : Vec Ideal S1x1024x512 .bf16
  wg : Vec Ideal S1x1024x2048 .bf16
  p0 : Vec Ideal S1x1x128x128 .bf16
  p1 : Vec Ideal S1x1x128x128 .bf16
  p2 : Vec Ideal S1x1x128x128 .bf16
  p3 : Vec Ideal S1x1x128x128 .bf16
  ps : Vec Ideal S1x512 .f32
  pp : Vec Ideal S1x512x1024 .bf16
  pa : Vec Ideal S1x512x1024 .bf16
  wo : Vec Ideal S1x1024x1024 .bf16
  f1 : Vec Ideal S1x1024x1024 .bf16
  f2 : Vec Ideal S1x1024x1024 .bf16
  f3 : Vec Ideal S1x1024x1024 .bf16
  f4 : Vec Ideal S1x1024x1024 .bf16
  w2 : Vec Ideal S1x4096x1024 .bf16

/-- The blocks hold the weights `W` and the modulation rows `M`. -/
structure Holds (B : Blocks) (W : Weights) (M : Mod) : Prop where
  m1 : ∀ k, B.m1 (ix3 0 0 k) = M.sh1 k
  m2 : ∀ k, B.m2 (ix3 0 0 k) = M.sc1 k
  m3 : ∀ k, B.m3 (ix3 0 0 k) = M.g1 k
  m4 : ∀ k, B.m4 (ix3 0 0 k) = M.sh2 k
  m5 : ∀ k, B.m5 (ix3 0 0 k) = M.sc2 k
  m6 : ∀ k, B.m6 (ix3 0 0 k) = M.g2 k
  l1 : ∀ k, B.l1 (ix2 0 k) = W.l1 k
  l2 : ∀ k, B.l2 (ix2 0 k) = W.l2 k
  gf : ∀ k, B.gf (ix2 0 k) = W.gf k
  wu : ∀ k (c : Fin 512), B.wu (ix3 0 k c) = W.win k ⟨c.val, by omega⟩
  wg : ∀ k (c : Fin 2048), B.wg (ix3 0 k c) = W.win k ⟨512 + c.val, by omega⟩
  p0 : ∀ c d : Fin 128, B.p0 (ix4 0 0 c d) = W.wp 0 c d
  p1 : ∀ c d : Fin 128, B.p1 (ix4 0 0 c d) = W.wp 1 c d
  p2 : ∀ c d : Fin 128, B.p2 (ix4 0 0 c d) = W.wp 2 c d
  p3 : ∀ c d : Fin 128, B.p3 (ix4 0 0 c d) = W.wp 3 c d
  ps : ∀ q, B.ps (ix2 0 q) = W.ps q
  pp : ∀ q n, B.pp (ix3 0 q n) = W.pp q n
  pa : ∀ q n, B.pa (ix3 0 q n) = W.pa q n
  wo : ∀ q n, B.wo (ix3 0 q n) = W.wo q n
  f1 : ∀ k (c : Fin 1024), B.f1 (ix3 0 k c) = W.w1 k ⟨c.val, by omega⟩
  f2 : ∀ k (c : Fin 1024), B.f2 (ix3 0 k c) = W.w1 k ⟨1024 + c.val, by omega⟩
  f3 : ∀ k (c : Fin 1024), B.f3 (ix3 0 k c) = W.w1 k ⟨2048 + c.val, by omega⟩
  f4 : ∀ k (c : Fin 1024), B.f4 (ix3 0 k c) = W.w1 k ⟨3072 + c.val, by omega⟩
  w2 : ∀ f n, B.w2 (ix3 0 f n) = W.w2 f n

namespace Blocks

variable (B : Blocks) (x : Vec Ideal S1x512x1024 .f32) (ot : Vec Ideal S1x512x512 .bf16)
  (v66 : IVec S16x1 32) (e0 e1 e2 e3 : Vec Ideal S528x128 .f32)

/-- The channels to pool. -/
def toPool : FVec Ideal S512x512 .f32 := k0_pay18 (k0_pay4 B.m1) (k0_pay5 B.m2) (k0_pay10 x) B.l1 B.wu

/-- The first gate, before the logistic function. -/
def gateA : FVec Ideal S512x1024 .f32 := k0_pay16 (k0_pay4 B.m1) (k0_pay5 B.m2) (k0_pay10 x) B.l1 B.wg

/-- The second gate, before the logistic function. -/
def gateB : FVec Ideal S512x1024 .f32 := k0_pay17 (k0_pay4 B.m1) (k0_pay5 B.m2) (k0_pay10 x) B.l1 B.wg

/-- The attention branch. -/
def attn : FVec Ideal S512x1024 .f32 := k0_pay13 (k0_pay11 ot) (k0_pay12 B.pa) (constant S512x1024 .f32 0x00000000#32)

/-- The pooled branch. -/
def pooled : FVec Ideal S512x1024 .f32 :=
  k0_pay28 v66 (k0_pay20 v66 e0 1#32 B.p0) (k0_pay25 (k0_pay22 e1) (k0_pay23 v66 e1) (k0_pay24 e1) B.p1) (k0_pay26 v66 e2 B.p2) e3 (k0_pay27 e3) 2#32
    B.p3 B.ps B.pp

theorem pooled_eq : pooled B v66 e0 e1 e2 e3 = poolAll v66 e0 e1 e2 e3 B.p0 B.p1 B.p2 B.p3 B.ps B.pp := rfl

/-- The rows after the gated branches. -/
def x1 : FVec Ideal S512x1024 .f32 :=
  k0_pay30 (k0_pay6 B.m3) (k0_pay10 x) (attn B ot) (gateB B x) (pooled B v66 e0 e1 e2 e3) (k0_pay29 (gateA B x)) (Scalar.ofBits .f32 0x3F800000#32) B.wo

/-- The second normalised rows. -/
def h2 : FVec Ideal S512x1024 .bf16 :=
  k0_pay31 (k0_pay6 B.m3) (k0_pay7 B.m4) (k0_pay8 B.m5) (k0_pay10 x) (attn B ot) (gateB B x) (pooled B v66 e0 e1 e2 e3) (k0_pay29 (gateA B x))
    (Scalar.ofBits .f32 0x3F800000#32) B.wo B.l2

/-- The first quarter of the hidden channels. -/
def hid : FVec Ideal S512x1024 .f32 :=
  k0_pay32 (k0_pay6 B.m3) (k0_pay7 B.m4) (k0_pay8 B.m5) (k0_pay10 x) (attn B ot) (gateB B x) (pooled B v66 e0 e1 e2 e3) (k0_pay29 (gateA B x))
    (Scalar.ofBits .f32 0x3F800000#32) B.wo B.l2 B.f1

/-- The rows after the feed-forward part. -/
def x2 : FVec Ideal S512x1024 .f32 :=
  k0_pay33 (k0_pay9 B.m6) (x1 B x ot v66 e0 e1 e2 e3) (h2 B x ot v66 e0 e1 e2 e3) (hid B x ot v66 e0 e1 e2 e3) (Scalar.ofBits .f32 0x00000000#32) B.f2 B.f3 B.f4 B.w2

/-- The rows half a block leaves. -/
def out : FVec Ideal S1x512x1024 .f32 :=
  k0_pay36 (x2 B x ot v66 e0 e1 e2 e3)
    (k0_pay34 (k0_pay9 B.m6) (x1 B x ot v66 e0 e1 e2 e3) (h2 B x ot v66 e0 e1 e2 e3) (hid B x ot v66 e0 e1 e2 e3) (Scalar.ofBits .f32 0x00000000#32) B.f2 B.f3 B.f4 B.w2)
    k0_pay35 B.gf

end Blocks

theorem pay10_at (x : Vec Ideal S1x512x1024 .f32) (r : Fin 512) (k : Fin 1024) : k0_pay10 x (ix2 r k) = x (ix3 0 r k) := by
  unfold k0_pay10; clean_types; pointwise
theorem pay4_at (v : Vec Ideal S1x1x1024 .f32) (k : Fin 1024) : k0_pay4 v (ix2 0 k) = v (ix3 0 0 k) := by
  unfold k0_pay4; clean_types; pointwise
theorem pay5_at (v : Vec Ideal S1x1x1024 .f32) (k : Fin 1024) : k0_pay5 v (ix2 0 k) = v (ix3 0 0 k) := by
  unfold k0_pay5; clean_types; pointwise
theorem pay6_at (v : Vec Ideal S1x1x1024 .f32) (k : Fin 1024) : k0_pay6 v (ix2 0 k) = v (ix3 0 0 k) := by
  unfold k0_pay6; clean_types; pointwise
theorem pay7_at (v : Vec Ideal S1x1x1024 .f32) (k : Fin 1024) : k0_pay7 v (ix2 0 k) = v (ix3 0 0 k) := by
  unfold k0_pay7; clean_types; pointwise
theorem pay8_at (v : Vec Ideal S1x1x1024 .f32) (k : Fin 1024) : k0_pay8 v (ix2 0 k) = v (ix3 0 0 k) := by
  unfold k0_pay8; clean_types; pointwise
theorem pay9_at (v : Vec Ideal S1x1x1024 .f32) (k : Fin 1024) : k0_pay9 v (ix2 0 k) = v (ix3 0 0 k) := by
  unfold k0_pay9; clean_types; pointwise

theorem group_lt (g : Fin 4) (c : Fin 128) : 128 * g.val + c.val < 512 := by omega

section
variable {B : Blocks} {W : Weights} {M : Mod} (H : Holds B W M)
include H

/-- The first normalised row. -/
theorem h1_at (x : Vec Ideal S1x512x1024 .f32) (r : Fin 512) (k : Fin 1024) :
    k0_pay14 (k0_pay4 B.m1) (k0_pay5 B.m2) (k0_pay10 x) B.l1 (ix2 r k) = hrow W M (fun k => x (ix3 0 r k)) k := by
  rw [pay14_at]
  show modn (fun k => k0_pay10 x (ix2 r k)) _ _ _ k = _
  simp only [pay10_at, pay4_at, pay5_at, H.m1, H.m2, H.l1]
  rfl

theorem toPool_at (x : Vec Ideal S1x512x1024 .f32) (r : Fin 512) (q : Fin 512) :
    B.toPool x (ix2 r q) = zrow W M (fun k => x (ix3 0 r k)) ⟨q.val, by omega⟩ := by
  unfold Blocks.toPool
  rw [pay18_at]
  exact Finset.sum_congr rfl fun k _ => congrArg₂ (· * ·) (h1_at H x r k) (H.wu k q)

theorem gateA_at (x : Vec Ideal S1x512x1024 .f32) (r : Fin 512) (n : Fin 1024) :
    B.gateA x (ix2 r n) = zrow W M (fun k => x (ix3 0 r k)) ⟨512 + n.val, by omega⟩ := by
  unfold Blocks.gateA
  rw [pay16_at]
  exact Finset.sum_congr rfl fun k _ => congrArg₂ (· * ·) (h1_at H x r k) (H.wg k _)

theorem gateB_at (x : Vec Ideal S1x512x1024 .f32) (r : Fin 512) (n : Fin 1024) :
    B.gateB x (ix2 r n) = zrow W M (fun k => x (ix3 0 r k)) ⟨1536 + n.val, by omega⟩ := by
  unfold Blocks.gateB
  rw [pay17_at]
  refine Finset.sum_congr rfl fun k _ => congrArg₂ (· * ·) (h1_at H x r k) ((H.wg k _).trans (congrArg (W.win k) (Fin.ext ?_)))
  show 512 + (1024 + n.val) = 1536 + n.val
  omega

theorem attn_at (ot : Vec Ideal S1x512x512 .bf16) (r : Fin 512) (n : Fin 1024) :
    B.attn ot (ix2 r n) = dotp (fun k => ot (ix3 0 k r)) W.pa n := by
  unfold Blocks.attn
  rw [pay13_at]
  exact Finset.sum_congr rfl fun k _ => congrArg (_ * ·) (H.pa k n)

variable (E : ℕ → Fin 512 → EReal) (P : ℕ) (hP : P ≤ 3584) {v66 : IVec S16x1 32} (hv : ∀ i : Fin 16, v66 (ix2 i 0) = BitVec.ofNat 32 (P + i.val))
  (e : Fin 4 → Vec Ideal S528x128 .f32) (r : Fin 512)
  (hE : ∀ (g : Fin 4), ∀ i < 16, ∀ c : Fin 128, col (e g) c (16 + r.val - i) = E i ⟨128 * g.val + c.val, group_lt g c⟩)
  (x : Vec Ideal S1x512x1024 .f32) (ot : Vec Ideal S1x512x512 .bf16)
include hP hv hE

theorem pooled_at (n : Fin 1024) : B.pooled v66 (e 0) (e 1) (e 2) (e 3) (ix2 r n) = dotp (yrow W E (P + r.val)) W.pp n :=
  (congrFun (Blocks.pooled_eq B v66 _ _ _ _) _).trans <| poolAll_at W E P v66 _ _ _ _ _ _ _ _ _ _ hP hv (ix2 r n) (hE 0) (hE 1) (hE 2) (hE 3) H.p0 H.p1 H.p2 H.p3 H.ps H.pp

theorem x1_at (n : Fin 1024) :
    B.x1 x ot v66 (e 0) (e 1) (e 2) (e 3) (ix2 r n) = x1row W M (fun k => x (ix3 0 r k)) (fun k => ot (ix3 0 k r)) E (P + r.val) n := by
  unfold Blocks.x1
  rw [pay30_at]
  show k0_pay10 x (ix2 r n) + k0_pay6 B.m3 (ix2 0 n) * ∑ k, (gate (B.gateA x (ix2 r k)) * B.pooled v66 (e 0) (e 1) (e 2) (e 3) (ix2 r k)
    + gate (B.gateB x (ix2 r k)) * B.attn ot (ix2 r k)) * B.wo (ix3 0 k n) = _
  simp only [pay10_at, pay6_at, H.m3, gateA_at H, gateB_at H, attn_at H, pooled_at H E P hP hv e r hE, H.wo]
  rfl

theorem h2_at (n : Fin 1024) :
    B.h2 x ot v66 (e 0) (e 1) (e 2) (e 3) (ix2 r n)
      = modn (x1row W M (fun k => x (ix3 0 r k)) (fun k => ot (ix3 0 k r)) E (P + r.val)) W.l2 M.sc2 M.sh2 n := by
  unfold Blocks.h2
  rw [pay31_at]
  show modn (fun k => B.x1 x ot v66 (e 0) (e 1) (e 2) (e 3) (ix2 r k)) _ _ _ n = _
  simp only [x1_at H E P hP hv e r hE, pay7_at, pay8_at, H.m4, H.m5, H.l2]

theorem x2_at (n : Fin 1024) :
    B.x2 x ot v66 (e 0) (e 1) (e 2) (e 3) (ix2 r n)
      = x2row W M (x1row W M (fun k => x (ix3 0 r k)) (fun k => ot (ix3 0 k r)) E (P + r.val)) n := by
  unfold Blocks.x2
  rw [pay33_at W _ _ _ B.f1 _ _ _ _ _ _ (fun c => by unfold Blocks.hid; rw [pay32_at]; rfl) H.f1 H.f2 H.f3 H.f4 H.w2]
  show B.x1 x ot v66 (e 0) (e 1) (e 2) (e 3) (ix2 r n) + k0_pay9 B.m6 (ix2 0 n)
    * dotp (fun f => act (dotp (fun k => B.h2 x ot v66 (e 0) (e 1) (e 2) (e 3) (ix2 r k)) W.w1 f)) W.w2 n = _
  simp only [x1_at H E P hP hv e r hE, h2_at H E P hP hv e r hE, pay9_at, H.m6]
  rfl

/-- What half a block leaves is the rows of its tokens. -/
theorem out_at (n : Fin 1024) :
    B.out x ot v66 (e 0) (e 1) (e 2) (e 3) (ix3 0 r n) = orow W M (fun k => x (ix3 0 r k)) (fun k => ot (ix3 0 k r)) E (P + r.val) n := by
  unfold Blocks.out
  rw [pay36_at]
  refine (congrArg (fun y => B.x2 x ot v66 (e 0) (e 1) (e 2) (e 3) (ix2 r n) * y * B.gf (ix2 0 n)) (pay34_at _ _ _ _ _ _ _ _ _ r)).trans ?_
  show B.x2 x ot v66 (e 0) (e 1) (e 2) (e 3) (ix2 r n) * rinv (fun k => B.x2 x ot v66 (e 0) (e 1) (e 2) (e 3) (ix2 r k)) * _ = _
  simp only [x2_at H E P hP hv e r hE, H.gf]
  rfl

end

namespace Blocks

variable (B : Blocks) (x : Vec Ideal S1x512x1024 .f32) (ot : Vec Ideal S1x512x512 .bf16) (arg1 : BitVec 32) (e0 e1 e2 e3 : Vec Ideal S528x128 .f32)

/-- The normalised rows of the second half. -/
def h1' : FVec Ideal S512x1024 .bf16 := k0_pay39 (k0_pay4 B.m1) (k0_pay5 B.m2) x B.l1

/-- The rows of the second half after the gated branches. -/
def x1' : FVec Ideal S512x1024 .f32 :=
  k0_pay56 (k0_pay6 B.m3) (k0_pay37 x) (k0_pay38 ot B.pa) (k0_pay41 (h1' B x) B.wg) (k0_pay42 (h1' B x) B.wg) (k0_pay46 (k0_pay45 arg1 e0) B.p0)
    (k0_pay47 (k0_pay44 arg1) e1 B.p1) (k0_pay51 (k0_pay44 arg1) (k0_pay48 e2) (k0_pay49 e2) k0_pay50 B.p2) (k0_pay53 e3) (k0_pay54 (k0_pay44 arg1) e3)
    (k0_pay55 e3) B.p3 B.ps B.pp B.wo

/-- The squares of these rows. -/
def sq' : FVec Ideal S512x1024 .f32 :=
  k0_pay57 (k0_pay6 B.m3) (k0_pay37 x) (k0_pay38 ot B.pa) (k0_pay41 (h1' B x) B.wg) (k0_pay42 (h1' B x) B.wg) (k0_pay46 (k0_pay45 arg1 e0) B.p0)
    (k0_pay47 (k0_pay44 arg1) e1 B.p1) (k0_pay51 (k0_pay44 arg1) (k0_pay48 e2) (k0_pay49 e2) k0_pay50 B.p2) (k0_pay53 e3) (k0_pay54 (k0_pay44 arg1) e3)
    (k0_pay55 e3) B.p3 B.ps B.pp B.wo

/-- The rows the second half leaves. -/
def out' : FVec Ideal S1x512x1024 .f32 :=
  k0_pay1 (k0_pay62 (k0_pay9 B.m6) (x1' B x ot arg1 e0 e1 e2 e3)
    (k0_pay58 (k0_pay7 B.m4) (k0_pay8 B.m5) (x1' B x ot arg1 e0 e1 e2 e3) (sq' B x ot arg1 e0 e1 e2 e3) B.l2)
    (k0_pay59 (k0_pay7 B.m4) (k0_pay8 B.m5) (x1' B x ot arg1 e0 e1 e2 e3) (sq' B x ot arg1 e0 e1 e2 e3) B.l2 B.f1)
    (k0_pay60 (k0_pay7 B.m4) (k0_pay8 B.m5) (x1' B x ot arg1 e0 e1 e2 e3) (sq' B x ot arg1 e0 e1 e2 e3) B.l2 B.f2)
    (k0_pay61 (k0_pay7 B.m4) (k0_pay8 B.m5) (x1' B x ot arg1 e0 e1 e2 e3) (sq' B x ot arg1 e0 e1 e2 e3) B.l2 B.f3) B.f4 B.w2 B.gf)

theorem x1'_eq : x1' B x ot arg1 e0 e1 e2 e3 = x1 B x ot (k0_pay44 arg1) e0 e1 e2 e3 := rfl

theorem sq'_eq : sq' B x ot arg1 e0 e1 e2 e3 = mulf (x1' B x ot arg1 e0 e1 e2 e3) (x1' B x ot arg1 e0 e1 e2 e3) := rfl

theorem toPool'_eq : k0_pay43 (h1' B x) B.wu = toPool B x := rfl

/-- The second half of a block is put together as the first is. -/
theorem out'_eq : out' B x ot arg1 e0 e1 e2 e3 = out B x ot (k0_pay44 arg1) e0 e1 e2 e3 := by
  unfold out' out x2 h2 hid x1
  rw [sq'_eq, x1'_eq]
  unfold x1
  rfl

end Blocks

theorem pay19_at (a : BitVec 32) (i : Fin 16) (P : ℕ) (h : a.toNat = P) (hP : P < 4) : k0_pay19 a (ix2 i 0) = BitVec.ofNat 32 (1024 * P + i.val) := by
  unfold k0_pay19
  clean_types
  pointwise
  apply BitVec.eq_of_toNat_eq
  simp [IntOp.addi, IntOp.muli, Scalar.addi, Scalar.muli, h]
  omega

theorem pay44_at (a : BitVec 32) (i : Fin 16) (P : ℕ) (h : a.toNat = P) (hP : P < 4) : k0_pay44 a (ix2 i 0) = BitVec.ofNat 32 (1024 * P + 512 + i.val) := by
  unfold k0_pay44
  clean_types
  pointwise
  apply BitVec.eq_of_toNat_eq
  simp [IntOp.addi, IntOp.muli, Scalar.addi, Scalar.muli, h]
  omega

end Cert.MixIdeal.Val
end
-- ==== Proof.MixRead.lean ====
/- The blocks the mix call reads at a point of its grid, in the arrays' coordinates. -/
module

public import proofs.«01_k».proof.Proof.MixSub
public import proofs.«01_k».proof.Proof.Gen.MixIdeal.Value
public import Idealize.ShloMosaic.Lib.Pipeline.ValueKit

@[expose] public section

set_option maxRecDepth 16384

noncomputable section

namespace Cert.MixIdeal.Val

open Idealize.ShloMosaic Idealize.ShloMosaic.TcCoe Idealize.SL Cert.MixIdeal Cert.MixIdeal.Gen Cert.MixRow

variable (m : (ℓ : Loc nD τ sig) → Buf (Elt Ideal) ℓ) (c : Dev nD) (t : Fin cfg0.N)

/-- The arrays the call is given. -/
def arrK : Arrays where
  x := m ((c.tc : Thread nD τ).loc main_arg0)
  ot := m ((c.tc : Thread nD τ).loc main_arg1)
  mod := m ((c.tc : Thread nD τ).loc main_arg2)
  l1 := m ((c.tc : Thread nD τ).loc main_arg3)
  l2 := m ((c.tc : Thread nD τ).loc main_arg4)
  gf := m ((c.tc : Thread nD τ).loc main_arg5)
  win := m ((c.tc : Thread nD τ).loc main_arg6)
  wp := m ((c.tc : Thread nD τ).loc main_arg7)
  ps := m ((c.tc : Thread nD τ).loc main_arg8)
  pp := m ((c.tc : Thread nD τ).loc main_arg9)
  pa := m ((c.tc : Thread nD τ).loc main_arg10)
  wo := m ((c.tc : Thread nD τ).loc main_arg11)
  w1 := m ((c.tc : Thread nD τ).loc main_arg12)
  w2 := m ((c.tc : Thread nD τ).loc main_arg13)

/-- The batch element of a point. -/
def bat : Fin 4 := ⟨t.val / 4, by have : t.val < 16 := t.isLt; omega⟩

/-- The point's blocks of the grid: where each window lies. -/
theorem idxAll : ∀ t : Fin cfg0.N, (win0_0.index t = ![t.val / 4, t.val % 4, 0] ∧ win0_1.index t = ![t.val / 4, 0, t.val % 4]
    ∧ win0_14.index t = ![t.val / 4, t.val % 4, 0]) ∧ (win0_2.index t = ![1, 0, 0] ∧ win0_3.index t = ![0, 0] ∧ win0_4.index t = ![0, 0]
    ∧ win0_5.index t = ![0, 0] ∧ win0_6.index t = ![1, 0, 0] ∧ win0_7.index t = ![1, 0, 0, 0] ∧ win0_8.index t = ![0, 0])
    ∧ win0_9.index t = ![0, 0, 0] ∧ win0_10.index t = ![0, 0, 0] ∧ win0_11.index t = ![0, 0, 0] ∧ win0_12.index t = ![0, 0, 0]
    ∧ win0_13.index t = ![0, 0, 0] := (by decide +kernel : ∀ t : Fin grid0.N, _)

/-- Where a point's modulation rows begin. -/
theorem offAll : ∀ t : Fin cfg0.N, k0_off1 (grid0.coords t) = ![0, t.val / 4, 0] ∧ k0_off2 (grid0.coords t) = ![0, t.val / 4, 1024]
    ∧ k0_off3 (grid0.coords t) = ![0, t.val / 4, 2048] ∧ k0_off4 (grid0.coords t) = ![0, t.val / 4, 3072]
    ∧ k0_off5 (grid0.coords t) = ![0, t.val / 4, 4096] ∧ k0_off6 (grid0.coords t) = ![0, t.val / 4, 5120] :=
  (by decide +kernel : ∀ t : Fin grid0.N, _)

/-- The second grid coordinate of a point. -/
theorem coord1 : ∀ t : Fin cfg0.N, (grid0.coords t 1).val = t.val % 4 := (by decide +kernel : ∀ t : Fin grid0.N, _)

/-! ## The windows -/

theorem w0 (a : Fin 1024) (k : Fin 1024) : iblk m c 0 t (ix3 0 a k)
    = (arrK m c).x (ix3 (bat t) ⟨1024 * (t.val % 4) + a.val, by omega⟩ k) := by
  have e := (idxAll t).1.1
  refine Eq.trans (b := V m c main_arg0 (ix3 (bat t) ⟨1024 * (t.val % 4) + a.val, by omega⟩ k)) ?_ (congrFun (V_main_arg0 m c) _)
  blk_ext [iblk, e]
  exact Nat.add_zero _

theorem w1 (k : Fin 512) (a : Fin 1024) : iblk m c 1 t (ix3 0 k a)
    = (arrK m c).ot (ix3 (bat t) k ⟨1024 * (t.val % 4) + a.val, by omega⟩) := by
  have e := (idxAll t).1.2.1
  refine Eq.trans (b := V m c main_arg1 (ix3 (bat t) k ⟨1024 * (t.val % 4) + a.val, by omega⟩)) ?_ (congrFun (V_main_arg1 m c) _)
  blk_ext [iblk, e]
  exact Nat.add_zero _

theorem w2 (a : Fin 8) (k : Fin 6144) : iblk m c 2 t (ix3 0 a k) = (arrK m c).mod (ix3 1 a k) := by
  have e := (idxAll t).2.1.1
  refine Eq.trans (b := V m c main_arg2 (ix3 1 a k)) ?_ (congrFun (V_main_arg2 m c) _)
  blk_ext [iblk, e]

theorem w3 (a : Fin 2) (k : Fin 1024) : iblk m c 3 t (ix2 a k) = (arrK m c).l1 (ix2 a k) := by
  have e := (idxAll t).2.1.2.1
  refine Eq.trans (b := V m c main_arg3 (ix2 a k)) ?_ (congrFun (V_main_arg3 m c) _)
  blk_ext [iblk, e]

theorem w4 (a : Fin 2) (k : Fin 1024) : iblk m c 4 t (ix2 a k) = (arrK m c).l2 (ix2 a k) := by
  have e := (idxAll t).2.1.2.2.1
  refine Eq.trans (b := V m c main_arg4 (ix2 a k)) ?_ (congrFun (V_main_arg4 m c) _)
  blk_ext [iblk, e]

theorem w6 (k : Fin 1024) (n : Fin 2560) : iblk m c 6 t (ix3 0 k n) = (arrK m c).win (ix3 1 k n) := by
  have e := (idxAll t).2.1.2.2.2.2.1
  refine Eq.trans (b := V m c main_arg6 (ix3 1 k n)) ?_ (congrFun (V_main_arg6 m c) _)
  blk_ext [iblk, e]

theorem w8 (a : Fin 2) (k : Fin 512) : iblk m c 8 t (ix2 a k) = (arrK m c).ps (ix2 a k) := by
  have e := (idxAll t).2.1.2.2.2.2.2.2
  refine Eq.trans (b := V m c main_arg8 (ix2 a k)) ?_ (congrFun (V_main_arg8 m c) _)
  blk_ext [iblk, e]

theorem w9 (k : Fin 512) (n : Fin 1024) : iblk m c 9 t (ix3 0 k n) = (arrK m c).pp (ix3 0 k n) := by
  have e := (idxAll t).2.2.1
  refine Eq.trans (b := V m c main_arg9 (ix3 0 k n)) ?_ (congrFun (V_main_arg9 m c) _)
  blk_ext [iblk, e]

theorem w10 (k : Fin 512) (n : Fin 1024) : iblk m c 10 t (ix3 0 k n) = (arrK m c).pa (ix3 0 k n) := by
  have e := (idxAll t).2.2.2.1
  refine Eq.trans (b := V m c main_arg10 (ix3 0 k n)) ?_ (congrFun (V_main_arg10 m c) _)
  blk_ext [iblk, e]

theorem w11 (k : Fin 1024) (n : Fin 1024) : iblk m c 11 t (ix3 0 k n) = (arrK m c).wo (ix3 0 k n) := by
  have e := (idxAll t).2.2.2.2.1
  refine Eq.trans (b := V m c main_arg11 (ix3 0 k n)) ?_ (congrFun (V_main_arg11 m c) _)
  blk_ext [iblk, e]

theorem w12 (k : Fin 1024) (n : Fin 4096) : iblk m c 12 t (ix3 0 k n) = (arrK m c).w1 (ix3 0 k n) := by
  have e := (idxAll t).2.2.2.2.2.1
  refine Eq.trans (b := V m c main_arg12 (ix3 0 k n)) ?_ (congrFun (V_main_arg12 m c) _)
  blk_ext [iblk, e]

theorem w13 (k : Fin 4096) (n : Fin 1024) : iblk m c 13 t (ix3 0 k n) = (arrK m c).w2 (ix3 0 k n) := by
  have e := (idxAll t).2.2.2.2.2.2
  refine Eq.trans (b := V m c main_arg13 (ix3 0 k n)) ?_ (congrFun (V_main_arg13 m c) _)
  blk_ext [iblk, e]

/-- The final weights, as the launch recasts them. -/
theorem V_v0 : (V m c main_v0 : Vec Ideal S1x1024 .f32) = shapeCast S1x1024 (arrK m c).gf shapeCasts_S1024_S1x1024 := by
  simp [V, hostOps0]
  rfl

/-- The pooling weights, as the launch casts them. -/
theorem V_v1 : (V m c main_v1 : Vec Ideal S2x4x128x128 .bf16) = (arrK m c).wp := by
  simp [V, hostOps0]
  rfl

theorem w5 (k : Fin 1024) : iblk m c 5 t (ix2 0 k) = (arrK m c).gf (ix1 k) := by
  have e := (idxAll t).2.1.2.2.2.1
  refine Eq.trans (b := (V m c main_v0 : Vec Ideal S1x1024 .f32) (ix2 0 k)) ?_ ?_
  · blk_ext [iblk, e]
  · rw [V_v0]
    pointwise

theorem w7 (g : Fin 4) (a b : Fin 128) : iblk m c 7 t (ix4 0 g a b) = (arrK m c).wp (ix4 1 g a b) := by
  have e := (idxAll t).2.1.2.2.2.2.2.1
  refine Eq.trans (b := (V m c main_v1 : Vec Ideal S2x4x128x128 .bf16) (ix4 1 g a b)) ?_ ?_
  · blk_ext [iblk, e]
  · rw [V_v1]

/-! ## What half a block loads -/

/-- A load of one row of a layer's modulation. -/
theorem ld_mod (off : Fin 3 → ℕ) (P : ℕ) (hP : P ≤ 5120) (ho : off = ![0, t.val / 4, P]) (h : ∀ a, off a + S1x1x1024.size a ≤ S1x8x6144.size a)
    (k : Fin 1024) : View.ld (iblk m c 2 t) (Rect.unit (s := S1x8x6144) off S1x1x1024.size h) (ix3 0 0 k)
      = (arrK m c).mod (ix3 1 (Arrays.brow (bat t)) ⟨P + k.val, by omega⟩) := by
  subst ho
  refine (View.ld_unit_apply_of (S := S1x8x6144) _ _ _ _ _ (ix3 0 (Arrays.brow (bat t)) ⟨P + k.val, by omega⟩) fun a => ?_).trans (w2 m c t _ _)
  fin_cases a
  · rfl
  · exact (Nat.add_zero _).symm
  · rfl

/-- A load from the input weights. -/
theorem ld_win (n P : ℕ) (hP : P + n ≤ 2560) (h : ∀ a, (![0, 0, P] : Fin 3 → ℕ) a + (![1, 1024, n] : Fin 3 → ℕ) a ≤ S1x1024x2560.size a)
    (k : Fin 1024) (q : Fin n) : View.ld (iblk m c 6 t) (Rect.unit (s := S1x1024x2560) ![0, 0, P] ![1, 1024, n] h) (ix3 0 k q)
      = (arrK m c).wts.win k ⟨P + q.val, by omega⟩ := by
  refine (View.ld_unit_apply_of (S := S1x1024x2560) _ _ _ _ _ (ix3 0 k ⟨P + q.val, by omega⟩) fun a => ?_).trans (w6 m c t _ _)
  fin_cases a
  · rfl
  · exact (Nat.zero_add _).symm
  · rfl

/-- A load from the first weights of the feed-forward network. -/
theorem ld_ff (P : ℕ) (hP : P ≤ 3072) (h : ∀ a, (![0, 0, P] : Fin 3 → ℕ) a + (![1, 1024, 1024] : Fin 3 → ℕ) a ≤ S1x1024x4096.size a)
    (k : Fin 1024) (q : Fin 1024) : View.ld (iblk m c 12 t) (Rect.unit (s := S1x1024x4096) ![0, 0, P] ![1, 1024, 1024] h) (ix3 0 k q)
      = (arrK m c).wts.w1 k ⟨P + q.val, by omega⟩ := by
  refine (View.ld_unit_apply_of (S := S1x1024x4096) _ _ _ _ _ (ix3 0 k ⟨P + q.val, by omega⟩) fun a => ?_).trans (w12 m c t _ _)
  fin_cases a
  · rfl
  · exact (Nat.zero_add _).symm
  · rfl

/-- A load of a group's pooling weights. -/
theorem ld_pool (g : Fin 4) (h : ∀ a, (![0, g.val, 0, 0] : Fin 4 → ℕ) a + (![1, 1, 128, 128] : Fin 4 → ℕ) a ≤ S1x4x128x128.size a)
    (a b : Fin 128) : View.ld (iblk m c 7 t) (Rect.unit (s := S1x4x128x128) ![0, g.val, 0, 0] ![1, 1, 128, 128] h) (ix4 0 0 a b)
      = (arrK m c).wts.wp g a b := by
  refine (View.ld_unit_apply_of (S := S1x4x128x128) _ _ _ _ _ (ix4 0 g a b) fun x => ?_).trans (w7 m c t _ _ _)
  fin_cases x
  · rfl
  · rfl
  · exact (Nat.zero_add _).symm
  · exact (Nat.zero_add _).symm

/-- A load of the second layer's row of a pair. -/
theorem ld_pair (n : ℕ) (X : Vec Ideal ⟨2, ![2, n]⟩ .f32) (h : ∀ a, (![1, 0] : Fin 2 → ℕ) a + (![1, n] : Fin 2 → ℕ) a ≤ (⟨2, ![2, n]⟩ : Shape).size a)
    (k : Fin n) : View.ld X (Rect.unit (s := ⟨2, ![2, n]⟩) ![1, 0] ![1, n] h) (ix2 0 k) = X (ix2 1 k) := by
  refine View.ld_unit_apply_of (S := ⟨2, ![2, n]⟩) X _ _ _ _ (ix2 1 k) fun a => ?_
  fin_cases a
  · rfl
  · exact (Nat.zero_add _).symm

/-- A load of half a block's tokens. -/
theorem ld_x (P : ℕ) (hP : P ≤ 512) (h : ∀ a, (![0, P, 0] : Fin 3 → ℕ) a + (![1, 512, 1024] : Fin 3 → ℕ) a ≤ S1x1024x1024.size a)
    (r : Fin 512) (k : Fin 1024) : View.ld (iblk m c 0 t) (Rect.unit (s := S1x1024x1024) ![0, P, 0] ![1, 512, 1024] h) (ix3 0 r k)
      = (arrK m c).x (ix3 (bat t) ⟨1024 * (t.val % 4) + P + r.val, by omega⟩ k) := by
  refine (View.ld_unit_apply_of (S := S1x1024x1024) _ _ _ _ _ (ix3 0 ⟨P + r.val, by omega⟩ k) fun a => ?_).trans ((w0 m c t _ _).trans ?_)
  · fin_cases a
    · rfl
    · rfl
    · exact (Nat.zero_add _).symm
  · exact congrArg (fun p => (arrK m c).x (ix3 (bat t) p k)) (Fin.ext (Nat.add_assoc _ _ _).symm)

/-- A load of half a block's attention. -/
theorem ld_ot (P : ℕ) (hP : P ≤ 512) (h : ∀ a, (![0, 0, P] : Fin 3 → ℕ) a + (![1, 512, 512] : Fin 3 → ℕ) a ≤ S1x512x1024.size a)
    (k : Fin 512) (r : Fin 512) : View.ld (iblk m c 1 t) (Rect.unit (s := S1x512x1024) ![0, 0, P] ![1, 512, 512] h) (ix3 0 k r)
      = (arrK m c).ot (ix3 (bat t) k ⟨1024 * (t.val % 4) + P + r.val, by omega⟩) := by
  refine (View.ld_unit_apply_of (S := S1x512x1024) _ _ _ _ _ (ix3 0 k ⟨P + r.val, by omega⟩) fun a => ?_).trans ((w1 m c t _ _).trans ?_)
  · fin_cases a
    · rfl
    · exact (Nat.zero_add _).symm
    · rfl
  · exact congrArg (fun p => (arrK m c).ot (ix3 (bat t) k p)) (Fin.ext (Nat.add_assoc _ _ _).symm)

/-- What a point reads besides its tokens. -/
def blks : Blocks where
  m1 := View.ld (Val := Elt Ideal) (S := S1x8x6144) (e' := .f32) (iblk m c 2 t) (Rect.unit (s := S1x8x6144) (k0_off1 (grid0.coords t)) ![1, 1, 1024] (k0_off1_inb (grid0.coords t)))
  m2 := View.ld (Val := Elt Ideal) (S := S1x8x6144) (e' := .f32) (iblk m c 2 t) (Rect.unit (s := S1x8x6144) (k0_off2 (grid0.coords t)) ![1, 1, 1024] (k0_off2_inb (grid0.coords t)))
  m3 := View.ld (Val := Elt Ideal) (S := S1x8x6144) (e' := .f32) (iblk m c 2 t) (Rect.unit (s := S1x8x6144) (k0_off3 (grid0.coords t)) ![1, 1, 1024] (k0_off3_inb (grid0.coords t)))
  m4 := View.ld (Val := Elt Ideal) (S := S1x8x6144) (e' := .f32) (iblk m c 2 t) (Rect.unit (s := S1x8x6144) (k0_off4 (grid0.coords t)) ![1, 1, 1024] (k0_off4_inb (grid0.coords t)))
  m5 := View.ld (Val := Elt Ideal) (S := S1x8x6144) (e' := .f32) (iblk m c 2 t) (Rect.unit (s := S1x8x6144) (k0_off5 (grid0.coords t)) ![1, 1, 1024] (k0_off5_inb (grid0.coords t)))
  m6 := View.ld (Val := Elt Ideal) (S := S1x8x6144) (e' := .f32) (iblk m c 2 t) (Rect.unit (s := S1x8x6144) (k0_off6 (grid0.coords t)) ![1, 1, 1024] (k0_off6_inb (grid0.coords t)))
  l1 := View.ld (Val := Elt Ideal) (S := S2x1024) (e' := .f32) (iblk m c 3 t) (Rect.unit (s := S2x1024) ![1, 0] ![1, 1024] inb_S2x1024_S1x1024_1_0)
  l2 := View.ld (Val := Elt Ideal) (S := S2x1024) (e' := .f32) (iblk m c 4 t) (Rect.unit (s := S2x1024) ![1, 0] ![1, 1024] inb_S2x1024_S1x1024_1_0)
  gf := iblk m c 5 t
  wu := View.ld (Val := Elt Ideal) (S := S1x1024x2560) (e' := .bf16) (iblk m c 6 t) (Rect.unit (s := S1x1024x2560) ![0, 0, 0] ![1, 1024, 512] inb_S1x1024x2560_S1x1024x512_0_0_0)
  wg := View.ld (Val := Elt Ideal) (S := S1x1024x2560) (e' := .bf16) (iblk m c 6 t) (Rect.unit (s := S1x1024x2560) ![0, 0, 512] ![1, 1024, 2048] inb_S1x1024x2560_S1x1024x2048_0_0_512)
  p0 := View.ld (Val := Elt Ideal) (S := S1x4x128x128) (e' := .bf16) (iblk m c 7 t) (Rect.unit (s := S1x4x128x128) ![0, 0, 0, 0] ![1, 1, 128, 128] inb_S1x4x128x128_S1x1x128x128_0_0_0_0)
  p1 := View.ld (Val := Elt Ideal) (S := S1x4x128x128) (e' := .bf16) (iblk m c 7 t) (Rect.unit (s := S1x4x128x128) ![0, 1, 0, 0] ![1, 1, 128, 128] inb_S1x4x128x128_S1x1x128x128_0_1_0_0)
  p2 := View.ld (Val := Elt Ideal) (S := S1x4x128x128) (e' := .bf16) (iblk m c 7 t) (Rect.unit (s := S1x4x128x128) ![0, 2, 0, 0] ![1, 1, 128, 128] inb_S1x4x128x128_S1x1x128x128_0_2_0_0)
  p3 := View.ld (Val := Elt Ideal) (S := S1x4x128x128) (e' := .bf16) (iblk m c 7 t) (Rect.unit (s := S1x4x128x128) ![0, 3, 0, 0] ![1, 1, 128, 128] inb_S1x4x128x128_S1x1x128x128_0_3_0_0)
  ps := View.ld (Val := Elt Ideal) (S := S2x512) (e' := .f32) (iblk m c 8 t) (Rect.unit (s := S2x512) ![1, 0] ![1, 512] inb_S2x512_S1x512_1_0)
  pp := iblk m c 9 t
  pa := iblk m c 10 t
  wo := iblk m c 11 t
  f1 := View.ld (Val := Elt Ideal) (S := S1x1024x4096) (e' := .bf16) (iblk m c 12 t) (Rect.unit (s := S1x1024x4096) ![0, 0, 0] ![1, 1024, 1024] inb_S1x1024x4096_S1x1024x1024_0_0_0)
  f2 := View.ld (Val := Elt Ideal) (S := S1x1024x4096) (e' := .bf16) (iblk m c 12 t) (Rect.unit (s := S1x1024x4096) ![0, 0, 1024] ![1, 1024, 1024] inb_S1x1024x4096_S1x1024x1024_0_0_1024)
  f3 := View.ld (Val := Elt Ideal) (S := S1x1024x4096) (e' := .bf16) (iblk m c 12 t) (Rect.unit (s := S1x1024x4096) ![0, 0, 2048] ![1, 1024, 1024] inb_S1x1024x4096_S1x1024x1024_0_0_2048)
  f4 := View.ld (Val := Elt Ideal) (S := S1x1024x4096) (e' := .bf16) (iblk m c 12 t) (Rect.unit (s := S1x1024x4096) ![0, 0, 3072] ![1, 1024, 1024] inb_S1x1024x4096_S1x1024x1024_0_0_3072)
  w2 := iblk m c 13 t

/-- They are the second layer's weights and the batch element's modulation. -/
theorem holds : Holds (blks m c t) (arrK m c).wts ((arrK m c).mods (bat t)) where
  m1 k := (ld_mod m c t _ 0 (by omega) (offAll t).1 _ k).trans
    (congrArg (fun p => (arrK m c).mod (ix3 1 (Arrays.brow (bat t)) p)) (Fin.ext (Nat.zero_add _)))
  m2 k := ld_mod m c t _ 1024 (by omega) (offAll t).2.1 _ k
  m3 k := ld_mod m c t _ 2048 (by omega) (offAll t).2.2.1 _ k
  m4 k := ld_mod m c t _ 3072 (by omega) (offAll t).2.2.2.1 _ k
  m5 k := ld_mod m c t _ 4096 (by omega) (offAll t).2.2.2.2.1 _ k
  m6 k := ld_mod m c t _ 5120 (by omega) (offAll t).2.2.2.2.2 _ k
  l1 k := (ld_pair 1024 _ _ k).trans (w3 m c t 1 k)
  l2 k := (ld_pair 1024 _ _ k).trans (w4 m c t 1 k)
  gf k := w5 m c t k
  wu k q := (ld_win m c t 512 0 (by omega) _ k q).trans (congrArg ((arrK m c).wts.win k) (Fin.ext (Nat.zero_add _)))
  wg k q := ld_win m c t 2048 512 (by omega) _ k q
  p0 a b := ld_pool m c t 0 _ a b
  p1 a b := ld_pool m c t 1 _ a b
  p2 a b := ld_pool m c t 2 _ a b
  p3 a b := ld_pool m c t 3 _ a b
  ps q := (ld_pair 512 _ _ q).trans (w8 m c t 1 q)
  pp q n := w9 m c t q n
  pa q n := w10 m c t q n
  wo q n := w11 m c t q n
  f1 k q := (ld_ff m c t 0 (by omega) _ k q).trans (congrArg ((arrK m c).wts.w1 k) (Fin.ext (Nat.zero_add _)))
  f2 k q := ld_ff m c t 1024 (by omega) _ k q
  f3 k q := ld_ff m c t 2048 (by omega) _ k q
  f4 k q := ld_ff m c t 3072 (by omega) _ k q
  w2 f n := w13 m c t f n

end Cert.MixIdeal.Val
end
-- ==== Proof.MixPoint.lean ====
/- What a point of the mix call's grid leaves in its scratch buffer and in its output block. -/
module

public import proofs.«01_k».proof.Proof.MixRead
public import Idealize.ShloMosaic.Lib.Pipeline.ReadBack

@[expose] public section

set_option maxRecDepth 16384

noncomputable section

namespace Cert.MixIdeal.Val

open Idealize.ShloMosaic Idealize.ShloMosaic.TcCoe Idealize.ShloMosaic.Tactic Idealize.SL Cert.MixIdeal Cert.MixIdeal.Gen Cert.MixRow

/-! ## The scratch buffer -/

/-- A row of the scratch buffer at a block that begins at token `P`: the channels to pool of sixteen tokens back. -/
def srow (A : Arrays) (b : Fin 4) (P n : ℕ) (q : Fin 512) : EReal := if 16 ≤ P + n then A.eback b (P + n) 16 q else 0

/-- The row that lies `i` before token `P + o + r`'s. -/
theorem srow_back (A : Arrays) (b : Fin 4) (P o r i : ℕ) (hi : i < 16) (q : Fin 512) :
    srow A b P (o + (16 + r - i)) q = A.eback b (P + o + r) i q := by
  unfold srow Arrays.eback
  by_cases h : 16 ≤ P + (o + (16 + r - i))
  · rw [if_pos h]
    have e : P + (o + (16 + r - i)) - 16 = P + o + r - i := by omega
    by_cases h' : i ≤ P + o + r ∧ P + o + r - i < 4096
    · rw [dif_pos h', dif_pos ⟨h, by omega⟩]
      exact congrArg (fun p => A.zat b p _) (Fin.ext e)
    · rw [dif_neg h', dif_neg (by omega)]
  · rw [if_neg h, dif_neg (by omega)]

/-- The rows at the top of the scratch buffer. -/
abbrev pieceH (h : Vec Ideal S16x512 .f32) : View.Piece (Elt Ideal) S1040x512 .f32 :=
  ⟨Rect.unit ![0, 0] ![16, 512] inb_S1040x512_S16x512_0_0, h⟩
/-- The rows of the first half. -/
abbrev pieceA (a : Vec Ideal S512x512 .f32) : View.Piece (Elt Ideal) S1040x512 .f32 :=
  ⟨Rect.unit ![16, 0] ![512, 512] inb_S1040x512_S512x512_16_0, a⟩
/-- The rows of the second half. -/
abbrev pieceB (b : Vec Ideal S512x512 .f32) : View.Piece (Elt Ideal) S1040x512 .f32 :=
  ⟨Rect.unit ![528, 0] ![512, 512] inb_S1040x512_S512x512_528_0, b⟩

section
variable {G : ℕ → Fin 512 → EReal} {h : Vec Ideal S16x512 .f32} {a b : Vec Ideal S512x512 .f32}
  (hh : ∀ (r : Fin 16) (q : Fin 512), h (ix2 r q) = G r.val q)
  (ha : ∀ r q : Fin 512, a (ix2 r q) = G (16 + r.val) q)
  (hb : ∀ r q : Fin 512, b (ix2 r q) = G (528 + r.val) q)

include hh in
theorem tileH (n : Fin 1040) (q : Fin 512) : View.TileAt (Val := Elt Ideal) (e := .f32) (S := S1040x512) (ix2 n q) ![0, 0] ![16, 512] h (G n.val q) := by
  intro x hx
  have h0 : n.val = 0 + (x 0).val := hx 0
  have h1 : q.val = 0 + (x 1).val := hx 1
  have e : x = ix2 ⟨n.val, by have : (x 0).val < 16 := (x 0).isLt; omega⟩ q := by
    funext y; fin_cases y
    · exact Fin.ext (h0.trans (Nat.zero_add _)).symm
    · exact Fin.ext (h1.trans (Nat.zero_add _)).symm
  rw [e]
  exact hh _ _

include ha in
theorem tileA (n : Fin 1040) (q : Fin 512) : View.TileAt (Val := Elt Ideal) (e := .f32) (S := S1040x512) (ix2 n q) ![16, 0] ![512, 512] a (G n.val q) := by
  intro x hx
  have h0 : n.val = 16 + (x 0).val := hx 0
  have h1 : q.val = 0 + (x 1).val := hx 1
  have e : x = ix2 ⟨n.val - 16, by have : (x 0).val < 512 := (x 0).isLt; omega⟩ q := by
    funext y; fin_cases y
    · exact Fin.ext (show (x 0).val = n.val - 16 by omega)
    · exact Fin.ext (h1.trans (Nat.zero_add _)).symm
  rw [e]
  refine (ha _ _).trans (congrArg (fun k => G k q) ?_)
  show 16 + (n.val - 16) = n.val
  omega

include hb in
theorem tileB (n : Fin 1040) (q : Fin 512) : View.TileAt (Val := Elt Ideal) (e := .f32) (S := S1040x512) (ix2 n q) ![528, 0] ![512, 512] b (G n.val q) := by
  intro x hx
  have h0 : n.val = 528 + (x 0).val := hx 0
  have h1 : q.val = 0 + (x 1).val := hx 1
  have e : x = ix2 ⟨n.val - 528, by have : (x 0).val < 512 := (x 0).isLt; omega⟩ q := by
    funext y; fin_cases y
    · exact Fin.ext (show (x 0).val = n.val - 528 by omega)
    · exact Fin.ext (h1.trans (Nat.zero_add _)).symm
  rw [e]
  refine (hb _ _).trans (congrArg (fun k => G k q) ?_)
  show 528 + (n.val - 528) = n.val
  omega

/-- Which piece holds a row. -/
theorem mem_rows (o k : ℕ) (inb) (n : Fin 1040) (q : Fin 512) (h0 : o ≤ n.val) (h1 : n.val < o + k) :
    (ix2 n q : S1040x512.Idx) ∈ (Rect.unit (s := S1040x512) ![o, 0] ![k, 512] inb).set :=
  Rect.mem_set_unit.mpr fun y => by
    fin_cases y
    · exact ⟨h0, h1⟩
    · exact ⟨Nat.zero_le _, q.isLt.trans_eq (Nat.zero_add _).symm⟩

include hh ha in
/-- The scratch buffer before the second half's rows are stored. -/
theorem scr2_at (n : Fin 1040) (hn : n.val < 528) (q : Fin 512) :
    View.canon [pieceA a, pieceH h] (ix2 n q) = G n.val q := by
  refine View.canon_eq_of_allAt _ _ _ ?_ (View.allAt_cons_unit _ _ _ _ _ (tileA ha n q)
    (View.allAt_cons_unit _ _ _ _ _ (tileH hh n q) (View.allAt_nil _ _)))
  by_cases h16 : n.val < 16
  · exact ⟨pieceH h, by simp, mem_rows 0 16 inb_S1040x512_S16x512_0_0 n q (Nat.zero_le _) (by omega)⟩
  · exact ⟨pieceA a, by simp, mem_rows 16 512 inb_S1040x512_S512x512_16_0 n q (by omega) (by omega)⟩

include hh ha hb in
/-- The scratch buffer at the end of a point. -/
theorem scr3_at (n : Fin 1040) (q : Fin 512) :
    View.canon [pieceB b, pieceA a, pieceH h] (ix2 n q) = G n.val q := by
  refine View.canon_eq_of_allAt _ _ _ ?_ (View.allAt_cons_unit _ _ _ _ _ (tileB hb n q)
    (View.allAt_cons_unit _ _ _ _ _ (tileA ha n q)
    (View.allAt_cons_unit _ _ _ _ _ (tileH hh n q) (View.allAt_nil _ _))))
  by_cases h16 : n.val < 16
  · exact ⟨pieceH h, by simp, mem_rows 0 16 inb_S1040x512_S16x512_0_0 n q (Nat.zero_le _) (by omega)⟩
  by_cases h528 : n.val < 528
  · exact ⟨pieceA a, by simp, mem_rows 16 512 inb_S1040x512_S512x512_16_0 n q (by omega) (by omega)⟩
  · exact ⟨pieceB b, by simp, mem_rows 528 512 inb_S1040x512_S512x512_528_0 n q (by omega) (by have := n.isLt; omega)⟩

/-- A group's rows, loaded from the scratch buffer. -/
theorem load_at (L : List (View.Piece (Elt Ideal) S1040x512 .f32)) (o : ℕ) (ho : o ≤ 512) (g : Fin 4)
    (hL : ∀ n : Fin 1040, n.val < o + 528 → ∀ q : Fin 512, View.canon L (ix2 n q) = G n.val q) (P : ℕ) (hP : P = 128 * g.val)
    (inb : ∀ y, (![o, P] : Fin 2 → ℕ) y + (![528, 128] : Fin 2 → ℕ) y ≤ S1040x512.size y)
    (r : Fin 512) (i : ℕ) (hi : i < 16) (c : Fin 128) :
    col ((View.whole cc0_scratch0).readCov L (Rect.unit (s := S1040x512) ![o, P] ![528, 128] inb).toLoadRect) c (16 + r.val - i)
      = G (o + (16 + r.val - i)) ⟨128 * g.val + c.val, by omega⟩ := by
  subst hP
  have hn : 16 + r.val - i < 528 := by have := r.isLt; omega
  rw [← to_col _ c _ hn, View.readCov_eq_canon']
  refine Eq.trans ?_ (hL ⟨o + (16 + r.val - i), by omega⟩ (by show o + (16 + r.val - i) < o + 528; omega) ⟨128 * g.val + c.val, by omega⟩)
  refine congrArg (View.canon L) (funext fun y => Fin.ext ?_)
  fin_cases y
  · exact congrArg (o + ·) (Nat.one_mul _)
  · exact congrArg (128 * g.val + ·) (Nat.one_mul _)

end

/-! ## A point, over the rows its scratch buffer begins with -/

variable (m : (ℓ : Loc nD τ sig) → Buf (Elt Ideal) ℓ) (c : Dev nD) (t : Fin cfg0.N)

/-- A row of the scratch buffer depends on its token only. -/
theorem srow_congr (A : Arrays) (b : Fin 4) {P n P' n' : ℕ} (h : P + n = P' + n') (q : Fin 512) : srow A b P n q = srow A b P' n' q := by
  unfold srow
  rw [h]

/-- The row of a token of the block. -/
theorem srow_tok (A : Arrays) (b : Fin 4) (P r : ℕ) (h : P + r < 4096) (q : Fin 512) :
    srow A b P (16 + r) q = A.zat b ⟨P + r, h⟩ ⟨q.val, by omega⟩ := by
  unfold srow Arrays.eback
  rw [if_pos (by omega), dif_pos (by omega)]
  exact congrArg (fun p => A.zat b p _) (Fin.ext (show P + (16 + r) - 16 = P + r by omega))

/-- The first half's tokens. -/
def xA : Vec Ideal S1x512x1024 .f32 :=
  View.ld (Val := Elt Ideal) (S := S1x1024x1024) (e' := .f32) (iblk m c 0 t) (Rect.unit (s := S1x1024x1024) ![0, 0, 0] ![1, 512, 1024] inb_S1x1024x1024_S1x512x1024_0_0_0)
/-- The second half's tokens. -/
def xB : Vec Ideal S1x512x1024 .f32 :=
  View.ld (Val := Elt Ideal) (S := S1x1024x1024) (e' := .f32) (iblk m c 0 t) (Rect.unit (s := S1x1024x1024) ![0, 512, 0] ![1, 512, 1024] inb_S1x1024x1024_S1x512x1024_0_512_0)
/-- The first half's attention. -/
def otA : Vec Ideal S1x512x512 .bf16 :=
  View.ld (Val := Elt Ideal) (S := S1x512x1024) (e' := .bf16) (iblk m c 1 t) (Rect.unit (s := S1x512x1024) ![0, 0, 0] ![1, 512, 512] inb_S1x512x1024_S1x512x512_0_0_0)
/-- The second half's attention. -/
def otB : Vec Ideal S1x512x512 .bf16 :=
  View.ld (Val := Elt Ideal) (S := S1x512x1024) (e' := .bf16) (iblk m c 1 t) (Rect.unit (s := S1x512x1024) ![0, 0, 512] ![1, 512, 512] inb_S1x512x1024_S1x512x512_0_0_512)

/-- What the scratch buffer begins with. -/
def Begins (hd : Vec Ideal S16x512 .f32) : Prop :=
  ∀ (r : Fin 16) (q : Fin 512), hd (ix2 r q) = srow (arrK m c) (bat t) (1024 * (t.val % 4)) r.val q

/-- The rows stored in the first half. -/
abbrev rowsA : Vec Ideal S512x512 .f32 := (blks m c t).toPool (xA m c t)
/-- The rows stored in the second half. -/
abbrev rowsB : Vec Ideal S512x512 .f32 := k0_pay43 ((blks m c t).h1' (xB m c t)) (blks m c t).wu

theorem rowsA_at (r q : Fin 512) : rowsA m c t (ix2 r q) = srow (arrK m c) (bat t) (1024 * (t.val % 4)) (16 + r.val) q := by
  rw [srow_tok _ _ _ _ (by omega)]
  refine (toPool_at (holds m c t) (xA m c t) r q).trans ?_
  refine congrArg (fun f => zrow (arrK m c).wts ((arrK m c).mods (bat t)) f _) (funext fun k => ?_)
  exact (ld_x m c t 0 (by omega) _ r k).trans rfl

theorem rowsB_at (r q : Fin 512) : rowsB m c t (ix2 r q) = srow (arrK m c) (bat t) (1024 * (t.val % 4)) (528 + r.val) q := by
  rw [show 528 + r.val = 16 + (512 + r.val) by omega, srow_tok _ _ _ _ (by omega)]
  refine (toPool_at (holds m c t) (xB m c t) r q).trans ?_
  refine congrArg (fun f => zrow (arrK m c).wts ((arrK m c).mods (bat t)) f _) (funext fun k => ?_)
  exact (ld_x m c t 512 (by omega) _ r k).trans (congrArg (fun p => (arrK m c).x (ix3 (bat t) p k)) (Fin.ext (Nat.add_assoc _ _ _)))

/-- The scratch buffer at the end of the point. -/
theorem scr_point {hd : Vec Ideal S16x512 .f32} (hh : Begins m c t hd) (n : Fin 1040) (q : Fin 512) :
    View.canon [pieceB (rowsB m c t), pieceA (rowsA m c t), pieceH hd] (ix2 n q) = srow (arrK m c) (bat t) (1024 * (t.val % 4)) n.val q :=
  scr3_at (G := srow (arrK m c) (bat t) (1024 * (t.val % 4))) hh (rowsA_at m c t) (rowsB_at m c t) n q

theorem inbA : ∀ (g : Fin 4) (y : Fin 2), (![0, 128 * g.val] : Fin 2 → ℕ) y + (![528, 128] : Fin 2 → ℕ) y ≤ S1040x512.size y := by decide
theorem inbB : ∀ (g : Fin 4) (y : Fin 2), (![512, 128 * g.val] : Fin 2 → ℕ) y + (![528, 128] : Fin 2 → ℕ) y ≤ S1040x512.size y := by decide

/-- A group's rows as the first half loads them. -/
def loadA (hd : Vec Ideal S16x512 .f32) (P : ℕ) (inb : ∀ y, (![0, P] : Fin 2 → ℕ) y + (![528, 128] : Fin 2 → ℕ) y ≤ S1040x512.size y) :
    Vec Ideal S528x128 .f32 :=
  (View.whole cc0_scratch0).readCov [pieceA (rowsA m c t), pieceH hd] (Rect.unit (s := S1040x512) ![0, P] ![528, 128] inb).toLoadRect
/-- A group's rows as the second half loads them. -/
def loadB (hd : Vec Ideal S16x512 .f32) (P : ℕ) (inb : ∀ y, (![512, P] : Fin 2 → ℕ) y + (![528, 128] : Fin 2 → ℕ) y ≤ S1040x512.size y) :
    Vec Ideal S528x128 .f32 :=
  (View.whole cc0_scratch0).readCov [pieceB (rowsB m c t), pieceA (rowsA m c t), pieceH hd]
    (Rect.unit (s := S1040x512) ![512, P] ![528, 128] inb).toLoadRect

/-- The first half's loads, group by group. -/
def loadsA (hd : Vec Ideal S16x512 .f32) (g : Fin 4) : Vec Ideal S528x128 .f32 :=
  loadA m c t hd (128 * g.val) (inbA g)
/-- The second half's loads, group by group. -/
def loadsB (hd : Vec Ideal S16x512 .f32) (g : Fin 4) : Vec Ideal S528x128 .f32 :=
  loadB m c t hd (128 * g.val) (inbB g)

theorem loadA_at {hd : Vec Ideal S16x512 .f32} (hh : Begins m c t hd) (r : Fin 512) (g : Fin 4) (P : ℕ) (hP : P = 128 * g.val) (inb) (i : ℕ)
    (hi : i < 16) (k : Fin 128) : col (loadA m c t hd P inb) k (16 + r.val - i)
      = (arrK m c).eback (bat t) (1024 * (t.val % 4) + r.val) i ⟨128 * g.val + k.val, by omega⟩ := by
  refine Eq.trans ?_ (srow_back (arrK m c) (bat t) (1024 * (t.val % 4)) 0 r.val i hi ⟨128 * g.val + k.val, by omega⟩)
  have L := fun (n : Fin 1040) (hn : n.val < 0 + 528) (q : Fin 512) =>
    scr2_at (G := srow (arrK m c) (bat t) (1024 * (t.val % 4))) hh (rowsA_at m c t) n (by omega) q
  unfold loadA
  exact load_at _ 0 (by omega) g L P hP inb r i hi k

theorem loadsA_at {hd : Vec Ideal S16x512 .f32} (hh : Begins m c t hd) (r : Fin 512) (g : Fin 4) (i : ℕ) (hi : i < 16) (k : Fin 128) :
    col (loadsA m c t hd g) k (16 + r.val - i) = (arrK m c).eback (bat t) (1024 * (t.val % 4) + r.val) i ⟨128 * g.val + k.val, by omega⟩ := by
  exact loadA_at m c t hh r g (128 * g.val) rfl (inbA g) i hi k

theorem loadB_at {hd : Vec Ideal S16x512 .f32} (hh : Begins m c t hd) (r : Fin 512) (g : Fin 4) (P : ℕ) (hP : P = 128 * g.val) (inb) (i : ℕ)
    (hi : i < 16) (k : Fin 128) : col (loadB m c t hd P inb) k (16 + r.val - i)
      = (arrK m c).eback (bat t) (1024 * (t.val % 4) + 512 + r.val) i ⟨128 * g.val + k.val, by omega⟩ := by
  refine Eq.trans ?_ (srow_back (arrK m c) (bat t) (1024 * (t.val % 4)) 512 r.val i hi ⟨128 * g.val + k.val, by omega⟩)
  have L := fun (n : Fin 1040) (_ : n.val < 512 + 528) (q : Fin 512) => scr_point m c t hh n q
  unfold loadB
  exact load_at _ 512 (by omega) g L P hP inb r i hi k

theorem loadsB_at {hd : Vec Ideal S16x512 .f32} (hh : Begins m c t hd) (r : Fin 512) (g : Fin 4) (i : ℕ) (hi : i < 16) (k : Fin 128) :
    col (loadsB m c t hd g) k (16 + r.val - i) = (arrK m c).eback (bat t) (1024 * (t.val % 4) + 512 + r.val) i ⟨128 * g.val + k.val, by omega⟩ := by
  exact loadB_at m c t hh r g (128 * g.val) rfl (inbB g) i hi k

/-- The second grid coordinate, as the kernel reads it. -/
abbrev arg1 : BitVec 32 := BitVec.ofNat 32 (grid0.coords t 1).val

theorem arg1_val : (arg1 t).toNat = t.val % 4 := by
  show (BitVec.ofNat 32 (grid0.coords t 1).val).toNat = _
  rw [coord1, BitVec.toNat_ofNat]
  omega

/-- The first half of the output block. -/
abbrev outA (hd : Vec Ideal S16x512 .f32) : Vec Ideal S1x512x1024 .f32 :=
  (blks m c t).out (xA m c t) (otA m c t) (k0_pay19 (arg1 t))
    (loadA m c t hd 0 inb_S1040x512_S528x128_0_0) (loadA m c t hd 128 inb_S1040x512_S528x128_0_128) (loadA m c t hd 256 inb_S1040x512_S528x128_0_256) (loadA m c t hd 384 inb_S1040x512_S528x128_0_384)
/-- The second half of the output block. -/
abbrev outB (hd : Vec Ideal S16x512 .f32) : Vec Ideal S1x512x1024 .f32 :=
  (blks m c t).out' (xB m c t) (otB m c t) (arg1 t)
    (loadB m c t hd 0 inb_S1040x512_S528x128_512_0) (loadB m c t hd 128 inb_S1040x512_S528x128_512_128) (loadB m c t hd 256 inb_S1040x512_S528x128_512_256) (loadB m c t hd 384 inb_S1040x512_S528x128_512_384)

theorem outA_at {hd : Vec Ideal S16x512 .f32} (hh : Begins m c t hd) (r : Fin 512) (n : Fin 1024) :
    outA m c t hd (ix3 0 r n) = (arrK m c).oat (bat t) ⟨1024 * (t.val % 4) + r.val, by omega⟩ n := by
  refine (out_at (holds m c t) ((arrK m c).eback (bat t) (1024 * (t.val % 4) + r.val)) (1024 * (t.val % 4)) (by omega)
    (fun i => pay19_at _ i _ (arg1_val t) (by omega)) (loadsA m c t hd) r (loadsA_at m c t hh r) (xA m c t) (otA m c t) n).trans ?_
  have ex : (fun k => xA m c t (ix3 0 r k)) = fun k => (arrK m c).x (ix3 (bat t) ⟨1024 * (t.val % 4) + r.val, by omega⟩ k) :=
    funext fun k => ld_x m c t 0 (by omega) _ r k
  have eo : (fun k => otA m c t (ix3 0 k r)) = fun k => (arrK m c).ot (ix3 (bat t) k ⟨1024 * (t.val % 4) + r.val, by omega⟩) :=
    funext fun k => ld_ot m c t 0 (by omega) _ k r
  rw [ex, eo]
  rfl

theorem outB_at {hd : Vec Ideal S16x512 .f32} (hh : Begins m c t hd) (r : Fin 512) (n : Fin 1024) :
    outB m c t hd (ix3 0 r n) = (arrK m c).oat (bat t) ⟨1024 * (t.val % 4) + 512 + r.val, by omega⟩ n := by
  unfold outB
  rw [Blocks.out'_eq]
  refine (out_at (holds m c t) ((arrK m c).eback (bat t) (1024 * (t.val % 4) + 512 + r.val)) (1024 * (t.val % 4) + 512) (by omega)
    (fun i => pay44_at _ i _ (arg1_val t) (by omega)) (loadsB m c t hd) r (loadsB_at m c t hh r) (xB m c t) (otB m c t) n).trans ?_
  have ex : (fun k => xB m c t (ix3 0 r k)) = fun k => (arrK m c).x (ix3 (bat t) ⟨1024 * (t.val % 4) + 512 + r.val, by omega⟩ k) :=
    funext fun k => ld_x m c t 512 (by omega) _ r k
  have eo : (fun k => otB m c t (ix3 0 k r)) = fun k => (arrK m c).ot (ix3 (bat t) k ⟨1024 * (t.val % 4) + 512 + r.val, by omega⟩) :=
    funext fun k => ld_ot m c t 512 (by omega) _ k r
  rw [ex, eo]
  rfl

/-- Which half holds a row. -/
theorem mem_half (o : ℕ) (inb) (r n : Fin 1024) (h0 : o ≤ r.val) (h1 : r.val < o + 512) :
    (ix3 0 r n : S1x1024x1024.Idx) ∈ (Rect.unit (s := S1x1024x1024) ![0, o, 0] ![1, 512, 1024] inb).set :=
  Rect.mem_set_unit.mpr fun y => by
    fin_cases y
    · exact ⟨le_refl _, Nat.one_pos⟩
    · exact ⟨h0, h1⟩
    · exact ⟨Nat.zero_le _, n.isLt.trans_eq (Nat.zero_add _).symm⟩

/-- The two halves of the output block. -/
abbrev halves (hd : Vec Ideal S16x512 .f32) : List (View.Piece (Elt Ideal) S1x1024x1024 .f32) :=
  [⟨Rect.unit ![0, 512, 0] ![1, 512, 1024] inb_S1x1024x1024_S1x512x1024_0_512_0, outB m c t hd⟩,
   ⟨Rect.unit ![0, 0, 0] ![1, 512, 1024] inb_S1x1024x1024_S1x512x1024_0_0_0, outA m c t hd⟩]

/-- The output block of the point. -/
theorem out_point {hd : Vec Ideal S16x512 .f32} (hh : Begins m c t hd) (r : Fin 1024) (n : Fin 1024) :
    View.canon (halves m c t hd) (ix3 0 r n) = (arrK m c).oat (bat t) ⟨1024 * (t.val % 4) + r.val, by omega⟩ n := by
  have key : ∀ (o : ℕ) (w : Vec Ideal S1x512x1024 .f32) (ho : o ≤ 512)
      (hw : ∀ (r : Fin 512) (n : Fin 1024), w (ix3 0 r n) = (arrK m c).oat (bat t) ⟨1024 * (t.val % 4) + (o + r.val), by omega⟩ n),
      View.TileAt (Val := Elt Ideal) (e := .f32) (S := S1x1024x1024) (ix3 0 r n) ![0, o, 0] ![1, 512, 1024] w
        ((arrK m c).oat (bat t) ⟨1024 * (t.val % 4) + r.val, by omega⟩ n) := by
    intro o w ho hw x hx
    have h1 : r.val = o + (x 1).val := hx 1
    have h2 : n.val = 0 + (x 2).val := hx 2
    have hlt : (x 1).val < 512 := (x 1).isLt
    have e : x = ix3 0 ⟨r.val - o, by omega⟩ n := by
      funext y; fin_cases y
      · exact Fin.ext (Nat.lt_one_iff.mp (x 0).isLt)
      · exact Fin.ext (show (x 1).val = r.val - o by omega)
      · exact Fin.ext (h2.trans (Nat.zero_add _)).symm
    rw [e]
    refine (hw _ _).trans (congrArg (fun p => (arrK m c).oat (bat t) p n) (Fin.ext ?_))
    show 1024 * (t.val % 4) + (o + (r.val - o)) = 1024 * (t.val % 4) + r.val
    omega
  refine View.canon_eq_of_allAt _ _ _ ?_ (View.allAt_cons_unit _ _ _ _ _
    (key 512 _ (by omega) fun r n => (outB_at m c t hh r n).trans (congrArg (fun p => (arrK m c).oat (bat t) p n) (Fin.ext (Nat.add_assoc _ _ _))))
    (View.allAt_cons_unit _ _ _ _ _
    (key 0 _ (by omega) fun r n => (outA_at m c t hh r n).trans (congrArg (fun p => (arrK m c).oat (bat t) p n) (Fin.ext (by simp))))
    (View.allAt_nil _ _)))
  by_cases h : r.val < 512
  · exact ⟨_, List.mem_cons_of_mem _ (List.mem_cons_self ..), mem_half 0 inb_S1x1024x1024_S1x512x1024_0_0_0 r n (Nat.zero_le _) (by omega)⟩
  · exact ⟨_, List.mem_cons_self .., mem_half 512 inb_S1x1024x1024_S1x512x1024_0_512_0 r n (by omega) (by omega)⟩

end Cert.MixIdeal.Val
end
-- ==== Proof.MixGrid.lean ====
/- The whole array the mix call leaves. -/
module

public import proofs.«01_k».proof.Proof.MixPoint

@[expose] public section

set_option maxRecDepth 16384

noncomputable section

namespace Cert.MixIdeal.Val

open Idealize.ShloMosaic Idealize.ShloMosaic.TcCoe Idealize.ShloMosaic.Tactic Idealize.SL Cert.MixIdeal Cert.MixIdeal.Gen Cert.MixRow

variable (m : (ℓ : Loc nD τ sig) → Buf (Elt Ideal) ℓ) (c : Dev nD)

/-- What a later block of a batch element begins its scratch buffer with. -/
abbrev carried (t : Fin cfg0.N) (h : t.val - 1 < cfg0.N) : Vec Ideal S16x512 .f32 :=
  k0_pay3 (View.ld (Val := Elt Ideal) (S := S1040x512) (e' := .f32) (outsAt0 m c (t.val - 1) h).2 (Rect.unit (s := S1040x512) ![1024, 0] ![16, 512] inb_S1040x512_S16x512_1024_0))

theorem first_scr (t : Fin cfg0.N) (h0 : t.val % 4 = 0) (h1 : ¬1 ≤ t.val % 4) (y : S1040x512.Idx) :
    (outsAt0 m c t.val t.isLt).2 y = View.canon [pieceB (rowsB m c t), pieceA (rowsA m c t), pieceH (k0_pay2 (F := Ideal))] y := by
  rw [outsAt0_A m c t h0 h1]
  dsimp only
  frame_open
  simp (disch := decide) only [↓ View.readCov_skip, ↓ View.readCov_cons_toLoadRect, ↓ View.readCov_fill]
  frame_out
  rfl

theorem first_out (t : Fin cfg0.N) (h0 : t.val % 4 = 0) (h1 : ¬1 ≤ t.val % 4) (y : S1x1024x1024.Idx) :
    (outsAt0 m c t.val t.isLt).1 y = View.canon (halves m c t (k0_pay2 (F := Ideal))) y := by
  rw [outsAt0_A m c t h0 h1]
  dsimp only
  frame_open
  simp (disch := decide) only [↓ View.readCov_skip, ↓ View.readCov_cons_toLoadRect, ↓ View.readCov_fill]
  frame_out
  unfold halves outA outB Blocks.out' Blocks.out Blocks.x1' Blocks.sq' Blocks.h1' Blocks.x2 Blocks.hid Blocks.h2 Blocks.x1 Blocks.gateA Blocks.gateB
    Blocks.attn Blocks.pooled loadA loadB rowsA rowsB Blocks.h1' Blocks.toPool pieceA pieceB pieceH Scalar.ofBits
  dsimp only [blks, xA, xB, otA, otB, arg1]

theorem later_scr (t : Fin cfg0.N) (h0 : ¬t.val % 4 = 0) (h1 : 1 ≤ t.val % 4) (hp : t.val - 1 < cfg0.N) (y : S1040x512.Idx) :
    (outsAt0 m c t.val t.isLt).2 y = View.canon [pieceB (rowsB m c t), pieceA (rowsA m c t), pieceH (carried m c t hp)] y := by
  rw [outsAt0_B m c t h0 h1]
  dsimp only
  frame_open
  simp (disch := decide) only [↓ View.readCov_skip, ↓ View.readCov_cons_toLoadRect, ↓ View.readCov_fill]
  frame_out
  simp only [read_unread_whole]
  rfl

theorem later_out (t : Fin cfg0.N) (h0 : ¬t.val % 4 = 0) (h1 : 1 ≤ t.val % 4) (hp : t.val - 1 < cfg0.N) (y : S1x1024x1024.Idx) :
    (outsAt0 m c t.val t.isLt).1 y = View.canon (halves m c t (carried m c t hp)) y := by
  rw [outsAt0_B m c t h0 h1]
  dsimp only
  frame_open
  simp (disch := decide) only [↓ View.readCov_skip, ↓ View.readCov_cons_toLoadRect, ↓ View.readCov_fill]
  frame_out
  simp only [read_unread_whole]
  unfold halves outA outB Blocks.out' Blocks.out Blocks.x1' Blocks.sq' Blocks.h1' Blocks.x2 Blocks.hid Blocks.h2 Blocks.x1 Blocks.gateA Blocks.gateB
    Blocks.attn Blocks.pooled loadA loadB rowsA rowsB Blocks.h1' Blocks.toPool pieceA pieceB pieceH Scalar.ofBits
  dsimp only [blks, xA, xB, otA, otB, arg1]

/-! ## The scratch buffer, point after point -/

/-- The first block of a batch element begins with no rows. -/
theorem begins_first (t : Fin cfg0.N) (h0 : t.val % 4 = 0) : Begins m c t (k0_pay2 (F := Ideal)) := by
  intro r q
  have e : srow (arrK m c) (bat t) (1024 * (t.val % 4)) r.val q = 0 := by
    unfold srow
    rw [if_neg (by have := r.isLt; omega)]
  rw [e]
  unfold k0_pay2
  clean_types
  pointwise

/-- A later block begins with the last rows of the block before. -/
theorem begins_later (t : Fin cfg0.N) (h1 : 1 ≤ t.val % 4) (hp : t.val - 1 < cfg0.N)
    (hs : ∀ (n : Fin 1040) (q : Fin 512), (outsAt0 m c (t.val - 1) hp).2 (ix2 n q)
      = srow (arrK m c) (bat ⟨t.val - 1, hp⟩) (1024 * ((t.val - 1) % 4)) n.val q) : Begins m c t (carried m c t hp) := by
  intro r q
  have hr := r.isLt
  have e : carried m c t hp (ix2 r q) = (outsAt0 m c (t.val - 1) hp).2 (ix2 ⟨1024 + r.val, by omega⟩ q) := by
    unfold carried k0_pay3
    clean_types
    pointwise
  have hb : bat ⟨t.val - 1, hp⟩ = bat t := Fin.ext (show (t.val - 1) / 4 = t.val / 4 by omega)
  rw [e, hs, hb]
  exact srow_congr _ _ (show 1024 * ((t.val - 1) % 4) + (1024 + r.val) = 1024 * (t.val % 4) + r.val by omega) q

/-- The scratch buffer at the end of every point. -/
theorem scratch_at : ∀ (n : ℕ) (h : n < cfg0.N) (k : Fin 1040) (q : Fin 512),
    (outsAt0 m c n h).2 (ix2 k q) = srow (arrK m c) (bat ⟨n, h⟩) (1024 * (n % 4)) k.val q := by
  intro n
  induction n with
  | zero =>
    intro h k q
    exact (first_scr m c ⟨0, h⟩ rfl (by show ¬1 ≤ 0 % 4; omega) _).trans (scr_point m c ⟨0, h⟩ (begins_first m c ⟨0, h⟩ rfl) k q)
  | succ n ih =>
    intro h k q
    by_cases h0 : (n + 1) % 4 = 0
    · exact (first_scr m c ⟨n + 1, h⟩ h0 (by show ¬1 ≤ (n + 1) % 4; omega) _).trans (scr_point m c ⟨n + 1, h⟩ (begins_first m c ⟨n + 1, h⟩ h0) k q)
    · have h1 : 1 ≤ (n + 1) % 4 := by omega
      have hp : n < cfg0.N := by omega
      exact (later_scr m c ⟨n + 1, h⟩ h0 h1 hp _).trans (scr_point m c ⟨n + 1, h⟩ (begins_later m c ⟨n + 1, h⟩ h1 hp (ih hp)) k q)

/-- The output block of every point. -/
theorem block_at (t : Fin cfg0.N) (r n : Fin 1024) :
    (outsAt0 m c t.val t.isLt).1 (ix3 0 r n) = (arrK m c).oat (bat t) ⟨1024 * (t.val % 4) + r.val, by omega⟩ n := by
  by_cases h0 : t.val % 4 = 0
  · exact (first_out m c t h0 (by omega) _).trans (out_point m c t (begins_first m c t h0) r n)
  · have hp : t.val - 1 < cfg0.N := lt_of_le_of_lt (Nat.sub_le _ _) t.isLt
    exact (later_out m c t h0 (by omega) hp _).trans (out_point m c t (begins_later m c t (by omega) hp (scratch_at m c _ hp)) r n)

/-- The whole output array. -/
def outArr : S4x4096x1024.Idx → EReal := fun i =>
  (arrK m c).oat ⟨(i 0).val, (i 0).isLt⟩ ⟨(i 1).val, (i 1).isLt⟩ ⟨(i 2).val, (i 2).isLt⟩

theorem arr14 : (dats m 0 c).arrAt 14 cfg0.N = outArr m c := by
  refine (dats m 0 c).arrAt_eq_of_covers 14 _ (by decide +kernel) fun t hf y => ?_
  have e := (idxAll t).1.2.2
  blk_simp
  have ey : (y : S1x1024x1024.Idx) = ix3 0 (y 1) (y 2) := by
    funext a; fin_cases a
    · exact Fin.ext (Nat.lt_one_iff.mp (y 0).isLt)
    · rfl
    · rfl
  refine (congrFun (after0_14 m c t) y).trans ((congrArg (outsAt0 m c t.val t.isLt).1 ey).trans ((block_at m c t (y 1) (y 2)).trans ?_))
  unfold outArr
  blk_simp [e]
  exact congrArg (fun p => (arrK m c).oat (bat t) p (y 2)) (Fin.ext (congrArg (· + (y 1).val) (Nat.mul_comm _ _)))

end Cert.MixIdeal.Val
end
-- ==== Proof.MixRef.lean ====
/- What the mix reference computes, at exact arithmetic. -/
module

public import proofs.«01_k».proof.Proof.MixPool
public import proofs.«01_k».proof.Proof.Gen.MixReferenceIdeal.Run

@[expose] public section

set_option maxRecDepth 16384

noncomputable section

namespace Cert.MixReferenceIdeal.Val

open Idealize.ShloMosaic Idealize.ShloMosaic.TcCoe Idealize.SL.Sem
open Cert.MixReferenceIdeal Cert.MixReferenceIdeal.Gen Cert.MixReferenceIdeal.Value Cert.MixRow

/-- The reference's arguments. -/
def arr (V : Valuation τ sig (Elt Ideal)) : Arrays where
  x := V (Proc.devRef .tc main_arg0)
  ot := V (Proc.devRef .tc main_arg1)
  mod := V (Proc.devRef .tc main_arg2)
  l1 := V (Proc.devRef .tc main_arg3)
  l2 := V (Proc.devRef .tc main_arg4)
  gf := V (Proc.devRef .tc main_arg5)
  win := V (Proc.devRef .tc main_arg6)
  wp := V (Proc.devRef .tc main_arg7)
  ps := V (Proc.devRef .tc main_arg8)
  pp := V (Proc.devRef .tc main_arg9)
  pa := V (Proc.devRef .tc main_arg10)
  wo := V (Proc.devRef .tc main_arg11)
  w1 := V (Proc.devRef .tc main_arg12)
  w2 := V (Proc.devRef .tc main_arg13)

variable (V : Valuation τ sig (Elt Ideal))

/-- The product with the input weights. -/
theorem v38_at (b : Fin 4) (p : Fin 4096) (c : Fin 2560) : res_main_v38 V (ix3 b p c) = (arr V).zat b p c := by
  unfold res_main_v38 res_main_v1
  clean_types
  pointwise
  rfl

/-- The channels to pool. -/
theorem v39_at (b : Fin 4) (p : Fin 4096) (c : Fin 512) : res_main_v39 V (ix3 b p c) = (arr V).zat b p ⟨c.val, by omega⟩ := by
  unfold res_main_v39
  clean_types
  pointwise
  rw [v38_at]

theorem v47_at (b : Fin 4) (p : Fin 4096) (c : Fin 128) : res_main_v47 V (ix3 b p c) = (arr V).zat b p ⟨128 * (0 : Fin 4).val + c.val, by omega⟩ := by
  unfold res_main_v47
  clean_types
  pointwise
  simp [v39_at]
theorem v60_at (b : Fin 4) (p : Fin 4096) (c : Fin 128) : res_main_v60 V (ix3 b p c) = (arr V).zat b p ⟨128 * (1 : Fin 4).val + c.val, by omega⟩ := by
  unfold res_main_v60
  clean_types
  pointwise
  rw [v39_at]
theorem v79_at (b : Fin 4) (p : Fin 4096) (c : Fin 128) : res_main_v79 V (ix3 b p c) = (arr V).zat b p ⟨128 * (2 : Fin 4).val + c.val, by omega⟩ := by
  unfold res_main_v79
  clean_types
  pointwise
  rw [v39_at]
theorem v110_at (b : Fin 4) (p : Fin 4096) (c : Fin 128) : res_main_v110 V (ix3 b p c) = (arr V).zat b p ⟨128 * (3 : Fin 4).val + c.val, by omega⟩ := by
  unfold res_main_v110
  clean_types
  pointwise
  rw [v39_at]

/-- A quotient by a count of tokens. -/
theorem div_count (x : EReal) (n : ℕ) (h : n ≠ 0) : Ideal.div x (((n : ℕ) : ℝ) : EReal) = x * Ideal.div 1 (((n : ℕ) : ℝ) : EReal) := by
  rw [Cert.MixIdeal.Val.div_one_nat n h]
  unfold Ideal.div
  rw [if_neg (by exact_mod_cast h), EReal.coe_inv]

/-- A group's array, read some tokens back. -/
def gback (v : S4x4096x128.Idx → EReal) (b : Fin 4) (p : ℕ) (c : Fin 128) (i : ℕ) : EReal :=
  if h : i ≤ p ∧ p - i < 4096 then v (ix3 b ⟨p - i, h.2⟩ c) else 0

theorem gback_zero (v : S4x4096x128.Idx → EReal) (b : Fin 4) (p : Fin 4096) (c : Fin 128) : v (ix3 b p c) = gback v b p.val c 0 := by
  unfold gback
  rw [dif_pos ⟨Nat.zero_le _, p.isLt⟩]; rfl

theorem gback_eq (v : S4x4096x128.Idx → EReal) (b : Fin 4) (p : Fin 4096) (c : Fin 128) (i : ℕ) (q : i ≤ p.val ∧ p.val - i < 4096 → p.val - i < 4096) :
    (if h : i ≤ p.val ∧ p.val - i < 4096 then v (ix3 b ⟨p.val - i, q h⟩ c) else FloatOps.sitofp (F := Ideal) FTy.f32 0#32) = gback v b p.val c i := by
  unfold gback
  split
  · rfl
  · show (((0#32 : BitVec 32).toInt : ℝ) : EReal) = 0
    simp

/-- A group's window mean, less the token's own value. -/
theorem mean_eq (v : S4x4096x128.Idx → EReal) (b : Fin 4) (p : Fin 4096) (c : Fin 128) (w : ℕ) (hw : w ≤ 16) (h0 : 0 < w) (s : EReal)
    (hs : s = ∑ i ∈ Finset.range w, gback v b p.val c i) :
    Ideal.div s (FloatOps.sitofp (F := Ideal) FTy.f32 (IntOp.minsi (IntOp.addi (BitVec.ofNat 32 p.val) 1#32) (BitVec.ofNat 32 w))) - v (ix3 b p c)
      = wmean w (gback v b p.val c) p.val := by
  rw [Cert.MixIdeal.Val.head_word p.val w p.isLt hw _ rfl, div_count _ _ (by omega), hs, gback_zero v b p c]
  rfl

theorem v164_at (b : Fin 4) (p : Fin 4096) (c : Fin 128) : res_main_v164 V (ix3 b p c) = wmean 16 (gback (res_main_v110 V) b p.val c) p.val := by
  unfold res_main_v164 res_main_v46
  clean_types
  pointwise
  refine mean_eq (res_main_v110 V) b p c 16 (by decide) (by decide) _ ?_
  simp only [Finset.sum_range_succ, Finset.sum_range_zero, zero_add, gback_eq]
  rw [← gback_zero (res_main_v110 V) b p c]

/-- A group's array is the channels to pool, some tokens back. -/
theorem gback_group (A : Arrays) (v : S4x4096x128.Idx → EReal) (b : Fin 4) (p : ℕ) (c : Fin 128) (g : Fin 4)
    (hv : ∀ (p : Fin 4096) (c : Fin 128), v (ix3 b p c) = A.zat b p ⟨128 * g.val + c.val, by omega⟩) :
    gback v b p c = fun i => A.eback b p i ⟨128 * g.val + c.val, by omega⟩ := funext fun i => by
  unfold gback Arrays.eback
  split
  · exact hv _ _
  · rfl

/-- The window means of the four groups. -/
theorem v169_at (b : Fin 4) (p : Fin 4096) (g : Fin 4) (c : Fin 128) :
    res_main_v169 V (ix4 b p g c) = wmean (2 ^ (g.val + 1)) (fun i => (arr V).eback b p.val i ⟨128 * g.val + c.val, by omega⟩) p.val := by
  unfold res_main_v169 res_main_v46
  clean_types
  pointwise
  rcases (by omega : g.val = 0 ∨ g.val = 1 ∨ g.val = 2 ∨ g.val = 3) with h | h | h | h
  · obtain rfl : g = 0 := Fin.ext h
    refine (dif_pos (by decide)).trans ?_
    refine (mean_eq (res_main_v47 V) b p c 2 (by decide) (by decide) _ ?_).trans (congrArg (wmean 2 · p.val) (gback_group _ _ b p.val c 0 (v47_at V b)))
    simp only [Finset.sum_range_succ, Finset.sum_range_zero, zero_add, gback_eq]
    rw [← gback_zero (res_main_v47 V) b p c]
  · obtain rfl : g = 1 := Fin.ext h
    refine (dif_neg (by decide)).trans ((dif_pos (by decide)).trans ?_)
    refine (mean_eq (res_main_v60 V) b p c 4 (by decide) (by decide) _ ?_).trans (congrArg (wmean 4 · p.val) (gback_group _ _ b p.val c 1 (v60_at V b)))
    simp only [Finset.sum_range_succ, Finset.sum_range_zero, zero_add, gback_eq]
    rw [← gback_zero (res_main_v60 V) b p c]
  · obtain rfl : g = 2 := Fin.ext h
    refine (dif_neg (by decide)).trans ((dif_neg (by decide)).trans ((dif_pos (by decide)).trans ?_))
    refine (mean_eq (res_main_v79 V) b p c 8 (by decide) (by decide) _ ?_).trans (congrArg (wmean 8 · p.val) (gback_group _ _ b p.val c 2 (v79_at V b)))
    simp only [Finset.sum_range_succ, Finset.sum_range_zero, zero_add, gback_eq]
    rw [← gback_zero (res_main_v79 V) b p c]
  · obtain rfl : g = 3 := Fin.ext h
    refine (dif_neg (by decide)).trans ((dif_neg (by decide)).trans ((dif_neg (by decide)).trans ?_))
    exact (v164_at V b p c).trans (congrArg (wmean 16 · p.val) (gback_group _ _ b p.val c 3 (v110_at V b)))

theorem v204_at (b : Fin 4) (p : Fin 4096) (n : Fin 1024) :
    res_main_v204 V (ix3 b p n) = x1row (arr V).wts ((arr V).mods b) (fun k => (arr V).x (ix3 b p k)) (fun k => (arr V).ot (ix3 b k p)) ((arr V).eback b p.val) p.val n := by
  unfold res_main_v204 res_main_v1
  clean_types
  pointwise
  simp only [v38_at, v169_at]
  refine congrArg (fun y : EReal => (arr V).x (ix3 b p n) + ((arr V).mods b).g1 n * y) (Finset.sum_congr rfl fun x _ =>
    congrArg (fun y : EReal => (gate _ * y + _) * _) (Finset.sum_congr rfl fun q _ =>
    congrArg (fun y : EReal => y * (arr V).wts.ps q * (arr V).wts.pp q x) (Finset.sum_congr rfl fun k _ => (mul_comm _ _).trans
      (congrArg (fun e : ℕ → EReal => wmean _ e _ * _) (funext fun i => congrArg ((arr V).eback b p.val i) (Fin.ext ?_))))))
  show 128 * (q.val / 128) + k.val = q.val / 128 * 128 + k.val
  omega

theorem v229_at (b : Fin 4) (p : Fin 4096) (f : Fin 4096) :
    res_main_v229 V (ix3 b p f) = max (dotp (modn (fun k => res_main_v204 V (ix3 b p k)) (arr V).wts.l2 ((arr V).mods b).sc2 ((arr V).mods b).sh2) (arr V).wts.w1 f) 0 := by
  unfold res_main_v229 res_main_v1
  clean_types
  pointwise
  rfl

theorem v236_at (b : Fin 4) (p : Fin 4096) (n : Fin 1024) :
    res_main_v236 V (ix3 b p n) = x2row (arr V).wts ((arr V).mods b) (fun k => res_main_v204 V (ix3 b p k)) n := by
  unfold res_main_v236 res_main_v1
  clean_types
  pointwise
  simp only [v229_at]
  rfl

/-- The reference's result. -/
theorem out_at (b : Fin 4) (p : Fin 4096) (n : Fin 1024) :
    (mulf (mulf (res_main_v236 V) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v236 V) (res_main_v236 V)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (V (Proc.devRef .tc main_arg5))))
      : Vec Ideal S4x4096x1024 .f32) (ix3 b p n) = (arr V).oat b p n := by
  clean_types
  pointwise
  simp only [v236_at, v204_at]
  rfl

end Cert.MixReferenceIdeal.Val
end
-- ==== Proof.MixClaim.lean ====
/- The claims about the mix call: its frames, and that it leaves what its reference leaves, at exact arithmetic. -/
module

public import proofs.«01_k».proof.Defs
public import proofs.«01_k».proof.Proof.MixGrid
public import proofs.«01_k».proof.Proof.MixRef
public import proofs.«01_k».proof.Proof.Gen.Mix.Frame
public import proofs.«01_k».proof.Proof.Gen.MixReferenceIdeal.Run

@[expose] public section

noncomputable section

namespace Cert.MixClaim

open Idealize.ShloMosaic Idealize.ShloMosaic.TcCoe Idealize.SL.Sem Cert.MixRow

/-- The mix call, as printed, runs and leaves its arguments as they were. -/
theorem frame_mix : Cert.quiescent_Mix := fun m g _ => Cert.Mix.Gen.frame m g

/-- So does its idealization. -/
theorem frame_ideal : Cert.quiescent_MixIdeal := fun m g _ => Cert.MixIdeal.Gen.frame m g

/-- So does its reference's. -/
theorem frame_reference : Cert.quiescent_MixReferenceIdeal := fun m g _ =>
  (θ_run Cert.MixReferenceIdeal.defs _ _).mono (fun r h => ⟨fun c => (h c).2, sem_eq_zero_of_no_sems (by decide) r.2⟩)
    (Cert.MixReferenceIdeal.Value.run (F := Ideal) m g)

/-- Both programs hold the same arrays. -/
theorem arr_eq (m : (ℓ : Loc Cert.MixIdeal.nD Cert.MixIdeal.τ Cert.MixIdeal.sig) → Buf (Elt Ideal) ℓ)
    (m' : (ℓ : Loc Cert.MixReferenceIdeal.nD Cert.MixReferenceIdeal.τ Cert.MixReferenceIdeal.sig) → Buf (Elt Ideal) ℓ) (c : Dev Cert.MixIdeal.nD)
    (h : m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) :
    Cert.MixReferenceIdeal.Val.arr (StableHlo.launchContents m' c) = Cert.MixIdeal.Val.arrK m c := by
  obtain ⟨e0, e1, e2, e3, e4, e5, e6, e7, e8, e9, e10, e11, e12, e13⟩ := h
  show Arrays.mk _ _ _ _ _ _ _ _ _ _ _ _ _ _ = Arrays.mk _ _ _ _ _ _ _ _ _ _ _ _ _ _
  congr

/-- The mix call and its reference leave the same result. -/
theorem algebraic : Cert.algebraic_MixIdeal_MixReferenceIdeal (hMixIdeal := Cert.MixIdeal.Gen.facts)
    (hMixReferenceIdeal := Cert.MixReferenceIdeal.Gen.facts) := by
  intro m g m' g' _ hm
  refine ⟨fun c => Cert.MixIdeal.Val.outArr m c, (θ_run Cert.MixIdeal.defs _ _).mono (fun r h c => ?_) (Cert.MixIdeal.Value.run_blocks m g),
    (θ_run Cert.MixReferenceIdeal.defs _ _).mono (fun r h c => ?_) (Cert.MixReferenceIdeal.Value.run m' g')⟩
  · obtain ⟨h0, ha⟩ := h c
    exact ⟨h0.trans (Cert.MixIdeal.Val.arr14 m c), ha⟩
  · obtain ⟨h0, ha⟩ := h c
    refine ⟨h0.trans (funext fun i => ?_), ha⟩
    have hi : i = ix3 (i 0) (i 1) (i 2) := by funext a; fin_cases a <;> rfl
    refine (congrArg _ hi).trans ((Cert.MixReferenceIdeal.Val.out_at (StableHlo.launchContents m' c) (i 0) (i 1) (i 2)).trans ?_)
    rw [arr_eq m m' c (hm c)]
    rfl

end Cert.MixClaim
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal.Run
public import proofs.«01_k».proof.Proof.Frames
public import proofs.«01_k».proof.Proof.Algebraic
public import proofs.«01_k».proof.Proof.MixClaim

@[expose] public section

namespace Cert.Proof

/-- Every claim of the certificate. -/
theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts,
  Cert.Frames.frame_kernel, Cert.Frames.frame_ideal, Cert.Frames.frame_reference,
  Cert.MixClaim.frame_mix, Cert.MixClaim.frame_ideal, Cert.MixClaim.frame_reference,
  trivial, Cert.Algebraic.algebraic, trivial, Cert.MixClaim.algebraic⟩

end Cert.Proof

end
